-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ring (m : (ℓ : Loc Cert.Ring.nD Cert.Ring.τ Cert.Ring.sig) → Buf (Elt Bits) ℓ) : Prop :=
  True

def Pre_RingIdeal (m : (ℓ : Loc Cert.RingIdeal.nD Cert.RingIdeal.τ Cert.RingIdeal.sig) → Buf (Elt Ideal) ℓ) : Prop :=
  True

def Pre_RingReferenceIdeal (m : (ℓ : Loc Cert.RingReferenceIdeal.nD Cert.RingReferenceIdeal.τ Cert.RingReferenceIdeal.sig) → Buf (Elt Ideal) ℓ) : Prop :=
  True

def Pre_RingReference (m : (ℓ : Loc Cert.RingReference.nD Cert.RingReference.τ Cert.RingReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ring [hRing : Cert.Ring.Facts] : Prop :=
  ∀ (m : (ℓ : Loc Cert.Ring.nD Cert.Ring.τ Cert.Ring.sig) → Buf (Elt Bits) ℓ) (g : Dev Cert.Ring.nD → PrngReg), Pre_Ring m →
    θ_run (Cert.Ring.defs (F := Bits)) (Cert.Ring.threads (F := Bits)) ⟨m, fun _ => 0, g⟩ (fun r => (∀ c : Dev Cert.Ring.nD,
      r.2.mem ((c.tc : Thread Cert.Ring.nD Cert.Ring.τ).loc Cert.Ring.main_arg0) = m ((c.tc : Thread Cert.Ring.nD Cert.Ring.τ).loc Cert.Ring.main_arg0)
      ∧ r.2.mem ((c.tc : Thread Cert.Ring.nD Cert.Ring.τ).loc Cert.Ring.main_arg1) = m ((c.tc : Thread Cert.Ring.nD Cert.Ring.τ).loc Cert.Ring.main_arg1)
      ∧ r.2.mem ((c.tc : Thread Cert.Ring.nD Cert.Ring.τ).loc Cert.Ring.main_arg2) = m ((c.tc : Thread Cert.Ring.nD Cert.Ring.τ).loc Cert.Ring.main_arg2))
      ∧ r.2.sem = fun _ => 0)

def quiescent_RingIdeal [hRingIdeal : Cert.RingIdeal.Facts] : Prop :=
  ∀ (m : (ℓ : Loc Cert.RingIdeal.nD Cert.RingIdeal.τ Cert.RingIdeal.sig) → Buf (Elt Ideal) ℓ) (g : Dev Cert.RingIdeal.nD → PrngReg), Pre_RingIdeal m →
    θ_run (Cert.RingIdeal.defs (F := Ideal)) (Cert.RingIdeal.threads (F := Ideal)) ⟨m, fun _ => 0, g⟩ (fun r => (∀ c : Dev Cert.RingIdeal.nD,
      r.2.mem ((c.tc : Thread Cert.RingIdeal.nD Cert.RingIdeal.τ).loc Cert.RingIdeal.main_arg0) = m ((c.tc : Thread Cert.RingIdeal.nD Cert.RingIdeal.τ).loc Cert.RingIdeal.main_arg0)
      ∧ r.2.mem ((c.tc : Thread Cert.RingIdeal.nD Cert.RingIdeal.τ).loc Cert.RingIdeal.main_arg1) = m ((c.tc : Thread Cert.RingIdeal.nD Cert.RingIdeal.τ).loc Cert.RingIdeal.main_arg1)
      ∧ r.2.mem ((c.tc : Thread Cert.RingIdeal.nD Cert.RingIdeal.τ).loc Cert.RingIdeal.main_arg2) = m ((c.tc : Thread Cert.RingIdeal.nD Cert.RingIdeal.τ).loc Cert.RingIdeal.main_arg2))
      ∧ r.2.sem = fun _ => 0)

def quiescent_RingReferenceIdeal [hRingReferenceIdeal : Cert.RingReferenceIdeal.Facts] : Prop :=
  ∀ (m : (ℓ : Loc Cert.RingReferenceIdeal.nD Cert.RingReferenceIdeal.τ Cert.RingReferenceIdeal.sig) → Buf (Elt Ideal) ℓ) (g : Dev Cert.RingReferenceIdeal.nD → PrngReg), Pre_RingReferenceIdeal m →
    θ_run (Cert.RingReferenceIdeal.defs (F := Ideal)) (onTc (τ := Cert.RingReferenceIdeal.τ) (Cert.RingReferenceIdeal.main (F := Ideal))) ⟨m, fun _ => 0, g⟩ (fun r => (∀ c : Dev Cert.RingReferenceIdeal.nD,
      r.2.mem ((c.tc : Thread Cert.RingReferenceIdeal.nD Cert.RingReferenceIdeal.τ).loc Cert.RingReferenceIdeal.main_arg0) = m ((c.tc : Thread Cert.RingReferenceIdeal.nD Cert.RingReferenceIdeal.τ).loc Cert.RingReferenceIdeal.main_arg0)
      ∧ r.2.mem ((c.tc : Thread Cert.RingReferenceIdeal.nD Cert.RingReferenceIdeal.τ).loc Cert.RingReferenceIdeal.main_arg1) = m ((c.tc : Thread Cert.RingReferenceIdeal.nD Cert.RingReferenceIdeal.τ).loc Cert.RingReferenceIdeal.main_arg1)
      ∧ r.2.mem ((c.tc : Thread Cert.RingReferenceIdeal.nD Cert.RingReferenceIdeal.τ).loc Cert.RingReferenceIdeal.main_arg2) = m ((c.tc : Thread Cert.RingReferenceIdeal.nD Cert.RingReferenceIdeal.τ).loc Cert.RingReferenceIdeal.main_arg2))
      ∧ r.2.sem = fun _ => 0)

def quiescent_RingReference [hRingReference : Cert.RingReference.Facts] : Prop :=
  ∀ (m : (ℓ : Loc Cert.RingReference.nD Cert.RingReference.τ Cert.RingReference.sig) → Buf (Elt Bits) ℓ) (g : Dev Cert.RingReference.nD → PrngReg), Pre_RingReference m →
    θ_run (Cert.RingReference.defs (F := Bits)) (onTc (τ := Cert.RingReference.τ) (Cert.RingReference.main (F := Bits))) ⟨m, fun _ => 0, g⟩ (fun r => (∀ c : Dev Cert.RingReference.nD,
      r.2.mem ((c.tc : Thread Cert.RingReference.nD Cert.RingReference.τ).loc Cert.RingReference.main_arg0) = m ((c.tc : Thread Cert.RingReference.nD Cert.RingReference.τ).loc Cert.RingReference.main_arg0)
      ∧ r.2.mem ((c.tc : Thread Cert.RingReference.nD Cert.RingReference.τ).loc Cert.RingReference.main_arg1) = m ((c.tc : Thread Cert.RingReference.nD Cert.RingReference.τ).loc Cert.RingReference.main_arg1)
      ∧ r.2.mem ((c.tc : Thread Cert.RingReference.nD Cert.RingReference.τ).loc Cert.RingReference.main_arg2) = m ((c.tc : Thread Cert.RingReference.nD Cert.RingReference.τ).loc Cert.RingReference.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ring_RingIdeal : Prop :=
  True

def algebraic_RingIdeal_RingReferenceIdeal [hRingIdeal : Cert.RingIdeal.Facts] [hRingReferenceIdeal : Cert.RingReferenceIdeal.Facts] : Prop :=
  ∀ (m : (ℓ : Loc Cert.RingIdeal.nD Cert.RingIdeal.τ Cert.RingIdeal.sig) → Buf (Elt Ideal) ℓ) (g : Dev Cert.RingIdeal.nD → PrngReg)
    (m' : (ℓ : Loc Cert.RingReferenceIdeal.nD Cert.RingReferenceIdeal.τ Cert.RingReferenceIdeal.sig) → Buf (Elt Ideal) ℓ) (g' : Dev Cert.RingReferenceIdeal.nD → PrngReg), Pre_RingIdeal m →
    (∀ c : Dev Cert.RingIdeal.nD,
      m' ((c.tc : Thread Cert.RingReferenceIdeal.nD Cert.RingReferenceIdeal.τ).loc Cert.RingReferenceIdeal.main_arg0) = m ((c.tc : Thread Cert.RingIdeal.nD Cert.RingIdeal.τ).loc Cert.RingIdeal.main_arg0)
      ∧ m' ((c.tc : Thread Cert.RingReferenceIdeal.nD Cert.RingReferenceIdeal.τ).loc Cert.RingReferenceIdeal.main_arg1) = m ((c.tc : Thread Cert.RingIdeal.nD Cert.RingIdeal.τ).loc Cert.RingIdeal.main_arg1)
      ∧ m' ((c.tc : Thread Cert.RingReferenceIdeal.nD Cert.RingReferenceIdeal.τ).loc Cert.RingReferenceIdeal.main_arg2) = m ((c.tc : Thread Cert.RingIdeal.nD Cert.RingIdeal.τ).loc Cert.RingIdeal.main_arg2)) →
    ∃ (v0 : (c : Dev Cert.RingIdeal.nD) → Buf (Elt Ideal) ((c.tc : Thread Cert.RingIdeal.nD Cert.RingIdeal.τ).loc Cert.RingIdeal.main_v12)),
      θ_run (Cert.RingIdeal.defs (F := Ideal)) (Cert.RingIdeal.threads (F := Ideal)) ⟨m, fun _ => 0, g⟩ (fun r => ∀ c : Dev Cert.RingIdeal.nD,
          r.2.mem ((c.tc : Thread Cert.RingIdeal.nD Cert.RingIdeal.τ).loc Cert.RingIdeal.main_v12) = v0 c
          ∧ r.2.mem ((c.tc : Thread Cert.RingIdeal.nD Cert.RingIdeal.τ).loc Cert.RingIdeal.main_arg0) = m ((c.tc : Thread Cert.RingIdeal.nD Cert.RingIdeal.τ).loc Cert.RingIdeal.main_arg0)
          ∧ r.2.mem ((c.tc : Thread Cert.RingIdeal.nD Cert.RingIdeal.τ).loc Cert.RingIdeal.main_arg1) = m ((c.tc : Thread Cert.RingIdeal.nD Cert.RingIdeal.τ).loc Cert.RingIdeal.main_arg1)
          ∧ r.2.mem ((c.tc : Thread Cert.RingIdeal.nD Cert.RingIdeal.τ).loc Cert.RingIdeal.main_arg2) = m ((c.tc : Thread Cert.RingIdeal.nD Cert.RingIdeal.τ).loc Cert.RingIdeal.main_arg2))
      ∧ θ_run (Cert.RingReferenceIdeal.defs (F := Ideal)) (onTc (τ := Cert.RingReferenceIdeal.τ) (Cert.RingReferenceIdeal.main (F := Ideal))) ⟨m', fun _ => 0, g'⟩ (fun r => ∀ c : Dev Cert.RingReferenceIdeal.nD,
          r.2.mem ((c.tc : Thread Cert.RingReferenceIdeal.nD Cert.RingReferenceIdeal.τ).loc Cert.RingReferenceIdeal.main_v10) = v0 c
          ∧ r.2.mem ((c.tc : Thread Cert.RingReferenceIdeal.nD Cert.RingReferenceIdeal.τ).loc Cert.RingReferenceIdeal.main_arg0) = m' ((c.tc : Thread Cert.RingReferenceIdeal.nD Cert.RingReferenceIdeal.τ).loc Cert.RingReferenceIdeal.main_arg0)
          ∧ r.2.mem ((c.tc : Thread Cert.RingReferenceIdeal.nD Cert.RingReferenceIdeal.τ).loc Cert.RingReferenceIdeal.main_arg1) = m' ((c.tc : Thread Cert.RingReferenceIdeal.nD Cert.RingReferenceIdeal.τ).loc Cert.RingReferenceIdeal.main_arg1)
          ∧ r.2.mem ((c.tc : Thread Cert.RingReferenceIdeal.nD Cert.RingReferenceIdeal.τ).loc Cert.RingReferenceIdeal.main_arg2) = m' ((c.tc : Thread Cert.RingReferenceIdeal.nD Cert.RingReferenceIdeal.τ).loc Cert.RingReferenceIdeal.main_arg2))

def bitexact_Ring_RingReference [hRing : Cert.Ring.Facts] [hRingReference : Cert.RingReference.Facts] : Prop :=
  ∀ (m : (ℓ : Loc Cert.Ring.nD Cert.Ring.τ Cert.Ring.sig) → Buf (Elt Bits) ℓ) (g : Dev Cert.Ring.nD → PrngReg)
    (m' : (ℓ : Loc Cert.RingReference.nD Cert.RingReference.τ Cert.RingReference.sig) → Buf (Elt Bits) ℓ) (g' : Dev Cert.RingReference.nD → PrngReg), Pre_Ring m →
    (∀ c : Dev Cert.Ring.nD,
      m' ((c.tc : Thread Cert.RingReference.nD Cert.RingReference.τ).loc Cert.RingReference.main_arg0) = m ((c.tc : Thread Cert.Ring.nD Cert.Ring.τ).loc Cert.Ring.main_arg0)
      ∧ m' ((c.tc : Thread Cert.RingReference.nD Cert.RingReference.τ).loc Cert.RingReference.main_arg1) = m ((c.tc : Thread Cert.Ring.nD Cert.Ring.τ).loc Cert.Ring.main_arg1)
      ∧ m' ((c.tc : Thread Cert.RingReference.nD Cert.RingReference.τ).loc Cert.RingReference.main_arg2) = m ((c.tc : Thread Cert.Ring.nD Cert.Ring.τ).loc Cert.Ring.main_arg2)) →
    ∃ (v0 : (c : Dev Cert.Ring.nD) → Buf (Elt Bits) ((c.tc : Thread Cert.Ring.nD Cert.Ring.τ).loc Cert.Ring.main_v12)),
      θ_run (Cert.Ring.defs (F := Bits)) (Cert.Ring.threads (F := Bits)) ⟨m, fun _ => 0, g⟩ (fun r => ∀ c : Dev Cert.Ring.nD,
          r.2.mem ((c.tc : Thread Cert.Ring.nD Cert.Ring.τ).loc Cert.Ring.main_v12) = v0 c
          ∧ r.2.mem ((c.tc : Thread Cert.Ring.nD Cert.Ring.τ).loc Cert.Ring.main_arg0) = m ((c.tc : Thread Cert.Ring.nD Cert.Ring.τ).loc Cert.Ring.main_arg0)
          ∧ r.2.mem ((c.tc : Thread Cert.Ring.nD Cert.Ring.τ).loc Cert.Ring.main_arg1) = m ((c.tc : Thread Cert.Ring.nD Cert.Ring.τ).loc Cert.Ring.main_arg1)
          ∧ r.2.mem ((c.tc : Thread Cert.Ring.nD Cert.Ring.τ).loc Cert.Ring.main_arg2) = m ((c.tc : Thread Cert.Ring.nD Cert.Ring.τ).loc Cert.Ring.main_arg2))
      ∧ θ_run (Cert.RingReference.defs (F := Bits)) (onTc (τ := Cert.RingReference.τ) (Cert.RingReference.main (F := Bits))) ⟨m', fun _ => 0, g'⟩ (fun r => ∀ c : Dev Cert.RingReference.nD,
          r.2.mem ((c.tc : Thread Cert.RingReference.nD Cert.RingReference.τ).loc Cert.RingReference.main_v10) = v0 c
          ∧ r.2.mem ((c.tc : Thread Cert.RingReference.nD Cert.RingReference.τ).loc Cert.RingReference.main_arg0) = m' ((c.tc : Thread Cert.RingReference.nD Cert.RingReference.τ).loc Cert.RingReference.main_arg0)
          ∧ r.2.mem ((c.tc : Thread Cert.RingReference.nD Cert.RingReference.τ).loc Cert.RingReference.main_arg1) = m' ((c.tc : Thread Cert.RingReference.nD Cert.RingReference.τ).loc Cert.RingReference.main_arg1)
          ∧ r.2.mem ((c.tc : Thread Cert.RingReference.nD Cert.RingReference.τ).loc Cert.RingReference.main_arg2) = m' ((c.tc : Thread Cert.RingReference.nD Cert.RingReference.τ).loc Cert.RingReference.main_arg2))

def Claim : Prop :=
  ∃ (hKernel : Cert.Kernel.Facts) (hKernelIdeal : Cert.KernelIdeal.Facts) (hReferenceIdeal : Cert.ReferenceIdeal.Facts) (hRing : Cert.Ring.Facts) (hRingIdeal : Cert.RingIdeal.Facts) (hRingReferenceIdeal : Cert.RingReferenceIdeal.Facts) (hRingReference : Cert.RingReference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ring (hRing := hRing)
    ∧ quiescent_RingIdeal (hRingIdeal := hRingIdeal)
    ∧ quiescent_RingReferenceIdeal (hRingReferenceIdeal := hRingReferenceIdeal)
    ∧ quiescent_RingReference (hRingReference := hRingReference)
    ∧ preserves_Kernel_KernelIdeal
    ∧ algebraic_KernelIdeal_ReferenceIdeal_pre_finite (hKernelIdeal := hKernelIdeal) (hReferenceIdeal := hReferenceIdeal) (hPre_finite := hPre_finite)
    ∧ preserves_Ring_RingIdeal
    ∧ algebraic_RingIdeal_RingReferenceIdeal (hRingIdeal := hRingIdeal) (hRingReferenceIdeal := hRingReferenceIdeal)
    ∧ bitexact_Ring_RingReference (hRing := hRing) (hRingReference := hRingReference)
-- ==== Pre_finite.lean ====
abbrev S512x128 : Shape := ⟨2, ![512, 128]⟩
abbrev S1024x128 : Shape := ⟨2, ![1024, 128]⟩
abbrev S8192x128 : Shape := ⟨2, ![8192, 128]⟩
abbrev S65536x128 : Shape := ⟨2, ![65536, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S8192x128 : S_.BroadcastsInDim S8192x128 (![] : Fin 0 → Fin S8192x128.rank)
  reducesTo_S8192x128_S_d0_1 : S8192x128.ReducesTo [0, 1] S_
  bcast_S_S65536x128 : S_.BroadcastsInDim S65536x128 (![] : Fin 0 → Fin S65536x128.rank)
  reducesTo_S65536x128_S_d0_1 : S65536x128.ReducesTo [0, 1] S_

variable [Facts]

def fn_part1 {F : FTy → Type} [FloatOps F] (main_v13 : IVec S_ 1) (main_v16 : IVec S65536x128 1) : IVec S_ 1 :=
  let main_c_5 : IVec S_ 1 := constantI S_ 1 1#1
  let main_v17 : IVec S_ 1 := (fun x v => Host.reduce IntOp.andi x v reducesTo_S65536x128_S_d0_1 h_S_) main_v16 main_c_5
  let main_v18 : IVec S_ 1 := andi main_v13 main_v17
  main_v18

def fn {F : FTy → Type} [FloatOps F] (main_arg0 : FVec F S512x128 .f32) (main_arg1 : FVec F S1024x128 .f32) (main_arg2 : FVec F S8192x128 .f32) (main_arg3 : FVec F S65536x128 .f32) (main_arg4 : IVec S_ 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S65536x128 .f32 := Host.absf main_arg3
  let main_cst_4 : FVec F S_ .f32 := constant S_ .f32 0x7F800000#32
  let main_v15 : FVec F S65536x128 .f32 := broadcastInDim S65536x128 ![] bcast_S_S65536x128 main_cst_4
  let main_v16 : IVec S65536x128 1 := cmpf .olt main_v14 main_v15
  fn_part1 (F := F) main_v13 main_v16
-- ==== Kernel.lean ====
abbrev S512x128 : Shape := ⟨2, ![512, 128]⟩
abbrev S1024x128 : Shape := ⟨2, ![1024, 128]⟩
abbrev S8192x128 : Shape := ⟨2, ![8192, 128]⟩
abbrev S65536x128 : Shape := ⟨2, ![65536, 128]⟩
abbrev S_ : Shape := ⟨0, ![]⟩
abbrev S1024 : Shape := ⟨1, ![1024]⟩
abbrev S1x1024 : Shape := ⟨2, ![1, 1024]⟩
abbrev S1536x128 : Shape := ⟨2, ![1536, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S2x1x4096 : Shape := ⟨3, ![2, 1, 4096]⟩
abbrev S16x1x4096 : Shape := ⟨3, ![16, 1, 4096]⟩
abbrev S256x128 : Shape := ⟨2, ![256, 128]⟩
abbrev S1x1x4096 : Shape := ⟨3, ![1, 1, 4096]⟩
abbrev S2x4096x128 : Shape := ⟨3, ![2, 4096, 128]⟩
abbrev S256x77824 : Shape := ⟨2, ![256, 77824]⟩
abbrev S8x77824 : Shape := ⟨2, ![8, 77824]⟩
abbrev S256x1 : Shape := ⟨2, ![256, 1]⟩
abbrev S8x256 : Shape := ⟨2, ![8, 256]⟩
abbrev S1x256x128 : Shape := ⟨3, ![1, 256, 128]⟩
abbrev S1x1024x128 : Shape := ⟨3, ![1, 1024, 128]⟩
abbrev S256x1024 : Shape := ⟨2, ![256, 1024]⟩
abbrev S256 : Shape := ⟨1, ![256]⟩
abbrev S1x2048x128 : Shape := ⟨3, ![1, 2048, 128]⟩
abbrev S2048x128 : Shape := ⟨2, ![2048, 128]⟩
abbrev S256x2048 : Shape := ⟨2, ![256, 2048]⟩
abbrev S1x256 : Shape := ⟨2, ![1, 256]⟩
abbrev S256x4096 : Shape := ⟨2, ![256, 4096]⟩
abbrev S8x4096 : Shape := ⟨2, ![8, 4096]⟩
abbrev S1x4096 : Shape := ⟨2, ![1, 4096]⟩
abbrev S4096 : Shape := ⟨1, ![4096]⟩
abbrev S8192 : Shape := ⟨1, ![8192]⟩
abbrev S65536 : Shape := ⟨1, ![65536]⟩

abbrev nBuf : Table → Nat
  | .hbm => 69
  | .local .tc .vmem => 13
  | .local .scVector .vmem => 2
  | _ => 0

abbrev bufTy : (tb : Table) → Fin (nBuf tb) → BufTy
  | .hbm, ⟨0, _⟩ => ⟨S512x128, .f32⟩
  | .hbm, ⟨1, _⟩ => ⟨S1024x128, .f32⟩
  | .hbm, ⟨2, _⟩ => ⟨S8192x128, .f32⟩
  | .hbm, ⟨3, _⟩ => ⟨S65536x128, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i1⟩
  | .hbm, ⟨18, _⟩ => ⟨S_, .i1⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S_, .i32⟩
  | .hbm, ⟨40, _⟩ => ⟨S_, .i1⟩
  | .hbm, ⟨41, _⟩ => ⟨S1024, .i1⟩
  | .hbm, ⟨42, _⟩ => ⟨S1024, .i1⟩
  | .hbm, ⟨43, _⟩ => ⟨S1024, .i1⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1x1024, .i32⟩
  | .hbm, ⟨55, _⟩ => ⟨S1536x128, .f32⟩
  | .hbm, ⟨56, _⟩ => ⟨S1024x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S512x128, .f32⟩
  | .hbm, ⟨62, _⟩ => ⟨S512x128, .f32⟩
  | .hbm, ⟨63, _⟩ => ⟨S512x128, .bf16⟩
  | .hbm, ⟨64, _⟩ => ⟨S512x128, .f32⟩
  | .hbm, ⟨65, _⟩ => ⟨S2x1x4096, .f32⟩
  | .hbm, ⟨66, _⟩ => ⟨S16x1x4096, .f32⟩
  | .hbm, ⟨67, _⟩ => ⟨S8192, .f32⟩
  | .hbm, ⟨68, _⟩ => ⟨S65536, .f32⟩
  | .local .tc .vmem, ⟨0, _⟩ => ⟨S256x128, .f32⟩
  | .local .tc .vmem, ⟨1, _⟩ => ⟨S256x128, .f32⟩
  | .local .tc .vmem, ⟨2, _⟩ => ⟨S1x1x4096, .f32⟩
  | .local .tc .vmem, ⟨3, _⟩ => ⟨S1x1x4096, .f32⟩
  | .local .tc .vmem, ⟨4, _⟩ => ⟨S1x1x4096, .f32⟩
  | .local .tc .vmem, ⟨5, _⟩ => ⟨S1x1x4096, .f32⟩
  | .local .tc .vmem, ⟨6, _⟩ => ⟨S512x128, .bf16⟩
  | .local .tc .vmem, ⟨7, _⟩ => ⟨S2x4096x128, .f32⟩
  | .local .tc .vmem, ⟨8, _⟩ => ⟨S256x77824, .bf16⟩
  | .local .tc .vmem, ⟨9, _⟩ => ⟨S8x77824, .f32⟩
  | .local .tc .vmem, ⟨10, _⟩ => ⟨S256x128, .f32⟩
  | .local .tc .vmem, ⟨11, _⟩ => ⟨S256x1, .f32⟩
  | .local .tc .vmem, ⟨12, _⟩ => ⟨S8x256, .f32⟩
  | .local .scVector .vmem, ⟨0, _⟩ => ⟨S2x1x128, .i32⟩
  | .local .scVector .vmem, ⟨1, _⟩ => ⟨S2x128x128, .f32⟩
  | _, _ => ⟨S512x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_c_1 : Ref sig .tc := ⟨.hbm, 12, rfl⟩
abbrev main_call0_v4 : Ref sig .tc := ⟨.hbm, 13, rfl⟩
abbrev main_call0_c_2 : Ref sig .tc := ⟨.hbm, 14, rfl⟩
abbrev main_call0_v5 : Ref sig .tc := ⟨.hbm, 15, rfl⟩
abbrev main_call0_c_3 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v4 : Ref sig .tc := ⟨.hbm, 46, rfl⟩
abbrev main_c_1 : Ref sig .tc := ⟨.hbm, 47, rfl⟩
abbrev main_v5 : Ref sig .tc := ⟨.hbm, 48, rfl⟩
abbrev main_v6 : Ref sig .tc := ⟨.hbm, 49, rfl⟩
abbrev main_c_2 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst : Ref sig .tc := ⟨.hbm, 57, rfl⟩
abbrev main_v13 : Ref sig .tc := ⟨.hbm, 58, rfl⟩
abbrev main_cst_3 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18_0 : Ref sig .tc := ⟨.hbm, 64, rfl⟩
abbrev main_v18_1 : Ref sig .tc := ⟨.hbm, 65, rfl⟩
abbrev main_v18_2 : Ref sig .tc := ⟨.hbm, 66, rfl⟩
abbrev main_v19 : Ref sig .tc := ⟨.hbm, 67, rfl⟩
abbrev main_v20 : Ref sig .tc := ⟨.hbm, 68, rfl⟩
abbrev main_v11_scv : Ref sig .scVector := ⟨.hbm, 55, rfl⟩
abbrev main_v10_scv : Ref sig .scVector := ⟨.hbm, 54, rfl⟩
abbrev main_v12_scv : Ref sig .scVector := ⟨.hbm, 56, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc1_scratch3 : Ref sig .tc := ⟨.vmem, 9, rfl⟩
abbrev cc1_scratch4 : Ref sig .tc := ⟨.vmem, 10, rfl⟩
abbrev cc1_scratch5 : Ref sig .tc := ⟨.vmem, 11, rfl⟩
abbrev cc1_scratch6 : Ref sig .tc := ⟨.vmem, 12, rfl⟩
abbrev cc0_scoped0 : Ref sig .scVector := ⟨.vmem, 0, rfl⟩
abbrev cc0_scoped2 : Ref sig .scVector := ⟨.vmem, 1, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c0_i32_7_r0 : BitVec 32 := 0#32
  let v14_r0 : BitVec 1 := Scalar.cmpi .sgt v11 c0_i32_7_r0
  let v15_r0 : BitVec 32 := Scalar.extui v14_r0
  let c0_i32_8_r0 : BitVec 32 := 0#32
  let v16_r0 : BitVec 1 := Scalar.cmpi .ne v15_r0 c0_i32_8_r0
  v16_r0

def k0_cond2 (i : grid0.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v17_r0 : BitVec 32 := Scalar.muli c1_i32_9_r0 v5
  let c0_i32_23_r0 : BitVec 32 := 0#32
  let v35_r0 : BitVec 1 := Scalar.cmpi .sgt v17_r0 c0_i32_23_r0
  let v36_r0 : BitVec 1 := Scalar.andi true_24_r0 v35_r0
  let true_25_r0 : BitVec 1 := 1#1
  let v37_r0 : BitVec 1 := Scalar.andi v36_r0 true_25_r0
  let v38_r0 : BitVec 32 := Scalar.extui v37_r0
  let c0_i32_27_r0 : BitVec 32 := 0#32
  let v39_r0 : BitVec 1 := Scalar.cmpi .ne v38_r0 c0_i32_27_r0
  v39_r0

def k0_off1 : Fin 3 → Nat :=
  let c0_i32_26_r0 : BitVec 32 := 0#32
  let c2_i32_r0 : BitVec 32 := 2#32
  let v80_r0 : BitVec 32 := Scalar.remui c0_i32_26_r0 c2_i32_r0
  let c0_i32_59_r0 : BitVec 32 := 0#32
  let c0_i32_60_r0 : BitVec 32 := 0#32
  ![v80_r0.toNat, 0, 0]
def k0_off2 (i : grid0.Coords) : Fin 2 → Nat :=
  let c0_i32_61_r0 : BitVec 32 := 0#32
  let c128_i32_r0 : BitVec 32 := 128#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v20_r0 : BitVec 32 := Scalar.addi c0_i32_12_r0 v10
  let v81_r0 : BitVec 32 := Scalar.muli c128_i32_r0 v20_r0
  ![0, v81_r0.toNat]
def k0_off3 : Fin 1 → Nat :=
  let c0_i32_26_r0 : BitVec 32 := 0#32
  let c2_i32_r0 : BitVec 32 := 2#32
  let v80_r0 : BitVec 32 := Scalar.remui c0_i32_26_r0 c2_i32_r0
  ![v80_r0.toNat]
@[reducible] def k0_t1_loop (i : grid0.Coords) : Scf.Loop 32 :=
  let c0_i32_31_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_37_r0 : BitVec 32 := 1#32
  ⟨c0_i32_31_r0, v46_r0, c1_i32_37_r0⟩
def k0_off4 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v101_r0 : BitVec 1 := Scalar.cmpi .ne v84_r0 v95_r0
  let c0_i32_31_r0 : BitVec 32 := 0#32
  let c1_i32_37_r0 : BitVec 32 := 1#32
  let arg5_r0 : BitVec 32 := Scf.iv c0_i32_31_r0 c1_i32_37_r0 k0_t1
  let c1_i32_59_r0 : BitVec 32 := 1#32
  let v80_r0 : BitVec 32 := Scalar.muli c1_i32_59_r0 v5
  let c2_i32_r0 : BitVec 32 := 2#32
  let v102_r0 : BitVec 32 := Scalar.subi v80_r0 c2_i32_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off5 (i : grid0.Coords) (arg10_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v93_r0 : BitVec 1 := Scalar.cmpi .eq v92_r0 v5
  let c0_i32_68_r0 : BitVec 32 := 0#32
  let v94_r0 : BitVec 32 := Scalar.select v93_r0 c0_i32_68_r0 v92_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_103_r0 : BitVec 32 := 2#32
  let v167_r0 : BitVec 32 := Scalar.remui arg6_r0 c2_i32_103_r0
  ![v167_r0.toNat]
def k0_off7 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_31_r0 : BitVec 32 := 0#32
  let c1_i32_37_r0 : BitVec 32 := 1#32
  let arg5_r0 : BitVec 32 := Scf.iv c0_i32_31_r0 c1_i32_37_r0 k0_t1
  let c0_i32_60_r0 : BitVec 32 := 0#32
  let v81_r0 : BitVec 1 := Scalar.cmpi .eq arg5_r0 c0_i32_60_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off8 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_103_r0 : BitVec 32 := 2#32
  let v168_r0 : BitVec 32 := Scalar.remui arg7_r0 c2_i32_103_r0
  ![v168_r0.toNat]
def k0_off10 (arg8_r0 : BitVec 32) : Fin 3 → Nat :=
  let c2_i32_86_r0 : BitVec 32 := 2#32
  let v132_r0 : BitVec 32 := Scalar.remui arg8_r0 c2_i32_86_r0
  let c0_i32_103_r1 : BitVec 32 := 0#32
  let c0_i32_104_r1 : BitVec 32 := 0#32
  ![v132_r0.toNat, 0, 0]

def k0_chk2 (i : grid0.Coords) (k0_t1 : Fin (k0_t1_loop i).trips) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (k0_t1 : Fin (k0_t1_loop i).trips) (arg8_r0 : BitVec 32) (k0_hw2 : k0_chk2 i k0_t1 arg8_r0), ∀ (k0_h1 : k0_cond1 i = 1#1), ∀ a, (k0_off10 arg8_r0) a + S1x128x128.size a ≤ S2x128x128.size a := fun i k0_t1 arg8_r0 k0_hw2 k0_h1 => k0_hw2 k0_h1

def k0_off11 (arg7_r0 : BitVec 32) : Fin 3 → Nat :=
  let c2_i32_85_r0 : BitVec 32 := 2#32
  let v131_r0 : BitVec 32 := Scalar.remui arg7_r0 c2_i32_85_r0
  let c0_i32_105_r1 : BitVec 32 := 0#32
  let c0_i32_106_r1 : BitVec 32 := 0#32
  ![v131_r0.toNat, 0, 0]

def k0_chk3 (i : grid0.Coords) (k0_t1 : Fin (k0_t1_loop i).trips) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (k0_t1 : Fin (k0_t1_loop i).trips) (arg7_r0 : BitVec 32) (k0_hw3 : k0_chk3 i k0_t1 arg7_r0), ∀ (k0_h1 : k0_cond1 i = 1#1), ∀ a, (k0_off11 arg7_r0) a + S1x1x128.size a ≤ S2x1x128.size a := fun i k0_t1 arg7_r0 k0_hw3 k0_h1 => k0_hw3 k0_h1

def k0_off12 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v138_r0 : BitVec 1 := Scalar.cmpi .ne v84_r0 v95_r0
  let c0_i32_31_r0 : BitVec 32 := 0#32
  let c1_i32_37_r0 : BitVec 32 := 1#32
  let arg5_r0 : BitVec 32 := Scf.iv c0_i32_31_r0 c1_i32_37_r0 k0_t1
  let c1_i32_59_r0 : BitVec 32 := 1#32
  let v80_r0 : BitVec 32 := Scalar.muli c1_i32_59_r0 v5
  let c1_i32_61_r0 : BitVec 32 := 1#32
  let v82_r0 : BitVec 32 := Scalar.subi v80_r0 c1_i32_61_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off14 (arg8_r0 : BitVec 32) : Fin 1 → Nat :=
  let c2_i32_103_r0 : BitVec 32 := 2#32
  let v167_r0 : BitVec 32 := Scalar.remui arg8_r0 c2_i32_103_r0
  ![v167_r0.toNat]
def k0_off15 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_31_r0 : BitVec 32 := 0#32
  let c1_i32_37_r0 : BitVec 32 := 1#32
  let arg5_r0 : BitVec 32 := Scf.iv c0_i32_31_r0 c1_i32_37_r0 k0_t1
  let c0_i32_60_r0 : BitVec 32 := 0#32
  let v81_r0 : BitVec 1 := Scalar.cmpi .eq arg5_r0 c0_i32_60_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off16 (i : grid0.Coords) (arg10_r0 : BitVec 32) : Fin 2 → Nat :=
  let c128_i32_r0 : BitVec 32 := 128#32
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_65_r0 : BitVec 32 := 1#32
  let v88_r0 : BitVec 32 := Scalar.subi v5 c1_i32_65_r0
  let v89_r0 : BitVec 32 := Scalar.select v87_r0 v88_r0 v86_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off17 (arg9_r0 : BitVec 32) : Fin 1 → Nat :=
  let c2_i32_103_r0 : BitVec 32 := 2#32
  let v167_r0 : BitVec 32 := Scalar.remui arg9_r0 c2_i32_103_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x1024.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x1024.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S1024x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S1024x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x1024.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x1024.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S1024x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S1024x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_31_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let v43_r0 : BitVec 32 := Scalar.addi c0_i32_31_r0 v42_r0
  let c1_i32_38_r0 : BitVec 32 := 1#32
  ⟨v46_r0, v43_r0, c1_i32_38_r0⟩
def k0_off18 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v101_r0 : BitVec 1 := Scalar.cmpi .ne v84_r0 v95_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c1_i32_59_r0 : BitVec 32 := 1#32
  let v80_r0 : BitVec 32 := Scalar.muli c1_i32_59_r0 v5
  let c2_i32_r0 : BitVec 32 := 2#32
  let v102_r0 : BitVec 32 := Scalar.subi v80_r0 c2_i32_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off19 (i : grid0.Coords) (arg10_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v93_r0 : BitVec 1 := Scalar.cmpi .eq v92_r0 v5
  let c0_i32_68_r0 : BitVec 32 := 0#32
  let v94_r0 : BitVec 32 := Scalar.select v93_r0 c0_i32_68_r0 v92_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_103_r0 : BitVec 32 := 2#32
  let v167_r0 : BitVec 32 := Scalar.remui arg6_r0 c2_i32_103_r0
  ![v167_r0.toNat]
def k0_off21 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c0_i32_60_r0 : BitVec 32 := 0#32
  let v81_r0 : BitVec 1 := Scalar.cmpi .eq arg5_r0 c0_i32_60_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off22 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_103_r0 : BitVec 32 := 2#32
  let v168_r0 : BitVec 32 := Scalar.remui arg7_r0 c2_i32_103_r0
  ![v168_r0.toNat]
def k0_off24 (arg8_r0 : BitVec 32) : Fin 3 → Nat :=
  let c2_i32_86_r0 : BitVec 32 := 2#32
  let v132_r0 : BitVec 32 := Scalar.remui arg8_r0 c2_i32_86_r0
  let c0_i32_103_r2 : BitVec 32 := 0#32
  let c0_i32_104_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_85_r0 : BitVec 32 := 2#32
  let v131_r0 : BitVec 32 := Scalar.remui arg7_r0 c2_i32_85_r0
  let c0_i32_105_r2 : BitVec 32 := 0#32
  let c0_i32_106_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v138_r0 : BitVec 1 := Scalar.cmpi .ne v84_r0 v95_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c1_i32_59_r0 : BitVec 32 := 1#32
  let v80_r0 : BitVec 32 := Scalar.muli c1_i32_59_r0 v5
  let c1_i32_61_r0 : BitVec 32 := 1#32
  let v82_r0 : BitVec 32 := Scalar.subi v80_r0 c1_i32_61_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off28 (arg8_r0 : BitVec 32) : Fin 1 → Nat :=
  let c2_i32_103_r0 : BitVec 32 := 2#32
  let v167_r0 : BitVec 32 := Scalar.remui arg8_r0 c2_i32_103_r0
  ![v167_r0.toNat]
def k0_off29 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c0_i32_60_r0 : BitVec 32 := 0#32
  let v81_r0 : BitVec 1 := Scalar.cmpi .eq arg5_r0 c0_i32_60_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off30 (i : grid0.Coords) (arg10_r0 : BitVec 32) : Fin 2 → Nat :=
  let c128_i32_r0 : BitVec 32 := 128#32
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_65_r0 : BitVec 32 := 1#32
  let v88_r0 : BitVec 32 := Scalar.subi v5 c1_i32_65_r0
  let v89_r0 : BitVec 32 := Scalar.select v87_r0 v88_r0 v86_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off31 (arg9_r0 : BitVec 32) : Fin 1 → Nat :=
  let c2_i32_103_r0 : BitVec 32 := 2#32
  let v167_r0 : BitVec 32 := Scalar.remui arg9_r0 c2_i32_103_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x1024.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x1024.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S1024x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S1024x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x1024.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x1024.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S1024x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S1024x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c1_i32_43_r0 : BitVec 32 := 1#32
  let v54_r0 : BitVec 32 := Scalar.subi v11 c1_i32_43_r0
  let c1_i32_44_r0 : BitVec 32 := 1#32
  let v55_r0 : BitVec 32 := Scalar.muli c1_i32_44_r0 v5
  let c1_i32_46_r0 : BitVec 32 := 1#32
  let v57_r0 : BitVec 32 := Scalar.subi v55_r0 c1_i32_46_r0
  let v58_r0 : BitVec 1 := Scalar.cmpi .eq v54_r0 v57_r0
  let v78_r0 : BitVec 32 := Scalar.extui v58_r0
  let c0_i32_58_r0 : BitVec 32 := 0#32
  let v79_r0 : BitVec 1 := Scalar.cmpi .ne v78_r0 c0_i32_58_r0
  v79_r0

def k0_off32 (v48_3_r0 : BitVec 32) : Fin 3 → Nat :=
  let c2_i32_r0 : BitVec 32 := 2#32
  let v80_r0 : BitVec 32 := Scalar.remui v48_3_r0 c2_i32_r0
  let c0_i32_59_r0 : BitVec 32 := 0#32
  let c0_i32_60_r0 : BitVec 32 := 0#32
  ![v80_r0.toNat, 0, 0]

def k0_off33 (i : grid0.Coords) (v48_4_r0 : BitVec 32) : Fin 2 → Nat :=
  let c128_i32_r0 : BitVec 32 := 128#32
  let true_40_r0 : BitVec 1 := 1#1
  let c1_i32_39_r0 : BitVec 32 := 1#32
  let v49_r0 : BitVec 32 := Scalar.subi v48_4_r0 c1_i32_39_r0
  let v50_r0 : BitVec 32 := Scalar.select true_40_r0 v49_r0 v48_4_r0
  let c_m1_i32_41_r0 : BitVec 32 := 4294967295#32
  let v51_r0 : BitVec 1 := Scalar.cmpi .eq v50_r0 c_m1_i32_41_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_42_r0 : BitVec 32 := 1#32
  let v52_r0 : BitVec 32 := Scalar.subi v5 c1_i32_42_r0
  let v53_r0 : BitVec 32 := Scalar.select v51_r0 v52_r0 v50_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v59_r0 : BitVec 32 := Scalar.addi v53_r0 v10
  let v81_r0 : BitVec 32 := Scalar.muli c128_i32_r0 v59_r0
  let c0_i32_61_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S1024x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S1024x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_63_r0 : BitVec 32 := 0#32
  let c0_i32_64_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨2, ![3, 19], ![false, false]⟩

def k1_cond1 (i : grid1.Coords) : BitVec 1 :=
  let arg0 : BitVec 32 := BitVec.ofNat 32 (i 0).val
  let c2_i32 : BitVec 32 := 2#32
  let v1 : BitVec 1 := Scalar.cmpi .slt arg0 c2_i32
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def k1_cond3 : BitVec 1 :=
  let v_false : BitVec 1 := 0#1
  let v_true : BitVec 1 := 1#1
  let v40 : BitVec 1 := Scalar.andi v_false v_true
  let v41 : BitVec 32 := Scalar.extui v40
  let c0_i32_30 : BitVec 32 := 0#32
  let v42 : BitVec 1 := Scalar.cmpi .ne v41 c0_i32_30
  v42

def k1_off1 (c0_i32_34 : BitVec 32) : Fin 2 → Nat :=
  let c1_i32_32 : BitVec 32 := 1#32
  let c0_i32_31 : BitVec 32 := 0#32
  let c_m1_i32 : BitVec 32 := 4294967295#32
  let v43 : BitVec 32 := Scalar.maxsi c0_i32_31 c_m1_i32
  let v44 : BitVec 32 := Scalar.minsi c1_i32_32 v43
  let c4096_i32_33 : BitVec 32 := 4096#32
  let v45 : BitVec 32 := Scalar.muli v44 c4096_i32_33
  let v46 : BitVec 32 := Scalar.addi v45 c0_i32_34
  let c0_i32_39 : BitVec 32 := 0#32
  ![v46.toNat, 0]
def k1_cond4 (i : grid1.Coords) : BitVec 1 :=
  let arg0 : BitVec 32 := BitVec.ofNat 32 (i 0).val
  let c2_i32 : BitVec 32 := 2#32
  let v1 : BitVec 1 := Scalar.cmpi .slt arg0 c2_i32
  let v6 : BitVec 32 := Scalar.extui v1
  let c0_i32_1 : BitVec 32 := 0#32
  let v7 : BitVec 1 := Scalar.cmpi .ne v6 c0_i32_1
  v7

def k1_cond5 (i : grid1.Coords) : BitVec 1 :=
  let arg1 : BitVec 32 := BitVec.ofNat 32 (i 1).val
  let c1_i32_7 : BitVec 32 := 1#32
  let v17 : BitVec 32 := Scalar.addi arg1 c1_i32_7
  let c19_i32 : BitVec 32 := 19#32
  let v18 : BitVec 1 := Scalar.cmpi .slt v17 c19_i32
  let v19 : BitVec 32 := Scalar.extui v18
  let c0_i32_8 : BitVec 32 := 0#32
  let v20 : BitVec 1 := Scalar.cmpi .ne v19 c0_i32_8
  v20

def k1_cond6 (i : grid1.Coords) : BitVec 1 :=
  let arg1 : BitVec 32 := BitVec.ofNat 32 (i 1).val
  let c1_i32_21 : BitVec 32 := 1#32
  let v42 : BitVec 32 := Scalar.addi arg1 c1_i32_21
  let c1_i32_29 : BitVec 32 := 1#32
  let v54 : BitVec 1 := Scalar.cmpi .slt v42 c1_i32_29
  let v55 : BitVec 32 := Scalar.extui v54
  let c0_i32_30 : BitVec 32 := 0#32
  let v56 : BitVec 1 := Scalar.cmpi .ne v55 c0_i32_30
  v56

def k1_off2 (i : grid1.Coords) : Fin 1 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  ![v53.toNat]
def k1_off3 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c0_i32_36 : BitVec 32 := 0#32
  let c0_i32_37 : BitVec 32 := 0#32
  ![v53.toNat, 0, 0]
def k1_off4 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c256_i32 : BitVec 32 := 256#32
  let c0_i32_40 : BitVec 32 := 0#32
  ![v53.toNat, 256, 0]
def k1_off5 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c512_i32 : BitVec 32 := 512#32
  let c0_i32_43 : BitVec 32 := 0#32
  ![v53.toNat, 512, 0]
def k1_off6 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c768_i32 : BitVec 32 := 768#32
  let c0_i32_46 : BitVec 32 := 0#32
  ![v53.toNat, 768, 0]
def k1_cond7 (i : grid1.Coords) : BitVec 1 :=
  let arg1 : BitVec 32 := BitVec.ofNat 32 (i 1).val
  let c1_i32_21 : BitVec 32 := 1#32
  let v42 : BitVec 32 := Scalar.addi arg1 c1_i32_21
  let c1_i32_31 : BitVec 32 := 1#32
  let v57 : BitVec 1 := Scalar.cmpi .sge v42 c1_i32_31
  let c3_i32_32 : BitVec 32 := 3#32
  let v58 : BitVec 1 := Scalar.cmpi .slt v42 c3_i32_32
  let v59 : BitVec 1 := Scalar.andi v57 v58
  let v60 : BitVec 32 := Scalar.extui v59
  let c0_i32_33 : BitVec 32 := 0#32
  let v61 : BitVec 1 := Scalar.cmpi .ne v60 c0_i32_33
  v61

def k1_off7 (i : grid1.Coords) : Fin 1 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  ![v53.toNat]
def k1_off8 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c0_i32_41 : BitVec 32 := 0#32
  let c0_i32_42 : BitVec 32 := 0#32
  ![v53.toNat, 0, 0]
def k1_off9 (i : grid1.Coords) (c0_i32_40 : BitVec 32) : Fin 2 → Nat :=
  let c1_i32_38 : BitVec 32 := 1#32
  let c0_i32_37 : BitVec 32 := 0#32
  let arg1 : BitVec 32 := BitVec.ofNat 32 (i 1).val
  let c1_i32_21 : BitVec 32 := 1#32
  let v42 : BitVec 32 := Scalar.addi arg1 c1_i32_21
  let c1_i32_36 : BitVec 32 := 1#32
  let v65 : BitVec 32 := Scalar.subi v42 c1_i32_36
  let v66 : BitVec 32 := Scalar.maxsi c0_i32_37 v65
  let v67 : BitVec 32 := Scalar.minsi c1_i32_38 v66
  let c4096_i32_39 : BitVec 32 := 4096#32
  let v68 : BitVec 32 := Scalar.muli v67 c4096_i32_39
  let v69 : BitVec 32 := Scalar.addi v68 c0_i32_40
  let c0_i32_43 : BitVec 32 := 0#32
  ![v69.toNat, 0]
def k1_off10 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c1024_i32_44 : BitVec 32 := 1024#32
  let c0_i32_45 : BitVec 32 := 0#32
  ![v53.toNat, 1024, 0]
def k1_off11 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c2048_i32_47 : BitVec 32 := 2048#32
  let c0_i32_48 : BitVec 32 := 0#32
  ![v53.toNat, 2048, 0]
def k1_off12 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c3072_i32_50 : BitVec 32 := 3072#32
  let c0_i32_51 : BitVec 32 := 0#32
  ![v53.toNat, 3072, 0]
def k1_cond8 (i : grid1.Coords) : BitVec 1 :=
  let arg1 : BitVec 32 := BitVec.ofNat 32 (i 1).val
  let c1_i32_21 : BitVec 32 := 1#32
  let v42 : BitVec 32 := Scalar.addi arg1 c1_i32_21
  let c3_i32_34 : BitVec 32 := 3#32
  let v62 : BitVec 1 := Scalar.cmpi .sge v42 c3_i32_34
  let v63 : BitVec 32 := Scalar.extui v62
  let c0_i32_35 : BitVec 32 := 0#32
  let v64 : BitVec 1 := Scalar.cmpi .ne v63 c0_i32_35
  v64

def k1_off13 (i : grid1.Coords) : Fin 1 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  ![v53.toNat]
def k1_off14 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c0_i32_41 : BitVec 32 := 0#32
  let c0_i32_42 : BitVec 32 := 0#32
  ![v53.toNat, 0, 0]
def k1_off15 (i : grid1.Coords) (c0_i32_40 : BitVec 32) : Fin 2 → Nat :=
  let c15_i32 : BitVec 32 := 15#32
  let c0_i32_38 : BitVec 32 := 0#32
  let arg1 : BitVec 32 := BitVec.ofNat 32 (i 1).val
  let c1_i32_21 : BitVec 32 := 1#32
  let v42 : BitVec 32 := Scalar.addi arg1 c1_i32_21
  let c1_i32_36 : BitVec 32 := 1#32
  let v65 : BitVec 32 := Scalar.subi v42 c1_i32_36
  let c2_i32_37 : BitVec 32 := 2#32
  let v66 : BitVec 32 := Scalar.subi v65 c2_i32_37
  let v67 : BitVec 32 := Scalar.maxsi c0_i32_38 v66
  let v68 : BitVec 32 := Scalar.minsi c15_i32 v67
  let c4096_i32_39 : BitVec 32 := 4096#32
  let v69 : BitVec 32 := Scalar.muli v68 c4096_i32_39
  let v70 : BitVec 32 := Scalar.addi v69 c0_i32_40
  let c0_i32_43 : BitVec 32 := 0#32
  ![v70.toNat, 0]
def k1_off16 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c1024_i32_44 : BitVec 32 := 1024#32
  let c0_i32_45 : BitVec 32 := 0#32
  ![v53.toNat, 1024, 0]
def k1_off17 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c2048_i32_47 : BitVec 32 := 2048#32
  let c0_i32_48 : BitVec 32 := 0#32
  ![v53.toNat, 2048, 0]
def k1_off18 (i : grid1.Coords) : Fin 3 → Nat :=
  let arg1 : BitVec 32 := BitVec.ofNat 32 (i 1).val
  let c1_i32_22 : BitVec 32 := 1#32
  let v43 : BitVec 32 := Scalar.addi arg1 c1_i32_22
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c3072_i32_50 : BitVec 32 := 3072#32
  let c0_i32_51 : BitVec 32 := 0#32
  ![v53.toNat, 3072, 0]
def k1_cond9 (i : grid1.Coords) : BitVec 1 :=
  let arg1 : BitVec 32 := BitVec.ofNat 32 (i 1).val
  let c1_i32_15 : BitVec 32 := 1#32
  let v31 : BitVec 1 := Scalar.cmpi .slt arg1 c1_i32_15
  let v32 : BitVec 32 := Scalar.extui v31
  let c0_i32_16 : BitVec 32 := 0#32
  let v33 : BitVec 1 := Scalar.cmpi .ne v32 c0_i32_16
  v33

def k1_off19 (i : grid1.Coords) : Fin 1 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  ![v30.toNat]
def k1_off20 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c0_i32_21 : BitVec 32 := 0#32
  let c0_i32_22 : BitVec 32 := 0#32
  ![v30.toNat, 0, 0]
def k1_off21 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c256_i32 : BitVec 32 := 256#32
  let c0_i32_25 : BitVec 32 := 0#32
  ![v30.toNat, 256, 0]
def k1_off22 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c512_i32 : BitVec 32 := 512#32
  let c0_i32_28 : BitVec 32 := 0#32
  ![v30.toNat, 512, 0]
def k1_off23 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c768_i32 : BitVec 32 := 768#32
  let c0_i32_31 : BitVec 32 := 0#32
  ![v30.toNat, 768, 0]
def k1_cond10 (i : grid1.Coords) : BitVec 1 :=
  let arg1 : BitVec 32 := BitVec.ofNat 32 (i 1).val
  let c1_i32_17 : BitVec 32 := 1#32
  let v34 : BitVec 1 := Scalar.cmpi .sge arg1 c1_i32_17
  let c3_i32 : BitVec 32 := 3#32
  let v35 : BitVec 1 := Scalar.cmpi .slt arg1 c3_i32
  let v36 : BitVec 1 := Scalar.andi v34 v35
  let v37 : BitVec 32 := Scalar.extui v36
  let c0_i32_18 : BitVec 32 := 0#32
  let v38 : BitVec 1 := Scalar.cmpi .ne v37 c0_i32_18
  v38

def k1_off24 (i : grid1.Coords) : Fin 1 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  ![v30.toNat]
def k1_off25 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c0_i32_26 : BitVec 32 := 0#32
  let c0_i32_27 : BitVec 32 := 0#32
  ![v30.toNat, 0, 0]
def k1_off26 (i : grid1.Coords) (c0_i32_25 : BitVec 32) : Fin 2 → Nat :=
  let c1_i32_23 : BitVec 32 := 1#32
  let c0_i32_22 : BitVec 32 := 0#32
  let arg1 : BitVec 32 := BitVec.ofNat 32 (i 1).val
  let c1_i32_21 : BitVec 32 := 1#32
  let v42 : BitVec 32 := Scalar.subi arg1 c1_i32_21
  let v43 : BitVec 32 := Scalar.maxsi c0_i32_22 v42
  let v44 : BitVec 32 := Scalar.minsi c1_i32_23 v43
  let c4096_i32_24 : BitVec 32 := 4096#32
  let v45 : BitVec 32 := Scalar.muli v44 c4096_i32_24
  let v46 : BitVec 32 := Scalar.addi v45 c0_i32_25
  let c0_i32_28 : BitVec 32 := 0#32
  ![v46.toNat, 0]
def k1_off27 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1024_i32_29 : BitVec 32 := 1024#32
  let c0_i32_30 : BitVec 32 := 0#32
  ![v30.toNat, 1024, 0]
def k1_off28 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32_32 : BitVec 32 := 2048#32
  let c0_i32_33 : BitVec 32 := 0#32
  ![v30.toNat, 2048, 0]
def k1_off29 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c3072_i32_35 : BitVec 32 := 3072#32
  let c0_i32_36 : BitVec 32 := 0#32
  ![v30.toNat, 3072, 0]
def k1_cond11 (i : grid1.Coords) : BitVec 1 :=
  let arg1 : BitVec 32 := BitVec.ofNat 32 (i 1).val
  let c3_i32_19 : BitVec 32 := 3#32
  let v39 : BitVec 1 := Scalar.cmpi .sge arg1 c3_i32_19
  let v40 : BitVec 32 := Scalar.extui v39
  let c0_i32_20 : BitVec 32 := 0#32
  let v41 : BitVec 1 := Scalar.cmpi .ne v40 c0_i32_20
  v41

def k1_off30 (i : grid1.Coords) : Fin 1 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  ![v30.toNat]
def k1_off31 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c0_i32_26 : BitVec 32 := 0#32
  let c0_i32_27 : BitVec 32 := 0#32
  ![v30.toNat, 0, 0]
def k1_off32 (i : grid1.Coords) (c0_i32_25 : BitVec 32) : Fin 2 → Nat :=
  let c15_i32 : BitVec 32 := 15#32
  let c0_i32_23 : BitVec 32 := 0#32
  let arg1 : BitVec 32 := BitVec.ofNat 32 (i 1).val
  let c1_i32_21 : BitVec 32 := 1#32
  let v42 : BitVec 32 := Scalar.subi arg1 c1_i32_21
  let c2_i32_22 : BitVec 32 := 2#32
  let v43 : BitVec 32 := Scalar.subi v42 c2_i32_22
  let v44 : BitVec 32 := Scalar.maxsi c0_i32_23 v43
  let v45 : BitVec 32 := Scalar.minsi c15_i32 v44
  let c4096_i32_24 : BitVec 32 := 4096#32
  let v46 : BitVec 32 := Scalar.muli v45 c4096_i32_24
  let v47 : BitVec 32 := Scalar.addi v46 c0_i32_25
  let c0_i32_28 : BitVec 32 := 0#32
  ![v47.toNat, 0]
def k1_off33 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1024_i32_29 : BitVec 32 := 1024#32
  let c0_i32_30 : BitVec 32 := 0#32
  ![v30.toNat, 1024, 0]
def k1_off34 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32_32 : BitVec 32 := 2048#32
  let c0_i32_33 : BitVec 32 := 0#32
  ![v30.toNat, 2048, 0]
def k1_off35 (i : grid1.Coords) : Fin 3 → Nat :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c3072_i32_35 : BitVec 32 := 3072#32
  let c0_i32_36 : BitVec 32 := 0#32
  ![v30.toNat, 3072, 0]
def k1_cond12 (i : grid1.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k1_cond15 (i : grid1.Coords) : BitVec 1 :=
  let arg1 : BitVec 32 := BitVec.ofNat 32 (i 1).val
  let c0_i32_12 : BitVec 32 := 0#32
  let v24 : BitVec 1 := Scalar.cmpi .sgt arg1 c0_i32_12
  let v25 : BitVec 32 := Scalar.extui v24
  let c0_i32_13 : BitVec 32 := 0#32
  let v26 : BitVec 1 := Scalar.cmpi .ne v25 c0_i32_13
  v26

def k1_off36 (i : grid1.Coords) : Fin 3 → Nat :=
  let arg1 : BitVec 32 := BitVec.ofNat 32 (i 1).val
  let c2_i32_14 : BitVec 32 := 2#32
  let c0_i32_15 : BitVec 32 := 0#32
  let v27 : BitVec 1 := Scalar.cmpi .eq c2_i32_14 c0_i32_15
  let c1_i32_16 : BitVec 32 := 1#32
  let v28 : BitVec 32 := Scalar.select v27 c1_i32_16 c2_i32_14
  let v29 : BitVec 32 := Scalar.remsi arg1 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let v37 : Index := Scalar.indexCast v36
  let c0_20 : Index := 0#32
  let c0_21 : Index := 0#32
  ![v37.toNat, 0, 0]
def k1_off37 (i : grid1.Coords) (c0_i32_25 : BitVec 32) : Fin 2 → Nat :=
  let c0_26 : Index := 0#32
  let arg1 : BitVec 32 := BitVec.ofNat 32 (i 1).val
  let c4096_i32_24 : BitVec 32 := 4096#32
  let v48 : BitVec 32 := Scalar.muli arg1 c4096_i32_24
  let v49 : BitVec 32 := Scalar.addi v48 c0_i32_25
  let v50 : Index := Scalar.indexCast v49
  ![0, v50.toNat]
def k1_off38 (i : grid1.Coords) : Fin 3 → Nat :=
  let arg1 : BitVec 32 := BitVec.ofNat 32 (i 1).val
  let c2_i32_14 : BitVec 32 := 2#32
  let c0_i32_15 : BitVec 32 := 0#32
  let v27 : BitVec 1 := Scalar.cmpi .eq c2_i32_14 c0_i32_15
  let c1_i32_16 : BitVec 32 := 1#32
  let v28 : BitVec 32 := Scalar.select v27 c1_i32_16 c2_i32_14
  let v29 : BitVec 32 := Scalar.remsi arg1 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let v55 : Index := Scalar.indexCast v36
  let c2048 : Index := 2048#32
  let c0_28 : Index := 0#32
  ![v55.toNat, 2048, 0]
def k1_cond16 (i : grid1.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_4 : BitVec 32 := 0#32
  let v13 : BitVec 1 := Scalar.cmpi .ne v12 c0_i32_4
  v13

def k1_off39 (i : grid1.Coords) : Fin 2 → Nat :=
  let c0 : Index := 0#32
  let arg1 : BitVec 32 := BitVec.ofNat 32 (i 1).val
  let c4096_i32 : BitVec 32 := 4096#32
  let v0 : BitVec 32 := Scalar.muli arg1 c4096_i32
  let v20 : Index := Scalar.indexCast v0
  ![0, v20.toNat]
def k1_off40 (i : grid1.Coords) : Fin 2 → Nat :=
  let c0_11 : Index := 0#32
  let arg1 : BitVec 32 := BitVec.ofNat 32 (i 1).val
  let c4096_i32 : BitVec 32 := 4096#32
  let v0 : BitVec 32 := Scalar.muli arg1 c4096_i32
  let v25 : Index := Scalar.indexCast v0
  ![0, v25.toNat]
def k1_cond19 (i : grid1.Coords) : BitVec 1 :=
  let arg1 : BitVec 32 := BitVec.ofNat 32 (i 1).val
  let c0_i32_15 : BitVec 32 := 0#32
  let v33 : BitVec 1 := Scalar.cmpi .sgt arg1 c0_i32_15
  let v34 : BitVec 32 := Scalar.extui v33
  let c0_i32_16 : BitVec 32 := 0#32
  let v35 : BitVec 1 := Scalar.cmpi .ne v34 c0_i32_16
  v35

def k1_off41 (i : grid1.Coords) : Fin 3 → Nat :=
  let arg1 : BitVec 32 := BitVec.ofNat 32 (i 1).val
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi arg1 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : Index := Scalar.indexCast v45
  let c0_23 : Index := 0#32
  let c0_24 : Index := 0#32
  ![v46.toNat, 0, 0]
def k1_off42 (i : grid1.Coords) (c0_i32_29 : BitVec 32) : Fin 2 → Nat :=
  let c0_30 : Index := 0#32
  let arg1 : BitVec 32 := BitVec.ofNat 32 (i 1).val
  let c4096_i32_28 : BitVec 32 := 4096#32
  let v57 : BitVec 32 := Scalar.muli arg1 c4096_i32_28
  let v58 : BitVec 32 := Scalar.addi v57 c0_i32_29
  let v59 : Index := Scalar.indexCast v58
  ![0, v59.toNat]
def k1_off43 (i : grid1.Coords) : Fin 3 → Nat :=
  let arg1 : BitVec 32 := BitVec.ofNat 32 (i 1).val
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi arg1 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v64 : Index := Scalar.indexCast v45
  let c2048 : Index := 2048#32
  let c0_32 : Index := 0#32
  ![v64.toNat, 2048, 0]
def k1_cond20 (i : grid1.Coords) : BitVec 1 :=
  let arg0 : BitVec 32 := BitVec.ofNat 32 (i 0).val
  let c2_i32_5 : BitVec 32 := 2#32
  let v14 : BitVec 1 := Scalar.cmpi .eq arg0 c2_i32_5
  let v15 : BitVec 32 := Scalar.extui v14
  let c0_i32_6 : BitVec 32 := 0#32
  let v16 : BitVec 1 := Scalar.cmpi .ne v15 c0_i32_6
  v16

def k1_off44 (i : grid1.Coords) : Fin 2 → Nat :=
  let c0 : Index := 0#32
  let arg1 : BitVec 32 := BitVec.ofNat 32 (i 1).val
  let c4096_i32 : BitVec 32 := 4096#32
  let v0 : BitVec 32 := Scalar.muli arg1 c4096_i32
  let v20 : Index := Scalar.indexCast v0
  ![0, v20.toNat]
def k1_off45 (i : grid1.Coords) : Fin 2 → Nat :=
  let c0_11 : Index := 0#32
  let arg1 : BitVec 32 := BitVec.ofNat 32 (i 1).val
  let c4096_i32 : BitVec 32 := 4096#32
  let v0 : BitVec 32 := Scalar.muli arg1 c4096_i32
  let v25 : Index := Scalar.indexCast v0
  ![0, v25.toNat]
def k1_cond17 (i : grid1.Coords) : BitVec 1 :=
  let arg1 : BitVec 32 := BitVec.ofNat 32 (i 1).val
  let c0_i32_7 : BitVec 32 := 0#32
  let v17 : BitVec 1 := Scalar.cmpi .eq arg1 c0_i32_7
  let v18 : BitVec 32 := Scalar.extui v17
  let c0_i32_8 : BitVec 32 := 0#32
  let v19 : BitVec 1 := Scalar.cmpi .ne v18 c0_i32_8
  v19

def k1_cond21 (i : grid1.Coords) : BitVec 1 :=
  let arg1 : BitVec 32 := BitVec.ofNat 32 (i 1).val
  let c0_i32_7 : BitVec 32 := 0#32
  let v17 : BitVec 1 := Scalar.cmpi .eq arg1 c0_i32_7
  let v18 : BitVec 32 := Scalar.extui v17
  let c0_i32_8 : BitVec 32 := 0#32
  let v19 : BitVec 1 := Scalar.cmpi .ne v18 c0_i32_8
  v19

def k1_cond22 (i : grid1.Coords) : BitVec 1 :=
  let arg1 : BitVec 32 := BitVec.ofNat 32 (i 1).val
  let c1_i32_12 : BitVec 32 := 1#32
  let v28 : BitVec 1 := Scalar.cmpi .sge arg1 c1_i32_12
  let c3_i32 : BitVec 32 := 3#32
  let v29 : BitVec 1 := Scalar.cmpi .slt arg1 c3_i32
  let v30 : BitVec 1 := Scalar.andi v28 v29
  let v31 : BitVec 32 := Scalar.extui v30
  let c0_i32_13 : BitVec 32 := 0#32
  let v32 : BitVec 1 := Scalar.cmpi .ne v31 c0_i32_13
  v32

def k1_cond23 (i : grid1.Coords) : BitVec 1 :=
  let arg1 : BitVec 32 := BitVec.ofNat 32 (i 1).val
  let c3_i32_14 : BitVec 32 := 3#32
  let v33 : BitVec 1 := Scalar.cmpi .sge arg1 c3_i32_14
  let v34 : BitVec 32 := Scalar.extui v33
  let c0_i32_15 : BitVec 32 := 0#32
  let v35 : BitVec 1 := Scalar.cmpi .ne v34 c0_i32_15
  v35

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  let c0_i32_2 : BitVec 32 := 0#32
  ![v2.toNat, c0_i32_1.toNat]

def cc1_transform_5 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c1_i32 : BitVec 32 := 1#32
  let v1 : BitVec 32 := Scalar.subi arg1 c1_i32
  let c0_i32 : BitVec 32 := 0#32
  let c1_i32_0 : BitVec 32 := 1#32
  let v2 : BitVec 32 := Scalar.maxsi c0_i32 v1
  let v3 : BitVec 32 := Scalar.minsi c1_i32_0 v2
  let c0_i32_1 : BitVec 32 := 0#32
  let v4 : BitVec 32 := Scalar.select v0 v3 c0_i32_1
  let c0_i32_2 : BitVec 32 := 0#32
  let c0_i32_3 : BitVec 32 := 0#32
  let c0_i32_4 : BitVec 32 := 0#32
  ![v4.toNat, c0_i32_2.toNat, c0_i32_3.toNat]

def cc1_transform_6 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c1_i32 : BitVec 32 := 1#32
  let v1 : BitVec 32 := Scalar.subi arg1 c1_i32
  let c2_i32_0 : BitVec 32 := 2#32
  let v2 : BitVec 32 := Scalar.subi v1 c2_i32_0
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let v5 : BitVec 32 := Scalar.select v0 v4 c0_i32_1
  let c0_i32_2 : BitVec 32 := 0#32
  let c0_i32_3 : BitVec 32 := 0#32
  let c0_i32_4 : BitVec 32 := 0#32
  ![v5.toNat, c0_i32_2.toNat, c0_i32_3.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S512x128 : Shape := ⟨2, ![512, 128]⟩
abbrev S1024x128 : Shape := ⟨2, ![1024, 128]⟩
abbrev S8192x128 : Shape := ⟨2, ![8192, 128]⟩
abbrev S65536x128 : Shape := ⟨2, ![65536, 128]⟩
abbrev S_ : Shape := ⟨0, ![]⟩
abbrev S512 : Shape := ⟨1, ![512]⟩
abbrev S512x1 : Shape := ⟨2, ![512, 1]⟩
abbrev S74752x128 : Shape := ⟨2, ![74752, 128]⟩
abbrev S128x74752 : Shape := ⟨2, ![128, 74752]⟩
abbrev S512x74752 : Shape := ⟨2, ![512, 74752]⟩
abbrev S512x8192 : Shape := ⟨2, ![512, 8192]⟩
abbrev S8192 : Shape := ⟨1, ![8192]⟩
abbrev S512x65536 : Shape := ⟨2, ![512, 65536]⟩
abbrev S65536 : Shape := ⟨1, ![65536]⟩

abbrev nBuf : Space → Nat
  | .hbm => 69
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S1024x128, .f32⟩
  | .hbm, ⟨2, _⟩ => ⟨S8192x128, .f32⟩
  | .hbm, ⟨3, _⟩ => ⟨S65536x128, .f32⟩
  | .hbm, ⟨4, _⟩ => ⟨S_, .i32⟩
  | .hbm, ⟨5, _⟩ => ⟨S512, .i32⟩
  | .hbm, ⟨6, _⟩ => ⟨S512, .i32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S_, .i1⟩
  | .hbm, ⟨24, _⟩ => ⟨S512, .i1⟩
  | .hbm, ⟨25, _⟩ => ⟨S512, .i1⟩
  | .hbm, ⟨26, _⟩ => ⟨S512, .i1⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S1024x128, .f32⟩
  | .hbm, ⟨39, _⟩ => ⟨S74752x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S128x74752, .f32⟩
  | .hbm, ⟨45, _⟩ => ⟨S512x74752, .f32⟩
  | .hbm, ⟨46, _⟩ => ⟨S512x74752, .f32⟩
  | .hbm, ⟨47, _⟩ => ⟨S512x74752, .f32⟩
  | .hbm, ⟨48, _⟩ => ⟨S_, .f32⟩
  | .hbm, ⟨49, _⟩ => ⟨S512, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S512x1, .f32⟩
  | .hbm, ⟨54, _⟩ => ⟨S512x74752, .f32⟩
  | .hbm, ⟨55, _⟩ => ⟨S512x74752, .f32⟩
  | .hbm, ⟨56, _⟩ => ⟨S512x74752, .f32⟩
  | .hbm, ⟨57, _⟩ => ⟨S_, .f32⟩
  | .hbm, ⟨58, _⟩ => ⟨S512, .f32⟩
  | .hbm, ⟨59, _⟩ => ⟨S512x1, .f32⟩
  | .hbm, ⟨60, _⟩ => ⟨S512x74752, .f32⟩
  | .hbm, ⟨61, _⟩ => ⟨S512x74752, .f32⟩
  | .hbm, ⟨62, _⟩ => ⟨S512x128, .f32⟩
  | .hbm, ⟨63, _⟩ => ⟨S512x8192, .f32⟩
  | .hbm, ⟨64, _⟩ => ⟨S_, .f32⟩
  | .hbm, ⟨65, _⟩ => ⟨S8192, .f32⟩
  | .hbm, ⟨66, _⟩ => ⟨S512x65536, .f32⟩
  | .hbm, ⟨67, _⟩ => ⟨S_, .f32⟩
  | .hbm, ⟨68, _⟩ => ⟨S65536, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_c_1 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩

abbrev nD : Nat := 1
abbrev τ : Topo := Topo.v7x

variable {F : FTy → Type} [FloatOps F]
-- ==== Ring.lean ====
abbrev S512x128 : Shape := ⟨2, ![512, 128]⟩
abbrev S1024x128 : Shape := ⟨2, ![1024, 128]⟩
abbrev S_ : Shape := ⟨0, ![]⟩
abbrev S1024 : Shape := ⟨1, ![1024]⟩
abbrev S1x1024 : Shape := ⟨2, ![1, 1024]⟩
abbrev S1536x128 : Shape := ⟨2, ![1536, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩

abbrev nBuf : Table → Nat
  | .hbm => 55
  | .local .scVector .vmem => 2
  | _ => 0

abbrev bufTy : (tb : Table) → Fin (nBuf tb) → BufTy
  | .hbm, ⟨0, _⟩ => ⟨S512x128, .f32⟩
  | .hbm, ⟨1, _⟩ => ⟨S1024x128, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i1⟩
  | .hbm, ⟨16, _⟩ => ⟨S_, .i1⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S_, .i1⟩
  | .hbm, ⟨39, _⟩ => ⟨S1024, .i1⟩
  | .hbm, ⟨40, _⟩ => ⟨S1024, .i1⟩
  | .hbm, ⟨41, _⟩ => ⟨S1024, .i1⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1x1024, .i32⟩
  | .hbm, ⟨53, _⟩ => ⟨S1536x128, .f32⟩
  | .hbm, ⟨54, _⟩ => ⟨S1024x128, .f32⟩
  | .local .scVector .vmem, ⟨0, _⟩ => ⟨S2x1x128, .i32⟩
  | .local .scVector .vmem, ⟨1, _⟩ => ⟨S2x128x128, .f32⟩
  | _, _ => ⟨S512x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_c_1 : Ref sig .tc := ⟨.hbm, 10, rfl⟩
abbrev main_call0_v4 : Ref sig .tc := ⟨.hbm, 11, rfl⟩
abbrev main_call0_c_2 : Ref sig .tc := ⟨.hbm, 12, rfl⟩
abbrev main_call0_v5 : Ref sig .tc := ⟨.hbm, 13, rfl⟩
abbrev main_call0_c_3 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v4 : Ref sig .tc := ⟨.hbm, 44, rfl⟩
abbrev main_c_1 : Ref sig .tc := ⟨.hbm, 45, rfl⟩
abbrev main_v5 : Ref sig .tc := ⟨.hbm, 46, rfl⟩
abbrev main_v6 : Ref sig .tc := ⟨.hbm, 47, rfl⟩
abbrev main_c_2 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v11_scv : Ref sig .scVector := ⟨.hbm, 53, rfl⟩
abbrev main_v10_scv : Ref sig .scVector := ⟨.hbm, 52, rfl⟩
abbrev main_v12_scv : Ref sig .scVector := ⟨.hbm, 54, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c0_i32_7_r0 : BitVec 32 := 0#32
  let v14_r0 : BitVec 1 := Scalar.cmpi .sgt v11 c0_i32_7_r0
  let v15_r0 : BitVec 32 := Scalar.extui v14_r0
  let c0_i32_8_r0 : BitVec 32 := 0#32
  let v16_r0 : BitVec 1 := Scalar.cmpi .ne v15_r0 c0_i32_8_r0
  v16_r0

def k0_cond2 (i : grid0.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v17_r0 : BitVec 32 := Scalar.muli c1_i32_9_r0 v5
  let c0_i32_23_r0 : BitVec 32 := 0#32
  let v35_r0 : BitVec 1 := Scalar.cmpi .sgt v17_r0 c0_i32_23_r0
  let v36_r0 : BitVec 1 := Scalar.andi true_24_r0 v35_r0
  let true_25_r0 : BitVec 1 := 1#1
  let v37_r0 : BitVec 1 := Scalar.andi v36_r0 true_25_r0
  let v38_r0 : BitVec 32 := Scalar.extui v37_r0
  let c0_i32_27_r0 : BitVec 32 := 0#32
  let v39_r0 : BitVec 1 := Scalar.cmpi .ne v38_r0 c0_i32_27_r0
  v39_r0

def k0_off1 : Fin 3 → Nat :=
  let c0_i32_26_r0 : BitVec 32 := 0#32
  let c2_i32_r0 : BitVec 32 := 2#32
  let v80_r0 : BitVec 32 := Scalar.remui c0_i32_26_r0 c2_i32_r0
  let c0_i32_59_r0 : BitVec 32 := 0#32
  let c0_i32_60_r0 : BitVec 32 := 0#32
  ![v80_r0.toNat, 0, 0]
def k0_off2 (i : grid0.Coords) : Fin 2 → Nat :=
  let c0_i32_61_r0 : BitVec 32 := 0#32
  let c128_i32_r0 : BitVec 32 := 128#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v20_r0 : BitVec 32 := Scalar.addi c0_i32_12_r0 v10
  let v81_r0 : BitVec 32 := Scalar.muli c128_i32_r0 v20_r0
  ![0, v81_r0.toNat]
def k0_off3 : Fin 1 → Nat :=
  let c0_i32_26_r0 : BitVec 32 := 0#32
  let c2_i32_r0 : BitVec 32 := 2#32
  let v80_r0 : BitVec 32 := Scalar.remui c0_i32_26_r0 c2_i32_r0
  ![v80_r0.toNat]
@[reducible] def k0_t1_loop (i : grid0.Coords) : Scf.Loop 32 :=
  let c0_i32_31_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_37_r0 : BitVec 32 := 1#32
  ⟨c0_i32_31_r0, v46_r0, c1_i32_37_r0⟩
def k0_off4 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v101_r0 : BitVec 1 := Scalar.cmpi .ne v84_r0 v95_r0
  let c0_i32_31_r0 : BitVec 32 := 0#32
  let c1_i32_37_r0 : BitVec 32 := 1#32
  let arg5_r0 : BitVec 32 := Scf.iv c0_i32_31_r0 c1_i32_37_r0 k0_t1
  let c1_i32_59_r0 : BitVec 32 := 1#32
  let v80_r0 : BitVec 32 := Scalar.muli c1_i32_59_r0 v5
  let c2_i32_r0 : BitVec 32 := 2#32
  let v102_r0 : BitVec 32 := Scalar.subi v80_r0 c2_i32_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off5 (i : grid0.Coords) (arg10_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v93_r0 : BitVec 1 := Scalar.cmpi .eq v92_r0 v5
  let c0_i32_68_r0 : BitVec 32 := 0#32
  let v94_r0 : BitVec 32 := Scalar.select v93_r0 c0_i32_68_r0 v92_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_103_r0 : BitVec 32 := 2#32
  let v167_r0 : BitVec 32 := Scalar.remui arg6_r0 c2_i32_103_r0
  ![v167_r0.toNat]
def k0_off7 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_31_r0 : BitVec 32 := 0#32
  let c1_i32_37_r0 : BitVec 32 := 1#32
  let arg5_r0 : BitVec 32 := Scf.iv c0_i32_31_r0 c1_i32_37_r0 k0_t1
  let c0_i32_60_r0 : BitVec 32 := 0#32
  let v81_r0 : BitVec 1 := Scalar.cmpi .eq arg5_r0 c0_i32_60_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off8 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_103_r0 : BitVec 32 := 2#32
  let v168_r0 : BitVec 32 := Scalar.remui arg7_r0 c2_i32_103_r0
  ![v168_r0.toNat]
def k0_off10 (arg8_r0 : BitVec 32) : Fin 3 → Nat :=
  let c2_i32_86_r0 : BitVec 32 := 2#32
  let v132_r0 : BitVec 32 := Scalar.remui arg8_r0 c2_i32_86_r0
  let c0_i32_103_r1 : BitVec 32 := 0#32
  let c0_i32_104_r1 : BitVec 32 := 0#32
  ![v132_r0.toNat, 0, 0]

def k0_chk2 (i : grid0.Coords) (k0_t1 : Fin (k0_t1_loop i).trips) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (k0_t1 : Fin (k0_t1_loop i).trips) (arg8_r0 : BitVec 32) (k0_hw2 : k0_chk2 i k0_t1 arg8_r0), ∀ (k0_h1 : k0_cond1 i = 1#1), ∀ a, (k0_off10 arg8_r0) a + S1x128x128.size a ≤ S2x128x128.size a := fun i k0_t1 arg8_r0 k0_hw2 k0_h1 => k0_hw2 k0_h1

def k0_off11 (arg7_r0 : BitVec 32) : Fin 3 → Nat :=
  let c2_i32_85_r0 : BitVec 32 := 2#32
  let v131_r0 : BitVec 32 := Scalar.remui arg7_r0 c2_i32_85_r0
  let c0_i32_105_r1 : BitVec 32 := 0#32
  let c0_i32_106_r1 : BitVec 32 := 0#32
  ![v131_r0.toNat, 0, 0]

def k0_chk3 (i : grid0.Coords) (k0_t1 : Fin (k0_t1_loop i).trips) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (k0_t1 : Fin (k0_t1_loop i).trips) (arg7_r0 : BitVec 32) (k0_hw3 : k0_chk3 i k0_t1 arg7_r0), ∀ (k0_h1 : k0_cond1 i = 1#1), ∀ a, (k0_off11 arg7_r0) a + S1x1x128.size a ≤ S2x1x128.size a := fun i k0_t1 arg7_r0 k0_hw3 k0_h1 => k0_hw3 k0_h1

def k0_off12 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v138_r0 : BitVec 1 := Scalar.cmpi .ne v84_r0 v95_r0
  let c0_i32_31_r0 : BitVec 32 := 0#32
  let c1_i32_37_r0 : BitVec 32 := 1#32
  let arg5_r0 : BitVec 32 := Scf.iv c0_i32_31_r0 c1_i32_37_r0 k0_t1
  let c1_i32_59_r0 : BitVec 32 := 1#32
  let v80_r0 : BitVec 32 := Scalar.muli c1_i32_59_r0 v5
  let c1_i32_61_r0 : BitVec 32 := 1#32
  let v82_r0 : BitVec 32 := Scalar.subi v80_r0 c1_i32_61_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off14 (arg8_r0 : BitVec 32) : Fin 1 → Nat :=
  let c2_i32_103_r0 : BitVec 32 := 2#32
  let v167_r0 : BitVec 32 := Scalar.remui arg8_r0 c2_i32_103_r0
  ![v167_r0.toNat]
def k0_off15 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_31_r0 : BitVec 32 := 0#32
  let c1_i32_37_r0 : BitVec 32 := 1#32
  let arg5_r0 : BitVec 32 := Scf.iv c0_i32_31_r0 c1_i32_37_r0 k0_t1
  let c0_i32_60_r0 : BitVec 32 := 0#32
  let v81_r0 : BitVec 1 := Scalar.cmpi .eq arg5_r0 c0_i32_60_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off16 (i : grid0.Coords) (arg10_r0 : BitVec 32) : Fin 2 → Nat :=
  let c128_i32_r0 : BitVec 32 := 128#32
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_65_r0 : BitVec 32 := 1#32
  let v88_r0 : BitVec 32 := Scalar.subi v5 c1_i32_65_r0
  let v89_r0 : BitVec 32 := Scalar.select v87_r0 v88_r0 v86_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off17 (arg9_r0 : BitVec 32) : Fin 1 → Nat :=
  let c2_i32_103_r0 : BitVec 32 := 2#32
  let v167_r0 : BitVec 32 := Scalar.remui arg9_r0 c2_i32_103_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x1024.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x1024.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S1024x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S1024x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x1024.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x1024.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S1024x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S1024x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_31_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let v43_r0 : BitVec 32 := Scalar.addi c0_i32_31_r0 v42_r0
  let c1_i32_38_r0 : BitVec 32 := 1#32
  ⟨v46_r0, v43_r0, c1_i32_38_r0⟩
def k0_off18 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v101_r0 : BitVec 1 := Scalar.cmpi .ne v84_r0 v95_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c1_i32_59_r0 : BitVec 32 := 1#32
  let v80_r0 : BitVec 32 := Scalar.muli c1_i32_59_r0 v5
  let c2_i32_r0 : BitVec 32 := 2#32
  let v102_r0 : BitVec 32 := Scalar.subi v80_r0 c2_i32_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off19 (i : grid0.Coords) (arg10_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v93_r0 : BitVec 1 := Scalar.cmpi .eq v92_r0 v5
  let c0_i32_68_r0 : BitVec 32 := 0#32
  let v94_r0 : BitVec 32 := Scalar.select v93_r0 c0_i32_68_r0 v92_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_103_r0 : BitVec 32 := 2#32
  let v167_r0 : BitVec 32 := Scalar.remui arg6_r0 c2_i32_103_r0
  ![v167_r0.toNat]
def k0_off21 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c0_i32_60_r0 : BitVec 32 := 0#32
  let v81_r0 : BitVec 1 := Scalar.cmpi .eq arg5_r0 c0_i32_60_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off22 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_103_r0 : BitVec 32 := 2#32
  let v168_r0 : BitVec 32 := Scalar.remui arg7_r0 c2_i32_103_r0
  ![v168_r0.toNat]
def k0_off24 (arg8_r0 : BitVec 32) : Fin 3 → Nat :=
  let c2_i32_86_r0 : BitVec 32 := 2#32
  let v132_r0 : BitVec 32 := Scalar.remui arg8_r0 c2_i32_86_r0
  let c0_i32_103_r2 : BitVec 32 := 0#32
  let c0_i32_104_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_85_r0 : BitVec 32 := 2#32
  let v131_r0 : BitVec 32 := Scalar.remui arg7_r0 c2_i32_85_r0
  let c0_i32_105_r2 : BitVec 32 := 0#32
  let c0_i32_106_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v138_r0 : BitVec 1 := Scalar.cmpi .ne v84_r0 v95_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c1_i32_59_r0 : BitVec 32 := 1#32
  let v80_r0 : BitVec 32 := Scalar.muli c1_i32_59_r0 v5
  let c1_i32_61_r0 : BitVec 32 := 1#32
  let v82_r0 : BitVec 32 := Scalar.subi v80_r0 c1_i32_61_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off28 (arg8_r0 : BitVec 32) : Fin 1 → Nat :=
  let c2_i32_103_r0 : BitVec 32 := 2#32
  let v167_r0 : BitVec 32 := Scalar.remui arg8_r0 c2_i32_103_r0
  ![v167_r0.toNat]
def k0_off29 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c0_i32_60_r0 : BitVec 32 := 0#32
  let v81_r0 : BitVec 1 := Scalar.cmpi .eq arg5_r0 c0_i32_60_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off30 (i : grid0.Coords) (arg10_r0 : BitVec 32) : Fin 2 → Nat :=
  let c128_i32_r0 : BitVec 32 := 128#32
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_65_r0 : BitVec 32 := 1#32
  let v88_r0 : BitVec 32 := Scalar.subi v5 c1_i32_65_r0
  let v89_r0 : BitVec 32 := Scalar.select v87_r0 v88_r0 v86_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off31 (arg9_r0 : BitVec 32) : Fin 1 → Nat :=
  let c2_i32_103_r0 : BitVec 32 := 2#32
  let v167_r0 : BitVec 32 := Scalar.remui arg9_r0 c2_i32_103_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x1024.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x1024.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S1024x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S1024x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x1024.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x1024.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S1024x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S1024x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c1_i32_43_r0 : BitVec 32 := 1#32
  let v54_r0 : BitVec 32 := Scalar.subi v11 c1_i32_43_r0
  let c1_i32_44_r0 : BitVec 32 := 1#32
  let v55_r0 : BitVec 32 := Scalar.muli c1_i32_44_r0 v5
  let c1_i32_46_r0 : BitVec 32 := 1#32
  let v57_r0 : BitVec 32 := Scalar.subi v55_r0 c1_i32_46_r0
  let v58_r0 : BitVec 1 := Scalar.cmpi .eq v54_r0 v57_r0
  let v78_r0 : BitVec 32 := Scalar.extui v58_r0
  let c0_i32_58_r0 : BitVec 32 := 0#32
  let v79_r0 : BitVec 1 := Scalar.cmpi .ne v78_r0 c0_i32_58_r0
  v79_r0

def k0_off32 (v48_3_r0 : BitVec 32) : Fin 3 → Nat :=
  let c2_i32_r0 : BitVec 32 := 2#32
  let v80_r0 : BitVec 32 := Scalar.remui v48_3_r0 c2_i32_r0
  let c0_i32_59_r0 : BitVec 32 := 0#32
  let c0_i32_60_r0 : BitVec 32 := 0#32
  ![v80_r0.toNat, 0, 0]

def k0_off33 (i : grid0.Coords) (v48_4_r0 : BitVec 32) : Fin 2 → Nat :=
  let c128_i32_r0 : BitVec 32 := 128#32
  let true_40_r0 : BitVec 1 := 1#1
  let c1_i32_39_r0 : BitVec 32 := 1#32
  let v49_r0 : BitVec 32 := Scalar.subi v48_4_r0 c1_i32_39_r0
  let v50_r0 : BitVec 32 := Scalar.select true_40_r0 v49_r0 v48_4_r0
  let c_m1_i32_41_r0 : BitVec 32 := 4294967295#32
  let v51_r0 : BitVec 1 := Scalar.cmpi .eq v50_r0 c_m1_i32_41_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_42_r0 : BitVec 32 := 1#32
  let v52_r0 : BitVec 32 := Scalar.subi v5 c1_i32_42_r0
  let v53_r0 : BitVec 32 := Scalar.select v51_r0 v52_r0 v50_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v59_r0 : BitVec 32 := Scalar.addi v53_r0 v10
  let v81_r0 : BitVec 32 := Scalar.muli c128_i32_r0 v59_r0
  let c0_i32_61_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S1024x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S1024x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_63_r0 : BitVec 32 := 0#32
  let c0_i32_64_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RingReference.lean ====
abbrev S512x128 : Shape := ⟨2, ![512, 128]⟩
abbrev S1024x128 : Shape := ⟨2, ![1024, 128]⟩
abbrev S_ : Shape := ⟨0, ![]⟩
abbrev S512 : Shape := ⟨1, ![512]⟩
abbrev S512x1 : Shape := ⟨2, ![512, 1]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S1024x128, .f32⟩
  | .hbm, ⟨2, _⟩ => ⟨S_, .i32⟩
  | .hbm, ⟨3, _⟩ => ⟨S512, .i32⟩
  | .hbm, ⟨4, _⟩ => ⟨S512, .i32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S_, .i1⟩
  | .hbm, ⟨22, _⟩ => ⟨S512, .i1⟩
  | .hbm, ⟨23, _⟩ => ⟨S512, .i1⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S1024x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_c_1 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩

abbrev nD : Nat := 1
abbrev τ : Topo := Topo.v7x

variable {F : FTy → Type} [FloatOps F]
-- ==== Proof.Sc.Words.lean ====
/-
  The words of the ring write's pipeline at the grid's coordinates: which subcores work, how many trips the two loops
  make, which guards of the one trip hold, and where the windows lie.
-/
module

public import proofs.«01_k».proof.Proof.Gen.RingIdeal

@[expose] public section

noncomputable section

namespace Cert.Proof.Sc

open Idealize.ShloMosaic Cert.RingIdeal Cert.RingIdeal.Gen

set_option maxRecDepth 65536

theorem cond1_iff : ∀ i : grid0.Coords, (k0_cond1 i = 1#1) ↔ ((i 0).val = 0 ∧ (i 1).val < 8) := by decide +kernel
theorem cond2_of : ∀ i : grid0.Coords, k0_cond1 i = 1#1 → k0_cond2 i = 1#1 := by decide +kernel
theorem trips1_of : ∀ i : grid0.Coords, k0_cond1 i = 1#1 → (k0_t1_loop i).trips = 1 := by decide +kernel
theorem trips2_of : ∀ i : grid0.Coords, (k0_t2_loop i).trips = 0 := by decide +kernel
theorem cond3_of : ∀ i : grid0.Coords, k0_cond1 i = 1#1 → ∀ t, ¬ k0_cond3 i t 0#32 = 1#1 := by decide +kernel
theorem cond4_of : ∀ i : grid0.Coords, k0_cond1 i = 1#1 → ∀ t, k0_cond4 i t 0#32 = 1#1 := by decide +kernel
theorem cond7_of : ∀ i : grid0.Coords, k0_cond1 i = 1#1 → ∀ t, k0_cond7 i t 0#32 = 1#1 := by decide +kernel
theorem cond9_of : ∀ i : grid0.Coords, k0_cond1 i = 1#1 → ∀ t, ¬ k0_cond9 i t 0#32 = 1#1 := by decide +kernel
theorem cond18_of : ∀ i : grid0.Coords, k0_cond1 i = 1#1 → k0_cond18 i = 1#1 := by decide +kernel
theorem chk3_of : ∀ i : grid0.Coords, k0_cond1 i = 1#1 → ∀ t, k0_chk3 i t 0#32 := by decide +kernel
theorem chk2_of : ∀ i : grid0.Coords, k0_cond1 i = 1#1 → ∀ t, k0_chk2 i t 0#32 := by decide +kernel
theorem chk1_of : ∀ i : grid0.Coords, k0_cond1 i = 1#1 → ∀ t, k0_chk1 i t 1#32 0#32 0#32 0#32 0#32 := by decide +kernel
theorem chk7_of : ∀ i : grid0.Coords, k0_cond1 i = 1#1 → k0_chk7 i 0#32 := by decide +kernel
theorem chk8_of : ∀ i : grid0.Coords, k0_cond1 i = 1#1 → k0_chk8 i 0#32 := by decide +kernel
theorem off2_of : ∀ i : grid0.Coords, k0_cond1 i = 1#1 → k0_off2 i = ![0, 128 * (i 1).val] := by decide +kernel
theorem off8_of : ∀ i : grid0.Coords, k0_cond1 i = 1#1 → k0_off8 i 0#32 = ![0, 128 * (i 1).val] := by decide +kernel
theorem off13_of : ∀ i : grid0.Coords, k0_cond1 i = 1#1 → k0_off13 i 0#32 = ![128 * (i 1).val, 0] := by decide +kernel
theorem off33_of : ∀ i : grid0.Coords, k0_cond1 i = 1#1 → k0_off33 i 0#32 = ![128 * (i 1).val, 0] := by decide +kernel
theorem off7_zero : k0_off7 0#32 = ![0, 0, 0] := by decide +kernel
theorem off9_zero : k0_off9 0#32 = ![0] := by decide +kernel
theorem off10_zero : k0_off10 0#32 = ![0, 0, 0] := by decide +kernel
theorem off11_zero : k0_off11 0#32 = ![0, 0, 0] := by decide +kernel
theorem off12_zero : k0_off12 0#32 = ![0, 0, 0] := by decide +kernel
theorem off14_zero : k0_off14 0#32 = ![0] := by decide +kernel
theorem off34_zero : k0_off34 0#32 = ![0] := by decide +kernel
theorem off35_zero : k0_off35 0#32 = ![0, 0, 0] := by decide +kernel

end Cert.Proof.Sc

end
-- ==== Proof.Sc.Tile.lean ====
/-
  One vector subcore's task of the ring write: a working subcore fetches its block of 128 row numbers, gathers those
  rows of the concatenated source into its row scratch and copies them to its block of the result; an idle one does
  nothing. Stated once, at a symbolic (SparseCore, subcore), with what the result's block holds afterwards.
-/
module

public import proofs.«01_k».proof.Defs
public import proofs.«01_k».proof.Proof.Sc.Words
public import proofs.«01_k».proof.Proof.Gen.RingIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.ViewIndex
public import Idealize.ShloMosaic.Lib.Pipeline.Kit
public import Idealize.ShloMosaic.Lib.Tactic

@[expose] public section

noncomputable section

namespace Cert.Proof.Sc

open Cert.RingIdeal Cert.RingIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call -/

abbrev iLoc (d : Dev nD) : Loc nD τ sig := (SparseCore.T d).loc main_v10
abbrev xLoc (d : Dev nD) : Loc nD τ sig := (SparseCore.T d).loc main_v11
abbrev oLoc (d : Dev nD) : Loc nD τ sig := (SparseCore.T d).loc main_v12

local notation "iV" => (Memref.whole Cert.RingIdeal.main_v10_scv : Memref Cert.RingIdeal.sig Kind.scVector Space.hbm Cert.RingIdeal.S1x1024 EltTy.i32)
local notation "xV" => (Memref.whole Cert.RingIdeal.main_v11_scv : Memref Cert.RingIdeal.sig Kind.scVector Space.hbm Cert.RingIdeal.S1536x128 EltTy.f32)
local notation "oV" => (Memref.whole Cert.RingIdeal.main_v12_scv : Memref Cert.RingIdeal.sig Kind.scVector Space.hbm Cert.RingIdeal.S1024x128 EltTy.f32)
local notation "sV" => (Memref.whole Cert.RingIdeal.cc0_scoped0 : Memref Cert.RingIdeal.sig Kind.scVector Space.vmem Cert.RingIdeal.S2x1x128 EltTy.i32)
local notation "rV" => (Memref.whole Cert.RingIdeal.cc0_scoped2 : Memref Cert.RingIdeal.sig Kind.scVector Space.vmem Cert.RingIdeal.S2x128x128 EltTy.f32)

/-- The rows of the result that subcore `i` of SparseCore 0 writes: block `i` of 128 rows (none from the ninth on). -/
def oSet (i : Fin 16) : Finset S1024x128.Idx := Finset.univ.filter fun j => (j 0).val / 128 = i.val

/-- Two indices of a two-axis array are one if their coordinates are. -/
theorem idx2_eq {a b : ℕ} {x y : (⟨2, ![a, b]⟩ : Shape).Idx} (h0 : (x 0).val = (y 0).val) (h1 : (x 1).val = (y 1).val) : x = y :=
  funext fun | 0 => Fin.ext h0 | 1 => Fin.ext h1

/-- The index of row `r`'s word in the list of row numbers. -/
def listIx (r : Fin 1024) : S1x1024.Idx := fun | 0 => (⟨0, Nat.one_pos⟩ : Fin 1) | 1 => r
/-- The index of entry `(r, c)` of the source. -/
def srcIx (r : Fin 1536) (c : Fin 128) : S1536x128.Idx := fun | 0 => r | 1 => c

/-- What the call leaves in the result: row `r` is the source's row whose number the list holds at `r`. -/
def gathered (fX : S1536x128.Idx → Elt F .f32) (fI : S1x1024.Idx → BitVec 32) : S1024x128.Idx → Elt F .f32 :=
  fun j => fX (srcIx ⟨(fI (listIx (j 0))).toNat % 1536, Nat.mod_lt _ (by decide)⟩ (j 1))

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev cell (d : Dev nD) (c : Fin τ.nSC) (i : Fin τ.nSub) (k : DmaSem sig) : GSem nD τ sig := (V d c i, .dma k)
abbrev s0 : DmaSem sig := ⟨0, by decide⟩
abbrev s2 : DmaSem sig := ⟨2, by decide⟩
abbrev s4 : DmaSem sig := ⟨4, by decide⟩

omit [FloatOps F] in
theorem cell_ne {k k' : DmaSem sig} (h : k ≠ k') (c : Fin τ.nSC) (i : Fin τ.nSub) : cell d c i k ≠ cell d c i k' := fun e =>
  h (SemLoc.dma.inj (Prod.mk.inj e).2)

omit [FloatOps F] in
theorem cell_mem (k : DmaSem sig) (hk : (SemLoc.dma k : SemLoc sig).isScoped .scVector = true) (c : Fin τ.nSC) (i : Fin τ.nSub) :
    cell d c i k ∈ ownCells (V d c i) := mem_ownCells.mpr ⟨rfl, hk⟩

omit [FloatOps F] in
theorem ownSems0_V :
    (ownSems0 (V d (cV L) (jV L)) : sProp 𝕄)
      = iprop(semVal (cell d (cV L) (jV L) s0) 0 ∗ semVal (cell d (cV L) (jV L) s2) 0 ∗ semVal (cell d (cV L) (jV L) s4) 0
          ∗ bigSep ((((ownCells (V d (cV L) (jV L))).erase (cell d (cV L) (jV L) s0)).erase (cell d (cV L) (jV L) s2)).erase (cell d (cV L) (jV L) s4)) fun g => semVal g 0) := by
  unfold SparseCore.Cfg.ownSems0
  rw [SparseCore.bigSep_erase' (cell_mem d s0 (by decide) _ _),
    SparseCore.bigSep_erase' (Finset.mem_erase.mpr ⟨cell_ne d (by decide) _ _, cell_mem d s2 (by decide) _ _⟩),
    SparseCore.bigSep_erase' (Finset.mem_erase.mpr ⟨cell_ne d (by decide) _ _, Finset.mem_erase.mpr ⟨cell_ne d (by decide) _ _, cell_mem d s4 (by decide) _ _⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

theorem trips1_pos (L : grid0.Coords) (h : k0_cond1 L = 1#1) : 0 < (k0_t1_loop L).trips := by rw [trips1_of L h]; exact Nat.one_pos
abbrev oRectK (L : grid0.Coords) (h : k0_cond1 L = 1#1) : Rect S1024x128 :=
  Rect.unit (s := S1024x128) (k0_off13 L 0#32) S128x128.size
    (k0_off13_inb L ⟨0, trips1_pos L h⟩ 1#32 0#32 0#32 0#32 0#32 (chk1_of L h _) h (cond7_of L h _))
abbrev oBlkK (L : grid0.Coords) (h : k0_cond1 L = 1#1) : Memref sig .scVector .hbm S128x128 .f32 := (oV).slice (oRectK L h) (fun _ => rfl)

/-- The slot of the index ring the one trip uses. -/
abbrev slotI : Memref sig .scVector .vmem S1x128 .i32 :=
  ((sV).slice (Rect.unit (s := S2x1x128) ![0, 0, 0] S1x1x128.size (by decide)) (fun _ => rfl)).squeeze S1x128 squeezes_S1x1x128_S1x128
/-- The list of row numbers the gather reads: the slot as one row of 128 words. -/
abbrev listK : Memref sig .scVector .vmem S128 .i32 :=
  ((slotI).slice (Rect.unit (s := S1x128) ![0, 0] S1x128.size inb_S1x128_S1x128_0_0) (fun _ => rfl)).squeeze S128 squeezes_S1x128_S128

/-- Entry `x` of the list as an index of the slot. -/
def rowIx (x : S128.Idx) : S1x128.Idx := (Rect.unit (s := S1x128) ![0, 0] S1x128.size inb_S1x128_S1x128_0_0).emb (Shape.reshapeEquiv squeezes_S1x128_S128.numel_eq x)

theorem rowIx_val : ∀ k : Fin 128, (rowIx (S128.rowMajor.symm k) 1).val = k.val := by decide +kernel

theorem list_read (fs : (slotI).view.ty.Contents (Elt F)) (w : S1x128.Idx → BitVec 32) (x : S128.Idx) :
    (listK).view.read (Elt F) (View.write (Elt F) (slotI).view fs w Finset.univ) x = w (rowIx x) :=
  congrFun (View.read_write_univ (v := (slotI).view) fs w) (rowIx x)

variable (fI : Buf (Elt F) (iLoc d)) (fX : Buf (Elt F) (xLoc d)) (fO : Buf (Elt F) (oLoc d)) (q : PosShare TreeShare)

set_option maxHeartbeats 4000000 in
theorem work_body (O : CellTallies nD τ sig (HIx 1)) (W : Waits sig (HIx 1)) (h1 : k0_cond1 L = 1#1) (hI : ∀ j, (fI j).toNat < 1536)
    (fs : Buf (Elt F) ((V d (cV L) (jV L)).loc cc0_scoped0)) (fr : Buf (Elt F) ((V d (cV L) (jV L)).loc cc0_scoped2)) :
    iprop((Transfers.MayWaits (V d (cV L) (jV L)) (default : HIx 1) O : sProp 𝕄)
        ∗ ((iV).view.loc (V d (cV L) (jV L)) ↦{q} fI) ∗ ((xV).view.loc (V d (cV L) (jV L)) ↦{q} fX)
        ∗ ((oBlkK L h1).view.loc (V d (cV L) (jV L)) ↦[(oBlkK L h1).view.set]{fullShare} fO)
        ∗ ((sV).view.loc (V d (cV L) (jV L)) ↦{fullShare} fs) ∗ ((rV).view.loc (V d (cV L) (jV L)) ↦{fullShare} fr)
        ∗ semVal (cell d (cV L) (jV L) s0) 0 ∗ semVal (cell d (cV L) (jV L) s2) 0 ∗ semVal (cell d (cV L) (jV L) s4) 0
        ∗ owes (V d (cV L) (jV L)) O W)
      ⊢ wp frame (wpE (defs₀ (F := F)) 𝒱₀ (V d (cV L) (jV L)) none) Set.univ
          (cc0_knl L xV (Memref.isWhole_whole _) iV (Memref.isWhole_whole _) oV (Memref.isWhole_whole _)
            sV (Memref.isWhole_whole _) cc0_scoped1 rV (Memref.isWhole_whole _) cc0_scoped3 cc0_scoped4 cc0_scoped5)
          fun _ => iprop(((iV).view.loc (V d (cV L) (jV L)) ↦{q} fI) ∗ ((xV).view.loc (V d (cV L) (jV L)) ↦{q} fX)
            ∗ ((oBlkK L h1).view.loc (V d (cV L) (jV L)) ↦[(oBlkK L h1).view.set]{fullShare} gathered fX fI)
            ∗ (∃ f, (sV).view.loc (V d (cV L) (jV L)) ↦{fullShare} f) ∗ (∃ f, (rV).view.loc (V d (cV L) (jV L)) ↦{fullShare} f)
            ∗ semVal (cell d (cV L) (jV L) s0) 0 ∗ semVal (cell d (cV L) (jV L) s2) 0 ∗ semVal (cell d (cV L) (jV L) s4) 0
            ∗ ∃ W', ⌜∀ p ∈ W', p ∈ W ∨ p.2 = none⌝ ∗ owes (V d (cV L) (jV L)) O W') := by
  have h2 := cond2_of L h1
  have h18 := cond18_of L h1
  have ht1 := trips1_of L h1
  have ht2 := trips2_of L
  letI c2 : ClosedOff (k0_off2 L) := ⟨_, off2_of L h1⟩
  letI c8 : ClosedOff (k0_off8 L 0#32) := ⟨_, off8_of L h1⟩
  letI c13 : ClosedOff (k0_off13 L 0#32) := ⟨_, off13_of L h1⟩
  letI c33 : ClosedOff (k0_off33 L 0#32) := ⟨_, off33_of L h1⟩
  have hc3 := cond3_of L h1 ⟨0, trips1_pos L h1⟩
  have hc4 := cond4_of L h1 ⟨0, trips1_pos L h1⟩
  have hc7 := cond7_of L h1 ⟨0, trips1_pos L h1⟩
  have hc9 := cond9_of L h1 ⟨0, trips1_pos L h1⟩
  have hk1 := chk1_of L h1 ⟨0, trips1_pos L h1⟩
  have hk2 := chk2_of L h1 ⟨0, trips1_pos L h1⟩
  have hk3 := chk3_of L h1 ⟨0, trips1_pos L h1⟩
  have hk7 := chk7_of L h1
  have hk8 := chk8_of L h1
  rw [cc0_knl_eq_skeleton]; unfold cc0_knl_skel
  iintro ⟨Hmw, Hi, Hx, Ho, Hs, Hr, Hs0, Hs2, Hs4, HO⟩
  sl_exec
  have e5 : work_body.sl.v5 L = 1#32 := (by decide +kernel : ∀ L, k0_cond1 L = 1#1 → work_body.sl.v5 L = 1#32) L h1
  have e11 : work_body.sl.v11 L = 1#32 := (by decide +kernel : ∀ L, k0_cond1 L = 1#1 → work_body.sl.v11 L = 1#32) L h1
  have e41 : work_body.sl.v41_r0 L = 1#32 := (by decide +kernel : ∀ L, k0_cond1 L = 1#1 → work_body.sl.v41_r0 L = 1#32) L h1
  rw [e5, e11, e41]
  sl_unroll ht1
  have hin : ∀ x, ((listK).view.read (Elt F) (View.write (Elt F) (slotI).view fs (work_body.sl.dma0 d L fI h1 h2) Finset.univ) x).toNat < S1536x128.size 0 := by
    intro x
    rw [list_read]
    exact hI _
  sl_exec
  have e158 : work_body.sl.v158_r0 L = 0#32 := (by decide +kernel : ∀ L, work_body.sl.v158_r0 L = 0#32) L
  rw [e158]
  sl_exec
  have hval : ∀ j ∈ (oBlkK L h1).view.set, (oBlkK L h1).view.writes (Elt F) fO
      [⟨Rect.whole S128x128, work_body.sl.dma0_1 d L fI fX h1 fs fr h2 ht1 hc7 hk1 hk2 hk3 hin⟩] j = gathered fX fI j := by
    intro j hj
    obtain ⟨y, -, rfl⟩ := Finset.mem_map.mp hj
    refine View.eq_of_read_eq ?_
    rw [View.read_writes_whole]
    unfold work_body.sl.dma0_1 work_body.sl.gather0
    rw [View.read_write_univ]
    have hw : (listK).view.read (Elt F) (View.write (Elt F) (slotI).view fs (work_body.sl.dma0 d L fI h1 h2) Finset.univ) (S128.rowMajor.symm (y 0))
        = fI (listIx ((oRectK L h1).emb y 0)) := by
      rw [list_read]
      refine congrArg fI (idx2_eq ?_ ?_)
      · exact congrArg Fin.val (Subsingleton.elim (α := Fin 1) _ _)
      · show k0_off2 L 1 + 1 * (rowIx (S128.rowMajor.symm (y 0)) 1).val = k0_off13 L 0#32 0 + 1 * (y 0).val
        rw [off2_of L h1, off13_of L h1]
        exact congrArg (fun n => 128 * (L 1).val + 1 * n) (rowIx_val (y 0))
    refine congrArg fX (idx2_eq ?_ ?_)
    · refine Eq.trans ?_ (Nat.mod_eq_of_lt (hI _)).symm
      refine Eq.trans ?_ (congrArg BitVec.toNat hw)
      exact (Nat.zero_add _).trans (Nat.one_mul _)
    · show 0 + 1 * (y 1).val = k0_off13 L 0#32 1 + 1 * (y 1).val
      rw [off13_of L h1]; rfl
  sl_step
  isplitl [Hi]; · iexact Hi
  isplitl [Hx]; · iexact Hx
  isplitl [Ho]
  · iapply (Entails.of_eq (pointsTo_congr hval)); iexact Ho
  isplitl [Hs]; · iexists _; iexact Hs
  isplitl [Hr]; · iexists _; iexact Hr
  isplitl [Hs0]; · iexact Hs0
  isplitl [Hs2]; · iexact Hs2
  isplitl [Hs4]; · iexact Hs4
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile
end Cert.Proof.Sc
end
-- ==== Proof.Sc.Launch.lean ====
/-
  The SparseCore call as its launch sees it: what the call hands each SparseCore and each subcore, what comes back, and
  that every subcore's task turns the one into the other. All of it at arbitrary contents of the call's three arrays.
-/
module

public import proofs.«01_k».proof.Proof.Sc.Tile
public import Idealize.ShloMosaic.Lib.ShareLeaves

@[expose] public section

noncomputable section

namespace Cert.Proof.Sc

open Cert.RingIdeal Cert.RingIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.RingIdeal.main_v10_scv : Memref Cert.RingIdeal.sig Kind.scVector Space.hbm Cert.RingIdeal.S1x1024 EltTy.i32)
local notation "xV" => (Memref.whole Cert.RingIdeal.main_v11_scv : Memref Cert.RingIdeal.sig Kind.scVector Space.hbm Cert.RingIdeal.S1536x128 EltTy.f32)
local notation "oV" => (Memref.whole Cert.RingIdeal.main_v12_scv : Memref Cert.RingIdeal.sig Kind.scVector Space.hbm Cert.RingIdeal.S1024x128 EltTy.f32)
local notation "sV" => (Memref.whole Cert.RingIdeal.cc0_scoped0 : Memref Cert.RingIdeal.sig Kind.scVector Space.vmem Cert.RingIdeal.S2x1x128 EltTy.i32)
local notation "rV" => (Memref.whole Cert.RingIdeal.cc0_scoped2 : Memref Cert.RingIdeal.sig Kind.scVector Space.vmem Cert.RingIdeal.S2x128x128 EltTy.f32)

variable [FloatOps F]

/-- The contents of the call's arrays when it starts: the list of row numbers, the source, the result before. -/
structure Ops (F : FTy → Type) where
  fI : (d : Dev nD) → Buf (Elt F) (iLoc d)
  fX : (d : Dev nD) → Buf (Elt F) (xLoc d)
  fO : (d : Dev nD) → Buf (Elt F) (oLoc d)

variable (A : Ops F)

/-- Every listed row number is a row of the source. -/
def Ops.InRange (A : Ops F) : Prop := ∀ (d : Dev nD) (j : S1x1024.Idx), (A.fI d j).toNat < 1536

/-- The result after the call. -/
abbrev Ops.out (A : Ops F) (d : Dev nD) : Buf (Elt F) (oLoc d) := gathered (A.fX d) (A.fI d)

/-! ## What the handshakes carry -/

/-- The three arrays, the result's contents as given. -/
abbrev allPts (d : Dev nD) (f : Buf (Elt F) (oLoc d)) : sProp 𝕄 :=
  iprop((iLoc d ↦{fullShare} A.fI d) ∗ (xLoc d ↦{fullShare} A.fX d) ∗ (oLoc d ↦{fullShare} f))

/-- What subcore `i` of SparseCore 0 has of them: a share of the list and of the source, its block of the result. -/
abbrev subPts (d : Dev nD) (i : Fin 16) (f : Buf (Elt F) (oLoc d)) : sProp 𝕄 :=
  iprop((iLoc d ↦{leaf 4 fullShare i} A.fI d) ∗ (xLoc d ↦{leaf 4 fullShare i} A.fX d) ∗ (oLoc d ↦[oSet i]{fullShare} f))

/-- What SparseCore `c` is handed, or gives back: SparseCore 0 everything, the other nothing. -/
def corePts (d : Dev nD) (c : ℕ) (f : Buf (Elt F) (oLoc d)) : sProp 𝕄 := match c with | 0 => allPts A d f | _ + 1 => iprop(emp)
/-- What a subcore of SparseCore `c` is handed, or gives back. -/
def taskPts (d : Dev nD) (c : ℕ) (i : Fin 16) (f : Buf (Elt F) (oLoc d)) : sProp 𝕄 := match c with | 0 => subPts A d i f | _ + 1 => iprop(emp)

instance corePts_storable (d : Dev nD) (c : ℕ) (f : Buf (Elt F) (oLoc d)) : BI.Storable (upEmb : UEmb _ 𝕄) (corePts A d c f) :=
  match c with
  | 0 => (inferInstance : BI.Storable (upEmb : UEmb _ 𝕄) (allPts A d f))
  | _ + 1 => (inferInstance : BI.Storable (upEmb : UEmb _ 𝕄) iprop(emp))
instance taskPts_storable (d : Dev nD) (c : ℕ) (i : Fin 16) (f : Buf (Elt F) (oLoc d)) : BI.Storable (upEmb : UEmb _ 𝕄) (taskPts A d c i f) :=
  match c with
  | 0 => (inferInstance : BI.Storable (upEmb : UEmb _ 𝕄) (subPts A d i f))
  | _ + 1 => (inferInstance : BI.Storable (upEmb : UEmb _ 𝕄) iprop(emp))

theorem taskPts_zero (d : Dev nD) (i : Fin 16) (f : Buf (Elt F) (oLoc d)) : taskPts A d 0 i f = subPts A d i f := rfl

/-- The call's contract. -/
def P : (K (F := F)).Pay (nD := nD) (Val := Elt F) (Name := ℕ) (U := UU) where
  st := fun q d c => match q with | 0 => corePts A d c.val (A.fO d)
  dn := fun q d c => match q with | 0 => corePts A d c.val (A.out d)
  go := fun q d c i => match q with | 0 => taskPts A d c.val (Fin.cast nSub_zero i) (A.fO d)
  td := fun q d c i => match q with | 0 => taskPts A d c.val (Fin.cast nSub_zero i) (A.out d)
  x := fun _ _ => iprop(emp)

instance P_storable : (P (F := F) A).IsStorable where
  st q d c := match q with | 0 => corePts_storable A d c.val (A.fO d)
  dn q d c := match q with | 0 => corePts_storable A d c.val (A.out d)
  go q d c i := match q with | 0 => taskPts_storable A d c.val (Fin.cast nSub_zero i) (A.fO d)
  td q d c i := match q with | 0 => taskPts_storable A d c.val (Fin.cast nSub_zero i) (A.out d)

/-! ## The blocks of the result -/

omit [FloatOps F] in
/-- A working subcore's block is the rows the result is cut into for it. -/
theorem oBlk_set (L : grid0.Coords) (h : k0_cond1 L = 1#1) : (oBlkK L h).view.set = oSet (jL L) := by
  have e : (oBlkK L h).view.set = (oRectK L h).set := by
    show ((View.whole (main_v12_scv : Ref sig .scVector)).slice (oRectK L h)).set = _
    rw [View.set_slice]; exact Finset.map_refl
  rw [e]
  ext j
  rw [Rect.mem_set_unit]
  simp only [off13_of L h]
  have hb := (cond1_iff L).mp h
  unfold oSet
  rw [Finset.mem_filter]
  constructor
  · intro hj
    have h0 := hj 0
    refine ⟨Finset.mem_univ _, ?_⟩
    simp at h0
    show (j 0).val / 128 = (L 1).val
    omega
  · rintro ⟨-, hj⟩ a
    have hj : (j 0).val / 128 = (L 1).val := hj
    have hc : (j 1).val < 128 := (j 1).isLt
    fin_cases a <;> simp <;> omega

omit [FloatOps F] in
theorem oSet_disjoint : ∀ i ∈ (Finset.univ : Finset (Fin 16)), ∀ j ∈ (Finset.univ : Finset (Fin 16)), i ≠ j → Disjoint (oSet i) (oSet j) := by
  intro i _ j _ h
  refine Finset.disjoint_left.mpr fun x hx hy => h (Fin.ext ?_)
  rw [← (Finset.mem_filter.mp hx).2, ← (Finset.mem_filter.mp hy).2]
omit [FloatOps F] in
theorem oSet_cover : (Finset.univ : Finset (Fin 16)).biUnion oSet = Finset.univ := by
  refine Finset.eq_univ_iff_forall.mpr fun j => Finset.mem_biUnion.mpr ?_
  have hj : (j 0).val < 1024 := (j 0).isLt
  exact ⟨⟨(j 0).val / 128, by omega⟩, Finset.mem_univ _, Finset.mem_filter.mpr ⟨Finset.mem_univ _, rfl⟩⟩

omit [FloatOps F] in
theorem oPts_blocks (d : Dev nD) (f : Buf (Elt F) (oLoc d)) :
    (oLoc d ↦{fullShare} f : sProp 𝕄) = bigSep Finset.univ fun i : Fin 16 => oLoc d ↦[oSet i]{fullShare} f := by
  rw [← pointsTo_biUnion Finset.univ (ℓ := oLoc d) oSet oSet_disjoint, oSet_cover]; try rfl

omit [FloatOps F] in
/-- An idle subcore has no row of the result. -/
theorem oSet_idle (i : Fin 16) (h : 8 ≤ i.val) : oSet i = ∅ := by
  refine Finset.filter_eq_empty_iff.mpr fun j _ e => ?_
  have hj : (j 0).val < 1024 := (j 0).isLt
  omega

/-! ## The task -/

section Tile

variable (d : Dev nD) (L : grid0.Coords)

/-- What an idle subcore is handed is what it gives back. -/
theorem idle_pts (h : ¬ k0_cond1 L = 1#1) : taskPts A d (L 0).val (jL L) (A.fO d) = taskPts A d (L 0).val (jL L) (A.out d) := by
  rcases hc : (L 0).val with _ | n
  · have h8 : 8 ≤ (jL L).val := by
      by_contra hlt
      exact h ((cond1_iff L).mpr ⟨hc, not_le.mp hlt⟩)
    show subPts A d (jL L) (A.fO d) = subPts A d (jL L) (A.out d)
    unfold subPts
    rw [oSet_idle _ h8, pointsTo_congr (I := ∅) (f := A.fO d) (g := A.out d) (fun i hi => absurd hi (Finset.notMem_empty i))]
  · rfl

set_option maxHeartbeats 4000000 in
theorem tile_body (hF : (K (F := F)).Facts) (hA : A.InRange) (O : CellTallies nD τ sig (HIx 1)) (W : Waits sig (HIx 1)) (hO : ∀ g, O g none = 0) :
    iprop(levAts (K (F := F)).L (K (F := F)).lev ∗ emp ∗ taskPts A d (L 0).val (jL L) (A.fO d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_knl L xV (Memref.isWhole_whole _) iV (Memref.isWhole_whole _) oV (Memref.isWhole_whole _)
            sV (Memref.isWhole_whole _) cc0_scoped1 rV (Memref.isWhole_whole _) cc0_scoped3 cc0_scoped4 cc0_scoped5)
          fun _ => iprop(taskPts A d (L 0).val (jL L) (A.out d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h1 : k0_cond1 L = 1#1
  · have hc : (L 0).val = 0 := ((cond1_iff L).mp h1).1
    rw [hc, taskPts_zero, taskPts_zero, (K (F := F)).scopedBufs_V hF d (cV L) (jV L), SparseCore.Cfg.scopedSems0_V (Val := Elt F) d (cV L) (jV L), ownSems0_V, ownBufs_V]
    iintro ⟨#Hlv, -, ⟨Hi, Hx, Ho⟩, ⟨⟨%fs, Hs⟩, ⟨%fr, Hr⟩, Hbufs⟩, ⟨Hs0, Hs2, Hs4, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Ho' := (Entails.of_eq (show (oLoc d ↦[oSet (jL L)]{fullShare} A.fO d : sProp 𝕄)
      = ((oBlkK L h1).view.loc (V d (cV L) (jV L)) ↦[(oBlkK L h1).view.set]{fullShare} A.fO d) by rw [oBlk_set])) $$ Ho
    iapply (wp_wand_r frame _ _)
    isplitl [Hmw Hi Hx Ho' Hs Hr Hs0 Hs2 Hs4 HO]
    · iapply (work_body d L (A.fI d) (A.fX d) (A.fO d) (leaf 4 fullShare (jL L)) O W h1 (hA d) fs fr)
      isplitl [Hmw]; · iexact Hmw
      isplitl [Hi]; · iexact Hi
      isplitl [Hx]; · iexact Hx
      isplitl [Ho']; · iexact Ho'
      isplitl [Hs]; · iexact Hs
      isplitl [Hr]; · iexact Hr
      isplitl [Hs0]; · iexact Hs0
      isplitl [Hs2]; · iexact Hs2
      isplitl [Hs4]; · iexact Hs4
      iexact HO
    · iintro %_ ⟨Hi, Hx, Ho, Hs, Hr, Hs0, Hs2, Hs4, HO⟩
      isplitl [Hi Hx Ho]
      · isplitl [Hi]; · iexact Hi
        isplitl [Hx]; · iexact Hx
        iapply (Entails.of_eq (show ((oBlkK L h1).view.loc (V d (cV L) (jV L)) ↦[(oBlkK L h1).view.set]{fullShare} A.out d)
          = (oLoc d ↦[oSet (jL L)]{fullShare} A.out d : sProp 𝕄) by rw [oBlk_set])); iexact Ho
      isplitl [Hs Hr Hbufs]
      · isplitl [Hs]; · iexact Hs
        isplitl [Hr]; · iexact Hr
        iexact Hbufs
      isplitl [Hs0 Hs2 Hs4 Hsems]
      · isplitl [Hs0]; · iexact Hs0
        isplitl [Hs2]; · iexact Hs2
        isplitl [Hs4]; · iexact Hs4
        iexact Hsems
      iexact HO
  · rw [idle_pts A d L h1, cc0_knl_eq_skeleton]; unfold cc0_knl_skel
    iintro ⟨-, -, Hp, Hb, Hs, HO⟩
    sl_exec
    sl_step
    isplitl [Hp]; · iexact Hp
    isplitl [Hb]; · iexact Hb
    isplitl [Hs]; · iexact Hs
    iexists W; isplitr
    · ipureintro; exact fun p hp => .inl hp
    · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_knl (coordsV c s)
          xV (Memref.isWhole_whole _) iV (Memref.isWhole_whole _) oV (Memref.isWhole_whole _)
            sV (Memref.isWhole_whole _) cc0_scoped1 rV (Memref.isWhole_whole _) cc0_scoped3 cc0_scoped4 cc0_scoped5) ⟨⟩ c s := rfl

omit [FloatOps F] in
theorem obl_post {thr : Thread nD τ} {X B C : sProp 𝕄} {O : CellTallies nD τ sig (HIx 1)} {W : Waits sig (HIx 1)} {q : Fin 1} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] taskPts in
set_option maxRecDepth 16384 in
set_option maxHeartbeats 4000000 in
theorem tileObl (hF : (K (F := F)).Facts) (hA : A.InRange) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF hA O W hO).trans (wp_mono frame _ _ fun _ => obl_post)

end Tile

/-! ## The operands split over the subcores, the results gather from them -/

omit [FloatOps F] in
theorem bigSep_emp' {I : Type} (s : Finset I) : (bigSep s fun _ => iprop(emp)) = (iprop(emp) : sProp 𝕄) := bigSep_emp_const s

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- SparseCore `c`'s operands are its subcores' together. -/
theorem corePts_split (d : Dev nD) (c : ℕ) (f : Buf (Elt F) (oLoc d)) :
    corePts A d c f = bigSep Finset.univ fun i : Fin 16 => taskPts A d c i f := by
  cases c with
  | zero =>
    show allPts A d f = bigSep Finset.univ fun i : Fin 16 => subPts A d i f
    unfold allPts subPts
    rw [bigSep_sep', bigSep_sep', ← oPts_blocks, pointsTo_leaves Finset.univ (A.fI d) 4 fullShare, pointsTo_leaves Finset.univ (A.fX d) 4 fullShare]
    rfl
  | succ n => exact (bigSep_emp' _).symm

theorem vecSplit : (K (F := F)).VecSplit' (P A) 0 := by
  intro d c
  show corePts A d c.val (A.fO d) ⊢ |={Set.univ}=> iprop(
      (bigSep Finset.univ fun i : Fin ((K (F := F)).nSub 0) => taskPts A d c.val (Fin.cast nSub_zero i) (A.fO d))
      ∗ ((bigSep Finset.univ fun i : Fin ((K (F := F)).nSub 0) => taskPts A d c.val (Fin.cast nSub_zero i) (A.out d)) -∗ corePts A d c.val (A.out d)))
  rw [bigSep_tasks (fun i => taskPts A d c.val i (A.fO d)), bigSep_tasks (fun i => taskPts A d c.val i (A.out d)), ← corePts_split, ← corePts_split]
  iintro H; imodintro
  isplitl [H]; · iexact H
  iintro H; iexact H

/-- Both SparseCores' operands are the three arrays. -/
theorem cores_eq (d : Dev nD) (f : Buf (Elt F) (oLoc d)) :
    (bigSep Finset.univ fun c : Fin ((K (F := F)).nCore 0) => corePts A d c.val f) = allPts A d f := by
  show (bigSep (Finset.univ : Finset (Fin 2)) fun c => corePts A d c.val f) = _
  rw [show (Finset.univ : Finset (Fin 2)) = {0, 1} from rfl,
    SparseCore.bigSep_insert' (by decide), bigSep_singleton]
  exact sep_emp_eq _

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

end Cert.Proof.Sc
end
-- ==== Proof.Sc.Host.lean ====
/-
  The host operations before the SparseCore call: their list, and what they leave in the call's two operands.
-/
module

public import proofs.«01_k».proof.Proof.Gen.RingIdeal
public import Idealize.ShloMosaic.Lib.StableHlo.Run

@[expose] public section

noncomputable section

namespace Cert.Proof.Sc

open Cert.RingIdeal Cert.RingIdeal.Gen Idealize.ShloMosaic Idealize.ShloMosaic.TcCoe Idealize.SL.Sem Idealize.ShloMosaic.StableHlo

variable {F : FTy → Type} [FloatOps F]

/-- The operations in order, a called function's in the place of its call. -/
abbrev hostOps : List (HloOp τ sig (Elt F)) :=
  [ nullary main_c (constantI S_ 32 1024#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.binary (.of main_arg2) main_call0.call0.v0 main_call0.v3 Host.remsi,
    TRef.nullary main_call0.c_1 (constantI S_ 32 0#32),
    TRef.binary main_call0.v3 main_call0.c_1 main_call0.v4 (cmpi .ne),
    TRef.nullary main_call0.c_2 (constantI S_ 32 0#32),
    TRef.binary main_call0.v3 main_call0.c_2 main_call0.v5 (cmpi .slt),
    TRef.nullary main_call0.c_3 (constantI S_ 32 0#32),
    TRef.binary main_call0.call0.v0 main_call0.c_3 main_call0.v6 (cmpi .slt),
    TRef.binary main_call0.v5 main_call0.v6 main_call0.v7 (cmpi .ne),
    TRef.binary main_call0.v7 main_call0.v4 main_call0.v8 andi,
    TRef.binary main_call0.v3 main_call0.call0.v0 main_call0.v9 addi,
    TRef.ternary main_call0.v8 main_call0.v9 main_call0.v3 main_call0.v10 select,
    nullary main_v1 (iotaInDim S1024 32 0),
    unary main_v0 main_v2 (broadcastInDim S1024 ![] bcast_S_S1024 : (⟨S_, .i32⟩ : BufTy).Contents (Elt F) → (⟨S1024, .i32⟩ : BufTy).Contents (Elt F)),
    binary main_v1 main_v2 main_v3 (subi : (⟨S1024, .i32⟩ : BufTy).Contents (Elt F) → (⟨S1024, .i32⟩ : BufTy).Contents (Elt F) → (⟨S1024, .i32⟩ : BufTy).Contents (Elt F)),
    nullary main_c_0 (constantI S_ 32 1024#32),
    TRef.unary (.of main_c_0) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S1024 ![] bcast_S_S1024),
    TRef.binary (.of main_v3) main_call1.v3 main_call1.v4 Host.remsi,
    TRef.nullary main_call1.c_1 (constantI S_ 32 0#32),
    TRef.unary main_call1.c_1 main_call1.v5 (broadcastInDim S1024 ![] bcast_S_S1024),
    TRef.binary main_call1.v4 main_call1.v5 main_call1.v6 (cmpi .ne),
    TRef.nullary main_call1.c_2 (constantI S_ 32 0#32),
    TRef.unary main_call1.c_2 main_call1.v7 (broadcastInDim S1024 ![] bcast_S_S1024),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S1024 ![] bcast_S_S1024),
    TRef.binary main_call1.v8 main_call1.v10 main_call1.v11 (cmpi .ne),
    TRef.binary main_call1.v11 main_call1.v6 main_call1.v12 andi,
    TRef.unary main_call1.call0.v0 main_call1.v13 (broadcastInDim S1024 ![] bcast_S_S1024),
    TRef.binary main_call1.v4 main_call1.v13 main_call1.v14 addi,
    TRef.ternary main_call1.v12 main_call1.v14 main_call1.v4 main_call1.v15 select,
    nullary main_c_1 (constantI S_ 32 512#32),
    unary main_c_1 main_v5 (broadcastInDim S1024 ![] bcast_S_S1024 : (⟨S_, .i32⟩ : BufTy).Contents (Elt F) → (⟨S1024, .i32⟩ : BufTy).Contents (Elt F)),
    binary main_v4 main_v5 main_v6 (cmpi .slt : (⟨S1024, .i32⟩ : BufTy).Contents (Elt F) → (⟨S1024, .i32⟩ : BufTy).Contents (Elt F) → (⟨S1024, .i1⟩ : BufTy).Contents (Elt F)),
    nullary main_c_2 (constantI S_ 32 512#32),
    unary main_c_2 main_v7 (broadcastInDim S1024 ![] bcast_S_S1024 : (⟨S_, .i32⟩ : BufTy).Contents (Elt F) → (⟨S1024, .i32⟩ : BufTy).Contents (Elt F)),
    binary main_v7 main_v1 main_v8 (addi : (⟨S1024, .i32⟩ : BufTy).Contents (Elt F) → (⟨S1024, .i32⟩ : BufTy).Contents (Elt F) → (⟨S1024, .i32⟩ : BufTy).Contents (Elt F)),
    TRef.ternary (.of main_v6) (.of main_v4) (.of main_v8) main_call2.v0 select,
    reshape main_v9 main_v10 (rfl : (.i32 : EltTy) = .i32) shapeCasts_S1024_S1x1024,
    binary main_arg0 main_arg1 main_v11 ((fun a b => concatenate S1536x128 0 [⟨S512x128, a⟩, ⟨S1024x128, b⟩] concatenates_S512x128_S1024x128_S1536x128_d0) : (⟨S512x128, .f32⟩ : BufTy).Contents (Elt F) → (⟨S1024x128, .f32⟩ : BufTy).Contents (Elt F) → (⟨S1536x128, .f32⟩ : BufTy).Contents (Elt F))]

set_option maxRecDepth 16384 in
theorem main_eq (d : Dev nD) : main (F := F) d = (seq hostOps >>= fun _ => (sc.run d 0 >>= fun _ => pure ⟨⟩)) := rfl

theorem hostOps_sub : (hostOps : List (HloOp τ sig (Elt F))).Forall fun op => op.bufs ⊆ tcRefs τ sig :=
  ⟨nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., reshape_bufs_sub .., binary_bufs_sub ..⟩

theorem hostOps_fresh : ∀ op ∈ (hostOps : List (HloOp τ sig (Elt F))), op.fresh = ∅ := by
  simp only [hostOps, List.forall_mem_cons, List.not_mem_nil, false_imp_iff, implies_true, and_true]
  repeat' constructor

/-! ## What they leave -/

/-- The divisor of a floored remainder: the given one, or one in place of zero. -/
def divisor (c : IVec S_ 32) : IVec S_ 32 :=
  select (cmpi .eq c (constantI S_ 32 0#32)) (constantI S_ 32 1#32) c

/-- The floored remainder of two words, as the host computes it. -/
def modS (x c : IVec S_ 32) : IVec S_ 32 :=
  select (andi (cmpi .ne (cmpi .slt (Host.remsi x (divisor c)) (constantI S_ 32 0#32)) (cmpi .slt (divisor c) (constantI S_ 32 0#32)))
      (cmpi .ne (Host.remsi x (divisor c)) (constantI S_ 32 0#32)))
    (addi (Host.remsi x (divisor c)) (divisor c)) (Host.remsi x (divisor c))

/-- The floored remainder of 1024 words by one, as the host computes it. -/
def modV (x : IVec S1024 32) (c : IVec S_ 32) : IVec S1024 32 :=
  let v := Host.remsi x (broadcastInDim S1024 ![] bcast_S_S1024 (divisor c))
  select (andi (cmpi .ne (cmpi .slt v (broadcastInDim S1024 ![] bcast_S_S1024 (constantI S_ 32 0#32)))
        (broadcastInDim S1024 ![] bcast_S_S1024 (cmpi .slt (divisor c) (constantI S_ 32 0#32))))
      (cmpi .ne v (broadcastInDim S1024 ![] bcast_S_S1024 (constantI S_ 32 0#32))))
    (addi v (broadcastInDim S1024 ![] bcast_S_S1024 (divisor c))) v

/-- The distance of each slot from the write pointer, around the ring. -/
def slotDist (p : IVec S_ 32) : IVec S1024 32 :=
  modV (subi (iotaInDim S1024 32 0) (broadcastInDim S1024 ![] bcast_S_S1024 (modS p (constantI S_ 32 1024#32)))) (constantI S_ 32 1024#32)

/-- The source row of each slot. -/
def slotRow (p : IVec S_ 32) : IVec S1024 32 :=
  select (cmpi .slt (slotDist p) (broadcastInDim S1024 ![] bcast_S_S1024 (constantI S_ 32 512#32))) (slotDist p)
    (addi (broadcastInDim S1024 ![] bcast_S_S1024 (constantI S_ 32 512#32)) (iotaInDim S1024 32 0))

/-- The list the call reads. -/
def rowList (p : IVec S_ 32) : IVec S1x1024 32 := shapeCast S1x1024 (slotRow p) shapeCasts_S1024_S1x1024

/-- The source the call reads: the batch's rows, then the old ring's. -/
def source (x : (⟨S512x128, .f32⟩ : BufTy).Contents (Elt F)) (s : (⟨S1024x128, .f32⟩ : BufTy).Contents (Elt F)) : (⟨S1536x128, .f32⟩ : BufTy).Contents (Elt F) :=
  concatenate S1536x128 0 [⟨S512x128, x⟩, ⟨S1024x128, s⟩] concatenates_S512x128_S1024x128_S1536x128_d0

variable (V : Valuation τ sig (Elt F))

theorem after_v10 : after hostOps V main_v10 = rowList (V main_arg2) := by
  simp only [hostOps, TRef.binary, TRef.nullary, TRef.ternary, TRef.unary, TRef.toBuf, TRef.ofBuf, cast_eq]
  after_results_simp <;> rfl

theorem after_v11 : after hostOps V main_v11 = source (F := F) (V main_arg0) (V main_arg1) := by
  simp only [hostOps, TRef.binary, TRef.nullary, TRef.ternary, TRef.unary, TRef.toBuf, TRef.ofBuf, cast_eq]
  after_results_simp <;> rfl

theorem after_v12 : after hostOps V main_v12 = V main_v12 := by
  simp only [hostOps, TRef.binary, TRef.nullary, TRef.ternary, TRef.unary, TRef.toBuf, TRef.ofBuf, cast_eq]
  after_results_simp <;> rfl

theorem after_arg0 : after hostOps V main_arg0 = V main_arg0 := by
  simp only [hostOps, TRef.binary, TRef.nullary, TRef.ternary, TRef.unary, TRef.toBuf, TRef.ofBuf, cast_eq]
  after_results_simp <;> rfl

theorem after_arg1 : after hostOps V main_arg1 = V main_arg1 := by
  simp only [hostOps, TRef.binary, TRef.nullary, TRef.ternary, TRef.unary, TRef.toBuf, TRef.ofBuf, cast_eq]
  after_results_simp <;> rfl

theorem after_arg2 : after hostOps V main_arg2 = V main_arg2 := by
  simp only [hostOps, TRef.binary, TRef.nullary, TRef.ternary, TRef.unary, TRef.toBuf, TRef.ofBuf, cast_eq]
  after_results_simp <;> rfl

end Cert.Proof.Sc
end
-- ==== Proof.Sc.Main.lean ====
/-
  The program's run: the host operations, then the SparseCore call from what they leave in its operands.
-/
module

public import proofs.«01_k».proof.Proof.Sc.Launch
public import proofs.«01_k».proof.Proof.Sc.Host
public import Idealize.ShloMosaic.Lib.Pipeline.Frame

@[expose] public section

noncomputable section

namespace Cert.Proof.Sc

open Cert.RingIdeal Cert.RingIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

abbrev aLoc0 (d : Dev nD) : Loc nD τ sig := (SparseCore.T d).loc main_arg0
abbrev aLoc1 (d : Dev nD) : Loc nD τ sig := (SparseCore.T d).loc main_arg1
abbrev aLoc2 (d : Dev nD) : Loc nD τ sig := (SparseCore.T d).loc main_arg2

/-- The contents of the call's arrays when it starts, from the launch memory. -/
def callOps : Ops F where
  fI d := rowList (m (aLoc2 d))
  fX d := source (m (aLoc0 d)) (m (aLoc1 d))
  fO d := m (oLoc d)

/-- The buffers followed through the program: the arguments and the call's arrays. -/
def kept : Finset (DevRef τ sig) :=
  {Proc.devRef .tc main_arg0, Proc.devRef .tc main_arg1, Proc.devRef .tc main_arg2, Proc.devRef .tc main_v10, Proc.devRef .tc main_v11, Proc.devRef .tc main_v12}

theorem kept_sub : kept ⊆ Pipeline.ucRefs τ sig := by
  intro b hb
  simp only [kept, Finset.mem_insert, Finset.mem_singleton] at hb
  rcases hb with rfl | rfl | rfl | rfl | rfl | rfl <;>
    exact Finset.mem_filter.mpr ⟨StableHlo.devRef_mem_tcRefs _, by decide⟩

theorem held_kept (d : Dev nD) (W : Valuation τ sig (Elt F)) :
    (StableHlo.held (d.tc : Thread nD τ) kept W : sProp 𝕄)
      = iprop((aLoc0 d ↦{fullShare} W (Proc.devRef .tc main_arg0)) ∗ (aLoc1 d ↦{fullShare} W (Proc.devRef .tc main_arg1))
          ∗ (aLoc2 d ↦{fullShare} W (Proc.devRef .tc main_arg2)) ∗ (iLoc d ↦{fullShare} W (Proc.devRef .tc main_v10))
          ∗ (xLoc d ↦{fullShare} W (Proc.devRef .tc main_v11)) ∗ oLoc d ↦{fullShare} W (Proc.devRef .tc main_v12)) := by
  unfold StableHlo.held kept
  rw [SparseCore.bigSep_insert' (by decide), SparseCore.bigSep_insert' (by decide), SparseCore.bigSep_insert' (by decide),
    SparseCore.bigSep_insert' (by decide), SparseCore.bigSep_insert' (by decide), bigSep_singleton]

/-- What the program ends with: the arguments as they were, the result. -/
abbrev FIN (d : Dev nD) : sProp 𝕄 :=
  iprop((aLoc0 d ↦{fullShare} m (aLoc0 d)) ∗ (aLoc1 d ↦{fullShare} m (aLoc1 d)) ∗ (aLoc2 d ↦{fullShare} m (aLoc2 d))
    ∗ (oLoc d ↦{fullShare} (callOps m).out d))

theorem held_before (d : Dev nD) :
    (StableHlo.held (d.tc : Thread nD τ) kept (StableHlo.after hostOps (StableHlo.launchContents m d)) : sProp 𝕄)
      = iprop((aLoc0 d ↦{fullShare} m (aLoc0 d)) ∗ (aLoc1 d ↦{fullShare} m (aLoc1 d)) ∗ (aLoc2 d ↦{fullShare} m (aLoc2 d))
          ∗ allPts (callOps m) d ((callOps m).fO d)) := by
  rw [held_kept, after_arg0, after_arg1, after_arg2, after_v10, after_v11, after_v12]
  rfl

set_option maxRecDepth 16384 in
/-- @main on device `d`: the host operations, the call; the arguments kept, the result as the call leaves it. -/
theorem hmain (κ : GSem nD τ sig → ℕ) (d : Dev nD) :
    iprop((K (F := F)).ctx EH (P (callOps m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hbufs, Hts, -⟩, -⟩
  ihave Hbufs := (Entails.of_eq (Pipeline.unscopedBufs_held (Ix := HIx 1) (Name := ℕ) (U := UU) (Lvl := ℕ) d (StableHlo.launchContents m d))) $$ Hbufs
  iapply (StableHlo.wp_seq 𝒱 none Set.univ d (Pipeline.ucRefs τ sig) _ hostOps
    (fun op h => Pipeline.sub_ucRefs op (List.forall_iff_forall_mem.mp hostOps_sub op h)) hostOps_fresh (StableHlo.launchContents m d)) $$ [Hb Hbufs]
  · isplitl [Hb]; · iexact Hb
    iexact Hbufs
  iintro ⟨Hb, Hh⟩
  ihave Hh := (Entails.of_eq (StableHlo.held_sub_split (d.tc : Thread nD τ) kept_sub _)) $$ Hh
  icases Hh with ⟨Hk, -⟩
  ihave Hk := (Entails.of_eq (held_before m d)) $$ Hk
  icases Hk with ⟨H0, H1, H2, Hall⟩
  simp only [wp_bind, wp_pure]
  iapply ((K (F := F)).wp_run (D (F := F)) 𝒱 (EH := EH) (P := P (callOps m)) κ d 0) $$ [Hst Hall Hb Hts H0 H1 H2]
  isplitr; · iexact Hctx
  isplitl [Hst]; · iexact Hst
  isplitl [Hall]
  · iapply (Entails.of_eq (cores_eq (callOps m) d ((callOps m).fO d)).symm); iexact Hall
  iintro ⟨Hst, Hdn⟩
  ihave Hdn := (Entails.of_eq (show (bigSep Finset.univ fun c => (P (callOps m)).dn 0 d c) = allPts (callOps m) d ((callOps m).out d)
    from cores_eq (callOps m) d ((callOps m).out d))) $$ Hdn
  icases Hdn with ⟨-, -, Ho⟩
  imodintro
  isplitl [Hst]; · iexact Hst
  isplitr [Hb Hts]
  · isplitl [H0]; · iexact H0
    isplitl [H1]; · iexact H1
    isplitl [H2]; · iexact H2
    iexact Ho
  isplitl [Hb] <;> iassumption

/-- What the final memory holds. -/
def fq (d : Dev nD) (s' : Phys nD τ sig (Elt F)) : Prop :=
  s'.mem.mem (oLoc d) = (callOps m).out d ∧ s'.mem.mem (aLoc0 d) = m (aLoc0 d) ∧ s'.mem.mem (aLoc1 d) = m (aLoc1 d) ∧ s'.mem.mem (aLoc2 d) = m (aLoc2 d)

/-- A whole array held at some contents holds them. -/
theorem agree_keep (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (agree_keep s' _ _) $$ [HSI H0]; · isplitl [HSI] <;> iassumption
  icases H with ⟨%h0, HSI⟩
  ihave H := (agree_keep s' _ _) $$ [HSI H1]; · isplitl [HSI] <;> iassumption
  icases H with ⟨%h1, HSI⟩
  ihave H := (agree_keep s' _ _) $$ [HSI H2]; · isplitl [HSI] <;> iassumption
  icases H with ⟨%h2, HSI⟩
  ihave H := (agree_keep s' _ _) $$ [HSI Ho]; · isplitl [HSI] <;> iassumption
  icases H with ⟨%h3, -⟩
  ipureintro; exact ⟨h3, h0, h1, h2⟩

/-- The final memory on every device, every counter at zero. -/
def QC : PUnit × MemSt nD τ sig (Elt F) → Prop := fun r =>
  (∀ d : Dev nD, r.2.mem (oLoc d) = (callOps m).out d ∧ r.2.mem (aLoc0 d) = m (aLoc0 d) ∧ r.2.mem (aLoc1 d) = m (aLoc1 d) ∧ r.2.mem (aLoc2 d) = m (aLoc2 d))
    ∧ r.2.sem = fun _ => 0

/-- Every execution from any memory ends with each result row the source row listed for it. -/
theorem run_main [∀ e, Nonempty (Elt F e)] (hA : (callOps m).InRange) :
    θ_run (Cert.RingIdeal.defs (F := F)) (Cert.RingIdeal.threads (F := F)) ⟨m, fun _ => 0, ρ⟩ (QC m) :=
  SparseCore.Cfg.θ_run_sc_quiescent (K := K (F := F)) (D := D (F := F)) (𝒱 := 𝒱) (EH := EH) (P := P (callOps m)) (A := ∅) facts v₀
    (fun q hq => match q with | 0 => nomatch hq)
    (fun q _ => match q with | 0 => tileObl (callOps m) facts hA)
    (fun q _ => match q with | 0 => SparseCore.Cfg.VecSplit.of_plain (vecSplit (callOps m)))
    m ρ main (fun _ => iprop(emp)) (FIN m) (u₀ (F := F)) (sep_elim_left.trans (hu₀ (callOps m))) (hmain m ρ) (fq m) (hfin m) (QC m) (fun _ h hz => ⟨h, hz⟩)

end Cert.Proof.Sc
end
-- ==== Proof.Sc.Ring.lean ====
/-
  The ring as arithmetic: the words the host computes, read as numbers, and the rows the call gathers against the
  rows a scatter at the same positions writes.
-/
module

public import proofs.«01_k».proof.Proof.Sc.Main
public import proofs.«01_k».proof.Proof.Gen.RingReferenceIdeal.Run
public import Idealize.ShloMosaic.Lib.Routing.OpsSet
public import Idealize.ShloMosaic.Lib.Pipeline.Value

@[expose] public section

noncomputable section

namespace Cert.Proof.Sc

open Cert.RingIdeal Cert.RingIdeal.Gen
open Idealize.ShloMosaic Idealize.SL.Sem

/-! ## Words -/

/-- The floored remainder by 1024, on one word. -/
def modWord (x : BitVec 32) : BitVec 32 :=
  Scalar.select (IntOp.andi (IntOp.cmpi .ne (IntOp.cmpi .slt (IntOp.remsi .host x 1024#32) 0#32) (IntOp.cmpi .slt 1024#32 0#32))
      (IntOp.cmpi .ne (IntOp.remsi .host x 1024#32) 0#32))
    (IntOp.addi (IntOp.remsi .host x 1024#32) 1024#32) (IntOp.remsi .host x 1024#32)

theorem modWord_toNat (x : BitVec 32) : (modWord x).toNat = x.toNat % 1024 := by
  have hc : ¬ IntOp.SDivCorner x 1024#32 := by
    unfold IntOp.SDivCorner
    simp
  have hr : IntOp.remsi .host x 1024#32 = x.srem 1024#32 := if_neg hc
  have hti : (x.srem 1024#32).toInt = x.toInt.tmod 1024 := by
    rw [BitVec.toInt_srem]; rfl
  unfold modWord
  rw [hr]
  generalize x.srem 1024#32 = r at hti
  have hx := x.isLt
  have hrl := r.isLt
  have hsel : Scalar.select (IntOp.andi (IntOp.cmpi .ne (IntOp.cmpi .slt r 0#32) (IntOp.cmpi .slt 1024#32 0#32)) (IntOp.cmpi .ne r 0#32))
      (IntOp.addi r 1024#32) r = if r.toInt < 0 then r + 1024#32 else r := by
    have h1024 : IntOp.cmpi .slt 1024#32 0#32 = 0#1 := by decide
    rw [h1024]
    by_cases h : r.toInt < 0
    · have e1 : IntOp.cmpi .slt r 0#32 = 1#1 := by
        simp only [IntOp.cmpi, BitVec.slt_eq_decide, BitVec.toInt_zero, h, decide_true]; rfl
      have e2 : IntOp.cmpi .ne r 0#32 = 1#1 := by
        have : r ≠ 0#32 := by rintro rfl; simp at h
        show BitVec.ofBool (r != 0#32) = 1#1
        rw [bne_iff_ne.mpr this]; rfl
      rw [e1, e2, if_pos h]; rfl
    · have e1 : IntOp.cmpi .slt r 0#32 = 0#1 := by
        simp only [IntOp.cmpi, BitVec.slt_eq_decide, BitVec.toInt_zero, h, decide_false]; rfl
      rw [e1, if_neg h]
      have e3 : IntOp.andi (IntOp.cmpi .ne (0#1) (0#1)) (IntOp.cmpi .ne r 0#32) = 0#1 := by
        have : IntOp.cmpi .ne (0#1) (0#1) = 0#1 := by decide
        rw [this]; exact BitVec.zero_and
      rw [e3]; rfl
  rw [hsel]
  have h1 : x.toInt = if 2 * x.toNat < 2 ^ 32 then (x.toNat : Int) else (x.toNat : Int) - 2 ^ 32 := BitVec.toInt_eq_toNat_cond x
  have h2 : r.toInt = if 2 * r.toNat < 2 ^ 32 then (r.toNat : Int) else (r.toNat : Int) - 2 ^ 32 := BitVec.toInt_eq_toNat_cond r
  by_cases hneg : 2 * x.toNat < 2 ^ 32
  · rw [if_pos hneg] at h1
    rw [h1, Int.tmod_eq_emod_of_nonneg (by omega)] at hti
    split
    · omega
    · split at h2 <;> omega
  · rw [if_neg hneg] at h1
    have hm : x.toInt.tmod 1024 = -((-x.toInt) % 1024) := by
      rw [← Int.tmod_eq_emod_of_nonneg (by omega), Int.neg_tmod, neg_neg]
    rw [hm, h1] at hti
    split
    · rw [BitVec.toNat_add, BitVec.toNat_ofNat]
      split at h2 <;> omega
    · split at h2 <;> omega

/-! ## The two index lists -/

/-- The source row of slot `r`, as a word. -/
def rowWord (s r : BitVec 32) : BitVec 32 :=
  Scalar.select (IntOp.cmpi .slt (modWord (IntOp.subi r (modWord s))) 512#32) (modWord (IntOp.subi r (modWord s))) (IntOp.addi 512#32 r)

theorem slotRow_apply (p : IVec S_ 32) (i : S1024.Idx) :
    slotRow p i = rowWord (p fun k => k.elim0) (BitVec.ofNat 32 (i 0).val) := by
  have hp : ∀ h : S_.Idx, p h = p fun k => k.elim0 := fun h => congrArg p (funext fun k => k.elim0)
  show rowWord (p _) _ = _
  rw [hp]; rfl

theorem slt_toNat {x y : BitVec 32} (hx : x.toNat < 2 ^ 31) (hy : y.toNat < 2 ^ 31) : IntOp.cmpi .slt x y = BitVec.ofBool (decide (x.toNat < y.toNat)) := by
  have h1 : x.toInt = if 2 * x.toNat < 2 ^ 32 then (x.toNat : Int) else (x.toNat : Int) - 2 ^ 32 := BitVec.toInt_eq_toNat_cond x
  have h2 : y.toInt = if 2 * y.toNat < 2 ^ 32 then (y.toNat : Int) else (y.toNat : Int) - 2 ^ 32 := BitVec.toInt_eq_toNat_cond y
  rw [if_pos (by omega)] at h1 h2
  show BitVec.ofBool (x.slt y) = _
  rw [BitVec.slt_eq_decide, h1, h2]
  congr 1
  exact decide_eq_decide.mpr (by omega)

/-- The source row of slot `r` as a number: the batch's row at that distance from the write pointer, or the old row. -/
theorem rowWord_toNat (s r : BitVec 32) (hr : r.toNat < 1024) :
    (rowWord s r).toNat = if (r.toNat + 1024 - s.toNat % 1024) % 1024 < 512 then (r.toNat + 1024 - s.toNat % 1024) % 1024 else 512 + r.toNat := by
  have hm := modWord_toNat s
  have hd : (modWord (IntOp.subi r (modWord s))).toNat = (r.toNat + 1024 - s.toNat % 1024) % 1024 := by
    rw [modWord_toNat]
    show (r - modWord s).toNat % 1024 = _
    rw [BitVec.toNat_sub, hm]
    omega
  unfold rowWord
  generalize modWord (IntOp.subi r (modWord s)) = u at hd
  rw [slt_toNat (by omega) (by decide)]
  by_cases h : u.toNat < 512
  · have : decide (u.toNat < (512#32).toNat) = true := decide_eq_true h
    rw [this, if_pos (by omega), ← hd]; rfl
  · have : decide (u.toNat < (512#32).toNat) = false := decide_eq_false h
    rw [this, if_neg (by omega)]
    show (512#32 + r).toNat = _
    rw [BitVec.toNat_add, BitVec.toNat_ofNat]
    omega

theorem rowWord_lt (s r : BitVec 32) (hr : r.toNat < 1024) : (rowWord s r).toNat < 1536 := by
  rw [rowWord_toNat s r hr]
  split <;> omega

/-- The slot of batch row `i`, as the reference computes it. -/
def ringWord (s i : BitVec 32) : BitVec 32 :=
  Scalar.select (IntOp.cmpi .slt (modWord (IntOp.addi s i)) 0#32) (IntOp.addi (modWord (IntOp.addi s i)) 1024#32) (modWord (IntOp.addi s i))

theorem ringWord_toInt (s i : BitVec 32) : (ringWord s i).toInt = (((s.toNat + i.toNat) % 1024 : ℕ) : Int) := by
  have hm : (modWord (IntOp.addi s i)).toNat = (s.toNat + i.toNat) % 1024 := by
    rw [modWord_toNat]
    show (s + i).toNat % 1024 = _
    rw [BitVec.toNat_add]
    omega
  unfold ringWord
  generalize modWord (IntOp.addi s i) = u at hm
  rw [slt_toNat (by omega) (by decide)]
  have : decide (u.toNat < (0#32).toNat) = false := decide_eq_false (Nat.not_lt_zero _)
  rw [this]
  show u.toInt = _
  have h2 : u.toInt = if 2 * u.toNat < 2 ^ 32 then (u.toNat : Int) else (u.toNat : Int) - 2 ^ 32 := BitVec.toInt_eq_toNat_cond u
  rw [if_pos (by omega)] at h2
  rw [h2, hm]

/-! ## The list the call reads -/

/-- The index of word `r` of a list of 1024. -/
def vecIx (r : Fin 1024) : S1024.Idx := fun | 0 => r

theorem listIx_flat (r : Fin 1024) : Shape.reshapeEquiv shapeCasts_S1024_S1x1024 (listIx r) = vecIx r := by
  have h' : S1024.numel = S1x1024.numel := shapeCasts_S1024_S1x1024.symm
  have h : Shape.reshapeEquiv h' (vecIx r) = listIx r :=
    (Shape.reshapeEquiv_cons_one h' (vecIx r)).trans (funext fun b => match b with | 0 => rfl | 1 => rfl)
  rw [← h, Shape.reshapeEquiv_reshapeEquiv, Shape.reshapeEquiv_self]

theorem rowList_apply (p : IVec S_ 32) (r : Fin 1024) : rowList p (listIx r) = rowWord (p fun k => k.elim0) (BitVec.ofNat 32 r.val) := by
  show slotRow p (Shape.reshapeEquiv shapeCasts_S1024_S1x1024 (listIx r)) = _
  rw [listIx_flat, slotRow_apply]
  rfl

theorem ofNat_row (r : Fin 1024) : (BitVec.ofNat 32 r.val).toNat = r.val := by
  rw [BitVec.toNat_ofNat]; omega

theorem rowList_lt (p : IVec S_ 32) (j : S1x1024.Idx) : (rowList p j).toNat < 1536 := by
  show (slotRow p _).toNat < 1536
  rw [slotRow_apply]
  exact rowWord_lt _ _ (by rw [ofNat_row ((Shape.reshapeEquiv shapeCasts_S1024_S1x1024 j) 0)]; exact Fin.isLt _)

/-! ## The rows gathered -/

variable {F : FTy → Type} [FloatOps F]

/-- The index of entry `(i, c)` of the batch. -/
def batchIx (i : Fin 512) (c : Fin 128) : S512x128.Idx := fun | 0 => i | 1 => c
/-- The index of entry `(r, c)` of the ring. -/
def ringIx (r : Fin 1024) (c : Fin 128) : S1024x128.Idx := fun | 0 => r | 1 => c

theorem source_batch (x : (⟨S512x128, .f32⟩ : BufTy).Contents (Elt F)) (s : (⟨S1024x128, .f32⟩ : BufTy).Contents (Elt F)) (u : Fin 1536) (c : Fin 128) (i : Fin 512)
    (h : u.val = i.val) : source (F := F) x s (srcIx u c) = x (batchIx i c) :=
  concatenate_pair_apply_left 0 x s _ (srcIx u c) rfl (batchIx i c) fun b => match b with | 0 => h.symm | 1 => rfl

theorem source_ring (x : (⟨S512x128, .f32⟩ : BufTy).Contents (Elt F)) (s : (⟨S1024x128, .f32⟩ : BufTy).Contents (Elt F)) (u : Fin 1536) (c : Fin 128) (r : Fin 1024)
    (h : u.val = 512 + r.val) : source (F := F) x s (srcIx u c) = s (ringIx r c) :=
  concatenate_pair_apply_right 0 x s _ (srcIx u c) rfl rfl (ringIx r c) (fun b => match b with | 0 => fun h => absurd rfl h | 1 => fun _ => rfl)
    (show r.val + 512 = u.val by omega)

/-! ## The rows scattered -/

abbrev sd := Cert.RingReferenceIdeal.scatter_S1024x128_S512x1_S512x128_1_0_0_1

/-- The index of word `i` of the scatter's list. -/
def posIx (i : Fin 512) : Cert.RingReferenceIdeal.S512x1.Idx := fun | 0 => i | 1 => (0 : Fin 1)

theorem start_zero (idx : IVec Cert.RingReferenceIdeal.S512x1 32) (i : Fin 512) (c : Fin 128) : sd.start (batchIx i c) idx 0 = (idx (posIx i)).toInt := by
  unfold ScatterDims.start
  rw [dif_pos (show (0 : Fin 2) ∈ sd.scatterDimsToOperandDims from List.mem_singleton.2 rfl)]
  congr 2
  funext b
  match b with
  | 0 => rfl
  | 1 => exact Subsingleton.elim (α := Fin 1) _ _

theorem start_one (idx : IVec Cert.RingReferenceIdeal.S512x1 32) (i : Fin 512) (c : Fin 128) : sd.start (batchIx i c) idx 1 = 0 := by
  unfold ScatterDims.start
  rw [dif_neg (by decide)]

theorem window_zero (i : Fin 512) (c : Fin 128) : sd.window (batchIx i c) 0 = 0 := by
  unfold ScatterDims.window
  rw [dif_neg (by decide)]

theorem window_one (i : Fin 512) (c : Fin 128) : sd.window (batchIx i c) 1 = c.val := by
  unfold ScatterDims.window
  rw [dif_pos (by decide)]
  rfl

/-- Batch entry `(i, c)` lands at ring entry `(r, e)` exactly when the list's word `i` is `r` and `c` is `e`. -/
theorem lands (idx : IVec Cert.RingReferenceIdeal.S512x1 32) (i : Fin 512) (c : Fin 128) (r : Fin 1024) (e : Fin 128) :
    sd.resultIdx? (batchIx i c) idx = some (ringIx r e) ↔ (idx (posIx i)).toInt = (r.val : Int) ∧ c = e := by
  have h0 := start_zero idx i c
  have h1 := start_one idx i c
  have w0 := window_zero i c
  have w1 := window_one i c
  have hr := r.isLt
  have hc := c.isLt
  unfold ScatterDims.resultIdx?
  constructor
  · intro h
    split at h
    · rename_i hh
      have h := Option.some.inj h
      have e0 := congrArg Fin.val (congrFun h 0)
      have e1 := congrArg Fin.val (congrFun h 1)
      have g0 := hh 0
      have g1 := hh 1
      change (sd.start (batchIx i c) idx 0 + sd.window (batchIx i c) 0).toNat = r.val at e0
      change (sd.start (batchIx i c) idx 1 + sd.window (batchIx i c) 1).toNat = e.val at e1
      rw [h0, w0] at e0 g0
      rw [h1, w1] at e1
      exact ⟨by omega, Fin.ext (by omega)⟩
    · cases h
  · rintro ⟨ha, rfl⟩
    rw [dif_pos]
    · congr 1
      funext b
      match b with
      | 0 => exact Fin.ext (show (sd.start (batchIx i c) idx 0 + sd.window (batchIx i c) 0).toNat = r.val by rw [h0, w0]; omega)
      | 1 => exact Fin.ext (show (sd.start (batchIx i c) idx 1 + sd.window (batchIx i c) 1).toNat = c.val by rw [h1, w1]; omega)
    · intro b
      match b with
      | 0 =>
        show 0 ≤ sd.start (batchIx i c) idx 0 + sd.window (batchIx i c) 0 ∧ sd.start (batchIx i c) idx 0 + sd.window (batchIx i c) 0 < ((1024 : ℕ) : Int)
        rw [h0, w0]; omega
      | 1 =>
        show 0 ≤ sd.start (batchIx i c) idx 1 + sd.window (batchIx i c) 1 ∧ sd.start (batchIx i c) idx 1 + sd.window (batchIx i c) 1 < ((128 : ℕ) : Int)
        rw [h1, w1]; omega

theorem exists_batchIx (k : S512x128.Idx) : ∃ (i : Fin 512) (c : Fin 128), k = batchIx i c := ⟨k 0, k 1, funext fun b => match b with | 0 => rfl | 1 => rfl⟩
theorem eq_ringIx (k : S1024x128.Idx) : k = ringIx (k 0) (k 1) := funext fun b => match b with | 0 => rfl | 1 => rfl

/-- One entry of the rows gathered is that entry of the rows the scatter writes, for any list of positions that holds `(p + i) mod 1024` at `i`. -/
theorem gathered_entry (x : (⟨S512x128, .f32⟩ : BufTy).Contents (Elt F)) (s : (⟨S1024x128, .f32⟩ : BufTy).Contents (Elt F)) (p : IVec S_ 32)
    (idx : IVec Cert.RingReferenceIdeal.S512x1 32) (hidx : ∀ i : Fin 512, idx (posIx i) = ringWord (p fun k => k.elim0) (BitVec.ofNat 32 i.val)) (r : Fin 1024) (c : Fin 128) :
    gathered (source (F := F) x s) (rowList p) (ringIx r c) = Host.scatter sd (fun _ b => b) s idx x (ringIx r c) := by
  have hr := r.isLt
  show source (F := F) x s (srcIx ⟨(rowList p (listIx r)).toNat % 1536, _⟩ c) = _
  have hrow := rowWord_toNat (p fun k => k.elim0) (BitVec.ofNat 32 r.val) (by rw [ofNat_row]; exact hr)
  rw [← rowList_apply, ofNat_row] at hrow
  have hlt := rowList_lt p (listIx r)
  have hpos : ∀ i : Fin 512, (idx (posIx i)).toInt = ((((p fun k => k.elim0).toNat + i.val) % 1024 : ℕ) : Int) := fun i => by
    rw [hidx, ringWord_toInt, BitVec.toNat_ofNat, Nat.mod_eq_of_lt (a := i.val) (by have := i.isLt; omega)]
  generalize (p fun k => k.elim0).toNat = s₀ at hrow hpos
  by_cases h : (r.val + 1024 - s₀ % 1024) % 1024 < 512
  · rw [if_pos h] at hrow
    rw [source_batch x s _ c ⟨(r.val + 1024 - s₀ % 1024) % 1024, h⟩ (by show _ % 1536 = _; rw [Nat.mod_eq_of_lt hlt, hrow])]
    refine (Idealize.ShloMosaic.Routing.scatter_set_hit sd s idx x (ringIx r c) _ (fun k hk => ?_) (batchIx ⟨_, h⟩ c) ((lands idx _ c r c).2 ⟨?_, rfl⟩)).symm
    · obtain ⟨k₀, k₁, rfl⟩ := exists_batchIx k
      obtain ⟨ha, rfl⟩ := (lands idx _ _ r c).1 hk
      rw [hpos] at ha
      have hk0 := k₀.isLt
      obtain rfl : k₀ = ⟨(r.val + 1024 - s₀ % 1024) % 1024, h⟩ := Fin.ext (show k₀.val = (r.val + 1024 - s₀ % 1024) % 1024 by omega)
      rfl
    · rw [hpos]
      show (((s₀ + (r.val + 1024 - s₀ % 1024) % 1024) % 1024 : ℕ) : Int) = _
      omega
  · rw [if_neg h] at hrow
    rw [source_ring x s _ c r (by show _ % 1536 = _; rw [Nat.mod_eq_of_lt hlt, hrow])]
    refine (Idealize.ShloMosaic.Routing.scatter_set_miss sd s idx x (ringIx r c) fun k hk => h ?_).symm
    obtain ⟨k₀, k₁, rfl⟩ := exists_batchIx k
    obtain ⟨ha, -⟩ := (lands idx _ _ r c).1 hk
    rw [hpos] at ha
    have hk0 := k₀.isLt
    omega

/-- **The rows the call gathers are the rows the reference's scatter writes.** -/
theorem gathered_eq_scatter (m' : (ℓ : Loc Cert.RingReferenceIdeal.nD Cert.RingReferenceIdeal.τ Cert.RingReferenceIdeal.sig) → Buf (Elt F) ℓ) (c : Dev Cert.RingReferenceIdeal.nD) :
    gathered (source (F := F) (m' ((c.tc : Thread _ _).loc Cert.RingReferenceIdeal.main_arg0)) (m' ((c.tc : Thread _ _).loc Cert.RingReferenceIdeal.main_arg1)))
      (rowList (m' ((c.tc : Thread _ _).loc Cert.RingReferenceIdeal.main_arg2))) = Cert.RingReferenceIdeal.Value.res_main_v10 m' c := by
  funext k
  rw [eq_ringIx k]
  exact gathered_entry _ _ _ _ (fun i => by
    have hp : ∀ h : S_.Idx, m' ((c.tc : Thread _ _).loc Cert.RingReferenceIdeal.main_arg2) h = m' ((c.tc : Thread _ _).loc Cert.RingReferenceIdeal.main_arg2) fun k => k.elim0 :=
      fun h => congrArg (m' ((c.tc : Thread _ _).loc Cert.RingReferenceIdeal.main_arg2)) (funext fun k => k.elim0)
    show ringWord (m' ((c.tc : Thread _ _).loc Cert.RingReferenceIdeal.main_arg2) _) _ = _
    rw [hp]
    rfl) _ _

end Cert.Proof.Sc
end
-- ==== Proof.Wsc.Words.lean ====
/-
  The words of the ring write's pipeline at the grid's coordinates: which subcores work, how many trips the two loops
  make, which guards of the one trip hold, and where the windows lie.
-/
module

public import proofs.«01_k».proof.Proof.Gen.KernelIdeal

@[expose] public section

noncomputable section

namespace Cert.Proof.Wsc

open Idealize.ShloMosaic Cert.KernelIdeal Cert.KernelIdeal.Gen

set_option maxRecDepth 65536

theorem cond1_iff : ∀ i : grid0.Coords, (k0_cond1 i = 1#1) ↔ ((i 0).val = 0 ∧ (i 1).val < 8) := by decide +kernel
theorem cond2_of : ∀ i : grid0.Coords, k0_cond1 i = 1#1 → k0_cond2 i = 1#1 := by decide +kernel
theorem trips1_of : ∀ i : grid0.Coords, k0_cond1 i = 1#1 → (k0_t1_loop i).trips = 1 := by decide +kernel
theorem trips2_of : ∀ i : grid0.Coords, (k0_t2_loop i).trips = 0 := by decide +kernel
theorem cond3_of : ∀ i : grid0.Coords, k0_cond1 i = 1#1 → ∀ t, ¬ k0_cond3 i t 0#32 = 1#1 := by decide +kernel
theorem cond4_of : ∀ i : grid0.Coords, k0_cond1 i = 1#1 → ∀ t, k0_cond4 i t 0#32 = 1#1 := by decide +kernel
theorem cond7_of : ∀ i : grid0.Coords, k0_cond1 i = 1#1 → ∀ t, k0_cond7 i t 0#32 = 1#1 := by decide +kernel
theorem cond9_of : ∀ i : grid0.Coords, k0_cond1 i = 1#1 → ∀ t, ¬ k0_cond9 i t 0#32 = 1#1 := by decide +kernel
theorem cond18_of : ∀ i : grid0.Coords, k0_cond1 i = 1#1 → k0_cond18 i = 1#1 := by decide +kernel
theorem chk3_of : ∀ i : grid0.Coords, k0_cond1 i = 1#1 → ∀ t, k0_chk3 i t 0#32 := by decide +kernel
theorem chk2_of : ∀ i : grid0.Coords, k0_cond1 i = 1#1 → ∀ t, k0_chk2 i t 0#32 := by decide +kernel
theorem chk1_of : ∀ i : grid0.Coords, k0_cond1 i = 1#1 → ∀ t, k0_chk1 i t 1#32 0#32 0#32 0#32 0#32 := by decide +kernel
theorem chk7_of : ∀ i : grid0.Coords, k0_cond1 i = 1#1 → k0_chk7 i 0#32 := by decide +kernel
theorem chk8_of : ∀ i : grid0.Coords, k0_cond1 i = 1#1 → k0_chk8 i 0#32 := by decide +kernel
theorem off2_of : ∀ i : grid0.Coords, k0_cond1 i = 1#1 → k0_off2 i = ![0, 128 * (i 1).val] := by decide +kernel
theorem off8_of : ∀ i : grid0.Coords, k0_cond1 i = 1#1 → k0_off8 i 0#32 = ![0, 128 * (i 1).val] := by decide +kernel
theorem off13_of : ∀ i : grid0.Coords, k0_cond1 i = 1#1 → k0_off13 i 0#32 = ![128 * (i 1).val, 0] := by decide +kernel
theorem off33_of : ∀ i : grid0.Coords, k0_cond1 i = 1#1 → k0_off33 i 0#32 = ![128 * (i 1).val, 0] := by decide +kernel
theorem off7_zero : k0_off7 0#32 = ![0, 0, 0] := by decide +kernel
theorem off9_zero : k0_off9 0#32 = ![0] := by decide +kernel
theorem off10_zero : k0_off10 0#32 = ![0, 0, 0] := by decide +kernel
theorem off11_zero : k0_off11 0#32 = ![0, 0, 0] := by decide +kernel
theorem off12_zero : k0_off12 0#32 = ![0, 0, 0] := by decide +kernel
theorem off14_zero : k0_off14 0#32 = ![0] := by decide +kernel
theorem off34_zero : k0_off34 0#32 = ![0] := by decide +kernel
theorem off35_zero : k0_off35 0#32 = ![0, 0, 0] := by decide +kernel

end Cert.Proof.Wsc

end
-- ==== Proof.Wsc.Base.lean ====
/-
  The resource algebra of the whole program: the handshakes' rounds library, the pipeline's, the transfers' counters.
-/
module

public import proofs.«01_k».proof.Proof.Gen.KernelIdeal
public import Idealize.ShloMosaic.Lib.SparseCore.Quiescent
public import Idealize.ShloMosaic.Lib.Pipeline.Kit
public import Idealize.ShloMosaic.Lib.Transfers

@[expose] public section

noncomputable section

namespace Cert.Proof.Wsc

open Cert.KernelIdeal Cert.KernelIdeal.Gen

open Idealize.ShloMosaic
open Idealize.ShloMosaic.SparseCore.Cfg (HIx)
open Idealize.SL Idealize.SL.RA Idealize.SL.BI
open Idealize.ShloMosaic.Rounds

abbrev UH : Type := URounds (GSem nD τ sig) ℕ
abbrev UR : Type := URounds (GSem nD τ sig) Unit
abbrev UU : Type := UH × (UR × Counters)

end Cert.Proof.Wsc
end
-- ==== Proof.Wsc.Tile.lean ====
/-
  One vector subcore's task of the ring write: a working subcore fetches its block of 128 row numbers, gathers those
  rows of the concatenated source into its row scratch and copies them to its block of the result; an idle one does
  nothing. Stated once, at a symbolic (SparseCore, subcore), with what the result's block holds afterwards.
-/
module

public import proofs.«01_k».proof.Defs
public import proofs.«01_k».proof.Proof.Wsc.Words
public import proofs.«01_k».proof.Proof.Wsc.Base
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.ViewIndex
public import Idealize.ShloMosaic.Lib.Pipeline.Kit
public import Idealize.ShloMosaic.Lib.Tactic

@[expose] public section

noncomputable section

namespace Cert.Proof.Wsc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

local notation "𝕄" => MT nD τ sig (HIx 1) (Elt F) ℕ UU ℕ

abbrev EH : Emb UH (MT nD τ sig (HIx 1) (Elt F) ℕ UU ℕ) := embL

/-! ## The arrays of the call -/

abbrev iLoc (d : Dev nD) : Loc nD τ sig := (SparseCore.T d).loc main_v10
abbrev xLoc (d : Dev nD) : Loc nD τ sig := (SparseCore.T d).loc main_v11
abbrev oLoc (d : Dev nD) : Loc nD τ sig := (SparseCore.T d).loc main_v12

local notation "iV" => (Memref.whole Cert.KernelIdeal.main_v10_scv : Memref Cert.KernelIdeal.sig Kind.scVector Space.hbm Cert.KernelIdeal.S1x1024 EltTy.i32)
local notation "xV" => (Memref.whole Cert.KernelIdeal.main_v11_scv : Memref Cert.KernelIdeal.sig Kind.scVector Space.hbm Cert.KernelIdeal.S1536x128 EltTy.f32)
local notation "oV" => (Memref.whole Cert.KernelIdeal.main_v12_scv : Memref Cert.KernelIdeal.sig Kind.scVector Space.hbm Cert.KernelIdeal.S1024x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x128 EltTy.f32)

/-- The rows of the result that subcore `i` of SparseCore 0 writes: block `i` of 128 rows (none from the ninth on). -/
def oSet (i : Fin 16) : Finset S1024x128.Idx := Finset.univ.filter fun j => (j 0).val / 128 = i.val

/-- Two indices of a two-axis array are one if their coordinates are. -/
theorem idx2_eq {a b : ℕ} {x y : (⟨2, ![a, b]⟩ : Shape).Idx} (h0 : (x 0).val = (y 0).val) (h1 : (x 1).val = (y 1).val) : x = y :=
  funext fun | 0 => Fin.ext h0 | 1 => Fin.ext h1

/-- The index of row `r`'s word in the list of row numbers. -/
def listIx (r : Fin 1024) : S1x1024.Idx := fun | 0 => (⟨0, Nat.one_pos⟩ : Fin 1) | 1 => r
/-- The index of entry `(r, c)` of the source. -/
def srcIx (r : Fin 1536) (c : Fin 128) : S1536x128.Idx := fun | 0 => r | 1 => c

/-- What the call leaves in the result: row `r` is the source's row whose number the list holds at `r`. -/
def gathered (fX : S1536x128.Idx → Elt F .f32) (fI : S1x1024.Idx → BitVec 32) : S1024x128.Idx → Elt F .f32 :=
  fun j => fX (srcIx ⟨(fI (listIx (j 0))).toNat % 1536, Nat.mod_lt _ (by decide)⟩ (j 1))

variable [FloatOps F] [Named F]

section Tile

variable (d : Dev nD) (L : grid0.Coords)

abbrev cV (L : grid0.Coords) : Fin τ.nSC := (L 0).castLE hcore0
abbrev jV (L : grid0.Coords) : Fin τ.nSub := (L 1).castLE hsub0
omit [FloatOps F] [Named F] in
theorem bound_one : grid0.bound 1 = 16 := rfl
abbrev jL (L : grid0.Coords) : Fin 16 := Fin.cast bound_one (L 1)

abbrev cell (d : Dev nD) (c : Fin τ.nSC) (i : Fin τ.nSub) (k : DmaSem sig) : GSem nD τ sig := (V d c i, .dma k)
abbrev s0 : DmaSem sig := ⟨0, by decide⟩
abbrev s2 : DmaSem sig := ⟨2, by decide⟩
abbrev s4 : DmaSem sig := ⟨4, by decide⟩

omit [FloatOps F] [Named F] in
theorem cell_ne {k k' : DmaSem sig} (h : k ≠ k') (c : Fin τ.nSC) (i : Fin τ.nSub) : cell d c i k ≠ cell d c i k' := fun e =>
  h (SemLoc.dma.inj (Prod.mk.inj e).2)

omit [FloatOps F] [Named F] in
theorem cell_mem (k : DmaSem sig) (hk : (SemLoc.dma k : SemLoc sig).isScoped .scVector = true) (c : Fin τ.nSC) (i : Fin τ.nSub) :
    cell d c i k ∈ ownCells (V d c i) := mem_ownCells.mpr ⟨rfl, hk⟩

omit [FloatOps F] [Named F] in
theorem ownSems0_V :
    (ownSems0 (V d (cV L) (jV L)) : sProp 𝕄)
      = iprop(semVal (cell d (cV L) (jV L) s0) 0 ∗ semVal (cell d (cV L) (jV L) s2) 0 ∗ semVal (cell d (cV L) (jV L) s4) 0
          ∗ bigSep ((((ownCells (V d (cV L) (jV L))).erase (cell d (cV L) (jV L) s0)).erase (cell d (cV L) (jV L) s2)).erase (cell d (cV L) (jV L) s4)) fun g => semVal g 0) := by
  unfold SparseCore.Cfg.ownSems0
  rw [SparseCore.bigSep_erase' (cell_mem d s0 (by decide) _ _),
    SparseCore.bigSep_erase' (Finset.mem_erase.mpr ⟨cell_ne d (by decide) _ _, cell_mem d s2 (by decide) _ _⟩),
    SparseCore.bigSep_erase' (Finset.mem_erase.mpr ⟨cell_ne d (by decide) _ _, Finset.mem_erase.mpr ⟨cell_ne d (by decide) _ _, cell_mem d s4 (by decide) _ _⟩⟩)]

omit [FloatOps F] [Named F] in
/-- The two scratch buffers are among the subcore's own: they are them, at some contents, and the rest. -/
theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

theorem trips1_pos (L : grid0.Coords) (h : k0_cond1 L = 1#1) : 0 < (k0_t1_loop L).trips := by rw [trips1_of L h]; exact Nat.one_pos
abbrev oRectK (L : grid0.Coords) (h : k0_cond1 L = 1#1) : Rect S1024x128 :=
  Rect.unit (s := S1024x128) (k0_off13 L 0#32) S128x128.size
    (k0_off13_inb L ⟨0, trips1_pos L h⟩ 1#32 0#32 0#32 0#32 0#32 (chk1_of L h _) h (cond7_of L h _))
abbrev oBlkK (L : grid0.Coords) (h : k0_cond1 L = 1#1) : Memref sig .scVector .hbm S128x128 .f32 := (oV).slice (oRectK L h) (fun _ => rfl)

/-- The slot of the index ring the one trip uses. -/
abbrev slotI : Memref sig .scVector .vmem S1x128 .i32 :=
  ((sV).slice (Rect.unit (s := S2x1x128) ![0, 0, 0] S1x1x128.size (by decide)) (fun _ => rfl)).squeeze S1x128 squeezes_S1x1x128_S1x128
/-- The list of row numbers the gather reads: the slot as one row of 128 words. -/
abbrev listK : Memref sig .scVector .vmem S128 .i32 :=
  ((slotI).slice (Rect.unit (s := S1x128) ![0, 0] S1x128.size inb_S1x128_S1x128_0_0) (fun _ => rfl)).squeeze S128 squeezes_S1x128_S128

/-- Entry `x` of the list as an index of the slot. -/
def rowIx (x : S128.Idx) : S1x128.Idx := (Rect.unit (s := S1x128) ![0, 0] S1x128.size inb_S1x128_S1x128_0_0).emb (Shape.reshapeEquiv squeezes_S1x128_S128.numel_eq x)

theorem rowIx_val : ∀ k : Fin 128, (rowIx (S128.rowMajor.symm k) 1).val = k.val := by decide +kernel

theorem list_read (fs : (slotI).view.ty.Contents (Elt F)) (w : S1x128.Idx → BitVec 32) (x : S128.Idx) :
    (listK).view.read (Elt F) (View.write (Elt F) (slotI).view fs w Finset.univ) x = w (rowIx x) :=
  congrFun (View.read_write_univ (v := (slotI).view) fs w) (rowIx x)

variable (fI : Buf (Elt F) (iLoc d)) (fX : Buf (Elt F) (xLoc d)) (fO : Buf (Elt F) (oLoc d)) (q : PosShare TreeShare)

set_option maxHeartbeats 4000000 in
theorem work_body (O : CellTallies nD τ sig (HIx 1)) (W : Waits sig (HIx 1)) (h1 : k0_cond1 L = 1#1) (hI : ∀ j, (fI j).toNat < 1536)
    (fs : Buf (Elt F) ((V d (cV L) (jV L)).loc cc0_scoped0)) (fr : Buf (Elt F) ((V d (cV L) (jV L)).loc cc0_scoped2)) :
    iprop((Transfers.MayWaits (V d (cV L) (jV L)) (default : HIx 1) O : sProp 𝕄)
        ∗ ((iV).view.loc (V d (cV L) (jV L)) ↦{q} fI) ∗ ((xV).view.loc (V d (cV L) (jV L)) ↦{q} fX)
        ∗ ((oBlkK L h1).view.loc (V d (cV L) (jV L)) ↦[(oBlkK L h1).view.set]{fullShare} fO)
        ∗ ((sV).view.loc (V d (cV L) (jV L)) ↦{fullShare} fs) ∗ ((rV).view.loc (V d (cV L) (jV L)) ↦{fullShare} fr)
        ∗ semVal (cell d (cV L) (jV L) s0) 0 ∗ semVal (cell d (cV L) (jV L) s2) 0 ∗ semVal (cell d (cV L) (jV L) s4) 0
        ∗ owes (V d (cV L) (jV L)) O W)
      ⊢ wp frame (wpE (defs₀ (F := F)) 𝒱₀ (V d (cV L) (jV L)) none) Set.univ
          (cc0_knl L xV (Memref.isWhole_whole _) iV (Memref.isWhole_whole _) oV (Memref.isWhole_whole _)
            sV (Memref.isWhole_whole _) cc0_scoped1 rV (Memref.isWhole_whole _) cc0_scoped3 cc0_scoped4 cc0_scoped5)
          fun _ => iprop(((iV).view.loc (V d (cV L) (jV L)) ↦{q} fI) ∗ ((xV).view.loc (V d (cV L) (jV L)) ↦{q} fX)
            ∗ ((oBlkK L h1).view.loc (V d (cV L) (jV L)) ↦[(oBlkK L h1).view.set]{fullShare} gathered fX fI)
            ∗ (∃ f, (sV).view.loc (V d (cV L) (jV L)) ↦{fullShare} f) ∗ (∃ f, (rV).view.loc (V d (cV L) (jV L)) ↦{fullShare} f)
            ∗ semVal (cell d (cV L) (jV L) s0) 0 ∗ semVal (cell d (cV L) (jV L) s2) 0 ∗ semVal (cell d (cV L) (jV L) s4) 0
            ∗ ∃ W', ⌜∀ p ∈ W', p ∈ W ∨ p.2 = none⌝ ∗ owes (V d (cV L) (jV L)) O W') := by
  have h2 := cond2_of L h1
  have h18 := cond18_of L h1
  have ht1 := trips1_of L h1
  have ht2 := trips2_of L
  letI c2 : ClosedOff (k0_off2 L) := ⟨_, off2_of L h1⟩
  letI c8 : ClosedOff (k0_off8 L 0#32) := ⟨_, off8_of L h1⟩
  letI c13 : ClosedOff (k0_off13 L 0#32) := ⟨_, off13_of L h1⟩
  letI c33 : ClosedOff (k0_off33 L 0#32) := ⟨_, off33_of L h1⟩
  have hc3 := cond3_of L h1 ⟨0, trips1_pos L h1⟩
  have hc4 := cond4_of L h1 ⟨0, trips1_pos L h1⟩
  have hc7 := cond7_of L h1 ⟨0, trips1_pos L h1⟩
  have hc9 := cond9_of L h1 ⟨0, trips1_pos L h1⟩
  have hk1 := chk1_of L h1 ⟨0, trips1_pos L h1⟩
  have hk2 := chk2_of L h1 ⟨0, trips1_pos L h1⟩
  have hk3 := chk3_of L h1 ⟨0, trips1_pos L h1⟩
  have hk7 := chk7_of L h1
  have hk8 := chk8_of L h1
  rw [cc0_knl_eq_skeleton]; unfold cc0_knl_skel
  iintro ⟨Hmw, Hi, Hx, Ho, Hs, Hr, Hs0, Hs2, Hs4, HO⟩
  sl_exec
  have e5 : work_body.sl.v5 L = 1#32 := (by decide +kernel : ∀ L, k0_cond1 L = 1#1 → work_body.sl.v5 L = 1#32) L h1
  have e11 : work_body.sl.v11 L = 1#32 := (by decide +kernel : ∀ L, k0_cond1 L = 1#1 → work_body.sl.v11 L = 1#32) L h1
  have e41 : work_body.sl.v41_r0 L = 1#32 := (by decide +kernel : ∀ L, k0_cond1 L = 1#1 → work_body.sl.v41_r0 L = 1#32) L h1
  rw [e5, e11, e41]
  sl_unroll ht1
  have hin : ∀ x, ((listK).view.read (Elt F) (View.write (Elt F) (slotI).view fs (work_body.sl.dma0 d L fI h1 h2) Finset.univ) x).toNat < S1536x128.size 0 := by
    intro x
    rw [list_read]
    exact hI _
  sl_exec
  have e158 : work_body.sl.v158_r0 L = 0#32 := (by decide +kernel : ∀ L, work_body.sl.v158_r0 L = 0#32) L
  rw [e158]
  sl_exec
  have hval : ∀ j ∈ (oBlkK L h1).view.set, (oBlkK L h1).view.writes (Elt F) fO
      [⟨Rect.whole S128x128, work_body.sl.dma0_1 d L fI fX h1 fs fr h2 ht1 hc7 hk1 hk2 hk3 hin⟩] j = gathered fX fI j := by
    intro j hj
    obtain ⟨y, -, rfl⟩ := Finset.mem_map.mp hj
    refine View.eq_of_read_eq ?_
    rw [View.read_writes_whole]
    unfold work_body.sl.dma0_1 work_body.sl.gather0
    rw [View.read_write_univ]
    have hw : (listK).view.read (Elt F) (View.write (Elt F) (slotI).view fs (work_body.sl.dma0 d L fI h1 h2) Finset.univ) (S128.rowMajor.symm (y 0))
        = fI (listIx ((oRectK L h1).emb y 0)) := by
      rw [list_read]
      refine congrArg fI (idx2_eq ?_ ?_)
      · exact congrArg Fin.val (Subsingleton.elim (α := Fin 1) _ _)
      · show k0_off2 L 1 + 1 * (rowIx (S128.rowMajor.symm (y 0)) 1).val = k0_off13 L 0#32 0 + 1 * (y 0).val
        rw [off2_of L h1, off13_of L h1]
        exact congrArg (fun n => 128 * (L 1).val + 1 * n) (rowIx_val (y 0))
    refine congrArg fX (idx2_eq ?_ ?_)
    · refine Eq.trans ?_ (Nat.mod_eq_of_lt (hI _)).symm
      refine Eq.trans ?_ (congrArg BitVec.toNat hw)
      exact (Nat.zero_add _).trans (Nat.one_mul _)
    · show 0 + 1 * (y 1).val = k0_off13 L 0#32 1 + 1 * (y 1).val
      rw [off13_of L h1]; rfl
  sl_step
  isplitl [Hi]; · iexact Hi
  isplitl [Hx]; · iexact Hx
  isplitl [Ho]
  · iapply (Entails.of_eq (pointsTo_congr hval)); iexact Ho
  isplitl [Hs]; · iexists _; iexact Hs
  isplitl [Hr]; · iexists _; iexact Hr
  isplitl [Hs0]; · iexact Hs0
  isplitl [Hs2]; · iexact Hs2
  isplitl [Hs4]; · iexact Hs4
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile
end Cert.Proof.Wsc
end
-- ==== Proof.Wsc.Launch.lean ====
/-
  The SparseCore call as its launch sees it: what the call hands each SparseCore and each subcore, what comes back, and
  that every subcore's task turns the one into the other. All of it at arbitrary contents of the call's three arrays.
-/
module

public import proofs.«01_k».proof.Proof.Wsc.Tile
public import Idealize.ShloMosaic.Lib.ShareLeaves

@[expose] public section

noncomputable section

namespace Cert.Proof.Wsc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v10_scv : Memref Cert.KernelIdeal.sig Kind.scVector Space.hbm Cert.KernelIdeal.S1x1024 EltTy.i32)
local notation "xV" => (Memref.whole Cert.KernelIdeal.main_v11_scv : Memref Cert.KernelIdeal.sig Kind.scVector Space.hbm Cert.KernelIdeal.S1536x128 EltTy.f32)
local notation "oV" => (Memref.whole Cert.KernelIdeal.main_v12_scv : Memref Cert.KernelIdeal.sig Kind.scVector Space.hbm Cert.KernelIdeal.S1024x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x128 EltTy.f32)

variable [FloatOps F] [Named F]

/-- The contents of the call's arrays when it starts: the list of row numbers, the source, the result before. -/
structure Ops (F : FTy → Type) where
  fI : (d : Dev nD) → Buf (Elt F) (iLoc d)
  fX : (d : Dev nD) → Buf (Elt F) (xLoc d)
  fO : (d : Dev nD) → Buf (Elt F) (oLoc d)

variable (A : Ops F)

/-- Every listed row number is a row of the source. -/
def Ops.InRange (A : Ops F) : Prop := ∀ (d : Dev nD) (j : S1x1024.Idx), (A.fI d j).toNat < 1536

/-- The result after the call. -/
abbrev Ops.out (A : Ops F) (d : Dev nD) : Buf (Elt F) (oLoc d) := gathered (A.fX d) (A.fI d)

/-! ## What the handshakes carry -/

/-- The three arrays, the result's contents as given. -/
abbrev allPts (d : Dev nD) (f : Buf (Elt F) (oLoc d)) : sProp 𝕄 :=
  iprop((iLoc d ↦{fullShare} A.fI d) ∗ (xLoc d ↦{fullShare} A.fX d) ∗ (oLoc d ↦{fullShare} f))

/-- What subcore `i` of SparseCore 0 has of them: a share of the list and of the source, its block of the result. -/
abbrev subPts (d : Dev nD) (i : Fin 16) (f : Buf (Elt F) (oLoc d)) : sProp 𝕄 :=
  iprop((iLoc d ↦{leaf 4 fullShare i} A.fI d) ∗ (xLoc d ↦{leaf 4 fullShare i} A.fX d) ∗ (oLoc d ↦[oSet i]{fullShare} f))

/-- What SparseCore `c` is handed, or gives back: SparseCore 0 everything, the other nothing. -/
def corePts (d : Dev nD) (c : ℕ) (f : Buf (Elt F) (oLoc d)) : sProp 𝕄 := match c with | 0 => allPts A d f | _ + 1 => iprop(emp)
/-- What a subcore of SparseCore `c` is handed, or gives back. -/
def taskPts (d : Dev nD) (c : ℕ) (i : Fin 16) (f : Buf (Elt F) (oLoc d)) : sProp 𝕄 := match c with | 0 => subPts A d i f | _ + 1 => iprop(emp)

instance corePts_storable (d : Dev nD) (c : ℕ) (f : Buf (Elt F) (oLoc d)) : BI.Storable (upEmb : UEmb _ 𝕄) (corePts A d c f) :=
  match c with
  | 0 => (inferInstance : BI.Storable (upEmb : UEmb _ 𝕄) (allPts A d f))
  | _ + 1 => (inferInstance : BI.Storable (upEmb : UEmb _ 𝕄) iprop(emp))
instance taskPts_storable (d : Dev nD) (c : ℕ) (i : Fin 16) (f : Buf (Elt F) (oLoc d)) : BI.Storable (upEmb : UEmb _ 𝕄) (taskPts A d c i f) :=
  match c with
  | 0 => (inferInstance : BI.Storable (upEmb : UEmb _ 𝕄) (subPts A d i f))
  | _ + 1 => (inferInstance : BI.Storable (upEmb : UEmb _ 𝕄) iprop(emp))

theorem taskPts_zero (d : Dev nD) (i : Fin 16) (f : Buf (Elt F) (oLoc d)) : taskPts A d 0 i f = subPts A d i f := rfl

/-- The call's contract. -/
def P : (K (F := F)).Pay (nD := nD) (Val := Elt F) (Name := ℕ) (U := UU) where
  st := fun q d c => match q with | 0 => corePts A d c.val (A.fO d)
  dn := fun q d c => match q with | 0 => corePts A d c.val (A.out d)
  go := fun q d c i => match q with | 0 => taskPts A d c.val (Fin.cast nSub_zero i) (A.fO d)
  td := fun q d c i => match q with | 0 => taskPts A d c.val (Fin.cast nSub_zero i) (A.out d)
  x := fun _ _ => iprop(emp)

instance P_storable : (P (F := F) A).IsStorable where
  st q d c := match q with | 0 => corePts_storable A d c.val (A.fO d)
  dn q d c := match q with | 0 => corePts_storable A d c.val (A.out d)
  go q d c i := match q with | 0 => taskPts_storable A d c.val (Fin.cast nSub_zero i) (A.fO d)
  td q d c i := match q with | 0 => taskPts_storable A d c.val (Fin.cast nSub_zero i) (A.out d)

/-! ## The blocks of the result -/

omit [FloatOps F] [Named F] in
/-- A working subcore's block is the rows the result is cut into for it. -/
theorem oBlk_set (L : grid0.Coords) (h : k0_cond1 L = 1#1) : (oBlkK L h).view.set = oSet (jL L) := by
  have e : (oBlkK L h).view.set = (oRectK L h).set := by
    show ((View.whole (main_v12_scv : Ref sig .scVector)).slice (oRectK L h)).set = _
    rw [View.set_slice]; exact Finset.map_refl
  rw [e]
  ext j
  rw [Rect.mem_set_unit]
  simp only [off13_of L h]
  have hb := (cond1_iff L).mp h
  unfold oSet
  rw [Finset.mem_filter]
  constructor
  · intro hj
    have h0 := hj 0
    refine ⟨Finset.mem_univ _, ?_⟩
    simp at h0
    show (j 0).val / 128 = (L 1).val
    omega
  · rintro ⟨-, hj⟩ a
    have hj : (j 0).val / 128 = (L 1).val := hj
    have hc : (j 1).val < 128 := (j 1).isLt
    fin_cases a <;> simp <;> omega

omit [FloatOps F] [Named F] in
theorem oSet_disjoint : ∀ i ∈ (Finset.univ : Finset (Fin 16)), ∀ j ∈ (Finset.univ : Finset (Fin 16)), i ≠ j → Disjoint (oSet i) (oSet j) := by
  intro i _ j _ h
  refine Finset.disjoint_left.mpr fun x hx hy => h (Fin.ext ?_)
  rw [← (Finset.mem_filter.mp hx).2, ← (Finset.mem_filter.mp hy).2]
omit [FloatOps F] [Named F] in
theorem oSet_cover : (Finset.univ : Finset (Fin 16)).biUnion oSet = Finset.univ := by
  refine Finset.eq_univ_iff_forall.mpr fun j => Finset.mem_biUnion.mpr ?_
  have hj : (j 0).val < 1024 := (j 0).isLt
  exact ⟨⟨(j 0).val / 128, by omega⟩, Finset.mem_univ _, Finset.mem_filter.mpr ⟨Finset.mem_univ _, rfl⟩⟩

omit [FloatOps F] [Named F] in
theorem oPts_blocks (d : Dev nD) (f : Buf (Elt F) (oLoc d)) :
    (oLoc d ↦{fullShare} f : sProp 𝕄) = bigSep Finset.univ fun i : Fin 16 => oLoc d ↦[oSet i]{fullShare} f := by
  rw [← pointsTo_biUnion Finset.univ (ℓ := oLoc d) oSet oSet_disjoint, oSet_cover]; try rfl

omit [FloatOps F] [Named F] in
/-- An idle subcore has no row of the result. -/
theorem oSet_idle (i : Fin 16) (h : 8 ≤ i.val) : oSet i = ∅ := by
  refine Finset.filter_eq_empty_iff.mpr fun j _ e => ?_
  have hj : (j 0).val < 1024 := (j 0).isLt
  omega

/-! ## The task -/

section Tile

variable (d : Dev nD) (L : grid0.Coords)

/-- What an idle subcore is handed is what it gives back. -/
theorem idle_pts (h : ¬ k0_cond1 L = 1#1) : taskPts A d (L 0).val (jL L) (A.fO d) = taskPts A d (L 0).val (jL L) (A.out d) := by
  rcases hc : (L 0).val with _ | n
  · have h8 : 8 ≤ (jL L).val := by
      by_contra hlt
      exact h ((cond1_iff L).mpr ⟨hc, not_le.mp hlt⟩)
    show subPts A d (jL L) (A.fO d) = subPts A d (jL L) (A.out d)
    unfold subPts
    rw [oSet_idle _ h8, pointsTo_congr (I := ∅) (f := A.fO d) (g := A.out d) (fun i hi => absurd hi (Finset.notMem_empty i))]
  · rfl

set_option maxHeartbeats 4000000 in
theorem tile_body (hF : (K (F := F)).Facts) (hA : A.InRange) (O : CellTallies nD τ sig (HIx 1)) (W : Waits sig (HIx 1)) (hO : ∀ g, O g none = 0) :
    iprop(levAts (K (F := F)).L (K (F := F)).lev ∗ emp ∗ taskPts A d (L 0).val (jL L) (A.fO d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_knl L xV (Memref.isWhole_whole _) iV (Memref.isWhole_whole _) oV (Memref.isWhole_whole _)
            sV (Memref.isWhole_whole _) cc0_scoped1 rV (Memref.isWhole_whole _) cc0_scoped3 cc0_scoped4 cc0_scoped5)
          fun _ => iprop(taskPts A d (L 0).val (jL L) (A.out d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h1 : k0_cond1 L = 1#1
  · have hc : (L 0).val = 0 := ((cond1_iff L).mp h1).1
    rw [hc, taskPts_zero, taskPts_zero, (K (F := F)).scopedBufs_V hF d (cV L) (jV L), SparseCore.Cfg.scopedSems0_V (Val := Elt F) d (cV L) (jV L), ownSems0_V, ownBufs_V]
    iintro ⟨#Hlv, -, ⟨Hi, Hx, Ho⟩, ⟨⟨%fs, Hs⟩, ⟨%fr, Hr⟩, Hbufs⟩, ⟨Hs0, Hs2, Hs4, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Ho' := (Entails.of_eq (show (oLoc d ↦[oSet (jL L)]{fullShare} A.fO d : sProp 𝕄)
      = ((oBlkK L h1).view.loc (V d (cV L) (jV L)) ↦[(oBlkK L h1).view.set]{fullShare} A.fO d) by rw [oBlk_set])) $$ Ho
    iapply (wp_wand_r frame _ _)
    isplitl [Hmw Hi Hx Ho' Hs Hr Hs0 Hs2 Hs4 HO]
    · iapply (work_body d L (A.fI d) (A.fX d) (A.fO d) (leaf 4 fullShare (jL L)) O W h1 (hA d) fs fr)
      isplitl [Hmw]; · iexact Hmw
      isplitl [Hi]; · iexact Hi
      isplitl [Hx]; · iexact Hx
      isplitl [Ho']; · iexact Ho'
      isplitl [Hs]; · iexact Hs
      isplitl [Hr]; · iexact Hr
      isplitl [Hs0]; · iexact Hs0
      isplitl [Hs2]; · iexact Hs2
      isplitl [Hs4]; · iexact Hs4
      iexact HO
    · iintro %_ ⟨Hi, Hx, Ho, Hs, Hr, Hs0, Hs2, Hs4, HO⟩
      isplitl [Hi Hx Ho]
      · isplitl [Hi]; · iexact Hi
        isplitl [Hx]; · iexact Hx
        iapply (Entails.of_eq (show ((oBlkK L h1).view.loc (V d (cV L) (jV L)) ↦[(oBlkK L h1).view.set]{fullShare} A.out d)
          = (oLoc d ↦[oSet (jL L)]{fullShare} A.out d : sProp 𝕄) by rw [oBlk_set])); iexact Ho
      isplitl [Hs Hr Hbufs]
      · isplitl [Hs]; · iexact Hs
        isplitl [Hr]; · iexact Hr
        iexact Hbufs
      isplitl [Hs0 Hs2 Hs4 Hsems]
      · isplitl [Hs0]; · iexact Hs0
        isplitl [Hs2]; · iexact Hs2
        isplitl [Hs4]; · iexact Hs4
        iexact Hsems
      iexact HO
  · rw [idle_pts A d L h1, cc0_knl_eq_skeleton]; unfold cc0_knl_skel
    iintro ⟨-, -, Hp, Hb, Hs, HO⟩
    sl_exec
    sl_step
    isplitl [Hp]; · iexact Hp
    isplitl [Hb]; · iexact Hb
    isplitl [Hs]; · iexact Hs
    iexists W; isplitr
    · ipureintro; exact fun p hp => .inl hp
    · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_knl (coordsV c s)
          xV (Memref.isWhole_whole _) iV (Memref.isWhole_whole _) oV (Memref.isWhole_whole _)
            sV (Memref.isWhole_whole _) cc0_scoped1 rV (Memref.isWhole_whole _) cc0_scoped3 cc0_scoped4 cc0_scoped5) ⟨⟩ c s := rfl

omit [FloatOps F] [Named F] in
theorem obl_post {thr : Thread nD τ} {X B C : sProp 𝕄} {O : CellTallies nD τ sig (HIx 1)} {W : Waits sig (HIx 1)} {q : Fin 1} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] taskPts in
set_option maxRecDepth 16384 in
set_option maxHeartbeats 4000000 in
theorem tileObl (hF : (K (F := F)).Facts) (hA : A.InRange) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF hA O W hO).trans (wp_mono frame _ _ fun _ => obl_post)

end Tile

/-! ## The operands split over the subcores, the results gather from them -/

omit [FloatOps F] [Named F] in
theorem bigSep_emp' {I : Type} (s : Finset I) : (bigSep s fun _ => iprop(emp)) = (iprop(emp) : sProp 𝕄) := bigSep_emp_const s

omit [FloatOps F] [Named F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- SparseCore `c`'s operands are its subcores' together. -/
theorem corePts_split (d : Dev nD) (c : ℕ) (f : Buf (Elt F) (oLoc d)) :
    corePts A d c f = bigSep Finset.univ fun i : Fin 16 => taskPts A d c i f := by
  cases c with
  | zero =>
    show allPts A d f = bigSep Finset.univ fun i : Fin 16 => subPts A d i f
    unfold allPts subPts
    rw [bigSep_sep', bigSep_sep', ← oPts_blocks, pointsTo_leaves Finset.univ (A.fI d) 4 fullShare, pointsTo_leaves Finset.univ (A.fX d) 4 fullShare]
    rfl
  | succ n => exact (bigSep_emp' _).symm

theorem vecSplit : (K (F := F)).VecSplit' (P A) 0 := by
  intro d c
  show corePts A d c.val (A.fO d) ⊢ |={Set.univ}=> iprop(
      (bigSep Finset.univ fun i : Fin ((K (F := F)).nSub 0) => taskPts A d c.val (Fin.cast nSub_zero i) (A.fO d))
      ∗ ((bigSep Finset.univ fun i : Fin ((K (F := F)).nSub 0) => taskPts A d c.val (Fin.cast nSub_zero i) (A.out d)) -∗ corePts A d c.val (A.out d)))
  rw [bigSep_tasks (fun i => taskPts A d c.val i (A.fO d)), bigSep_tasks (fun i => taskPts A d c.val i (A.out d)), ← corePts_split, ← corePts_split]
  iintro H; imodintro
  isplitl [H]; · iexact H
  iintro H; iexact H

/-- Both SparseCores' operands are the three arrays. -/
theorem cores_eq (d : Dev nD) (f : Buf (Elt F) (oLoc d)) :
    (bigSep Finset.univ fun c : Fin ((K (F := F)).nCore 0) => corePts A d c.val f) = allPts A d f := by
  show (bigSep (Finset.univ : Finset (Fin 2)) fun c => corePts A d c.val f) = _
  rw [show (Finset.univ : Finset (Fin 2)) = {0, 1} from rfl,
    SparseCore.bigSep_insert' (by decide), bigSep_singleton]
  exact sep_emp_eq _

end Cert.Proof.Wsc
end
-- ==== Proof.Attn.Names.lean ====
/-
  The attention call's ring under names of its own: the two slots of the chunk scratch cut in four parts each, the
  blocks of rows that fill them, the two counters, and — point by point — which of these the body's operands are.
-/
module

public import proofs.«01_k».proof.Defs
public import proofs.«01_k».proof.Proof.Wsc.Base
public import proofs.«01_k».proof.Proof.Gen.KernelIdeal.Launch
public import proofs.«01_k».proof.Proof.Gen.KernelIdeal.Points
public import proofs.«01_k».proof.Proof.Gen.KernelIdeal.Skeleton
public import Idealize.ShloMosaic.Lib.Ring
public import Idealize.ShloMosaic.Lib.Batch
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

/-! ## The operands -/

abbrev xM : Memref sig .tc .hbm S512x128 .bf16 := Memref.whole main_v17
abbrev sM : Memref sig .tc .hbm S1024x128 .f32 := Memref.whole main_v12
abbrev mM : Memref sig .tc .hbm S8192x128 .f32 := Memref.whole main_arg2
abbrev lM : Memref sig .tc .hbm S65536x128 .f32 := Memref.whole main_arg3
abbrev qM : Memref sig .tc .vmem S512x128 .bf16 := Memref.whole cc1_scratch0
abbrev bM : Memref sig .tc .vmem S2x4096x128 .f32 := Memref.whole cc1_scratch1
abbrev eM : Memref sig .tc .vmem S256x77824 .bf16 := Memref.whole cc1_scratch2
abbrev uM : Memref sig .tc .vmem S8x77824 .f32 := Memref.whole cc1_scratch3
abbrev oM : Memref sig .tc .vmem S256x128 .f32 := Memref.whole cc1_scratch4
abbrev zM : Memref sig .tc .vmem S256x1 .f32 := Memref.whole cc1_scratch5
abbrev wM : Memref sig .tc .vmem S8x256 .f32 := Memref.whole cc1_scratch6

/-! ## Chunks, slots, blocks -/

/-- The slot of chunk `g`. -/
def sl (g : ℕ) : Fin 2 := ⟨g % 2, Nat.mod_lt _ (by decide)⟩
/-- The block of `m_memory` that chunk `g` is (chunks 1 and 2). -/
def mB (g : ℕ) : Fin 2 := ⟨min 1 (g - 1), by omega⟩
/-- The block of `l_memory` that chunk `g` is (chunks 3 to 18). -/
def lB (g : ℕ) : Fin 16 := ⟨min 15 (g - 3), by omega⟩

theorem part_inb (s : Fin 2) (k : Fin 4) : ∀ a, (![s.val, 1024 * k.val, 0] : Fin 3 → Nat) a + S1x1024x128.size a ≤ S2x4096x128.size a := by
  have := s.isLt; have := k.isLt; intro a; fin_cases a <;> simp <;> omega
theorem quart_inb (k : Fin 4) : ∀ a, (![0, 256 * k.val, 0] : Fin 3 → Nat) a + S1x256x128.size a ≤ S2x4096x128.size a := by
  have := k.isLt; intro a; fin_cases a <;> simp <;> omega
theorem sB_inb (k : Fin 4) : ∀ a, (![256 * k.val, 0] : Fin 2 → Nat) a + S256x128.size a ≤ S1024x128.size a := by
  have := k.isLt; intro a; fin_cases a <;> simp <;> omega
theorem mB_inb (b : Fin 2) (k : Fin 4) : ∀ a, (![4096 * b.val + 1024 * k.val, 0] : Fin 2 → Nat) a + S1024x128.size a ≤ S8192x128.size a := by
  have := b.isLt; have := k.isLt; intro a; fin_cases a <;> simp <;> omega
theorem lB_inb (b : Fin 16) (k : Fin 4) : ∀ a, (![4096 * b.val + 1024 * k.val, 0] : Fin 2 → Nat) a + S1024x128.size a ≤ S65536x128.size a := by
  have := b.isLt; have := k.isLt; intro a; fin_cases a <;> simp <;> omega
theorem cell_inb (s : Fin 2) : ∀ a, (![s.val] : Fin 1 → Nat) a + S1.size a ≤ S2.size a := by
  have := s.isLt; intro a; fin_cases a <;> simp <;> omega

/-- Part `k` of slot `s`: rows 1024k to 1024k + 1023. -/
def part (s : Fin 2) (k : Fin 4) : Memref sig .tc .vmem S1024x128 .f32 :=
  (bM.slice (Rect.unit (s := S2x4096x128) ![s.val, 1024 * k.val, 0] S1x1024x128.size (part_inb s k)) (fun _ => rfl)).squeeze S1024x128 squeezes_S1x1024x128_S1024x128
/-- Quarter `k` of slot 0's first part: rows 256k to 256k + 255. -/
def quart (k : Fin 4) : Memref sig .tc .vmem S256x128 .f32 :=
  (bM.slice (Rect.unit (s := S2x4096x128) ![0, 256 * k.val, 0] S1x256x128.size (quart_inb k)) (fun _ => rfl)).squeeze S256x128 squeezes_S1x256x128_S256x128
/-- Quarter `k` of `s_memory`. -/
def sSrc (k : Fin 4) : Memref sig .tc .hbm S256x128 .f32 :=
  sM.slice (Rect.unit (s := S1024x128) ![256 * k.val, 0] S256x128.size (sB_inb k)) (fun _ => rfl)
/-- Part `k` of block `b` of `m_memory`, -/
def mSrc (b : Fin 2) (k : Fin 4) : Memref sig .tc .hbm S1024x128 .f32 :=
  mM.slice (Rect.unit (s := S8192x128) ![4096 * b.val + 1024 * k.val, 0] S1024x128.size (mB_inb b k)) (fun _ => rfl)
/-- and of `l_memory`. -/
def lSrc (b : Fin 16) (k : Fin 4) : Memref sig .tc .hbm S1024x128 .f32 :=
  lM.slice (Rect.unit (s := S65536x128) ![4096 * b.val + 1024 * k.val, 0] S1024x128.size (lB_inb b k)) (fun _ => rfl)
/-- The counter of slot `s`. -/
def cellA (s : Fin 2) : DmaSems sig S_ := (cc1_scratch7.slice (Rect.unit (s := S2) ![s.val] S1.size (cell_inb s))).squeeze S_ squeezes_S1_S_
abbrev cellR (s : Fin 2) : SemLoc sig := SemLoc.dma (cellA s).sem
theorem cellR_0 : cellR 0 = SemLoc.dma 12 := by decide
theorem cellR_1 : cellR 1 = SemLoc.dma 13 := by decide

/-! ## The conditions, in the coordinates -/

theorem cond1_iff : ∀ i : grid1.Coords, k1_cond1 i = 1#1 ↔ (i 0).val < 2 ∧ (i 1).val = 0 := by decide +kernel
theorem cond4_iff : ∀ i : grid1.Coords, k1_cond4 i = 1#1 ↔ (i 0).val < 2 := by decide +kernel
theorem cond5_iff : ∀ i : grid1.Coords, k1_cond5 i = 1#1 ↔ (i 1).val < 18 := by decide +kernel
theorem cond6_iff : ∀ i : grid1.Coords, k1_cond6 i = 1#1 ↔ False := by decide +kernel
theorem cond7_iff : ∀ i : grid1.Coords, k1_cond7 i = 1#1 ↔ (i 1).val < 2 := by decide +kernel
theorem cond8_iff : ∀ i : grid1.Coords, k1_cond8 i = 1#1 ↔ 2 ≤ (i 1).val := by decide +kernel
theorem cond9_iff : ∀ i : grid1.Coords, k1_cond9 i = 1#1 ↔ (i 1).val = 0 := by decide +kernel
theorem cond10_iff : ∀ i : grid1.Coords, k1_cond10 i = 1#1 ↔ 1 ≤ (i 1).val ∧ (i 1).val < 3 := by decide +kernel
theorem cond11_iff : ∀ i : grid1.Coords, k1_cond11 i = 1#1 ↔ 3 ≤ (i 1).val := by decide +kernel
theorem cond12_iff : ∀ i : grid1.Coords, k1_cond12 i = 1#1 ↔ (i 0).val = 0 := by decide +kernel
theorem cond15_iff : ∀ i : grid1.Coords, k1_cond15 i = 1#1 ↔ 1 ≤ (i 1).val := by decide +kernel
theorem cond16_iff : ∀ i : grid1.Coords, k1_cond16 i = 1#1 ↔ (i 0).val = 1 := by decide +kernel
theorem cond17_iff : ∀ i : grid1.Coords, k1_cond17 i = 1#1 ↔ (i 1).val = 0 := by decide +kernel
theorem cond19_iff : ∀ i : grid1.Coords, k1_cond19 i = 1#1 ↔ 1 ≤ (i 1).val := by decide +kernel
theorem cond20_iff : ∀ i : grid1.Coords, k1_cond20 i = 1#1 ↔ (i 0).val = 2 := by decide +kernel
theorem cond21_iff : ∀ i : grid1.Coords, k1_cond21 i = 1#1 ↔ (i 1).val = 0 := by decide +kernel
theorem cond22_iff : ∀ i : grid1.Coords, k1_cond22 i = 1#1 ↔ 1 ≤ (i 1).val ∧ (i 1).val < 3 := by decide +kernel
theorem cond23_iff : ∀ i : grid1.Coords, k1_cond23 i = 1#1 ↔ 3 ≤ (i 1).val := by decide +kernel
theorem cond3_not : ¬k1_cond3 = 1#1 := by decide

/-! ## The body's operands, under their names -/

theorem off_p8 : ∀ i : grid1.Coords, k1_off8 i = ![(sl ((i 1).val + 1)).val, 1024 * ((0 : Fin 4)).val, 0] := by decide +kernel
@[sl_canon] theorem canon_p8 (i : grid1.Coords) (hh) : (bM.slice (Rect.unit (s := S2x4096x128) (k1_off8 i) S1x1024x128.size hh) (fun _ => rfl)).squeeze S1024x128 squeezes_S1x1024x128_S1024x128 = part (sl ((i 1).val + 1)) 0 :=
  congrArg (fun M : Memref sig .tc .vmem S1x1024x128 .f32 => M.squeeze S1024x128 squeezes_S1x1024x128_S1024x128) (Memref.slice_unit_congr _ (off_p8 i) _ _ (fun _ => rfl) (fun _ => rfl))
@[sl_canon] theorem canon_p8' (i : grid1.Coords) (hh) : (bM.slice (Rect.unit (s := S2x4096x128) (k1_off8 i) ![1, 1024, 128] hh) (fun _ => rfl)).squeeze S1024x128 squeezes_S1x1024x128_S1024x128 = part (sl ((i 1).val + 1)) 0 :=
  congrArg (fun M : Memref sig .tc .vmem S1x1024x128 .f32 => M.squeeze S1024x128 squeezes_S1x1024x128_S1024x128) (Memref.slice_unit_congr _ (off_p8 i) _ _ (fun _ => rfl) (fun _ => rfl))
theorem off_p10 : ∀ i : grid1.Coords, k1_off10 i = ![(sl ((i 1).val + 1)).val, 1024 * ((1 : Fin 4)).val, 0] := by decide +kernel
@[sl_canon] theorem canon_p10 (i : grid1.Coords) (hh) : (bM.slice (Rect.unit (s := S2x4096x128) (k1_off10 i) S1x1024x128.size hh) (fun _ => rfl)).squeeze S1024x128 squeezes_S1x1024x128_S1024x128 = part (sl ((i 1).val + 1)) 1 :=
  congrArg (fun M : Memref sig .tc .vmem S1x1024x128 .f32 => M.squeeze S1024x128 squeezes_S1x1024x128_S1024x128) (Memref.slice_unit_congr _ (off_p10 i) _ _ (fun _ => rfl) (fun _ => rfl))
@[sl_canon] theorem canon_p10' (i : grid1.Coords) (hh) : (bM.slice (Rect.unit (s := S2x4096x128) (k1_off10 i) ![1, 1024, 128] hh) (fun _ => rfl)).squeeze S1024x128 squeezes_S1x1024x128_S1024x128 = part (sl ((i 1).val + 1)) 1 :=
  congrArg (fun M : Memref sig .tc .vmem S1x1024x128 .f32 => M.squeeze S1024x128 squeezes_S1x1024x128_S1024x128) (Memref.slice_unit_congr _ (off_p10 i) _ _ (fun _ => rfl) (fun _ => rfl))
theorem off_p11 : ∀ i : grid1.Coords, k1_off11 i = ![(sl ((i 1).val + 1)).val, 1024 * ((2 : Fin 4)).val, 0] := by decide +kernel
@[sl_canon] theorem canon_p11 (i : grid1.Coords) (hh) : (bM.slice (Rect.unit (s := S2x4096x128) (k1_off11 i) S1x1024x128.size hh) (fun _ => rfl)).squeeze S1024x128 squeezes_S1x1024x128_S1024x128 = part (sl ((i 1).val + 1)) 2 :=
  congrArg (fun M : Memref sig .tc .vmem S1x1024x128 .f32 => M.squeeze S1024x128 squeezes_S1x1024x128_S1024x128) (Memref.slice_unit_congr _ (off_p11 i) _ _ (fun _ => rfl) (fun _ => rfl))
@[sl_canon] theorem canon_p11' (i : grid1.Coords) (hh) : (bM.slice (Rect.unit (s := S2x4096x128) (k1_off11 i) ![1, 1024, 128] hh) (fun _ => rfl)).squeeze S1024x128 squeezes_S1x1024x128_S1024x128 = part (sl ((i 1).val + 1)) 2 :=
  congrArg (fun M : Memref sig .tc .vmem S1x1024x128 .f32 => M.squeeze S1024x128 squeezes_S1x1024x128_S1024x128) (Memref.slice_unit_congr _ (off_p11 i) _ _ (fun _ => rfl) (fun _ => rfl))
theorem off_p12 : ∀ i : grid1.Coords, k1_off12 i = ![(sl ((i 1).val + 1)).val, 1024 * ((3 : Fin 4)).val, 0] := by decide +kernel
@[sl_canon] theorem canon_p12 (i : grid1.Coords) (hh) : (bM.slice (Rect.unit (s := S2x4096x128) (k1_off12 i) S1x1024x128.size hh) (fun _ => rfl)).squeeze S1024x128 squeezes_S1x1024x128_S1024x128 = part (sl ((i 1).val + 1)) 3 :=
  congrArg (fun M : Memref sig .tc .vmem S1x1024x128 .f32 => M.squeeze S1024x128 squeezes_S1x1024x128_S1024x128) (Memref.slice_unit_congr _ (off_p12 i) _ _ (fun _ => rfl) (fun _ => rfl))
@[sl_canon] theorem canon_p12' (i : grid1.Coords) (hh) : (bM.slice (Rect.unit (s := S2x4096x128) (k1_off12 i) ![1, 1024, 128] hh) (fun _ => rfl)).squeeze S1024x128 squeezes_S1x1024x128_S1024x128 = part (sl ((i 1).val + 1)) 3 :=
  congrArg (fun M : Memref sig .tc .vmem S1x1024x128 .f32 => M.squeeze S1024x128 squeezes_S1x1024x128_S1024x128) (Memref.slice_unit_congr _ (off_p12 i) _ _ (fun _ => rfl) (fun _ => rfl))
theorem off_p14 : ∀ i : grid1.Coords, k1_off14 i = ![(sl ((i 1).val + 1)).val, 1024 * ((0 : Fin 4)).val, 0] := by decide +kernel
@[sl_canon] theorem canon_p14 (i : grid1.Coords) (hh) : (bM.slice (Rect.unit (s := S2x4096x128) (k1_off14 i) S1x1024x128.size hh) (fun _ => rfl)).squeeze S1024x128 squeezes_S1x1024x128_S1024x128 = part (sl ((i 1).val + 1)) 0 :=
  congrArg (fun M : Memref sig .tc .vmem S1x1024x128 .f32 => M.squeeze S1024x128 squeezes_S1x1024x128_S1024x128) (Memref.slice_unit_congr _ (off_p14 i) _ _ (fun _ => rfl) (fun _ => rfl))
@[sl_canon] theorem canon_p14' (i : grid1.Coords) (hh) : (bM.slice (Rect.unit (s := S2x4096x128) (k1_off14 i) ![1, 1024, 128] hh) (fun _ => rfl)).squeeze S1024x128 squeezes_S1x1024x128_S1024x128 = part (sl ((i 1).val + 1)) 0 :=
  congrArg (fun M : Memref sig .tc .vmem S1x1024x128 .f32 => M.squeeze S1024x128 squeezes_S1x1024x128_S1024x128) (Memref.slice_unit_congr _ (off_p14 i) _ _ (fun _ => rfl) (fun _ => rfl))
theorem off_p16 : ∀ i : grid1.Coords, k1_off16 i = ![(sl ((i 1).val + 1)).val, 1024 * ((1 : Fin 4)).val, 0] := by decide +kernel
@[sl_canon] theorem canon_p16 (i : grid1.Coords) (hh) : (bM.slice (Rect.unit (s := S2x4096x128) (k1_off16 i) S1x1024x128.size hh) (fun _ => rfl)).squeeze S1024x128 squeezes_S1x1024x128_S1024x128 = part (sl ((i 1).val + 1)) 1 :=
  congrArg (fun M : Memref sig .tc .vmem S1x1024x128 .f32 => M.squeeze S1024x128 squeezes_S1x1024x128_S1024x128) (Memref.slice_unit_congr _ (off_p16 i) _ _ (fun _ => rfl) (fun _ => rfl))
@[sl_canon] theorem canon_p16' (i : grid1.Coords) (hh) : (bM.slice (Rect.unit (s := S2x4096x128) (k1_off16 i) ![1, 1024, 128] hh) (fun _ => rfl)).squeeze S1024x128 squeezes_S1x1024x128_S1024x128 = part (sl ((i 1).val + 1)) 1 :=
  congrArg (fun M : Memref sig .tc .vmem S1x1024x128 .f32 => M.squeeze S1024x128 squeezes_S1x1024x128_S1024x128) (Memref.slice_unit_congr _ (off_p16 i) _ _ (fun _ => rfl) (fun _ => rfl))
theorem off_p17 : ∀ i : grid1.Coords, k1_off17 i = ![(sl ((i 1).val + 1)).val, 1024 * ((2 : Fin 4)).val, 0] := by decide +kernel
@[sl_canon] theorem canon_p17 (i : grid1.Coords) (hh) : (bM.slice (Rect.unit (s := S2x4096x128) (k1_off17 i) S1x1024x128.size hh) (fun _ => rfl)).squeeze S1024x128 squeezes_S1x1024x128_S1024x128 = part (sl ((i 1).val + 1)) 2 :=
  congrArg (fun M : Memref sig .tc .vmem S1x1024x128 .f32 => M.squeeze S1024x128 squeezes_S1x1024x128_S1024x128) (Memref.slice_unit_congr _ (off_p17 i) _ _ (fun _ => rfl) (fun _ => rfl))
@[sl_canon] theorem canon_p17' (i : grid1.Coords) (hh) : (bM.slice (Rect.unit (s := S2x4096x128) (k1_off17 i) ![1, 1024, 128] hh) (fun _ => rfl)).squeeze S1024x128 squeezes_S1x1024x128_S1024x128 = part (sl ((i 1).val + 1)) 2 :=
  congrArg (fun M : Memref sig .tc .vmem S1x1024x128 .f32 => M.squeeze S1024x128 squeezes_S1x1024x128_S1024x128) (Memref.slice_unit_congr _ (off_p17 i) _ _ (fun _ => rfl) (fun _ => rfl))
theorem off_p18 : ∀ i : grid1.Coords, k1_off18 i = ![(sl ((i 1).val + 1)).val, 1024 * ((3 : Fin 4)).val, 0] := by decide +kernel
@[sl_canon] theorem canon_p18 (i : grid1.Coords) (hh) : (bM.slice (Rect.unit (s := S2x4096x128) (k1_off18 i) S1x1024x128.size hh) (fun _ => rfl)).squeeze S1024x128 squeezes_S1x1024x128_S1024x128 = part (sl ((i 1).val + 1)) 3 :=
  congrArg (fun M : Memref sig .tc .vmem S1x1024x128 .f32 => M.squeeze S1024x128 squeezes_S1x1024x128_S1024x128) (Memref.slice_unit_congr _ (off_p18 i) _ _ (fun _ => rfl) (fun _ => rfl))
@[sl_canon] theorem canon_p18' (i : grid1.Coords) (hh) : (bM.slice (Rect.unit (s := S2x4096x128) (k1_off18 i) ![1, 1024, 128] hh) (fun _ => rfl)).squeeze S1024x128 squeezes_S1x1024x128_S1024x128 = part (sl ((i 1).val + 1)) 3 :=
  congrArg (fun M : Memref sig .tc .vmem S1x1024x128 .f32 => M.squeeze S1024x128 squeezes_S1x1024x128_S1024x128) (Memref.slice_unit_congr _ (off_p18 i) _ _ (fun _ => rfl) (fun _ => rfl))
theorem off_p25 : ∀ i : grid1.Coords, k1_off25 i = ![(sl ((i 1).val)).val, 1024 * ((0 : Fin 4)).val, 0] := by decide +kernel
@[sl_canon] theorem canon_p25 (i : grid1.Coords) (hh) : (bM.slice (Rect.unit (s := S2x4096x128) (k1_off25 i) S1x1024x128.size hh) (fun _ => rfl)).squeeze S1024x128 squeezes_S1x1024x128_S1024x128 = part (sl ((i 1).val)) 0 :=
  congrArg (fun M : Memref sig .tc .vmem S1x1024x128 .f32 => M.squeeze S1024x128 squeezes_S1x1024x128_S1024x128) (Memref.slice_unit_congr _ (off_p25 i) _ _ (fun _ => rfl) (fun _ => rfl))
@[sl_canon] theorem canon_p25' (i : grid1.Coords) (hh) : (bM.slice (Rect.unit (s := S2x4096x128) (k1_off25 i) ![1, 1024, 128] hh) (fun _ => rfl)).squeeze S1024x128 squeezes_S1x1024x128_S1024x128 = part (sl ((i 1).val)) 0 :=
  congrArg (fun M : Memref sig .tc .vmem S1x1024x128 .f32 => M.squeeze S1024x128 squeezes_S1x1024x128_S1024x128) (Memref.slice_unit_congr _ (off_p25 i) _ _ (fun _ => rfl) (fun _ => rfl))
theorem off_p27 : ∀ i : grid1.Coords, k1_off27 i = ![(sl ((i 1).val)).val, 1024 * ((1 : Fin 4)).val, 0] := by decide +kernel
@[sl_canon] theorem canon_p27 (i : grid1.Coords) (hh) : (bM.slice (Rect.unit (s := S2x4096x128) (k1_off27 i) S1x1024x128.size hh) (fun _ => rfl)).squeeze S1024x128 squeezes_S1x1024x128_S1024x128 = part (sl ((i 1).val)) 1 :=
  congrArg (fun M : Memref sig .tc .vmem S1x1024x128 .f32 => M.squeeze S1024x128 squeezes_S1x1024x128_S1024x128) (Memref.slice_unit_congr _ (off_p27 i) _ _ (fun _ => rfl) (fun _ => rfl))
@[sl_canon] theorem canon_p27' (i : grid1.Coords) (hh) : (bM.slice (Rect.unit (s := S2x4096x128) (k1_off27 i) ![1, 1024, 128] hh) (fun _ => rfl)).squeeze S1024x128 squeezes_S1x1024x128_S1024x128 = part (sl ((i 1).val)) 1 :=
  congrArg (fun M : Memref sig .tc .vmem S1x1024x128 .f32 => M.squeeze S1024x128 squeezes_S1x1024x128_S1024x128) (Memref.slice_unit_congr _ (off_p27 i) _ _ (fun _ => rfl) (fun _ => rfl))
theorem off_p28 : ∀ i : grid1.Coords, k1_off28 i = ![(sl ((i 1).val)).val, 1024 * ((2 : Fin 4)).val, 0] := by decide +kernel
@[sl_canon] theorem canon_p28 (i : grid1.Coords) (hh) : (bM.slice (Rect.unit (s := S2x4096x128) (k1_off28 i) S1x1024x128.size hh) (fun _ => rfl)).squeeze S1024x128 squeezes_S1x1024x128_S1024x128 = part (sl ((i 1).val)) 2 :=
  congrArg (fun M : Memref sig .tc .vmem S1x1024x128 .f32 => M.squeeze S1024x128 squeezes_S1x1024x128_S1024x128) (Memref.slice_unit_congr _ (off_p28 i) _ _ (fun _ => rfl) (fun _ => rfl))
@[sl_canon] theorem canon_p28' (i : grid1.Coords) (hh) : (bM.slice (Rect.unit (s := S2x4096x128) (k1_off28 i) ![1, 1024, 128] hh) (fun _ => rfl)).squeeze S1024x128 squeezes_S1x1024x128_S1024x128 = part (sl ((i 1).val)) 2 :=
  congrArg (fun M : Memref sig .tc .vmem S1x1024x128 .f32 => M.squeeze S1024x128 squeezes_S1x1024x128_S1024x128) (Memref.slice_unit_congr _ (off_p28 i) _ _ (fun _ => rfl) (fun _ => rfl))
theorem off_p29 : ∀ i : grid1.Coords, k1_off29 i = ![(sl ((i 1).val)).val, 1024 * ((3 : Fin 4)).val, 0] := by decide +kernel
@[sl_canon] theorem canon_p29 (i : grid1.Coords) (hh) : (bM.slice (Rect.unit (s := S2x4096x128) (k1_off29 i) S1x1024x128.size hh) (fun _ => rfl)).squeeze S1024x128 squeezes_S1x1024x128_S1024x128 = part (sl ((i 1).val)) 3 :=
  congrArg (fun M : Memref sig .tc .vmem S1x1024x128 .f32 => M.squeeze S1024x128 squeezes_S1x1024x128_S1024x128) (Memref.slice_unit_congr _ (off_p29 i) _ _ (fun _ => rfl) (fun _ => rfl))
@[sl_canon] theorem canon_p29' (i : grid1.Coords) (hh) : (bM.slice (Rect.unit (s := S2x4096x128) (k1_off29 i) ![1, 1024, 128] hh) (fun _ => rfl)).squeeze S1024x128 squeezes_S1x1024x128_S1024x128 = part (sl ((i 1).val)) 3 :=
  congrArg (fun M : Memref sig .tc .vmem S1x1024x128 .f32 => M.squeeze S1024x128 squeezes_S1x1024x128_S1024x128) (Memref.slice_unit_congr _ (off_p29 i) _ _ (fun _ => rfl) (fun _ => rfl))
theorem off_p31 : ∀ i : grid1.Coords, k1_off31 i = ![(sl ((i 1).val)).val, 1024 * ((0 : Fin 4)).val, 0] := by decide +kernel
@[sl_canon] theorem canon_p31 (i : grid1.Coords) (hh) : (bM.slice (Rect.unit (s := S2x4096x128) (k1_off31 i) S1x1024x128.size hh) (fun _ => rfl)).squeeze S1024x128 squeezes_S1x1024x128_S1024x128 = part (sl ((i 1).val)) 0 :=
  congrArg (fun M : Memref sig .tc .vmem S1x1024x128 .f32 => M.squeeze S1024x128 squeezes_S1x1024x128_S1024x128) (Memref.slice_unit_congr _ (off_p31 i) _ _ (fun _ => rfl) (fun _ => rfl))
@[sl_canon] theorem canon_p31' (i : grid1.Coords) (hh) : (bM.slice (Rect.unit (s := S2x4096x128) (k1_off31 i) ![1, 1024, 128] hh) (fun _ => rfl)).squeeze S1024x128 squeezes_S1x1024x128_S1024x128 = part (sl ((i 1).val)) 0 :=
  congrArg (fun M : Memref sig .tc .vmem S1x1024x128 .f32 => M.squeeze S1024x128 squeezes_S1x1024x128_S1024x128) (Memref.slice_unit_congr _ (off_p31 i) _ _ (fun _ => rfl) (fun _ => rfl))
theorem off_p33 : ∀ i : grid1.Coords, k1_off33 i = ![(sl ((i 1).val)).val, 1024 * ((1 : Fin 4)).val, 0] := by decide +kernel
@[sl_canon] theorem canon_p33 (i : grid1.Coords) (hh) : (bM.slice (Rect.unit (s := S2x4096x128) (k1_off33 i) S1x1024x128.size hh) (fun _ => rfl)).squeeze S1024x128 squeezes_S1x1024x128_S1024x128 = part (sl ((i 1).val)) 1 :=
  congrArg (fun M : Memref sig .tc .vmem S1x1024x128 .f32 => M.squeeze S1024x128 squeezes_S1x1024x128_S1024x128) (Memref.slice_unit_congr _ (off_p33 i) _ _ (fun _ => rfl) (fun _ => rfl))
@[sl_canon] theorem canon_p33' (i : grid1.Coords) (hh) : (bM.slice (Rect.unit (s := S2x4096x128) (k1_off33 i) ![1, 1024, 128] hh) (fun _ => rfl)).squeeze S1024x128 squeezes_S1x1024x128_S1024x128 = part (sl ((i 1).val)) 1 :=
  congrArg (fun M : Memref sig .tc .vmem S1x1024x128 .f32 => M.squeeze S1024x128 squeezes_S1x1024x128_S1024x128) (Memref.slice_unit_congr _ (off_p33 i) _ _ (fun _ => rfl) (fun _ => rfl))
theorem off_p34 : ∀ i : grid1.Coords, k1_off34 i = ![(sl ((i 1).val)).val, 1024 * ((2 : Fin 4)).val, 0] := by decide +kernel
@[sl_canon] theorem canon_p34 (i : grid1.Coords) (hh) : (bM.slice (Rect.unit (s := S2x4096x128) (k1_off34 i) S1x1024x128.size hh) (fun _ => rfl)).squeeze S1024x128 squeezes_S1x1024x128_S1024x128 = part (sl ((i 1).val)) 2 :=
  congrArg (fun M : Memref sig .tc .vmem S1x1024x128 .f32 => M.squeeze S1024x128 squeezes_S1x1024x128_S1024x128) (Memref.slice_unit_congr _ (off_p34 i) _ _ (fun _ => rfl) (fun _ => rfl))
@[sl_canon] theorem canon_p34' (i : grid1.Coords) (hh) : (bM.slice (Rect.unit (s := S2x4096x128) (k1_off34 i) ![1, 1024, 128] hh) (fun _ => rfl)).squeeze S1024x128 squeezes_S1x1024x128_S1024x128 = part (sl ((i 1).val)) 2 :=
  congrArg (fun M : Memref sig .tc .vmem S1x1024x128 .f32 => M.squeeze S1024x128 squeezes_S1x1024x128_S1024x128) (Memref.slice_unit_congr _ (off_p34 i) _ _ (fun _ => rfl) (fun _ => rfl))
theorem off_p35 : ∀ i : grid1.Coords, k1_off35 i = ![(sl ((i 1).val)).val, 1024 * ((3 : Fin 4)).val, 0] := by decide +kernel
@[sl_canon] theorem canon_p35 (i : grid1.Coords) (hh) : (bM.slice (Rect.unit (s := S2x4096x128) (k1_off35 i) S1x1024x128.size hh) (fun _ => rfl)).squeeze S1024x128 squeezes_S1x1024x128_S1024x128 = part (sl ((i 1).val)) 3 :=
  congrArg (fun M : Memref sig .tc .vmem S1x1024x128 .f32 => M.squeeze S1024x128 squeezes_S1x1024x128_S1024x128) (Memref.slice_unit_congr _ (off_p35 i) _ _ (fun _ => rfl) (fun _ => rfl))
@[sl_canon] theorem canon_p35' (i : grid1.Coords) (hh) : (bM.slice (Rect.unit (s := S2x4096x128) (k1_off35 i) ![1, 1024, 128] hh) (fun _ => rfl)).squeeze S1024x128 squeezes_S1x1024x128_S1024x128 = part (sl ((i 1).val)) 3 :=
  congrArg (fun M : Memref sig .tc .vmem S1x1024x128 .f32 => M.squeeze S1024x128 squeezes_S1x1024x128_S1024x128) (Memref.slice_unit_congr _ (off_p35 i) _ _ (fun _ => rfl) (fun _ => rfl))
theorem off_p20 : ∀ i : grid1.Coords, (i 1).val = 0 → k1_off20 i = ![0, 256 * ((0 : Fin 4)).val, 0] := by decide +kernel
@[sl_canon] theorem canon_p20 (i : grid1.Coords) (h : (i 1).val = 0) (hh) : (bM.slice (Rect.unit (s := S2x4096x128) (k1_off20 i) S1x256x128.size hh) (fun _ => rfl)).squeeze S256x128 squeezes_S1x256x128_S256x128 = quart 0 :=
  congrArg (fun M : Memref sig .tc .vmem S1x256x128 .f32 => M.squeeze S256x128 squeezes_S1x256x128_S256x128) (Memref.slice_unit_congr _ (off_p20 i h) _ _ (fun _ => rfl) (fun _ => rfl))
@[sl_canon] theorem canon_p20' (i : grid1.Coords) (h : (i 1).val = 0) (hh) : (bM.slice (Rect.unit (s := S2x4096x128) (k1_off20 i) ![1, 256, 128] hh) (fun _ => rfl)).squeeze S256x128 squeezes_S1x256x128_S256x128 = quart 0 :=
  congrArg (fun M : Memref sig .tc .vmem S1x256x128 .f32 => M.squeeze S256x128 squeezes_S1x256x128_S256x128) (Memref.slice_unit_congr _ (off_p20 i h) _ _ (fun _ => rfl) (fun _ => rfl))
theorem off_p21 : ∀ i : grid1.Coords, (i 1).val = 0 → k1_off21 i = ![0, 256 * ((1 : Fin 4)).val, 0] := by decide +kernel
@[sl_canon] theorem canon_p21 (i : grid1.Coords) (h : (i 1).val = 0) (hh) : (bM.slice (Rect.unit (s := S2x4096x128) (k1_off21 i) S1x256x128.size hh) (fun _ => rfl)).squeeze S256x128 squeezes_S1x256x128_S256x128 = quart 1 :=
  congrArg (fun M : Memref sig .tc .vmem S1x256x128 .f32 => M.squeeze S256x128 squeezes_S1x256x128_S256x128) (Memref.slice_unit_congr _ (off_p21 i h) _ _ (fun _ => rfl) (fun _ => rfl))
@[sl_canon] theorem canon_p21' (i : grid1.Coords) (h : (i 1).val = 0) (hh) : (bM.slice (Rect.unit (s := S2x4096x128) (k1_off21 i) ![1, 256, 128] hh) (fun _ => rfl)).squeeze S256x128 squeezes_S1x256x128_S256x128 = quart 1 :=
  congrArg (fun M : Memref sig .tc .vmem S1x256x128 .f32 => M.squeeze S256x128 squeezes_S1x256x128_S256x128) (Memref.slice_unit_congr _ (off_p21 i h) _ _ (fun _ => rfl) (fun _ => rfl))
theorem off_p22 : ∀ i : grid1.Coords, (i 1).val = 0 → k1_off22 i = ![0, 256 * ((2 : Fin 4)).val, 0] := by decide +kernel
@[sl_canon] theorem canon_p22 (i : grid1.Coords) (h : (i 1).val = 0) (hh) : (bM.slice (Rect.unit (s := S2x4096x128) (k1_off22 i) S1x256x128.size hh) (fun _ => rfl)).squeeze S256x128 squeezes_S1x256x128_S256x128 = quart 2 :=
  congrArg (fun M : Memref sig .tc .vmem S1x256x128 .f32 => M.squeeze S256x128 squeezes_S1x256x128_S256x128) (Memref.slice_unit_congr _ (off_p22 i h) _ _ (fun _ => rfl) (fun _ => rfl))
@[sl_canon] theorem canon_p22' (i : grid1.Coords) (h : (i 1).val = 0) (hh) : (bM.slice (Rect.unit (s := S2x4096x128) (k1_off22 i) ![1, 256, 128] hh) (fun _ => rfl)).squeeze S256x128 squeezes_S1x256x128_S256x128 = quart 2 :=
  congrArg (fun M : Memref sig .tc .vmem S1x256x128 .f32 => M.squeeze S256x128 squeezes_S1x256x128_S256x128) (Memref.slice_unit_congr _ (off_p22 i h) _ _ (fun _ => rfl) (fun _ => rfl))
theorem off_p23 : ∀ i : grid1.Coords, (i 1).val = 0 → k1_off23 i = ![0, 256 * ((3 : Fin 4)).val, 0] := by decide +kernel
@[sl_canon] theorem canon_p23 (i : grid1.Coords) (h : (i 1).val = 0) (hh) : (bM.slice (Rect.unit (s := S2x4096x128) (k1_off23 i) S1x256x128.size hh) (fun _ => rfl)).squeeze S256x128 squeezes_S1x256x128_S256x128 = quart 3 :=
  congrArg (fun M : Memref sig .tc .vmem S1x256x128 .f32 => M.squeeze S256x128 squeezes_S1x256x128_S256x128) (Memref.slice_unit_congr _ (off_p23 i h) _ _ (fun _ => rfl) (fun _ => rfl))
@[sl_canon] theorem canon_p23' (i : grid1.Coords) (h : (i 1).val = 0) (hh) : (bM.slice (Rect.unit (s := S2x4096x128) (k1_off23 i) ![1, 256, 128] hh) (fun _ => rfl)).squeeze S256x128 squeezes_S1x256x128_S256x128 = quart 3 :=
  congrArg (fun M : Memref sig .tc .vmem S1x256x128 .f32 => M.squeeze S256x128 squeezes_S1x256x128_S256x128) (Memref.slice_unit_congr _ (off_p23 i h) _ _ (fun _ => rfl) (fun _ => rfl))
theorem off_c7 : ∀ i : grid1.Coords, k1_off7 i = ![(sl ((i 1).val + 1)).val] := by decide +kernel
@[sl_canon] theorem canon_c7 (i : grid1.Coords) (hh) : (cc1_scratch7.slice (Rect.unit (s := S2) (k1_off7 i) S1.size hh)).squeeze S_ squeezes_S1_S_ = cellA (sl ((i 1).val + 1)) :=
  congrArg (fun A : DmaSems sig S1 => A.squeeze S_ squeezes_S1_S_) (SemArray.slice_unit_congr _ (off_c7 i) _ _)
@[sl_canon] theorem canon_c7' (i : grid1.Coords) (hh) : (cc1_scratch7.slice (Rect.unit (s := S2) (k1_off7 i) ![1] hh)).squeeze S_ squeezes_S1_S_ = cellA (sl ((i 1).val + 1)) :=
  congrArg (fun A : DmaSems sig S1 => A.squeeze S_ squeezes_S1_S_) (SemArray.slice_unit_congr _ (off_c7 i) _ _)
theorem off_c13 : ∀ i : grid1.Coords, k1_off13 i = ![(sl ((i 1).val + 1)).val] := by decide +kernel
@[sl_canon] theorem canon_c13 (i : grid1.Coords) (hh) : (cc1_scratch7.slice (Rect.unit (s := S2) (k1_off13 i) S1.size hh)).squeeze S_ squeezes_S1_S_ = cellA (sl ((i 1).val + 1)) :=
  congrArg (fun A : DmaSems sig S1 => A.squeeze S_ squeezes_S1_S_) (SemArray.slice_unit_congr _ (off_c13 i) _ _)
@[sl_canon] theorem canon_c13' (i : grid1.Coords) (hh) : (cc1_scratch7.slice (Rect.unit (s := S2) (k1_off13 i) ![1] hh)).squeeze S_ squeezes_S1_S_ = cellA (sl ((i 1).val + 1)) :=
  congrArg (fun A : DmaSems sig S1 => A.squeeze S_ squeezes_S1_S_) (SemArray.slice_unit_congr _ (off_c13 i) _ _)
theorem off_c19 : ∀ i : grid1.Coords, (i 1).val = 0 → k1_off19 i = ![(0 : Fin 2).val] := by decide +kernel
@[sl_canon] theorem canon_c19 (i : grid1.Coords) (h : (i 1).val = 0) (hh) : (cc1_scratch7.slice (Rect.unit (s := S2) (k1_off19 i) S1.size hh)).squeeze S_ squeezes_S1_S_ = cellA 0 :=
  congrArg (fun A : DmaSems sig S1 => A.squeeze S_ squeezes_S1_S_) (SemArray.slice_unit_congr _ (off_c19 i h) _ _)
@[sl_canon] theorem canon_c19' (i : grid1.Coords) (h : (i 1).val = 0) (hh) : (cc1_scratch7.slice (Rect.unit (s := S2) (k1_off19 i) ![1] hh)).squeeze S_ squeezes_S1_S_ = cellA 0 :=
  congrArg (fun A : DmaSems sig S1 => A.squeeze S_ squeezes_S1_S_) (SemArray.slice_unit_congr _ (off_c19 i h) _ _)
theorem off_c24 : ∀ i : grid1.Coords, k1_off24 i = ![(sl ((i 1).val)).val] := by decide +kernel
@[sl_canon] theorem canon_c24 (i : grid1.Coords) (hh) : (cc1_scratch7.slice (Rect.unit (s := S2) (k1_off24 i) S1.size hh)).squeeze S_ squeezes_S1_S_ = cellA (sl ((i 1).val)) :=
  congrArg (fun A : DmaSems sig S1 => A.squeeze S_ squeezes_S1_S_) (SemArray.slice_unit_congr _ (off_c24 i) _ _)
@[sl_canon] theorem canon_c24' (i : grid1.Coords) (hh) : (cc1_scratch7.slice (Rect.unit (s := S2) (k1_off24 i) ![1] hh)).squeeze S_ squeezes_S1_S_ = cellA (sl ((i 1).val)) :=
  congrArg (fun A : DmaSems sig S1 => A.squeeze S_ squeezes_S1_S_) (SemArray.slice_unit_congr _ (off_c24 i) _ _)
theorem off_c30 : ∀ i : grid1.Coords, k1_off30 i = ![(sl ((i 1).val)).val] := by decide +kernel
@[sl_canon] theorem canon_c30 (i : grid1.Coords) (hh) : (cc1_scratch7.slice (Rect.unit (s := S2) (k1_off30 i) S1.size hh)).squeeze S_ squeezes_S1_S_ = cellA (sl ((i 1).val)) :=
  congrArg (fun A : DmaSems sig S1 => A.squeeze S_ squeezes_S1_S_) (SemArray.slice_unit_congr _ (off_c30 i) _ _)
@[sl_canon] theorem canon_c30' (i : grid1.Coords) (hh) : (cc1_scratch7.slice (Rect.unit (s := S2) (k1_off30 i) ![1] hh)).squeeze S_ squeezes_S1_S_ = cellA (sl ((i 1).val)) :=
  congrArg (fun A : DmaSems sig S1 => A.squeeze S_ squeezes_S1_S_) (SemArray.slice_unit_congr _ (off_c30 i) _ _)
theorem off_s9_0 : ∀ i : grid1.Coords, k1_off9 i 0#32 = ![4096 * (mB ((i 1).val + 1)).val + 1024 * ((0 : Fin 4)).val, 0] := by decide +kernel
@[sl_canon] theorem canon_s9_0 (i : grid1.Coords) (hh) : mM.slice (Rect.unit (s := S8192x128) (k1_off9 i 0#32) S1024x128.size hh) (fun _ => rfl) = mSrc (mB ((i 1).val + 1)) 0 :=
  Memref.slice_unit_congr _ (off_s9_0 i) _ _ (fun _ => rfl) (fun _ => rfl)
@[sl_canon] theorem canon_s9_0' (i : grid1.Coords) (hh) : mM.slice (Rect.unit (s := S8192x128) (k1_off9 i 0#32) ![1024, 128] hh) (fun _ => rfl) = mSrc (mB ((i 1).val + 1)) 0 :=
  Memref.slice_unit_congr _ (off_s9_0 i) _ _ (fun _ => rfl) (fun _ => rfl)
theorem off_s26_0 : ∀ i : grid1.Coords, k1_off26 i 0#32 = ![4096 * (mB ((i 1).val)).val + 1024 * ((0 : Fin 4)).val, 0] := by decide +kernel
@[sl_canon] theorem canon_s26_0 (i : grid1.Coords) (hh) : mM.slice (Rect.unit (s := S8192x128) (k1_off26 i 0#32) S1024x128.size hh) (fun _ => rfl) = mSrc (mB ((i 1).val)) 0 :=
  Memref.slice_unit_congr _ (off_s26_0 i) _ _ (fun _ => rfl) (fun _ => rfl)
@[sl_canon] theorem canon_s26_0' (i : grid1.Coords) (hh) : mM.slice (Rect.unit (s := S8192x128) (k1_off26 i 0#32) ![1024, 128] hh) (fun _ => rfl) = mSrc (mB ((i 1).val)) 0 :=
  Memref.slice_unit_congr _ (off_s26_0 i) _ _ (fun _ => rfl) (fun _ => rfl)
theorem off_s15_0 : ∀ i : grid1.Coords, k1_off15 i 0#32 = ![4096 * (lB ((i 1).val + 1)).val + 1024 * ((0 : Fin 4)).val, 0] := by decide +kernel
@[sl_canon] theorem canon_s15_0 (i : grid1.Coords) (hh) : lM.slice (Rect.unit (s := S65536x128) (k1_off15 i 0#32) S1024x128.size hh) (fun _ => rfl) = lSrc (lB ((i 1).val + 1)) 0 :=
  Memref.slice_unit_congr _ (off_s15_0 i) _ _ (fun _ => rfl) (fun _ => rfl)
@[sl_canon] theorem canon_s15_0' (i : grid1.Coords) (hh) : lM.slice (Rect.unit (s := S65536x128) (k1_off15 i 0#32) ![1024, 128] hh) (fun _ => rfl) = lSrc (lB ((i 1).val + 1)) 0 :=
  Memref.slice_unit_congr _ (off_s15_0 i) _ _ (fun _ => rfl) (fun _ => rfl)
theorem off_s32_0 : ∀ i : grid1.Coords, k1_off32 i 0#32 = ![4096 * (lB ((i 1).val)).val + 1024 * ((0 : Fin 4)).val, 0] := by decide +kernel
@[sl_canon] theorem canon_s32_0 (i : grid1.Coords) (hh) : lM.slice (Rect.unit (s := S65536x128) (k1_off32 i 0#32) S1024x128.size hh) (fun _ => rfl) = lSrc (lB ((i 1).val)) 0 :=
  Memref.slice_unit_congr _ (off_s32_0 i) _ _ (fun _ => rfl) (fun _ => rfl)
@[sl_canon] theorem canon_s32_0' (i : grid1.Coords) (hh) : lM.slice (Rect.unit (s := S65536x128) (k1_off32 i 0#32) ![1024, 128] hh) (fun _ => rfl) = lSrc (lB ((i 1).val)) 0 :=
  Memref.slice_unit_congr _ (off_s32_0 i) _ _ (fun _ => rfl) (fun _ => rfl)
theorem off_s9_1 : ∀ i : grid1.Coords, k1_off9 i 1024#32 = ![4096 * (mB ((i 1).val + 1)).val + 1024 * ((1 : Fin 4)).val, 0] := by decide +kernel
@[sl_canon] theorem canon_s9_1 (i : grid1.Coords) (hh) : mM.slice (Rect.unit (s := S8192x128) (k1_off9 i 1024#32) S1024x128.size hh) (fun _ => rfl) = mSrc (mB ((i 1).val + 1)) 1 :=
  Memref.slice_unit_congr _ (off_s9_1 i) _ _ (fun _ => rfl) (fun _ => rfl)
@[sl_canon] theorem canon_s9_1' (i : grid1.Coords) (hh) : mM.slice (Rect.unit (s := S8192x128) (k1_off9 i 1024#32) ![1024, 128] hh) (fun _ => rfl) = mSrc (mB ((i 1).val + 1)) 1 :=
  Memref.slice_unit_congr _ (off_s9_1 i) _ _ (fun _ => rfl) (fun _ => rfl)
theorem off_s26_1 : ∀ i : grid1.Coords, k1_off26 i 1024#32 = ![4096 * (mB ((i 1).val)).val + 1024 * ((1 : Fin 4)).val, 0] := by decide +kernel
@[sl_canon] theorem canon_s26_1 (i : grid1.Coords) (hh) : mM.slice (Rect.unit (s := S8192x128) (k1_off26 i 1024#32) S1024x128.size hh) (fun _ => rfl) = mSrc (mB ((i 1).val)) 1 :=
  Memref.slice_unit_congr _ (off_s26_1 i) _ _ (fun _ => rfl) (fun _ => rfl)
@[sl_canon] theorem canon_s26_1' (i : grid1.Coords) (hh) : mM.slice (Rect.unit (s := S8192x128) (k1_off26 i 1024#32) ![1024, 128] hh) (fun _ => rfl) = mSrc (mB ((i 1).val)) 1 :=
  Memref.slice_unit_congr _ (off_s26_1 i) _ _ (fun _ => rfl) (fun _ => rfl)
theorem off_s15_1 : ∀ i : grid1.Coords, k1_off15 i 1024#32 = ![4096 * (lB ((i 1).val + 1)).val + 1024 * ((1 : Fin 4)).val, 0] := by decide +kernel
@[sl_canon] theorem canon_s15_1 (i : grid1.Coords) (hh) : lM.slice (Rect.unit (s := S65536x128) (k1_off15 i 1024#32) S1024x128.size hh) (fun _ => rfl) = lSrc (lB ((i 1).val + 1)) 1 :=
  Memref.slice_unit_congr _ (off_s15_1 i) _ _ (fun _ => rfl) (fun _ => rfl)
@[sl_canon] theorem canon_s15_1' (i : grid1.Coords) (hh) : lM.slice (Rect.unit (s := S65536x128) (k1_off15 i 1024#32) ![1024, 128] hh) (fun _ => rfl) = lSrc (lB ((i 1).val + 1)) 1 :=
  Memref.slice_unit_congr _ (off_s15_1 i) _ _ (fun _ => rfl) (fun _ => rfl)
theorem off_s32_1 : ∀ i : grid1.Coords, k1_off32 i 1024#32 = ![4096 * (lB ((i 1).val)).val + 1024 * ((1 : Fin 4)).val, 0] := by decide +kernel
@[sl_canon] theorem canon_s32_1 (i : grid1.Coords) (hh) : lM.slice (Rect.unit (s := S65536x128) (k1_off32 i 1024#32) S1024x128.size hh) (fun _ => rfl) = lSrc (lB ((i 1).val)) 1 :=
  Memref.slice_unit_congr _ (off_s32_1 i) _ _ (fun _ => rfl) (fun _ => rfl)
@[sl_canon] theorem canon_s32_1' (i : grid1.Coords) (hh) : lM.slice (Rect.unit (s := S65536x128) (k1_off32 i 1024#32) ![1024, 128] hh) (fun _ => rfl) = lSrc (lB ((i 1).val)) 1 :=
  Memref.slice_unit_congr _ (off_s32_1 i) _ _ (fun _ => rfl) (fun _ => rfl)
theorem off_s9_2 : ∀ i : grid1.Coords, k1_off9 i 2048#32 = ![4096 * (mB ((i 1).val + 1)).val + 1024 * ((2 : Fin 4)).val, 0] := by decide +kernel
@[sl_canon] theorem canon_s9_2 (i : grid1.Coords) (hh) : mM.slice (Rect.unit (s := S8192x128) (k1_off9 i 2048#32) S1024x128.size hh) (fun _ => rfl) = mSrc (mB ((i 1).val + 1)) 2 :=
  Memref.slice_unit_congr _ (off_s9_2 i) _ _ (fun _ => rfl) (fun _ => rfl)
@[sl_canon] theorem canon_s9_2' (i : grid1.Coords) (hh) : mM.slice (Rect.unit (s := S8192x128) (k1_off9 i 2048#32) ![1024, 128] hh) (fun _ => rfl) = mSrc (mB ((i 1).val + 1)) 2 :=
  Memref.slice_unit_congr _ (off_s9_2 i) _ _ (fun _ => rfl) (fun _ => rfl)
theorem off_s26_2 : ∀ i : grid1.Coords, k1_off26 i 2048#32 = ![4096 * (mB ((i 1).val)).val + 1024 * ((2 : Fin 4)).val, 0] := by decide +kernel
@[sl_canon] theorem canon_s26_2 (i : grid1.Coords) (hh) : mM.slice (Rect.unit (s := S8192x128) (k1_off26 i 2048#32) S1024x128.size hh) (fun _ => rfl) = mSrc (mB ((i 1).val)) 2 :=
  Memref.slice_unit_congr _ (off_s26_2 i) _ _ (fun _ => rfl) (fun _ => rfl)
@[sl_canon] theorem canon_s26_2' (i : grid1.Coords) (hh) : mM.slice (Rect.unit (s := S8192x128) (k1_off26 i 2048#32) ![1024, 128] hh) (fun _ => rfl) = mSrc (mB ((i 1).val)) 2 :=
  Memref.slice_unit_congr _ (off_s26_2 i) _ _ (fun _ => rfl) (fun _ => rfl)
theorem off_s15_2 : ∀ i : grid1.Coords, k1_off15 i 2048#32 = ![4096 * (lB ((i 1).val + 1)).val + 1024 * ((2 : Fin 4)).val, 0] := by decide +kernel
@[sl_canon] theorem canon_s15_2 (i : grid1.Coords) (hh) : lM.slice (Rect.unit (s := S65536x128) (k1_off15 i 2048#32) S1024x128.size hh) (fun _ => rfl) = lSrc (lB ((i 1).val + 1)) 2 :=
  Memref.slice_unit_congr _ (off_s15_2 i) _ _ (fun _ => rfl) (fun _ => rfl)
@[sl_canon] theorem canon_s15_2' (i : grid1.Coords) (hh) : lM.slice (Rect.unit (s := S65536x128) (k1_off15 i 2048#32) ![1024, 128] hh) (fun _ => rfl) = lSrc (lB ((i 1).val + 1)) 2 :=
  Memref.slice_unit_congr _ (off_s15_2 i) _ _ (fun _ => rfl) (fun _ => rfl)
theorem off_s32_2 : ∀ i : grid1.Coords, k1_off32 i 2048#32 = ![4096 * (lB ((i 1).val)).val + 1024 * ((2 : Fin 4)).val, 0] := by decide +kernel
@[sl_canon] theorem canon_s32_2 (i : grid1.Coords) (hh) : lM.slice (Rect.unit (s := S65536x128) (k1_off32 i 2048#32) S1024x128.size hh) (fun _ => rfl) = lSrc (lB ((i 1).val)) 2 :=
  Memref.slice_unit_congr _ (off_s32_2 i) _ _ (fun _ => rfl) (fun _ => rfl)
@[sl_canon] theorem canon_s32_2' (i : grid1.Coords) (hh) : lM.slice (Rect.unit (s := S65536x128) (k1_off32 i 2048#32) ![1024, 128] hh) (fun _ => rfl) = lSrc (lB ((i 1).val)) 2 :=
  Memref.slice_unit_congr _ (off_s32_2 i) _ _ (fun _ => rfl) (fun _ => rfl)
theorem off_s9_3 : ∀ i : grid1.Coords, k1_off9 i 3072#32 = ![4096 * (mB ((i 1).val + 1)).val + 1024 * ((3 : Fin 4)).val, 0] := by decide +kernel
@[sl_canon] theorem canon_s9_3 (i : grid1.Coords) (hh) : mM.slice (Rect.unit (s := S8192x128) (k1_off9 i 3072#32) S1024x128.size hh) (fun _ => rfl) = mSrc (mB ((i 1).val + 1)) 3 :=
  Memref.slice_unit_congr _ (off_s9_3 i) _ _ (fun _ => rfl) (fun _ => rfl)
@[sl_canon] theorem canon_s9_3' (i : grid1.Coords) (hh) : mM.slice (Rect.unit (s := S8192x128) (k1_off9 i 3072#32) ![1024, 128] hh) (fun _ => rfl) = mSrc (mB ((i 1).val + 1)) 3 :=
  Memref.slice_unit_congr _ (off_s9_3 i) _ _ (fun _ => rfl) (fun _ => rfl)
theorem off_s26_3 : ∀ i : grid1.Coords, k1_off26 i 3072#32 = ![4096 * (mB ((i 1).val)).val + 1024 * ((3 : Fin 4)).val, 0] := by decide +kernel
@[sl_canon] theorem canon_s26_3 (i : grid1.Coords) (hh) : mM.slice (Rect.unit (s := S8192x128) (k1_off26 i 3072#32) S1024x128.size hh) (fun _ => rfl) = mSrc (mB ((i 1).val)) 3 :=
  Memref.slice_unit_congr _ (off_s26_3 i) _ _ (fun _ => rfl) (fun _ => rfl)
@[sl_canon] theorem canon_s26_3' (i : grid1.Coords) (hh) : mM.slice (Rect.unit (s := S8192x128) (k1_off26 i 3072#32) ![1024, 128] hh) (fun _ => rfl) = mSrc (mB ((i 1).val)) 3 :=
  Memref.slice_unit_congr _ (off_s26_3 i) _ _ (fun _ => rfl) (fun _ => rfl)
theorem off_s15_3 : ∀ i : grid1.Coords, k1_off15 i 3072#32 = ![4096 * (lB ((i 1).val + 1)).val + 1024 * ((3 : Fin 4)).val, 0] := by decide +kernel
@[sl_canon] theorem canon_s15_3 (i : grid1.Coords) (hh) : lM.slice (Rect.unit (s := S65536x128) (k1_off15 i 3072#32) S1024x128.size hh) (fun _ => rfl) = lSrc (lB ((i 1).val + 1)) 3 :=
  Memref.slice_unit_congr _ (off_s15_3 i) _ _ (fun _ => rfl) (fun _ => rfl)
@[sl_canon] theorem canon_s15_3' (i : grid1.Coords) (hh) : lM.slice (Rect.unit (s := S65536x128) (k1_off15 i 3072#32) ![1024, 128] hh) (fun _ => rfl) = lSrc (lB ((i 1).val + 1)) 3 :=
  Memref.slice_unit_congr _ (off_s15_3 i) _ _ (fun _ => rfl) (fun _ => rfl)
theorem off_s32_3 : ∀ i : grid1.Coords, k1_off32 i 3072#32 = ![4096 * (lB ((i 1).val)).val + 1024 * ((3 : Fin 4)).val, 0] := by decide +kernel
@[sl_canon] theorem canon_s32_3 (i : grid1.Coords) (hh) : lM.slice (Rect.unit (s := S65536x128) (k1_off32 i 3072#32) S1024x128.size hh) (fun _ => rfl) = lSrc (lB ((i 1).val)) 3 :=
  Memref.slice_unit_congr _ (off_s32_3 i) _ _ (fun _ => rfl) (fun _ => rfl)
@[sl_canon] theorem canon_s32_3' (i : grid1.Coords) (hh) : lM.slice (Rect.unit (s := S65536x128) (k1_off32 i 3072#32) ![1024, 128] hh) (fun _ => rfl) = lSrc (lB ((i 1).val)) 3 :=
  Memref.slice_unit_congr _ (off_s32_3 i) _ _ (fun _ => rfl) (fun _ => rfl)
@[sl_canon] theorem canon_q0 (hh) : (bM.slice (Rect.unit (s := S2x4096x128) ![0, 0, 0] S1x256x128.size hh) (fun _ => rfl)).squeeze S256x128 squeezes_S1x256x128_S256x128 = quart 0 := rfl
@[sl_canon] theorem canon_q0' (hh) : (bM.slice (Rect.unit (s := S2x4096x128) ![0, 0, 0] ![1, 256, 128] hh) (fun _ => rfl)).squeeze S256x128 squeezes_S1x256x128_S256x128 = quart 0 := rfl
@[sl_canon] theorem canon_ss0 (hh) : sM.slice (Rect.unit (s := S1024x128) ![0, 0] S256x128.size hh) (fun _ => rfl) = sSrc 0 := rfl
@[sl_canon] theorem canon_ss0' (hh) : sM.slice (Rect.unit (s := S1024x128) ![0, 0] ![256, 128] hh) (fun _ => rfl) = sSrc 0 := rfl
@[sl_canon] theorem canon_q1 (hh) : (bM.slice (Rect.unit (s := S2x4096x128) ![0, 256, 0] S1x256x128.size hh) (fun _ => rfl)).squeeze S256x128 squeezes_S1x256x128_S256x128 = quart 1 := rfl
@[sl_canon] theorem canon_q1' (hh) : (bM.slice (Rect.unit (s := S2x4096x128) ![0, 256, 0] ![1, 256, 128] hh) (fun _ => rfl)).squeeze S256x128 squeezes_S1x256x128_S256x128 = quart 1 := rfl
@[sl_canon] theorem canon_ss1 (hh) : sM.slice (Rect.unit (s := S1024x128) ![256, 0] S256x128.size hh) (fun _ => rfl) = sSrc 1 := rfl
@[sl_canon] theorem canon_ss1' (hh) : sM.slice (Rect.unit (s := S1024x128) ![256, 0] ![256, 128] hh) (fun _ => rfl) = sSrc 1 := rfl
@[sl_canon] theorem canon_q2 (hh) : (bM.slice (Rect.unit (s := S2x4096x128) ![0, 512, 0] S1x256x128.size hh) (fun _ => rfl)).squeeze S256x128 squeezes_S1x256x128_S256x128 = quart 2 := rfl
@[sl_canon] theorem canon_q2' (hh) : (bM.slice (Rect.unit (s := S2x4096x128) ![0, 512, 0] ![1, 256, 128] hh) (fun _ => rfl)).squeeze S256x128 squeezes_S1x256x128_S256x128 = quart 2 := rfl
@[sl_canon] theorem canon_ss2 (hh) : sM.slice (Rect.unit (s := S1024x128) ![512, 0] S256x128.size hh) (fun _ => rfl) = sSrc 2 := rfl
@[sl_canon] theorem canon_ss2' (hh) : sM.slice (Rect.unit (s := S1024x128) ![512, 0] ![256, 128] hh) (fun _ => rfl) = sSrc 2 := rfl
@[sl_canon] theorem canon_q3 (hh) : (bM.slice (Rect.unit (s := S2x4096x128) ![0, 768, 0] S1x256x128.size hh) (fun _ => rfl)).squeeze S256x128 squeezes_S1x256x128_S256x128 = quart 3 := rfl
@[sl_canon] theorem canon_q3' (hh) : (bM.slice (Rect.unit (s := S2x4096x128) ![0, 768, 0] ![1, 256, 128] hh) (fun _ => rfl)).squeeze S256x128 squeezes_S1x256x128_S256x128 = quart 3 := rfl
@[sl_canon] theorem canon_ss3 (hh) : sM.slice (Rect.unit (s := S1024x128) ![768, 0] S256x128.size hh) (fun _ => rfl) = sSrc 3 := rfl
@[sl_canon] theorem canon_ss3' (hh) : sM.slice (Rect.unit (s := S1024x128) ![768, 0] ![256, 128] hh) (fun _ => rfl) = sSrc 3 := rfl
@[sl_canon] theorem canon_c0 (hh) : (cc1_scratch7.slice (Rect.unit (s := S2) ![0] S1.size hh)).squeeze S_ squeezes_S1_S_ = cellA 0 := rfl
@[sl_canon] theorem canon_c0' (hh) : (cc1_scratch7.slice (Rect.unit (s := S2) ![0] ![1] hh)).squeeze S_ squeezes_S1_S_ = cellA 0 := rfl

/-- At a point where chunk 0 is worked, its slot is slot 0. -/
theorem sl_zero : sl 0 = 0 := rfl
theorem sl_add_two (g : ℕ) : sl (g + 2) = sl g := Fin.ext (by simp [sl])

end Cert.Proof.Attn

end
-- ==== Proof.Attn.Ring.lean ====
/-
  What a slot of the attention call's chunk scratch holds, free and in flight: a slot is its four parts; a chunk in
  flight is the batch of its four transfers, each carrying one part landed and its lent rows back.
-/
module

public import proofs.«01_k».proof.Proof.Attn.Names

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

/-! ## The elements of a slot -/

def partSet (s : Fin 2) (k : Fin 4) : Finset S2x4096x128.Idx := (Rect.unit (s := S2x4096x128) ![s.val, 1024 * k.val, 0] S1x1024x128.size (part_inb s k)).set
def quartSet (k : Fin 4) : Finset S2x4096x128.Idx := (Rect.unit (s := S2x4096x128) ![0, 256 * k.val, 0] S1x256x128.size (quart_inb k)).set
theorem part_set (s : Fin 2) (k : Fin 4) : (part s k).view.set = partSet s k := by
  simp only [part, Memref.view_squeeze, View.set_reshape]; exact View.set_slice_whole _ _
theorem quart_set (k : Fin 4) : (quart k).view.set = quartSet k := by
  simp only [quart, Memref.view_squeeze, View.set_reshape]; exact View.set_slice_whole _ _
theorem mem_partSet {s : Fin 2} {k : Fin 4} {x : S2x4096x128.Idx} : x ∈ partSet s k ↔ (x 0).val = s.val ∧ (x 1).val / 1024 = k.val := by
  have h1 : (x 1).val < 4096 := (x 1).isLt
  have h2 : (x 2).val < 128 := (x 2).isLt
  unfold partSet
  rw [Rect.mem_set_unit]
  constructor
  · intro h
    have a0 : s.val ≤ (x 0).val ∧ (x 0).val < s.val + 1 := h 0
    have a1 : 1024 * k.val ≤ (x 1).val ∧ (x 1).val < 1024 * k.val + 1024 := h 1
    omega
  · rintro ⟨h0, h3⟩ a
    match a with
    | ⟨0, _⟩ => show s.val ≤ (x 0).val ∧ (x 0).val < s.val + 1; omega
    | ⟨1, _⟩ => show 1024 * k.val ≤ (x 1).val ∧ (x 1).val < 1024 * k.val + 1024; omega
    | ⟨2, _⟩ => show 0 ≤ (x 2).val ∧ (x 2).val < 0 + 128; omega
theorem mem_quartSet {k : Fin 4} {x : S2x4096x128.Idx} : x ∈ quartSet k ↔ (x 0).val = 0 ∧ (x 1).val / 256 = k.val := by
  have h1 : (x 1).val < 4096 := (x 1).isLt
  have h2 : (x 2).val < 128 := (x 2).isLt
  unfold quartSet
  rw [Rect.mem_set_unit]
  constructor
  · intro h
    have a0 : 0 ≤ (x 0).val ∧ (x 0).val < 0 + 1 := h 0
    have a1 : 256 * k.val ≤ (x 1).val ∧ (x 1).val < 256 * k.val + 256 := h 1
    omega
  · rintro ⟨h0, h3⟩ a
    match a with
    | ⟨0, _⟩ => show 0 ≤ (x 0).val ∧ (x 0).val < 0 + 1; omega
    | ⟨1, _⟩ => show 256 * k.val ≤ (x 1).val ∧ (x 1).val < 256 * k.val + 256; omega
    | ⟨2, _⟩ => show 0 ≤ (x 2).val ∧ (x 2).val < 0 + 128; omega

/-- A slot. -/
def slotSet (s : Fin 2) : Finset S2x4096x128.Idx := partSet s 0 ∪ (partSet s 1 ∪ (partSet s 2 ∪ partSet s 3))
theorem mem_slotSet {s : Fin 2} {x : S2x4096x128.Idx} : x ∈ slotSet s ↔ (x 0).val = s.val := by
  have h1 : (x 1).val < 4096 := (x 1).isLt
  simp only [slotSet, Finset.mem_union, mem_partSet, Fin.val_zero, Fin.val_one, show ((2 : Fin 4)).val = 2 from rfl, show ((3 : Fin 4)).val = 3 from rfl]
  omega
theorem slot_inb (s : Fin 2) : ∀ a, (![s.val, 0, 0] : Fin 3 → Nat) a + (![1, 4096, 128] : Fin 3 → Nat) a ≤ S2x4096x128.size a := by
  have := s.isLt; intro a; fin_cases a <;> simp <;> omega
/-- The slot as a memref. -/
def slotM (s : Fin 2) : Memref sig .tc .vmem ⟨3, ![1, 4096, 128]⟩ .f32 := bM.slice (Rect.unit (s := S2x4096x128) ![s.val, 0, 0] ![1, 4096, 128] (slot_inb s)) (fun _ => rfl)
theorem slotM_set (s : Fin 2) : (slotM s).view.set = slotSet s := by
  have h : (slotM s).view.set = (Rect.unit (s := S2x4096x128) ![s.val, 0, 0] ![1, 4096, 128] (slot_inb s)).set := View.set_slice_whole _ _
  rw [h]
  ext x
  have h1 : (x 1).val < 4096 := (x 1).isLt
  have h2 : (x 2).val < 128 := (x 2).isLt
  rw [mem_slotSet, Rect.mem_set_unit]
  constructor
  · intro h
    have a0 : s.val ≤ (x 0).val ∧ (x 0).val < s.val + 1 := h 0
    omega
  · intro h0 a
    match a with
    | ⟨0, _⟩ => show s.val ≤ (x 0).val ∧ (x 0).val < s.val + 1; omega
    | ⟨1, _⟩ => show 0 ≤ (x 1).val ∧ (x 1).val < 0 + 4096; omega
    | ⟨2, _⟩ => show 0 ≤ (x 2).val ∧ (x 2).val < 0 + 128; omega
/-- A box of the scratch whose first coordinates are a slot's lies in the slot. -/
theorem access_sub {off : Fin 3 → ℕ} {n : ℕ} (s : Fin 2) (h0 : off 0 = s.val) (inb : ∀ a, off a + (![1, n, 128] : Fin 3 → ℕ) a ≤ S2x4096x128.size a) :
    (bM.access (Rect.unit (s := S2x4096x128) off ![1, n, 128] inb)).set ⊆ (slotM s).view.set := by
  have h : (bM.access (Rect.unit (s := S2x4096x128) off ![1, n, 128] inb)).set = (Rect.unit (s := S2x4096x128) off ![1, n, 128] inb).set := View.set_slice_whole _ _
  rw [h, slotM_set]
  intro x hx
  rw [Rect.mem_set_unit] at hx
  rw [mem_slotSet]
  have a0 : off 0 ≤ (x 0).val ∧ (x 0).val < off 0 + 1 := hx 0
  omega
theorem access_part (inb : ∀ a, (![0, 0, 0] : Fin 3 → ℕ) a + S1x1024x128.size a ≤ S2x4096x128.size a) :
    (bM.access (Rect.unit (s := S2x4096x128) ![0, 0, 0] S1x1024x128.size inb)).set ⊆ (part 0 0).view.set := by
  have h : (bM.access (Rect.unit (s := S2x4096x128) ![0, 0, 0] S1x1024x128.size inb)).set = (Rect.unit (s := S2x4096x128) ![0, 0, 0] S1x1024x128.size inb).set := View.set_slice_whole _ _
  rw [h, part_set]; exact subset_of_eq rfl
theorem partSet_0_0 : partSet 0 0 = quartSet 0 ∪ (quartSet 1 ∪ (quartSet 2 ∪ quartSet 3)) := by
  ext x
  have h1 : (x 1).val < 4096 := (x 1).isLt
  simp only [Finset.mem_union, mem_partSet, mem_quartSet, Fin.val_zero, Fin.val_one, show ((2 : Fin 4)).val = 2 from rfl, show ((3 : Fin 4)).val = 3 from rfl]
  omega
theorem slots_univ : (Finset.univ : Finset S2x4096x128.Idx) = slotSet 0 ∪ slotSet 1 := by
  ext x
  have h0 : (x 0).val < 2 := (x 0).isLt
  simp only [Finset.mem_univ, Finset.mem_union, mem_slotSet, Fin.val_zero, Fin.val_one, true_iff]
  omega
theorem slots_disjoint : Disjoint (slotSet 0) (slotSet 1) := by
  rw [Finset.disjoint_left]; intro x; simp only [mem_slotSet, Fin.val_zero, Fin.val_one]; omega
theorem parts_disjoint {s : Fin 2} {k k' : Fin 4} (h : k ≠ k') : Disjoint (partSet s k) (partSet s k') := by
  rw [Finset.disjoint_left]; intro x; simp only [mem_partSet]; intro a b; exact h (Fin.ext (by omega))
theorem quarts_disjoint {k k' : Fin 4} (h : k ≠ k') : Disjoint (quartSet k) (quartSet k') := by
  rw [Finset.disjoint_left]; intro x; simp only [mem_quartSet]; intro a b; exact h (Fin.ext (by omega))
theorem disj4 {α : Type} [DecidableEq α] {A : Fin 4 → Finset α} (h : ∀ k k', k ≠ k' → Disjoint (A k) (A k')) :
    Disjoint (A 0) (A 1 ∪ (A 2 ∪ A 3)) ∧ Disjoint (A 1) (A 2 ∪ A 3) ∧ Disjoint (A 2) (A 3) := by
  refine ⟨?_, ?_, h _ _ (by decide)⟩
  · exact Finset.disjoint_union_right.mpr ⟨h _ _ (by decide), Finset.disjoint_union_right.mpr ⟨h _ _ (by decide), h _ _ (by decide)⟩⟩
  · exact Finset.disjoint_union_right.mpr ⟨h _ _ (by decide), h _ _ (by decide)⟩

/-! ## A chunk's contents -/

def rowS (r : Fin 1024) (d : Fin 128) : S1024x128.Idx := fun | 0 => r | 1 => d
def rowM (r : Fin 8192) (d : Fin 128) : S8192x128.Idx := fun | 0 => r | 1 => d
def rowL (r : Fin 65536) (d : Fin 128) : S65536x128.Idx := fun | 0 => r | 1 => d
theorem eq_rowS (k : S1024x128.Idx) : k = rowS (k 0) (k 1) := funext fun b => match b with | 0 => rfl | 1 => rfl

section Chunk
variable (c : Dev nD) (fs : Buf (Elt F) ((c : Thread nD τ).loc main_v12)) (fm : Buf (Elt F) ((c : Thread nD τ).loc main_arg2)) (fl : Buf (Elt F) ((c : Thread nD τ).loc main_arg3))

/-- Chunk 0 where it lies (rows below 1024 of the slot), -/
def chS : Buf (Elt F) ((c : Thread nD τ).loc cc1_scratch1) := fun x : S2x4096x128.Idx => fs (rowS ⟨(x 1).val % 1024, Nat.mod_lt _ (by decide)⟩ (x 2))
/-- block `b` of `m_memory` in the slot, -/
def chM (b : Fin 2) : Buf (Elt F) ((c : Thread nD τ).loc cc1_scratch1) := fun x : S2x4096x128.Idx => fm (rowM ⟨4096 * b.val + (x 1).val, by have := b.isLt; have : (x 1).val < 4096 := (x 1).isLt; omega⟩ (x 2))
/-- and block `b` of `l_memory`. -/
def chL (b : Fin 16) : Buf (Elt F) ((c : Thread nD τ).loc cc1_scratch1) := fun x : S2x4096x128.Idx => fl (rowL ⟨4096 * b.val + (x 1).val, by have := b.isLt; have : (x 1).val < 4096 := (x 1).isLt; omega⟩ (x 2))

abbrev landS (k : Fin 4) : Buf (Elt F) ((c : Thread nD τ).loc cc1_scratch1) :=
  (quart k).view.writes (Elt F) (quart k).view.junk [⟨Rect.whole S256x128, ReadAs.same.apply ((sSrc k).view.read (Elt F) fs)⟩]
abbrev landM (s : Fin 2) (b : Fin 2) (k : Fin 4) : Buf (Elt F) ((c : Thread nD τ).loc cc1_scratch1) :=
  (part s k).view.writes (Elt F) (part s k).view.junk [⟨Rect.whole S1024x128, ReadAs.same.apply ((mSrc b k).view.read (Elt F) fm)⟩]
abbrev landL (s : Fin 2) (b : Fin 16) (k : Fin 4) : Buf (Elt F) ((c : Thread nD τ).loc cc1_scratch1) :=
  (part s k).view.writes (Elt F) (part s k).view.junk [⟨Rect.whole S1024x128, ReadAs.same.apply ((lSrc b k).view.read (Elt F) fl)⟩]

/-- Two contents that a view reads alike agree on its elements. -/
theorem eq_on_of_read {κ : Kind} {sp : Space} {s : Shape} {e : EltTy} (v : View sig κ sp s e) (f g : v.ty.Contents (Elt F))
    (h : v.read (Elt F) f = v.read (Elt F) g) : ∀ x ∈ v.set, f x = g x := by
  intro x hx
  obtain ⟨y, -, rfl⟩ := Finset.mem_map.mp hx
  have := congrFun h y
  unfold View.read at this
  exact (cast_inj _).mp this

theorem read_part (s : Fin 2) (k : Fin 4) (f : (part s k).view.ty.Contents (Elt F)) (y : S1024x128.Idx) :
    (part s k).view.read (Elt F) f y = f (show S2x4096x128.Idx from (Rect.unit (s := S2x4096x128) ![s.val, 1024 * k.val, 0] S1x1024x128.size (part_inb s k)).emb (Fin.cons ⟨0, Nat.one_pos⟩ y)) := by
  have h1 : (part s k).view.read (Elt F) f y = f (show S2x4096x128.Idx from (Rect.unit (s := S2x4096x128) ![s.val, 1024 * k.val, 0] S1x1024x128.size (part_inb s k)).emb (Shape.reshapeEquiv squeezes_S1x1024x128_S1024x128.numel_eq y)) := rfl
  rw [h1, Shape.reshapeEquiv_cons_one]

theorem read_quart (k : Fin 4) (f : (quart k).view.ty.Contents (Elt F)) (y : S256x128.Idx) :
    (quart k).view.read (Elt F) f y = f (show S2x4096x128.Idx from (Rect.unit (s := S2x4096x128) ![0, 256 * k.val, 0] S1x256x128.size (quart_inb k)).emb (Fin.cons ⟨0, Nat.one_pos⟩ y)) := by
  have h1 : (quart k).view.read (Elt F) f y = f (show S2x4096x128.Idx from (Rect.unit (s := S2x4096x128) ![0, 256 * k.val, 0] S1x256x128.size (quart_inb k)).emb (Shape.reshapeEquiv squeezes_S1x256x128_S256x128.numel_eq y)) := rfl
  rw [h1, Shape.reshapeEquiv_cons_one]

theorem landM_eq (s b : Fin 2) (k : Fin 4) : ∀ x ∈ (part s k).view.set, landM (F := F) c fm s b k x = chM c fm b x := by
  refine eq_on_of_read _ _ _ ?_
  rw [View.read_writes_whole]
  funext y
  refine Eq.trans ?_ (read_part (F := F) s k (chM c fm b) y).symm
  show fm _ = fm _
  refine congrArg fm (funext fun a => Fin.ext ?_)
  match a with
  | ⟨0, _⟩ => show 4096 * b.val + 1024 * k.val + 1 * (y 0).val = 4096 * b.val + (1024 * k.val + 1 * (y 0).val); omega
  | ⟨1, _⟩ => rfl

theorem landL_eq (s : Fin 2) (b : Fin 16) (k : Fin 4) : ∀ x ∈ (part s k).view.set, landL (F := F) c fl s b k x = chL c fl b x := by
  refine eq_on_of_read _ _ _ ?_
  rw [View.read_writes_whole]
  funext y
  refine Eq.trans ?_ (read_part (F := F) s k (chL c fl b) y).symm
  show fl _ = fl _
  refine congrArg fl (funext fun a => Fin.ext ?_)
  match a with
  | ⟨0, _⟩ => show 4096 * b.val + 1024 * k.val + 1 * (y 0).val = 4096 * b.val + (1024 * k.val + 1 * (y 0).val); omega
  | ⟨1, _⟩ => rfl

theorem landS_eq (k : Fin 4) : ∀ x ∈ (quart k).view.set, landS (F := F) c fs k x = chS c fs x := by
  refine eq_on_of_read _ _ _ ?_
  rw [View.read_writes_whole]
  funext y
  refine Eq.trans ?_ (read_quart (F := F) k (chS c fs) y).symm
  show fs _ = fs _
  have hy : (y 0).val < 256 := (y 0).isLt
  have hk := k.isLt
  refine congrArg fs (funext fun a => Fin.ext ?_)
  match a with
  | ⟨0, _⟩ => show 256 * k.val + 1 * (y 0).val = (256 * k.val + 1 * (y 0).val) % 1024; omega
  | ⟨1, _⟩ => rfl

/-! ## The pieces -/

/-- One read share of an array for each slot and part. -/
def qs (s : Fin 2) (k : Fin 4) : PosShare TreeShare :=
  match s, k with
  | 0, 0 => fullShare.left | 0, 1 => fullShare.right.left | 0, 2 => fullShare.right.right.left | 0, 3 => fullShare.right.right.right.left
  | 1, 0 => fullShare.right.right.right.right.left | 1, 1 => fullShare.right.right.right.right.right.left
  | 1, 2 => fullShare.right.right.right.right.right.right.left | 1, 3 => fullShare.right.right.right.right.right.right.right

/-- An array's four shares of a slot. -/
def lend (ℓ : Loc nD τ sig) (f : Buf (Elt F) ℓ) (s : Fin 2) : sProp 𝕄 :=
  iprop((ℓ ↦[Finset.univ]{qs s 0} f) ∗ (ℓ ↦[Finset.univ]{qs s 1} f) ∗ (ℓ ↦[Finset.univ]{qs s 2} f) ∗ ℓ ↦[Finset.univ]{qs s 3} f)

theorem lend_all (ℓ : Loc nD τ sig) (f : Buf (Elt F) ℓ) : (ℓ ↦[Finset.univ]{fullShare} f : sProp 𝕄) ⊣⊢ iprop(lend ℓ f 0 ∗ lend ℓ f 1) := by
  unfold lend
  refine ⟨?_, ?_⟩
  · iintro H
    ihave G := (pointsTo_share (PosShare.mem_left_op_right fullShare)).1 $$ H; icases G with ⟨H0, H⟩
    ihave G := (pointsTo_share (PosShare.mem_left_op_right fullShare.right)).1 $$ H; icases G with ⟨H1, H⟩
    ihave G := (pointsTo_share (PosShare.mem_left_op_right fullShare.right.right)).1 $$ H; icases G with ⟨H2, H⟩
    ihave G := (pointsTo_share (PosShare.mem_left_op_right fullShare.right.right.right)).1 $$ H; icases G with ⟨H3, H⟩
    ihave G := (pointsTo_share (PosShare.mem_left_op_right fullShare.right.right.right.right)).1 $$ H; icases G with ⟨H4, H⟩
    ihave G := (pointsTo_share (PosShare.mem_left_op_right fullShare.right.right.right.right.right)).1 $$ H; icases G with ⟨H5, H⟩
    ihave G := (pointsTo_share (PosShare.mem_left_op_right fullShare.right.right.right.right.right.right)).1 $$ H; icases G with ⟨H6, H7⟩
    isplitl [H0 H1 H2 H3]
    · isplitl [H0]; · iexact H0
      isplitl [H1]; · iexact H1
      isplitl [H2]; · iexact H2
      iexact H3
    isplitl [H4]; · iexact H4
    isplitl [H5]; · iexact H5
    isplitl [H6]; · iexact H6
    iexact H7
  · iintro ⟨⟨H0, H1, H2, H3⟩, H4, H5, H6, H7⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iapply (pointsTo_share (PosShare.mem_left_op_right fullShare.right.right.right.right.right)).2
    isplitl [H5]; · iexact H5
    iapply (pointsTo_share (PosShare.mem_left_op_right fullShare.right.right.right.right.right.right)).2
    isplitl [H6]; · iexact H6
    iexact H7

abbrev partP (s : Fin 2) (k : Fin 4) (f : Buf (Elt F) ((c : Thread nD τ).loc cc1_scratch1)) : sProp 𝕄 := (part s k).view.loc (c : Thread nD τ) ↦[(part s k).view.set]{fullShare} f
abbrev quartP (k : Fin 4) (f : Buf (Elt F) ((c : Thread nD τ).loc cc1_scratch1)) : sProp 𝕄 := (quart k).view.loc (c : Thread nD τ) ↦[(quart k).view.set]{fullShare} f
abbrev slotP (s : Fin 2) (f : Buf (Elt F) ((c : Thread nD τ).loc cc1_scratch1)) : sProp 𝕄 := (slotM s).view.loc (c : Thread nD τ) ↦[(slotM s).view.set]{fullShare} f
abbrev cellP (s : Fin 2) : sProp 𝕄 := semVal ((c : Thread nD τ), cellR s) 0
abbrev srcSP (k : Fin 4) : sProp 𝕄 := (sSrc k).view.loc (c : Thread nD τ) ↦[(sSrc k).view.set]{qs 0 k} fs
abbrev srcMP (s b : Fin 2) (k : Fin 4) : sProp 𝕄 := (mSrc b k).view.loc (c : Thread nD τ) ↦[(mSrc b k).view.set]{qs s k} fm
abbrev srcLP (s : Fin 2) (b : Fin 16) (k : Fin 4) : sProp 𝕄 := (lSrc b k).view.loc (c : Thread nD τ) ↦[(lSrc b k).view.set]{qs s k} fl
def restSP (k : Fin 4) : sProp 𝕄 := ((c : Thread nD τ).loc main_v12) ↦[Finset.univ \ (sSrc k).view.set]{qs 0 k} fs
def restMP (s b : Fin 2) (k : Fin 4) : sProp 𝕄 := ((c : Thread nD τ).loc main_arg2) ↦[Finset.univ \ (mSrc b k).view.set]{qs s k} fm
def restLP (s : Fin 2) (b : Fin 16) (k : Fin 4) : sProp 𝕄 := ((c : Thread nD τ).loc main_arg3) ↦[Finset.univ \ (lSrc b k).view.set]{qs s k} fl

theorem srcS_split (k : Fin 4) : (((c : Thread nD τ).loc main_v12) ↦[Finset.univ]{qs 0 k} fs : sProp 𝕄) ⊣⊢ iprop(srcSP c fs k ∗ restSP c fs k) := by
  unfold restSP; exact pointsTo_split_subset (Finset.subset_univ _)
theorem srcM_split (s b : Fin 2) (k : Fin 4) : (((c : Thread nD τ).loc main_arg2) ↦[Finset.univ]{qs s k} fm : sProp 𝕄) ⊣⊢ iprop(srcMP c fm s b k ∗ restMP c fm s b k) := by
  unfold restMP; exact pointsTo_split_subset (Finset.subset_univ _)
theorem srcL_split (s : Fin 2) (b : Fin 16) (k : Fin 4) : (((c : Thread nD τ).loc main_arg3) ↦[Finset.univ]{qs s k} fl : sProp 𝕄) ⊣⊢ iprop(srcLP c fl s b k ∗ restLP c fl s b k) := by
  unfold restLP; exact pointsTo_split_subset (Finset.subset_univ _)

/-- The four rests of a block's transfers, -/
def restsS : sProp 𝕄 := iprop(restSP c fs 0 ∗ restSP c fs 1 ∗ restSP c fs 2 ∗ restSP c fs 3)
def restsM (s b : Fin 2) : sProp 𝕄 := iprop(restMP c fm s b 0 ∗ restMP c fm s b 1 ∗ restMP c fm s b 2 ∗ restMP c fm s b 3)
def restsL (s : Fin 2) (b : Fin 16) : sProp 𝕄 := iprop(restLP c fl s b 0 ∗ restLP c fl s b 1 ∗ restLP c fl s b 2 ∗ restLP c fl s b 3)
theorem lendS_split : lend ((c : Thread nD τ).loc main_v12) fs 0 ⊣⊢ (iprop((srcSP c fs 0 ∗ srcSP c fs 1 ∗ srcSP c fs 2 ∗ srcSP c fs 3) ∗ restsS c fs) : sProp 𝕄) := by
  unfold lend restsS
  refine ⟨?_, ?_⟩
  · iintro ⟨H0, H1, H2, H3⟩
    ihave G := (srcS_split c fs 0).1 $$ H0; icases G with ⟨A0, B0⟩
    ihave G := (srcS_split c fs 1).1 $$ H1; icases G with ⟨A1, B1⟩
    ihave G := (srcS_split c fs 2).1 $$ H2; icases G with ⟨A2, B2⟩
    ihave G := (srcS_split c fs 3).1 $$ H3; icases G with ⟨A3, B3⟩
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  · iintro ⟨⟨A0, A1, A2, A3⟩, B0, B1, B2, B3⟩
    isplitl [A0 B0]; · iapply (srcS_split c fs 0).2; isplitl [A0]; · iexact A0
                       iexact B0
    isplitl [A1 B1]; · iapply (srcS_split c fs 1).2; isplitl [A1]; · iexact A1
                       iexact B1
    isplitl [A2 B2]; · iapply (srcS_split c fs 2).2; isplitl [A2]; · iexact A2
                       iexact B2
    iapply (srcS_split c fs 3).2; isplitl [A3]; · iexact A3
    iexact B3
theorem lendM_split (s b : Fin 2) : lend ((c : Thread nD τ).loc main_arg2) fm s ⊣⊢ (iprop((srcMP c fm s b 0 ∗ srcMP c fm s b 1 ∗ srcMP c fm s b 2 ∗ srcMP c fm s b 3) ∗ restsM c fm s b) : sProp 𝕄) := by
  unfold lend restsM
  refine ⟨?_, ?_⟩
  · iintro ⟨H0, H1, H2, H3⟩
    ihave G := (srcM_split c fm s b 0).1 $$ H0; icases G with ⟨A0, B0⟩
    ihave G := (srcM_split c fm s b 1).1 $$ H1; icases G with ⟨A1, B1⟩
    ihave G := (srcM_split c fm s b 2).1 $$ H2; icases G with ⟨A2, B2⟩
    ihave G := (srcM_split c fm s b 3).1 $$ H3; icases G with ⟨A3, B3⟩
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  · iintro ⟨⟨A0, A1, A2, A3⟩, B0, B1, B2, B3⟩
    isplitl [A0 B0]; · iapply (srcM_split c fm s b 0).2; isplitl [A0]; · iexact A0
                       iexact B0
    isplitl [A1 B1]; · iapply (srcM_split c fm s b 1).2; isplitl [A1]; · iexact A1
                       iexact B1
    isplitl [A2 B2]; · iapply (srcM_split c fm s b 2).2; isplitl [A2]; · iexact A2
                       iexact B2
    iapply (srcM_split c fm s b 3).2; isplitl [A3]; · iexact A3
    iexact B3
theorem lendL_split (s : Fin 2) (b : Fin 16) : lend ((c : Thread nD τ).loc main_arg3) fl s ⊣⊢ (iprop((srcLP c fl s b 0 ∗ srcLP c fl s b 1 ∗ srcLP c fl s b 2 ∗ srcLP c fl s b 3) ∗ restsL c fl s b) : sProp 𝕄) := by
  unfold lend restsL
  refine ⟨?_, ?_⟩
  · iintro ⟨H0, H1, H2, H3⟩
    ihave G := (srcL_split c fl s b 0).1 $$ H0; icases G with ⟨A0, B0⟩
    ihave G := (srcL_split c fl s b 1).1 $$ H1; icases G with ⟨A1, B1⟩
    ihave G := (srcL_split c fl s b 2).1 $$ H2; icases G with ⟨A2, B2⟩
    ihave G := (srcL_split c fl s b 3).1 $$ H3; icases G with ⟨A3, B3⟩
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  · iintro ⟨⟨A0, A1, A2, A3⟩, B0, B1, B2, B3⟩
    isplitl [A0 B0]; · iapply (srcL_split c fl s b 0).2; isplitl [A0]; · iexact A0
                       iexact B0
    isplitl [A1 B1]; · iapply (srcL_split c fl s b 1).2; isplitl [A1]; · iexact A1
                       iexact B1
    isplitl [A2 B2]; · iapply (srcL_split c fl s b 2).2; isplitl [A2]; · iexact A2
                       iexact B2
    iapply (srcL_split c fl s b 3).2; isplitl [A3]; · iexact A3
    iexact B3

/-- A slot is its four parts, -/
theorem slot_split (s : Fin 2) (f : Buf (Elt F) ((c : Thread nD τ).loc cc1_scratch1)) :
    slotP c s f ⊣⊢ (iprop(partP c s 0 f ∗ partP c s 1 f ∗ partP c s 2 f ∗ partP c s 3 f) : sProp 𝕄) := by
  obtain ⟨h0, h1, h2⟩ := disj4 (A := partSet s) fun _ _ => parts_disjoint
  unfold slotP partP
  rw [slotM_set]; unfold slotSet
  rw [part_set, part_set, part_set, part_set]
  refine (pointsTo_union h0).trans (sep_congr .rfl ((pointsTo_union h1).trans (sep_congr .rfl (pointsTo_union h2))))
/-- and slot 0's first part its four quarters. -/
theorem part_split (f : Buf (Elt F) ((c : Thread nD τ).loc cc1_scratch1)) :
    partP c 0 0 f ⊣⊢ (iprop(quartP c 0 f ∗ quartP c 1 f ∗ quartP c 2 f ∗ quartP c 3 f) : sProp 𝕄) := by
  obtain ⟨h0, h1, h2⟩ := disj4 (A := quartSet) fun _ _ => quarts_disjoint
  unfold partP quartP
  rw [part_set, partSet_0_0, quart_set, quart_set, quart_set, quart_set]
  refine (pointsTo_union h0).trans (sep_congr .rfl ((pointsTo_union h1).trans (sep_congr .rfl (pointsTo_union h2))))

/-- The parts as a chunk's transfers leave them are the slot at the chunk. -/
theorem slotM_join (s b : Fin 2) : (iprop(partP c s 0 (landM c fm s b 0) ∗ partP c s 1 (landM c fm s b 1) ∗ partP c s 2 (landM c fm s b 2) ∗ partP c s 3 (landM c fm s b 3)) : sProp 𝕄) ⊢ slotP c s (chM c fm b) := by
  unfold partP
  rw [pointsTo_congr (landM_eq c fm s b 0), pointsTo_congr (landM_eq c fm s b 1), pointsTo_congr (landM_eq c fm s b 2), pointsTo_congr (landM_eq c fm s b 3)]
  exact (slot_split c s _).2
theorem slotL_join (s : Fin 2) (b : Fin 16) : (iprop(partP c s 0 (landL c fl s b 0) ∗ partP c s 1 (landL c fl s b 1) ∗ partP c s 2 (landL c fl s b 2) ∗ partP c s 3 (landL c fl s b 3)) : sProp 𝕄) ⊢ slotP c s (chL c fl b) := by
  unfold partP
  rw [pointsTo_congr (landL_eq c fl s b 0), pointsTo_congr (landL_eq c fl s b 1), pointsTo_congr (landL_eq c fl s b 2), pointsTo_congr (landL_eq c fl s b 3)]
  exact (slot_split c s _).2
theorem partS_join : (iprop(quartP c 0 (landS c fs 0) ∗ quartP c 1 (landS c fs 1) ∗ quartP c 2 (landS c fs 2) ∗ quartP c 3 (landS c fs 3)) : sProp 𝕄) ⊢ partP c 0 0 (chS c fs) := by
  unfold quartP
  rw [pointsTo_congr (landS_eq c fs 0), pointsTo_congr (landS_eq c fs 1), pointsTo_congr (landS_eq c fs 2), pointsTo_congr (landS_eq c fs 3)]
  exact (part_split c _).2
/-- A part at one contents and the others at another are the slot at something. -/
theorem slot_glue (f g : Buf (Elt F) ((c : Thread nD τ).loc cc1_scratch1)) : (iprop(partP c 0 0 f ∗ partP c 0 1 g ∗ partP c 0 2 g ∗ partP c 0 3 g) : sProp 𝕄) ⊢ iprop(∃ h, slotP c 0 h) := by
  obtain ⟨h0, h1, h2⟩ := disj4 (A := partSet 0) fun _ _ => parts_disjoint
  unfold slotP partP
  rw [slotM_set]; unfold slotSet
  rw [part_set, part_set, part_set, part_set]
  refine (sep_mono .rfl ((sep_mono .rfl (pointsTo_union h2).2).trans (pointsTo_union h1).2)).trans ((pointsTo_join h0).trans ?_)
  iintro H; iexists _; iexact H

/-! ## The deliveries -/

abbrev dS : Fin 4 → sProp 𝕄 := ![iprop(quartP c 0 (landS c fs 0) ∗ srcSP c fs 0), iprop(quartP c 1 (landS c fs 1) ∗ srcSP c fs 1), iprop(quartP c 2 (landS c fs 2) ∗ srcSP c fs 2), iprop(quartP c 3 (landS c fs 3) ∗ srcSP c fs 3)]
abbrev dM (s b : Fin 2) : Fin 4 → sProp 𝕄 := ![iprop(partP c s 0 (landM c fm s b 0) ∗ srcMP c fm s b 0), iprop(partP c s 1 (landM c fm s b 1) ∗ srcMP c fm s b 1), iprop(partP c s 2 (landM c fm s b 2) ∗ srcMP c fm s b 2), iprop(partP c s 3 (landM c fm s b 3) ∗ srcMP c fm s b 3)]
abbrev dL (s : Fin 2) (b : Fin 16) : Fin 4 → sProp 𝕄 := ![iprop(partP c s 0 (landL c fl s b 0) ∗ srcLP c fl s b 0), iprop(partP c s 1 (landL c fl s b 1) ∗ srcLP c fl s b 1), iprop(partP c s 2 (landL c fl s b 2) ∗ srcLP c fl s b 2), iprop(partP c s 3 (landL c fl s b 3) ∗ srcLP c fl s b 3)]
abbrev nS : ℕ := (quart 0).view.amount (cellR 0)
abbrev nP : ℕ := (part 0 0).view.amount (cellR 0)

theorem storable_pt {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
theorem storable_dS : ∀ w, Storable (upEmb : UEmb _ 𝕄) (dS (F := F) c fs w) := by
  intro w; fin_cases w <;> exact @Storable.sep _ _ _ _ _ _ _ _ (storable_pt _ _ _ _) (storable_pt _ _ _ _)
theorem storable_dM (s b : Fin 2) : ∀ w, Storable (upEmb : UEmb _ 𝕄) (dM (F := F) c fm s b w) := by
  intro w; fin_cases w <;> exact @Storable.sep _ _ _ _ _ _ _ _ (storable_pt _ _ _ _) (storable_pt _ _ _ _)
theorem storable_dL (s : Fin 2) (b : Fin 16) : ∀ w, Storable (upEmb : UEmb _ 𝕄) (dL (F := F) c fl s b w) := by
  intro w; fin_cases w <;> exact @Storable.sep _ _ _ _ _ _ _ _ (storable_pt _ _ _ _) (storable_pt _ _ _ _)

/-! ## A slot free, and in flight -/

abbrev lendS (s : Fin 2) : sProp 𝕄 := lend ((c : Thread nD τ).loc main_v12) fs s
abbrev lendM (s : Fin 2) : sProp 𝕄 := lend ((c : Thread nD τ).loc main_arg2) fm s
abbrev lendL (s : Fin 2) : sProp 𝕄 := lend ((c : Thread nD τ).loc main_arg3) fl s

def free (s : Fin 2) : sProp 𝕄 := iprop(cellP c s ∗ (∃ f, slotP c s f) ∗ lendS c fs s ∗ lendM c fm s ∗ lendL c fl s)
def flyM (s b : Fin 2) : sProp 𝕄 :=
  iprop(Transfers.Batch countersEmb (c : Thread nD τ) (cellR s) default nP (dM c fm s b) 4 0 ∗ restsM c fm s b ∗ lendS c fs s ∗ lendL c fl s)
def flyL (s : Fin 2) (b : Fin 16) : sProp 𝕄 :=
  iprop(Transfers.Batch countersEmb (c : Thread nD τ) (cellR s) default nP (dL c fl s b) 4 0 ∗ restsL c fl s b ∗ lendS c fs s ∗ lendM c fm s)
end Chunk

end Cert.Proof.Attn

end
-- ==== Proof.Attn.State.lean ====
/-
  What the attention call's scratches hold after each chunk, as vectors: the row sums and the weighted rows after a
  chunk, a chunk's block of weights, and the reads and writes of a block of the two long scratches.
-/
module

public import proofs.«01_k».proof.Proof.Attn.Ring
public import Idealize.ShloMosaic.Lib.VecWindow

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

abbrev word0 (i : grid1.Coords) : BitVec 1 := Scalar.cmpi CmpIPredicate.ne (Scalar.extui (Scalar.cmpi CmpIPredicate.eq (BitVec.ofNat 32 (i 1).val) 0#32) : BitVec 32) 0#32
theorem word0_iff : ∀ i : grid1.Coords, word0 i = 1#1 ↔ (i 1).val = 0 := by decide +kernel
abbrev wordP (i : grid1.Coords) : BitVec 1 := Scalar.cmpi CmpIPredicate.ne (Scalar.extui (Scalar.cmpi CmpIPredicate.eq (BitVec.ofNat 32 (i 0).val) 0#32) : BitVec 32) 0#32
theorem wordP_iff : ∀ i : grid1.Coords, wordP i = 1#1 ↔ (i 0).val = 0 := by decide +kernel

theorem off36_eq : ∀ i : grid1.Coords, k1_off36 i = ![(sl (i 1).val).val, 0, 0] := by decide +kernel
theorem off38_eq : ∀ i : grid1.Coords, k1_off38 i = ![(sl (i 1).val).val, 2048, 0] := by decide +kernel
theorem off41_eq : ∀ i : grid1.Coords, k1_off41 i = ![(sl (i 1).val).val, 0, 0] := by decide +kernel
theorem off43_eq : ∀ i : grid1.Coords, k1_off43 i = ![(sl (i 1).val).val, 2048, 0] := by decide +kernel
theorem access_slot36 (i : grid1.Coords) (hh) : (bM.access (Rect.unit (s := S2x4096x128) (k1_off36 i) S1x2048x128.size hh)).set ⊆ (slotM (sl (i 1).val)).view.set :=
  access_sub (n := 2048) _ (by rw [off36_eq]; rfl) hh
theorem access_slot38 (i : grid1.Coords) (hh) : (bM.access (Rect.unit (s := S2x4096x128) (k1_off38 i) S1x2048x128.size hh)).set ⊆ (slotM (sl (i 1).val)).view.set :=
  access_sub (n := 2048) _ (by rw [off38_eq]; rfl) hh
theorem access_slot41 (i : grid1.Coords) (hh) : (bM.access (Rect.unit (s := S2x4096x128) (k1_off41 i) S1x2048x128.size hh)).set ⊆ (slotM (sl (i 1).val)).view.set :=
  access_sub (n := 2048) _ (by rw [off41_eq]; rfl) hh
theorem access_slot43 (i : grid1.Coords) (hh) : (bM.access (Rect.unit (s := S2x4096x128) (k1_off43 i) S1x2048x128.size hh)).set ⊆ (slotM (sl (i 1).val)).view.set :=
  access_sub (n := 2048) _ (by rw [off43_eq]; rfl) hh

/-- A scratch held whole. -/
abbrev W (c : Dev nD) {sp : Space} {s : Shape} {e : EltTy} (M : Memref sig .tc sp s e) (f : M.view.ty.Contents (Elt F)) : sProp 𝕄 := M.view.loc (c : Thread nD τ) ↦[M.view.set]{fullShare} f

/-! ## Reads of whole scratches and of halves of a chunk -/

/-- The first and the second half of the rows of `x`. -/
def qA (Q : qM.view.ty.Contents (Elt F)) : Vec F S256x128 .bf16 := View.readAt (Elt F) qM.view (Rect.unit (s := S512x128) ![0, 0] S256x128.size inb_S512x128_S256x128_0_0).toLoadRect Q
def qB (Q : qM.view.ty.Contents (Elt F)) : Vec F S256x128 .bf16 := View.readAt (Elt F) qM.view (Rect.unit (s := S512x128) ![256, 0] S256x128.size inb_S512x128_S256x128_256_0).toLoadRect Q

section Halves
variable (c : Dev nD) (fs : Buf (Elt F) ((c : Thread nD τ).loc main_v12)) (fm : Buf (Elt F) ((c : Thread nD τ).loc main_arg2)) (fl : Buf (Elt F) ((c : Thread nD τ).loc main_arg3))

/-- The rows of chunk 0, and half `r` of the rows of a block of each memory. -/
def vS : Vec F S1x1024x128 .f32 := fun y : S1x1024x128.Idx => fs (rowS (y 1) (y 2))
def hM (b : Fin 2) (r : Fin 2) : Vec F S1x2048x128 .f32 := fun y : S1x2048x128.Idx =>
  fm (rowM ⟨4096 * b.val + (2048 * r.val + (y 1).val), by have := b.isLt; have := r.isLt; have : (y 1).val < 2048 := (y 1).isLt; omega⟩ (y 2))
def hL (b : Fin 16) (r : Fin 2) : Vec F S1x2048x128 .f32 := fun y : S1x2048x128.Idx =>
  fl (rowL ⟨4096 * b.val + (2048 * r.val + (y 1).val), by have := b.isLt; have := r.isLt; have : (y 1).val < 2048 := (y 1).isLt; omega⟩ (y 2))

theorem read_S (inb : ∀ a, (![0, 0, 0] : Fin 3 → ℕ) a + S1x1024x128.size a ≤ S2x4096x128.size a) :
    View.readAt (Elt F) bM.view (Rect.unit (s := S2x4096x128) ![0, 0, 0] S1x1024x128.size inb).toLoadRect (chS c fs) = vS c fs := by
  funext y
  have h1 : (y 1).val < 1024 := (y 1).isLt
  show fs (rowS ⟨(0 + 1 * (y 1).val) % 1024, _⟩ ⟨0 + 1 * (y 2).val, _⟩) = fs (rowS (y 1) (y 2))
  congr 2
  · exact Fin.ext (show (0 + 1 * (y 1).val) % 1024 = (y 1).val by omega)
  · exact Fin.ext (show 0 + 1 * (y 2).val = (y 2).val by omega)
theorem read_M {off : Fin 3 → ℕ} (s : Fin 2) (b r : Fin 2) (h : off = ![s.val, 2048 * r.val, 0]) (inb : ∀ a, off a + S1x2048x128.size a ≤ S2x4096x128.size a) :
    View.readAt (Elt F) bM.view (Rect.unit (s := S2x4096x128) off S1x2048x128.size inb).toLoadRect (chM c fm b) = hM c fm b r := by
  subst h
  funext y
  show fm (rowM ⟨4096 * b.val + (2048 * r.val + 1 * (y 1).val), _⟩ ⟨0 + 1 * (y 2).val, _⟩) = fm (rowM ⟨4096 * b.val + (2048 * r.val + (y 1).val), _⟩ (y 2))
  congr 2
  · exact Fin.ext (show 4096 * b.val + (2048 * r.val + 1 * (y 1).val) = 4096 * b.val + (2048 * r.val + (y 1).val) by omega)
  · exact Fin.ext (show 0 + 1 * (y 2).val = (y 2).val by omega)
theorem read_L {off : Fin 3 → ℕ} (s : Fin 2) (b : Fin 16) (r : Fin 2) (h : off = ![s.val, 2048 * r.val, 0]) (inb : ∀ a, off a + S1x2048x128.size a ≤ S2x4096x128.size a) :
    View.readAt (Elt F) bM.view (Rect.unit (s := S2x4096x128) off S1x2048x128.size inb).toLoadRect (chL c fl b) = hL c fl b r := by
  subst h
  funext y
  show fl (rowL ⟨4096 * b.val + (2048 * r.val + 1 * (y 1).val), _⟩ ⟨0 + 1 * (y 2).val, _⟩) = fl (rowL ⟨4096 * b.val + (2048 * r.val + (y 1).val), _⟩ (y 2))
  congr 2
  · exact Fin.ext (show 4096 * b.val + (2048 * r.val + 1 * (y 1).val) = 4096 * b.val + (2048 * r.val + (y 1).val) by omega)
  · exact Fin.ext (show 0 + 1 * (y 2).val = (y 2).val by omega)
end Halves

/-- The sums, the weighted rows, the window's numerators: the scratch's contents. -/
def zV (Z : zM.view.ty.Contents (Elt F)) : Vec F S256x1 .f32 := View.readAt (Elt F) zM.view (Rect.unit (s := S256x1) ![0, 0] S256x1.size inb_S256x1_S256x1_0_0).toLoadRect Z
def oV (O : oM.view.ty.Contents (Elt F)) : Vec F S256x128 .f32 := View.readAt (Elt F) oM.view (Rect.unit (s := S256x128) ![0, 0] S256x128.size inb_S256x128_S256x128_0_0).toLoadRect O
def wV (w : wM.view.ty.Contents (Elt F)) : Vec F S8x256 .f32 := View.readAt (Elt F) wM.view (Rect.unit (s := S8x256) ![0, 0] S8x256.size inb_S8x256_S8x256_0_0).toLoadRect w
theorem zV_writes (Z : zM.view.ty.Contents (Elt F)) (inb) (w) (L) : zV (View.writes zM.view (Elt F) Z (⟨Rect.unit (s := S256x1) ![0, 0] S256x1.size inb, w⟩ :: L)) = w := View.readAt_writes_full _ _ _ _ _ _
theorem oV_writes (O : oM.view.ty.Contents (Elt F)) (inb) (w) (L) : oV (View.writes oM.view (Elt F) O (⟨Rect.unit (s := S256x128) ![0, 0] S256x128.size inb, w⟩ :: L)) = w := View.readAt_writes_full _ _ _ _ _ _
theorem wV_writes (O : wM.view.ty.Contents (Elt F)) (inb) (w) (L) : wV (View.writes wM.view (Elt F) O (⟨Rect.unit (s := S8x256) ![0, 0] S8x256.size inb, w⟩ :: L)) = w := View.readAt_writes_full _ _ _ _ _ _

/-! ## A chunk's effect -/

def zS (q : Vec F S256x128 .bf16) (v : Vec F S1x1024x128 .f32) : Vec F S256x1 .f32 := k1_pay5 q v k1_pay2
def oS (q : Vec F S256x128 .bf16) (v : Vec F S1x1024x128 .f32) : Vec F S256x128 .f32 := k1_pay8 q v k1_pay1
def zStep (q : Vec F S256x128 .bf16) (h0 h1 : Vec F S1x2048x128 .f32) (z : Vec F S256x1 .f32) : Vec F S256x1 .f32 := k1_pay10 (k1_pay35 q h0) (k1_pay41 q h1) z
def oStep (q : Vec F S256x128 .bf16) (h0 h1 : Vec F S1x2048x128 .f32) (o : Vec F S256x128 .f32) : Vec F S256x128 .f32 := k1_pay11 (k1_pay38 q h0) (k1_pay39 h1) (k1_pay42 q h1) o
theorem zS' (q : Vec F S256x128 .bf16) (v : Vec F S1x1024x128 .f32) : k1_pay20 q v k1_pay16 = zS q v := rfl
theorem oS' (q : Vec F S256x128 .bf16) (v : Vec F S1x1024x128 .f32) : k1_pay23 q v k1_pay15 = oS q v := rfl
theorem zStep' (q : Vec F S256x128 .bf16) (h0 h1 : Vec F S1x2048x128 .f32) (z : Vec F S256x1 .f32) : k1_pay25 (k1_pay45 q h0) (k1_pay51 q h1) z = zStep q h0 h1 z := rfl
theorem oStep' (q : Vec F S256x128 .bf16) (h0 h1 : Vec F S1x2048x128 .f32) (o : Vec F S256x128 .f32) : k1_pay26 (k1_pay48 q h0) (k1_pay49 h1) (k1_pay52 q h1) o = oStep q h0 h1 o := rfl

def ixE (a : Fin 256) (b : Fin 4096) : S256x4096.Idx := fun | 0 => a | 1 => b
def ixH (a : Fin 256) (b : Fin 2048) : S256x2048.Idx := fun | 0 => a | 1 => b
/-- A chunk's block of weights. -/
def eB (q : Vec F S256x128 .bf16) (h0 h1 : Vec F S1x2048x128 .f32) : Vec F S256x4096 .bf16 := fun x : S256x4096.Idx =>
  if h : (x 1).val < 2048 then k1_pay37 q h0 (ixH (x 0) ⟨(x 1).val, h⟩) else k1_pay9 (k1_pay42 q h1) (ixH (x 0) ⟨(x 1).val - 2048, by have : (x 1).val < 4096 := (x 1).isLt; omega⟩)
theorem eA' (q : Vec F S256x128 .bf16) (h0 : Vec F S1x2048x128 .f32) : k1_pay47 q h0 = k1_pay37 q h0 := rfl
theorem eB' (q : Vec F S256x128 .bf16) (h0 : Vec F S1x2048x128 .f32) : k1_pay24 (k1_pay52 q h0) = k1_pay9 (k1_pay42 q h0) := rfl

theorem blk_inb (j : Fin 19) : ∀ a, (![0, 4096 * j.val] : Fin 2 → ℕ) a + S256x4096.size a ≤ S256x77824.size a := by
  have := j.isLt; intro a; fin_cases a <;> simp [S256x4096, S256x77824] <;> omega
theorem ublk_inb (j : Fin 19) : ∀ a, (![0, 4096 * j.val] : Fin 2 → ℕ) a + S8x4096.size a ≤ S8x77824.size a := by
  have := j.isLt; intro a; fin_cases a <;> simp [S8x4096, S8x77824] <;> omega
/-- Block `j` of the weights and of the sums of weights. -/
def eBlk (E : eM.view.ty.Contents (Elt F)) (j : Fin 19) : Vec F S256x4096 .bf16 := View.readAt (Elt F) eM.view (Rect.unit (s := S256x77824) ![0, 4096 * j.val] S256x4096.size (blk_inb j)).toLoadRect E
def uBlk (U : uM.view.ty.Contents (Elt F)) (j : Fin 19) : Vec F S8x4096 .f32 := View.readAt (Elt F) uM.view (Rect.unit (s := S8x77824) ![0, 4096 * j.val] S8x4096.size (ublk_inb j)).toLoadRect U
theorem eBlk_of {off : Fin 2 → ℕ} (E : eM.view.ty.Contents (Elt F)) (j : Fin 19) (h : off = ![0, 4096 * j.val]) (inb) :
    View.readAt (Elt F) eM.view (Rect.unit (s := S256x77824) off S256x4096.size inb).toLoadRect E = eBlk E j := by subst h; rfl
theorem uBlk_of {off : Fin 2 → ℕ} (U : uM.view.ty.Contents (Elt F)) (j : Fin 19) (h : off = ![0, 4096 * j.val]) (inb) :
    View.readAt (Elt F) uM.view (Rect.unit (s := S8x77824) off S8x4096.size inb).toLoadRect U = uBlk U j := by subst h; rfl

/-- Writing the two halves of block `g` sets block `g`. -/
theorem eBlk_writes (E : eM.view.ty.Contents (Elt F)) (g : Fin 19) {o0 o1 : Fin 2 → ℕ} (h0 : o0 = ![0, 4096 * g.val]) (h1 : o1 = ![0, 4096 * g.val + 2048]) (i0 i1) (w0 w1 : Vec F S256x2048 .bf16) (x : S256x4096.Idx) :
    eBlk (View.writes eM.view (Elt F) E [⟨Rect.unit (s := S256x77824) o1 S256x2048.size i1, w1⟩, ⟨Rect.unit (s := S256x77824) o0 S256x2048.size i0, w0⟩]) g x
      = if h : (x 1).val < 2048 then w0 (ixH (x 0) ⟨(x 1).val, h⟩) else w1 (ixH (x 0) ⟨(x 1).val - 2048, by have : (x 1).val < 4096 := (x 1).isLt; omega⟩) := by
  have hx : (x 1).val < 4096 := (x 1).isLt
  unfold eBlk
  rw [View.readAt_apply]
  split
  · next h =>
    rw [View.read_writes_cons_unit_of_not_mem (off' := ![0, 4096 * g.val + 2048]) eM.view E i1 w1 _ _ h1 1 (Or.inl (show 4096 * g.val + 1 * (x 1).val < 4096 * g.val + 2048 by omega))]
    refine View.read_writes_cons_unit_of_mem (off' := ![0, 4096 * g.val]) eM.view E i0 w0 [] _ (ixH (x 0) ⟨(x 1).val, h⟩) h0 fun a => ?_
    match a with
    | ⟨0, _⟩ => show 0 + 1 * (x 0).val = 0 + (x 0).val; omega
    | ⟨1, _⟩ => show 4096 * g.val + 1 * (x 1).val = 4096 * g.val + (x 1).val; omega
  · next h =>
    refine View.read_writes_cons_unit_of_mem (off' := ![0, 4096 * g.val + 2048]) eM.view E i1 w1 _ _ (ixH (x 0) ⟨(x 1).val - 2048, by omega⟩) h1 fun a => ?_
    match a with
    | ⟨0, _⟩ => show 0 + 1 * (x 0).val = 0 + (x 0).val; omega
    | ⟨1, _⟩ => show 4096 * g.val + 1 * (x 1).val = 4096 * g.val + 2048 + ((x 1).val - 2048); omega
/-- A write of columns outside a block leaves it. -/
theorem eBlk_miss (E : eM.view.ty.Contents (Elt F)) (j : Fin 19) {o : Fin 2 → ℕ} {n : ℕ} (o' : ℕ) (h : o = ![0, o']) (hj : 4096 * j.val + 4096 ≤ o' ∨ o' + n ≤ 4096 * j.val) (inb : ∀ a, o a + (![256, n] : Fin 2 → ℕ) a ≤ S256x77824.size a)
    (w : (Rect.unit (s := S256x77824) o ![256, n] inb).shape.Idx → Elt F .bf16) (L) :
    eBlk (View.writes eM.view (Elt F) E (⟨Rect.unit (s := S256x77824) o ![256, n] inb, w⟩ :: L)) j = eBlk (View.writes eM.view (Elt F) E L) j := by
  funext x
  have hx : (x 1).val < 4096 := (x 1).isLt
  exact View.read_writes_cons_unit_of_not_mem (off' := ![0, o']) eM.view E inb w _ _ h 1 (by
    rcases hj with hj | hj
    · exact Or.inl (show 4096 * j.val + 1 * (x 1).val < o' by omega)
    · exact Or.inr (show o' + n ≤ 4096 * j.val + 1 * (x 1).val by omega))
theorem eBlk_hold (E : eM.view.ty.Contents (Elt F)) (g j : Fin 19) (hj : j ≠ g) {o0 o1 : Fin 2 → ℕ} (h0 : o0 = ![0, 4096 * g.val]) (h1 : o1 = ![0, 4096 * g.val + 2048]) (i0 i1) (w0 w1 : Vec F S256x2048 .bf16) :
    eBlk (View.writes eM.view (Elt F) E [⟨Rect.unit (s := S256x77824) o1 S256x2048.size i1, w1⟩, ⟨Rect.unit (s := S256x77824) o0 S256x2048.size i0, w0⟩]) j = eBlk E j := by
  have hne : j.val ≠ g.val := fun h => hj (Fin.ext h)
  exact (eBlk_miss E j (n := 2048) _ h1 (by omega) i1 w1 _).trans (eBlk_miss E j (n := 2048) _ h0 (by omega) i0 w0 _)
theorem uBlk_writes (U : uM.view.ty.Contents (Elt F)) (g : Fin 19) {o : Fin 2 → ℕ} (h : o = ![0, 4096 * g.val]) (inb : ∀ a, o a + S8x4096.size a ≤ S8x77824.size a) (w : Vec F S8x4096 .f32) (x : S8x4096.Idx) :
    uBlk (View.writes uM.view (Elt F) U [⟨Rect.unit (s := S8x77824) o S8x4096.size inb, w⟩]) g x = w x := by
  have hx : (x 1).val < 4096 := (x 1).isLt
  unfold uBlk
  rw [View.readAt_apply]
  refine View.read_writes_cons_unit_of_mem (off' := ![0, 4096 * g.val]) uM.view U inb w [] _ x h fun a => ?_
  match a with
  | ⟨0, _⟩ => show 0 + 1 * (x 0).val = 0 + (x 0).val; omega
  | ⟨1, _⟩ => show 4096 * g.val + 1 * (x 1).val = 4096 * g.val + (x 1).val; omega
theorem uBlk_hold (U : uM.view.ty.Contents (Elt F)) (g j : Fin 19) (hj : j ≠ g) {o : Fin 2 → ℕ} (h : o = ![0, 4096 * g.val]) (inb : ∀ a, o a + S8x4096.size a ≤ S8x77824.size a) (w : Vec F S8x4096 .f32) (x : S8x4096.Idx) :
    uBlk (View.writes uM.view (Elt F) U [⟨Rect.unit (s := S8x77824) o S8x4096.size inb, w⟩]) j x = uBlk U j x := by
  have hne : j.val ≠ g.val := fun h => hj (Fin.ext h)
  have hx : (x 1).val < 4096 := (x 1).isLt
  unfold uBlk
  rw [View.readAt_apply]
  refine View.read_writes_cons_unit_of_not_mem (off' := ![0, 4096 * g.val]) uM.view U inb w _ _ h 1 ?_
  rcases Nat.lt_or_gt_of_ne hne with hj | hj
  · exact Or.inl (show 4096 * j.val + 1 * (x 1).val < 4096 * g.val by omega)
  · exact Or.inr (show 4096 * g.val + 4096 ≤ 4096 * j.val + 1 * (x 1).val by omega)

end Cert.Proof.Attn
end
-- ==== Proof.Attn.Step.lean ====
/-
  The pure part of a point's effect, from the stores it performs.
-/
module

public import proofs.«01_k».proof.Proof.Attn.State

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

/-- The rows of `x`, copied. -/
def cpy (c : Dev nD) (X : Buf (Elt F) ((c : Thread nD τ).loc main_v17)) : Buf (Elt F) ((c : Thread nD τ).loc cc1_scratch0) := fun y : S512x128.Idx => X y

/-- The second coordinate: the chunk. -/
def gI (i : grid1.Coords) : Fin 19 := ⟨(i 1).val, (i 1).isLt⟩

theorem zs_congr {q : Vec F S256x128 .bf16} {a0 a1 h0 h1 : Vec F S1x2048x128 .f32} {z : Vec F S256x1 .f32} (e0 : a0 = h0) (e1 : a1 = h1) :
    k1_pay10 (k1_pay35 q a0) (k1_pay41 q a1) z = zStep q h0 h1 z := by subst e0; subst e1; rfl
theorem os_congr {q : Vec F S256x128 .bf16} {a0 a1 h0 h1 : Vec F S1x2048x128 .f32} {z : Vec F S256x128 .f32} (e0 : a0 = h0) (e1 : a1 = h1) :
    k1_pay11 (k1_pay38 q a0) (k1_pay39 a1) (k1_pay42 q a1) z = oStep q h0 h1 z := by subst e0; subst e1; rfl
theorem w0_congr {q : Vec F S256x128 .bf16} {a0 h0 : Vec F S1x2048x128 .f32} (e0 : a0 = h0) : k1_pay37 q a0 = k1_pay37 q h0 := by subst e0; rfl
theorem w1_congr {q : Vec F S256x128 .bf16} {a0 h0 : Vec F S1x2048x128 .f32} (e0 : a0 = h0) : k1_pay9 (k1_pay42 q a0) = k1_pay9 (k1_pay42 q h0) := by subst e0; rfl
theorem zs_congr' {q : Vec F S256x128 .bf16} {a0 a1 h0 h1 : Vec F S1x2048x128 .f32} {z : Vec F S256x1 .f32} (e0 : a0 = h0) (e1 : a1 = h1) :
    k1_pay25 (k1_pay45 q a0) (k1_pay51 q a1) z = zStep q h0 h1 z := by subst e0; subst e1; rfl
theorem os_congr' {q : Vec F S256x128 .bf16} {a0 a1 h0 h1 : Vec F S1x2048x128 .f32} {z : Vec F S256x128 .f32} (e0 : a0 = h0) (e1 : a1 = h1) :
    k1_pay26 (k1_pay48 q a0) (k1_pay49 a1) (k1_pay52 q a1) z = oStep q h0 h1 z := by subst e0; subst e1; rfl
theorem w0_congr' {q : Vec F S256x128 .bf16} {a0 h0 : Vec F S1x2048x128 .f32} (e0 : a0 = h0) : k1_pay47 q a0 = k1_pay37 q h0 := by subst e0; rfl
theorem w1_congr' {q : Vec F S256x128 .bf16} {a0 h0 : Vec F S1x2048x128 .f32} (e0 : a0 = h0) : k1_pay24 (k1_pay52 q a0) = k1_pay9 (k1_pay42 q h0) := by subst e0; rfl
theorem zz_congr {q q' : Vec F S256x128 .bf16} {a0 h0 : Vec F S1x1024x128 .f32} {z : Vec F S256x1 .f32} (eq : q' = q) (e0 : a0 = h0) (e1 : z = k1_pay2) : k1_pay5 q' a0 z = zS q h0 := by subst eq; subst e0; subst e1; rfl
theorem oo_congr {q q' : Vec F S256x128 .bf16} {a0 h0 : Vec F S1x1024x128 .f32} {z : Vec F S256x128 .f32} (eq : q' = q) (e0 : a0 = h0) (e1 : z = k1_pay1) : k1_pay8 q' a0 z = oS q h0 := by subst eq; subst e0; subst e1; rfl
theorem zz_congr' {q q' : Vec F S256x128 .bf16} {a0 h0 : Vec F S1x1024x128 .f32} {z : Vec F S256x1 .f32} (eq : q' = q) (e0 : a0 = h0) (e1 : z = k1_pay16) : k1_pay20 q' a0 z = zS q h0 := by subst eq; subst e0; subst e1; rfl
theorem oo_congr' {q q' : Vec F S256x128 .bf16} {a0 h0 : Vec F S1x1024x128 .f32} {z : Vec F S256x128 .f32} (eq : q' = q) (e0 : a0 = h0) (e1 : z = k1_pay15) : k1_pay23 q' a0 z = oS q h0 := by subst eq; subst e0; subst e1; rfl

theorem cpy_cov (c : Dev nD) (X : Buf (Elt F) ((c : Thread nD τ).loc main_v17)) (inb : ∀ a, (![0, 0] : Fin 2 → ℕ) a + S256x128.size a ≤ S512x128.size a) :
    qM.view.readCov [(⟨Rect.whole S512x128, xM.view.read (Elt F) X⟩ : View.Piece (Elt F) S512x128 .bf16)] (Rect.unit (s := S512x128) ![0, 0] S256x128.size inb).toLoadRect = qA (cpy c X) := by
  funext y
  unfold qA View.readCov
  rw [View.readAt_apply, View.readAt_apply, View.read_writes_whole]
  rfl
theorem cpy_eq (c : Dev nD) (Q : qM.view.ty.Contents (Elt F)) (X : Buf (Elt F) ((c : Thread nD τ).loc main_v17)) :
    ∀ y ∈ qM.view.set, View.writes qM.view (Elt F) Q [⟨Rect.whole S512x128, xM.view.read (Elt F) X⟩] y = cpy c X y := by
  refine eq_on_of_read qM.view _ _ ?_
  rw [View.read_writes_whole]
  rfl

theorem pay17_congr {e e' : Vec F S256x4096 .bf16} {w w' : Vec F S8x256 .f32} (h : e = e') (hw : w = w') : k1_pay17 e w = k1_pay17 e' w' := by subst h; subst hw; rfl
theorem pay31_congr {e e' : Vec F S256x4096 .bf16} {w : Vec F S8x256 .f32} {u u' : Vec F S8x4096 .f32} (h : e = e') (hu : u = u') : k1_pay31 e w u = k1_pay31 e' w u' := by subst h; subst hu; rfl
theorem pay32_congr {e e' : Vec F S256x4096 .bf16} {w : Vec F S8x256 .f32} {u u' : Vec F S8x4096 .f32} (h : e = e') (hu : u = u') : k1_pay32 e w u = k1_pay32 e' w u' := by subst h; subst hu; rfl

/-- A chunk's point: its block of weights, the sums and the weighted rows advance. -/
def Step (g : Fin 19) (q : Vec F S256x128 .bf16) (h0 h1 : Vec F S1x2048x128 .f32) (E E' : eM.view.ty.Contents (Elt F)) (O O' : oM.view.ty.Contents (Elt F)) (Z Z' : zM.view.ty.Contents (Elt F)) : Prop :=
  (∀ j, j ≠ g → eBlk E' j = eBlk E j) ∧ eBlk E' g = eB q h0 h1 ∧ oV O' = oStep q h0 h1 (oV O) ∧ zV Z' = zStep q h0 h1 (zV Z)
theorem step_of (g : Fin 19) {q : Vec F S256x128 .bf16} {h0 h1 : Vec F S1x2048x128 .f32} (E : eM.view.ty.Contents (Elt F)) (O : oM.view.ty.Contents (Elt F)) (Z : zM.view.ty.Contents (Elt F))
    {o0 o1 : Fin 2 → ℕ} (e0 : o0 = ![0, 4096 * g.val]) (e1 : o1 = ![0, 4096 * g.val + 2048]) (i0 i1) (w0 w1 : Vec F S256x2048 .bf16) (iO) (o : Vec F S256x128 .f32) (iZ) (z : Vec F S256x1 .f32)
    (hw0 : w0 = k1_pay37 q h0) (hw1 : w1 = k1_pay9 (k1_pay42 q h1)) (ho : o = oStep q h0 h1 (oV O)) (hz : z = zStep q h0 h1 (zV Z)) {L L'} :
    Step g q h0 h1 E (View.writes eM.view (Elt F) E [⟨Rect.unit (s := S256x77824) o1 S256x2048.size i1, w1⟩, ⟨Rect.unit (s := S256x77824) o0 S256x2048.size i0, w0⟩])
      O (View.writes oM.view (Elt F) O (⟨Rect.unit (s := S256x128) ![0, 0] S256x128.size iO, o⟩ :: L))
      Z (View.writes zM.view (Elt F) Z (⟨Rect.unit (s := S256x1) ![0, 0] S256x1.size iZ, z⟩ :: L')) := by
  refine ⟨fun j hj => eBlk_hold E g j hj e0 e1 i0 i1 w0 w1, ?_, (oV_writes _ _ _ _).trans ho, (zV_writes _ _ _ _).trans hz⟩
  funext x
  rw [eBlk_writes E g e0 e1 i0 i1 w0 w1 x, hw0, hw1]
  rfl
/-- The first chunk's point. -/
def StepS (q : Vec F S256x128 .bf16) (v : Vec F S1x1024x128 .f32) (E E' : eM.view.ty.Contents (Elt F)) (O' : oM.view.ty.Contents (Elt F)) (Z' : zM.view.ty.Contents (Elt F)) : Prop :=
  (∀ j : Fin 19, j.val ≠ 0 → eBlk E' j = eBlk E j) ∧ oV O' = oS q v ∧ zV Z' = zS q v
theorem stepS_of {q : Vec F S256x128 .bf16} {v : Vec F S1x1024x128 .f32} (E : eM.view.ty.Contents (Elt F)) (O : oM.view.ty.Contents (Elt F)) (Z : zM.view.ty.Contents (Elt F))
    (i0) (w0 : Vec F S256x1024 .bf16) (iO) (o : Vec F S256x128 .f32) (iZ) (z : Vec F S256x1 .f32) {L L'}
    (ho : o = oS q v) (hz : z = zS q v) :
    StepS q v E (View.writes eM.view (Elt F) E [⟨Rect.unit (s := S256x77824) ![0, 0] S256x1024.size i0, w0⟩])
      (View.writes oM.view (Elt F) O (⟨Rect.unit (s := S256x128) ![0, 0] S256x128.size iO, o⟩ :: L))
      (View.writes zM.view (Elt F) Z (⟨Rect.unit (s := S256x1) ![0, 0] S256x1.size iZ, z⟩ :: L')) := by
  refine ⟨fun j hj => ?_, (oV_writes _ _ _ _).trans ho, (zV_writes _ _ _ _).trans hz⟩
  exact eBlk_miss E j (n := 1024) 0 rfl (Or.inr (by omega)) i0 w0 []
/-- The second pass adds a block of sums of weights. -/
def StepU (g : Fin 19) (E : eM.view.ty.Contents (Elt F)) (w : Vec F S8x256 .f32) (U U' : uM.view.ty.Contents (Elt F)) : Prop :=
  (∀ j, j ≠ g → uBlk U' j = uBlk U j) ∧ uBlk U' g = k1_pay17 (eBlk E g) w
theorem stepU_of (g : Fin 19) (E : eM.view.ty.Contents (Elt F)) {w : Vec F S8x256 .f32} (U : uM.view.ty.Contents (Elt F)) {o : Fin 2 → ℕ} (e : o = ![0, 4096 * g.val]) (inb) (x : Vec F S8x4096 .f32)
    (hx : x = k1_pay17 (eBlk E g) w) :
    StepU g E w U (View.writes uM.view (Elt F) U [⟨Rect.unit (s := S8x77824) o S8x4096.size inb, x⟩]) :=
  ⟨fun j hj => funext fun y => uBlk_hold U g j hj e inb x y, (funext fun y => uBlk_writes U g e inb x y).trans hx⟩

end Cert.Proof.Attn
end
-- ==== Proof.Attn.Phi.lean ====
/-
  What the attention call computes, pass by pass and chunk by chunk, and the invariant of its points: the slots and
  what is in flight, the scratches at what the points before left.
-/
module

public import proofs.«01_k».proof.Proof.Attn.Step

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section Spec
variable (c : Dev nD) (X : Buf (Elt F) ((c : Thread nD τ).loc main_v17)) (fs : Buf (Elt F) ((c : Thread nD τ).loc main_v12)) (fm : Buf (Elt F) ((c : Thread nD τ).loc main_arg2)) (fl : Buf (Elt F) ((c : Thread nD τ).loc main_arg3))

/-- The rows of `x` that pass `p` takes. -/
def qx (p : ℕ) : Vec F S256x128 .bf16 := if p = 0 then qA (cpy c X) else qB (cpy c X)
/-- Half `r` of chunk `g`. -/
def hf (g : ℕ) (r : Fin 2) : Vec F S1x2048x128 .f32 := if g < 3 then hM c fm (mB g) r else hL c fl (lB g) r
theorem hf_M {g : ℕ} (h : g < 3) (r : Fin 2) : hf c fm fl g r = hM c fm (mB g) r := if_pos h
theorem hf_L {g : ℕ} (h : 3 ≤ g) (r : Fin 2) : hf c fm fl g r = hL c fl (lB g) r := if_neg (by omega)
/-- The sums and the weighted rows after chunk `g` of pass `p`. -/
def ZS (p : ℕ) : ℕ → Vec F S256x1 .f32
  | 0 => zS (qx c X p) (vS c fs)
  | g + 1 => zStep (qx c X p) (hf c fm fl (g + 1) 0) (hf c fm fl (g + 1) 1) (ZS p g)
def OS (p : ℕ) : ℕ → Vec F S256x128 .f32
  | 0 => oS (qx c X p) (vS c fs)
  | g + 1 => oStep (qx c X p) (hf c fm fl (g + 1) 0) (hf c fm fl (g + 1) 1) (OS p g)
/-- A chunk's weights in pass `p`, the rows' scales, the rows of the result. -/
def EB (p g : ℕ) : Vec F S256x4096 .bf16 := eB (qx c X p) (hf c fm fl g 0) (hf c fm fl g 1)
def WV (p : ℕ) : Vec F S8x256 .f32 := k1_pay14 (ZS c X fs fm fl p 18)
def OT (p : ℕ) : Vec F S256x128 .f32 := k1_pay13 (ZS c X fs fm fl p 18) (OS c X fs fm fl p 18)
/-- A chunk's utilities, of the first half of the rows and of all. -/
def UB (g : ℕ) : Vec F S8x4096 .f32 := k1_pay17 (EB c X fm fl 0 g) (WV c X fs fm fl 0)
def MU (g : ℕ) : Vec F S1x1x4096 .f32 := k1_pay31 (EB c X fm fl 1 g) (WV c X fs fm fl 1) (UB c X fs fm fl g)
def LU (g : ℕ) : Vec F S1x1x4096 .f32 := k1_pay32 (EB c X fm fl 1 g) (WV c X fs fm fl 1) (UB c X fs fm fl g)

/-! ## The scratches before point `n` -/

def accI (n : ℕ) (O : oM.view.ty.Contents (Elt F)) (Z : zM.view.ty.Contents (Elt F)) : Prop :=
  ∀ p g, p < 2 → g < 19 → n = 19 * p + g + 1 → zV Z = ZS c X fs fm fl p g ∧ oV O = OS c X fs fm fl p g
def eI (n : ℕ) (E : eM.view.ty.Contents (Elt F)) : Prop :=
  ∀ j : Fin 19, j.val ≠ 0 → (19 + j.val < n → eBlk E j = EB c X fm fl 1 j.val) ∧ (j.val < n → n ≤ 19 + j.val → eBlk E j = EB c X fm fl 0 j.val)
def uI (n : ℕ) (U : uM.view.ty.Contents (Elt F)) : Prop := ∀ j : Fin 19, j.val ≠ 0 → 19 + j.val < n → uBlk U j = UB c X fs fm fl j.val
def wI (n : ℕ) (w : wM.view.ty.Contents (Elt F)) : Prop :=
  (19 < n → n ≤ 38 → wV w = WV c X fs fm fl 0) ∧ (38 < n → wV w = WV c X fs fm fl 1)

variable {E E' : eM.view.ty.Contents (Elt F)} {U U' : uM.view.ty.Contents (Elt F)} {O O' : oM.view.ty.Contents (Elt F)} {Z Z' : zM.view.ty.Contents (Elt F)} {w w' : wM.view.ty.Contents (Elt F)} {n : ℕ}

theorem accI_S {p : ℕ} (hn : n = 19 * p) (h : StepS (qx c X p) (vS c fs) E E' O' Z') : accI c X fs fm fl (n + 1) O' Z' := by
  intro p' g' hp' hg' he
  obtain ⟨rfl, rfl⟩ : p' = p ∧ g' = 0 := by omega
  exact ⟨h.2.2, h.2.1⟩
theorem accI_step {p : ℕ} (g : Fin 19) (hg : g.val ≠ 0) (hp : p < 2) (hn : n = 19 * p + g.val) (hI : accI c X fs fm fl n O Z)
    (h : Step g (qx c X p) (hf c fm fl g.val 0) (hf c fm fl g.val 1) E E' O O' Z Z') : accI c X fs fm fl (n + 1) O' Z' := by
  obtain ⟨g, hlt⟩ := g
  obtain ⟨k, rfl⟩ : ∃ k, g = k + 1 := ⟨g - 1, by simp only at hg; omega⟩
  simp only at hn
  have hk := hI p k hp (by omega) (by omega)
  intro p' g' hp' hg' he
  obtain ⟨rfl, rfl⟩ : p' = p ∧ g' = k + 1 := by omega
  refine ⟨h.2.2.2.trans ?_, h.2.2.1.trans ?_⟩
  · rw [hk.1]; rfl
  · rw [hk.2]; rfl
theorem accI_end (hn : 38 ≤ n) : accI c X fs fm fl (n + 1) O Z := by intro p g hp hg he; omega
theorem eI_S (hn : n = 0 ∨ n = 19) {q v} (hI : eI c X fm fl n E) (h : StepS q v E E' O' Z') : eI c X fm fl (n + 1) E' := by
  intro j hj
  have := j.isLt
  refine ⟨fun h' => by omega, fun h1 h2 => (h.1 j hj).trans ?_⟩
  rcases hn with rfl | rfl
  · omega
  · exact (hI j hj).2 (by omega) (by omega)
theorem eI_A (g : Fin 19) (hn : n = g.val) (hI : eI c X fm fl n E)
    (h : Step g (qx c X 0) (hf c fm fl g.val 0) (hf c fm fl g.val 1) E E' O O' Z Z') : eI c X fm fl (n + 1) E' := by
  intro j hj
  have := g.isLt
  refine ⟨fun h' => by omega, fun h1 h2 => ?_⟩
  by_cases e : j = g
  · subst e; exact h.2.1
  · exact (h.1 j e).trans ((hI j hj).2 (by have := fun h' => e (Fin.ext h'); omega) (by omega))
theorem eI_B (g : Fin 19) (hg : g.val ≠ 0) (hn : n = 19 + g.val) (hI : eI c X fm fl n E)
    (h : Step g (qx c X 1) (hf c fm fl g.val 0) (hf c fm fl g.val 1) E E' O O' Z Z') : eI c X fm fl (n + 1) E' := by
  intro j hj
  have := g.isLt
  by_cases e : j = g
  · subst e; exact ⟨fun _ => h.2.1, fun h1 h2 => by omega⟩
  · have := fun h' => e (Fin.ext h')
    exact ⟨fun h1 => (h.1 j e).trans ((hI j hj).1 (by omega)), fun h1 h2 => (h.1 j e).trans ((hI j hj).2 (by omega) (by omega))⟩
theorem eI_C (hn : 38 ≤ n) (hI : eI c X fm fl n E) : eI c X fm fl (n + 1) E := by
  intro j hj
  have := j.isLt
  exact ⟨fun h1 => (hI j hj).1 (by omega), fun h1 h2 => by omega⟩
theorem uI_low (hn : n ≤ 19) : uI c X fs fm fl (n + 1) U := by intro j hj h; omega
theorem uI_B (g : Fin 19) (hg : g.val ≠ 0) (hn : n = 19 + g.val) (hE : eI c X fm fl n E) (hw : wI c X fs fm fl n w) (hI : uI c X fs fm fl n U)
    (h : StepU g E (wV w) U U') : uI c X fs fm fl (n + 1) U' := by
  intro j hj hlt
  have := g.isLt
  by_cases e : j = g
  · subst e
    rw [h.2, (hE j hj).2 (by omega) (by omega), hw.1 (by omega) (by omega)]; rfl
  · have := fun h' => e (Fin.ext h')
    exact (h.1 j e).trans (hI j hj (by omega))
theorem uI_C (hn : 38 ≤ n) (hI : uI c X fs fm fl n U) : uI c X fs fm fl (n + 1) U := by
  intro j hj h
  have := j.isLt
  exact hI j hj (by omega)
theorem wI_low (hn : n < 19) : wI c X fs fm fl (n + 1) w := ⟨fun h => by omega, fun h => by omega⟩
theorem wI_keep (hn : n ≠ 19) (hn' : n ≠ 38) (hI : wI c X fs fm fl n w) : wI c X fs fm fl (n + 1) w :=
  ⟨fun h h' => hI.1 (by omega) (by omega), fun h => hI.2 (by omega)⟩
theorem wI_19 (hn : n = 19) (ha : accI c X fs fm fl n O Z) (h : wV w' = k1_pay14 (zV Z)) : wI c X fs fm fl (n + 1) w' :=
  ⟨fun _ _ => by rw [h, (ha 0 18 (by omega) (by omega) (by omega)).1]; rfl, fun h => by omega⟩
theorem wI_38 (hn : n = 38) (ha : accI c X fs fm fl n O Z) (h : wV w' = k1_pay14 (zV Z)) : wI c X fs fm fl (n + 1) w' :=
  ⟨fun h => by omega, fun _ => by rw [h, (ha 1 18 (by omega) (by omega) (by omega)).1]; rfl⟩
theorem out_of {p : ℕ} (hp : p < 2) (hn : n = 19 * p + 19) (ha : accI c X fs fm fl n O Z) : k1_pay13 (zV Z) (oV O) = OT c X fs fm fl p := by
  have h := ha p 18 hp (by omega) (by omega)
  rw [h.1, h.2]; rfl
theorem mu_of (g : Fin 19) (hg : g.val ≠ 0) (hn : n = 38 + g.val) (hE : eI c X fm fl n E) (hU : uI c X fs fm fl n U) (hw : wI c X fs fm fl n w) :
    k1_pay31 (eBlk E g) (wV w) (uBlk U g) = MU c X fs fm fl g.val := by
  rw [(hE g hg).1 (by omega), hU g hg (by omega), hw.2 (by omega)]; rfl
theorem lu_of (g : Fin 19) (hg : g.val ≠ 0) (hn : n = 38 + g.val) (hE : eI c X fm fl n E) (hU : uI c X fs fm fl n U) (hw : wI c X fs fm fl n w) :
    k1_pay32 (eBlk E g) (wV w) (uBlk U g) = LU c X fs fm fl g.val := by
  rw [(hE g hg).1 (by omega), hU g hg (by omega), hw.2 (by omega)]; rfl

/-! ## The slots before point `n` -/

/-- Chunk `g` in flight to its slot. -/
def fly (g : ℕ) : sProp 𝕄 := if g < 3 then flyM c fs fm fl (sl g) (mB g) else flyL c fs fm fl (sl g) (lB g)
def ringSt (n : ℕ) : sProp 𝕄 :=
  if n < 38 ∧ n % 19 ≠ 0 then iprop(fly c fs fm fl (n % 19) ∗ free c fs fm fl (sl (n % 19 + 1))) else iprop(free c fs fm fl 0 ∗ free c fs fm fl 1)
theorem ring_M {g : ℕ} (hn : n < 38) (hg : n % 19 = g) (h1 : 1 ≤ g) (h2 : g < 3) :
    ringSt c fs fm fl n = iprop(flyM c fs fm fl (sl g) (mB g) ∗ free c fs fm fl (sl (g + 1))) := by
  subst hg; unfold ringSt fly; rw [if_pos ⟨hn, by omega⟩, if_pos h2]
theorem ring_L {g : ℕ} (hn : n < 38) (hg : n % 19 = g) (h2 : 3 ≤ g) :
    ringSt c fs fm fl n = iprop(flyL c fs fm fl (sl g) (lB g) ∗ free c fs fm fl (sl (g + 1))) := by
  subst hg; unfold ringSt fly; rw [if_pos ⟨hn, by omega⟩, if_neg (by omega)]
theorem ring_0 (h : 38 ≤ n ∨ n % 19 = 0) : ringSt c fs fm fl n = iprop(free c fs fm fl 0 ∗ free c fs fm fl 1) := by
  unfold ringSt; rw [if_neg (by omega)]

/-- The invariant before point `n`. -/
def Phi (n : ℕ) : sProp 𝕄 :=
  iprop(ringSt c fs fm fl n ∗ W c xM X ∗ semVal ((c : Thread nD τ), SemLoc.dma 14) 0 ∗ (∃ r, prngReg c r)
    ∗ (∃ Q, W c qM Q ∗ ⌜1 ≤ n → Q = cpy c X⌝) ∗ (∃ E, W c eM E ∗ ⌜eI c X fm fl n E⌝) ∗ (∃ U, W c uM U ∗ ⌜uI c X fs fm fl n U⌝)
    ∗ (∃ O Z, W c oM O ∗ W c zM Z ∗ ⌜accI c X fs fm fl n O Z⌝) ∗ (∃ w, W c wM w ∗ ⌜wI c X fs fm fl n w⌝))
end Spec

end Cert.Proof.Attn
end
-- ==== Proof.Attn.Run00.lean ====
/-
  The attention call's body at the points of pass 0 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_0_0 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : (i 1).val = 0)
   (Q : Buf (Elt F) ((c : Thread nD τ).loc cc1_scratch0)) (E : Buf (Elt F) ((c : Thread nD τ).loc cc1_scratch2)) (O : Buf (Elt F) ((c : Thread nD τ).loc cc1_scratch4)) (Z : Buf (Elt F) ((c : Thread nD τ).loc cc1_scratch5)) (X : Buf (Elt F) ((c : Thread nD τ).loc main_v17))  :
   ∀ (W0 : Waits sig (HIx 1)) (K : PUnit → sProp 𝕄),
    iprop(free c fs fm fl 0 ∗ free c fs fm fl (sl ((i 1).val + 1)) ∗ W c xM X ∗ (semVal ((c : Thread nD τ), SemLoc.dma 14) 0 : sProp 𝕄) ∗ W c qM Q ∗ W c eM E ∗ W c oM O ∗ W c zM Z ∗ owes (c : Thread nD τ) 0 W0
      ∗ (iprop(flyM c fs fm fl (sl ((i 1).val + 1)) (mB ((i 1).val + 1)) ∗ free c fs fm fl 0 ∗ W c xM X ∗ (semVal ((c : Thread nD τ), SemLoc.dma 14) 0 : sProp 𝕄) ∗ W c qM (cpy c X) ∗ (∃ E' O' Z', W c eM E' ∗ W c oM O' ∗ W c zM Z' ∗ ⌜StepS (qA (cpy c X)) (vS c fs) E E' O' Z'⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : k1_cond1 i = 1#1 := by rw [cond1_iff]; omega
  have hC4 : k1_cond4 i = 1#1 := by rw [cond4_iff]; omega
  have hC5 : k1_cond5 i = 1#1 := by rw [cond5_iff]; omega
  have hC6 : ¬k1_cond6 i = 1#1 := by rw [cond6_iff]; exact not_false
  have hC7 : k1_cond7 i = 1#1 := by rw [cond7_iff]; omega
  have hC8 : ¬k1_cond8 i = 1#1 := by rw [cond8_iff]; omega
  have hC9 : k1_cond9 i = 1#1 := by rw [cond9_iff]; omega
  have hC10 : ¬k1_cond10 i = 1#1 := by rw [cond10_iff]; omega
  have hC11 : ¬k1_cond11 i = 1#1 := by rw [cond11_iff]; omega
  simp only [cc1__attn_body_eq_skeleton]; unfold cc1__attn_body_skel
  simp only [k1_part1_eq_skeleton, k1_part2_eq_skeleton, k1_part3_eq_skeleton]
  unfold flyM free
  have hC2 : wordP i = 1#1 := by rw [wordP_iff]; omega
  iintro ⟨⟨HcS, ⟨%fS, HsS⟩, HSS, HMS, HLS⟩, ⟨Hc, ⟨%f0, Hs⟩, HS2, HM2, HL2⟩, HX, Hx, HQ, HE, HO, HZ, HW, Hk⟩
  ihave G := (lendS_split c fs).1 $$ HSS
  icases G with ⟨⟨Hy0, Hy1, Hy2, Hy3⟩, HR⟩
  ihave G := (slot_split c 0 fS).1 $$ HsS
  icases G with ⟨HdS, Hd5, Hd6, Hd7⟩
  ihave G := (part_split c fS).1 $$ HdS
  icases G with ⟨Hq0, Hq1, Hq2, Hq3⟩
  have hD := storable_dS (F := F) c fs
  imod (Transfers.batch_alloc' (Lvl := ℕ) countersEmb (c : Thread nD τ) default nS (dS c fs) (sm := cellR 0) (E := Set.univ)) $$ HcS with HF
  clear hD
  ihave G := (lendM_split c fm (sl ((i 1).val + 1)) (mB ((i 1).val + 1))).1 $$ HM2
  icases G with ⟨⟨Hx0, Hx1, Hx2, Hx3⟩, HR2⟩
  ihave G := (slot_split c (sl ((i 1).val + 1)) f0).1 $$ Hs
  icases G with ⟨Hd0, Hd1, Hd2, Hd3⟩
  have hD := storable_dM (F := F) c fm (sl ((i 1).val + 1)) (mB ((i 1).val + 1))
  imod (Transfers.batch_alloc' (Lvl := ℕ) countersEmb (c : Thread nD τ) default nP (dM c fm (sl ((i 1).val + 1)) (mB ((i 1).val + 1))) (sm := cellR (sl ((i 1).val + 1))) (E := Set.univ)) $$ Hc with HB
  clear hD
  set_option sl_exec.stopBefore "k1_cond12" in sl_exec
  ihave Hslot := (partS_join c fs) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HSS := (lendS_split c fs).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : k1_cond12 i = 1#1 := by rw [cond12_iff]; omega
  have hC13 : word0 i = 1#1 := by rw [word0_iff]; omega
  have hC15 : ¬k1_cond15 i = 1#1 := by rw [cond15_iff]; omega
  have hC16 : ¬k1_cond16 i = 1#1 := by rw [cond16_iff]; omega
  have hC20 : ¬k1_cond20 i = 1#1 := by rw [cond20_iff]; omega
  have hA1 := access_part inb_S2x4096x128_S1x1024x128_0_0_0
  sl_exec
  ihave HQ := (Entails.of_eq (pointsTo_congr (cpy_eq c Q X))) $$ HQ
  ihave Hslot := (slot_glue c (chS c fs) fS) $$ [Hslot Hd5 Hd6 Hd7]
  · isplitl [Hslot]
    · iexact Hslot
    isplitl [Hd5]
    · iexact Hd5
    isplitl [Hd6]
    · iexact Hd6
    iexact Hd7
  sl_step
  iapply Hk
  isplitl [HB HR2 HS2 HL2]
  · isplitl [HB]
    · iexact HB
    isplitl [HR2]
    · iexact HR2
    isplitl [HS2]
    · iexact HS2
    iexact HL2
  isplitl [HF Hslot HSS HMS HLS]
  · isplitl [HF]
    · iexact HF
    isplitl [Hslot]
    · iexact Hslot
    isplitl [HSS]
    · iexact HSS
    isplitl [HMS]
    · iexact HMS
    iexact HLS
  isplitl [HX]
  · iexact HX
  isplitl [Hx]
  · iexact Hx
  isplitl [HQ]
  · iexact HQ
  isplitl [HE HO HZ]
  · iexists _, _, _
    isplitl [HE]
    · iexact HE
    isplitl [HO]
    · iexact HO
    isplitl [HZ]
    · iexact HZ
    ipureintro
    exact stepS_of E O Z _ _ _ _ _ _ (oo_congr (cpy_cov c X _) (read_S c fs _) (View.readCov_full _ _ _ _ _)) (zz_congr (cpy_cov c X _) (read_S c fs _) (View.readCov_full _ _ _ _ _))
  iexists _
  iexact HW
end
end Cert.Proof.Attn
end
-- ==== Proof.Attn.Run01.lean ====
/-
  The attention call's body at the points of pass 0 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_0_1 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : (i 1).val = 1)
   (Q : Buf (Elt F) ((c : Thread nD τ).loc cc1_scratch0)) (E : Buf (Elt F) ((c : Thread nD τ).loc cc1_scratch2)) (O : Buf (Elt F) ((c : Thread nD τ).loc cc1_scratch4)) (Z : Buf (Elt F) ((c : Thread nD τ).loc cc1_scratch5))  :
   ∀ (W0 : Waits sig (HIx 1)) (K : PUnit → sProp 𝕄),
    iprop(flyM c fs fm fl (sl (i 1).val) (mB ((i 1).val)) ∗ free c fs fm fl (sl ((i 1).val + 1)) ∗ W c qM Q ∗ W c eM E ∗ W c oM O ∗ W c zM Z ∗ owes (c : Thread nD τ) 0 W0
      ∗ (iprop(flyM c fs fm fl (sl ((i 1).val + 1)) (mB ((i 1).val + 1)) ∗ free c fs fm fl (sl (i 1).val) ∗ W c qM Q ∗ (∃ E' O' Z', W c eM E' ∗ W c oM O' ∗ W c zM Z' ∗ ⌜Step (gI i) (qA Q) (hM c fm (mB ((i 1).val)) 0) (hM c fm (mB ((i 1).val)) 1) E E' O O' Z Z'⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : k1_cond4 i = 1#1 := by rw [cond4_iff]; omega
  have hC5 : k1_cond5 i = 1#1 := by rw [cond5_iff]; omega
  have hC6 : ¬k1_cond6 i = 1#1 := by rw [cond6_iff]; exact not_false
  have hC7 : k1_cond7 i = 1#1 := by rw [cond7_iff]; omega
  have hC8 : ¬k1_cond8 i = 1#1 := by rw [cond8_iff]; omega
  have hC9 : ¬k1_cond9 i = 1#1 := by rw [cond9_iff]; omega
  have hC10 : k1_cond10 i = 1#1 := by rw [cond10_iff]; omega
  have hC11 : ¬k1_cond11 i = 1#1 := by rw [cond11_iff]; omega
  simp only [cc1__attn_body_eq_skeleton]; unfold cc1__attn_body_skel
  simp only [k1_part1_eq_skeleton, k1_part2_eq_skeleton, k1_part3_eq_skeleton]
  unfold flyM free
  iintro ⟨⟨HF, HR, HS1, HL1⟩, ⟨Hc, ⟨%f0, Hs⟩, HS2, HM2, HL2⟩, HQ, HE, HO, HZ, HW, Hk⟩
  ihave G := (lendM_split c fm (sl ((i 1).val + 1)) (mB ((i 1).val + 1))).1 $$ HM2
  icases G with ⟨⟨Hx0, Hx1, Hx2, Hx3⟩, HR2⟩
  ihave G := (slot_split c (sl ((i 1).val + 1)) f0).1 $$ Hs
  icases G with ⟨Hd0, Hd1, Hd2, Hd3⟩
  have hD := storable_dM (F := F) c fm (sl ((i 1).val + 1)) (mB ((i 1).val + 1))
  imod (Transfers.batch_alloc' (Lvl := ℕ) countersEmb (c : Thread nD τ) default nP (dM c fm (sl ((i 1).val + 1)) (mB ((i 1).val + 1))) (sm := cellR (sl ((i 1).val + 1))) (E := Set.univ)) $$ Hc with HB
  clear hD
  set_option sl_exec.stopBefore "k1_cond12" in sl_exec
  ihave Hslot := (slotM_join c fm (sl (i 1).val) (mB ((i 1).val))) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HM1 := (lendM_split c fm (sl (i 1).val) (mB ((i 1).val))).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : k1_cond12 i = 1#1 := by rw [cond12_iff]; omega
  have hC13 : ¬word0 i = 1#1 := by rw [word0_iff]; omega
  have hC15 : k1_cond15 i = 1#1 := by rw [cond15_iff]; omega
  have hC16 : ¬k1_cond16 i = 1#1 := by rw [cond16_iff]; omega
  have hC20 : ¬k1_cond20 i = 1#1 := by rw [cond20_iff]; omega
  have hA1 := access_slot36 i (k1_off36_inb i hC12 hC15)
  have hA2 := access_slot38 i (k1_off38_inb i hC12 hC15)
  sl_exec
  sl_step
  iapply Hk
  isplitl [HB HR2 HS2 HL2]
  · isplitl [HB]
    · iexact HB
    isplitl [HR2]
    · iexact HR2
    isplitl [HS2]
    · iexact HS2
    iexact HL2
  isplitl [HF Hslot HS1 HM1 HL1]
  · isplitl [HF]
    · iexact HF
    isplitl [Hslot]
    · iexists _
      iexact Hslot
    isplitl [HS1]
    · iexact HS1
    isplitl [HM1]
    · iexact HM1
    iexact HL1
  isplitl [HQ]
  · iexact HQ
  isplitl [HE HO HZ]
  · iexists _, _, _
    isplitl [HE]
    · iexact HE
    isplitl [HO]
    · iexact HO
    isplitl [HZ]
    · iexact HZ
    ipureintro
    exact step_of (gI i) E O Z (k1_off37_eq i 0) (k1_off37_eq i 1) _ _ _ _ _ _ _ _ (w0_congr (read_M c fm (sl (i 1).val) (mB ((i 1).val)) 0 (off36_eq i) _)) (w1_congr (read_M c fm (sl (i 1).val) (mB ((i 1).val)) 1 (off38_eq i) _)) (os_congr (read_M c fm (sl (i 1).val) (mB ((i 1).val)) 0 (off36_eq i) _) (read_M c fm (sl (i 1).val) (mB ((i 1).val)) 1 (off38_eq i) _)) (zs_congr (read_M c fm (sl (i 1).val) (mB ((i 1).val)) 0 (off36_eq i) _) (read_M c fm (sl (i 1).val) (mB ((i 1).val)) 1 (off38_eq i) _))
  iexists _
  iexact HW
end
end Cert.Proof.Attn
end
-- ==== Proof.Attn.Run02.lean ====
/-
  The attention call's body at the points of pass 0 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_0_2 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : (i 1).val = 2)
   (Q : Buf (Elt F) ((c : Thread nD τ).loc cc1_scratch0)) (E : Buf (Elt F) ((c : Thread nD τ).loc cc1_scratch2)) (O : Buf (Elt F) ((c : Thread nD τ).loc cc1_scratch4)) (Z : Buf (Elt F) ((c : Thread nD τ).loc cc1_scratch5))  :
   ∀ (W0 : Waits sig (HIx 1)) (K : PUnit → sProp 𝕄),
    iprop(flyM c fs fm fl (sl (i 1).val) (mB ((i 1).val)) ∗ free c fs fm fl (sl ((i 1).val + 1)) ∗ W c qM Q ∗ W c eM E ∗ W c oM O ∗ W c zM Z ∗ owes (c : Thread nD τ) 0 W0
      ∗ (iprop(flyL c fs fm fl (sl ((i 1).val + 1)) (lB ((i 1).val + 1)) ∗ free c fs fm fl (sl (i 1).val) ∗ W c qM Q ∗ (∃ E' O' Z', W c eM E' ∗ W c oM O' ∗ W c zM Z' ∗ ⌜Step (gI i) (qA Q) (hM c fm (mB ((i 1).val)) 0) (hM c fm (mB ((i 1).val)) 1) E E' O O' Z Z'⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : k1_cond4 i = 1#1 := by rw [cond4_iff]; omega
  have hC5 : k1_cond5 i = 1#1 := by rw [cond5_iff]; omega
  have hC6 : ¬k1_cond6 i = 1#1 := by rw [cond6_iff]; exact not_false
  have hC7 : ¬k1_cond7 i = 1#1 := by rw [cond7_iff]; omega
  have hC8 : k1_cond8 i = 1#1 := by rw [cond8_iff]; omega
  have hC9 : ¬k1_cond9 i = 1#1 := by rw [cond9_iff]; omega
  have hC10 : k1_cond10 i = 1#1 := by rw [cond10_iff]; omega
  have hC11 : ¬k1_cond11 i = 1#1 := by rw [cond11_iff]; omega
  simp only [cc1__attn_body_eq_skeleton]; unfold cc1__attn_body_skel
  simp only [k1_part1_eq_skeleton, k1_part2_eq_skeleton, k1_part3_eq_skeleton]
  unfold flyM flyL free
  iintro ⟨⟨HF, HR, HS1, HL1⟩, ⟨Hc, ⟨%f0, Hs⟩, HS2, HM2, HL2⟩, HQ, HE, HO, HZ, HW, Hk⟩
  ihave G := (lendL_split c fl (sl ((i 1).val + 1)) (lB ((i 1).val + 1))).1 $$ HL2
  icases G with ⟨⟨Hx0, Hx1, Hx2, Hx3⟩, HR2⟩
  ihave G := (slot_split c (sl ((i 1).val + 1)) f0).1 $$ Hs
  icases G with ⟨Hd0, Hd1, Hd2, Hd3⟩
  have hD := storable_dL (F := F) c fl (sl ((i 1).val + 1)) (lB ((i 1).val + 1))
  imod (Transfers.batch_alloc' (Lvl := ℕ) countersEmb (c : Thread nD τ) default nP (dL c fl (sl ((i 1).val + 1)) (lB ((i 1).val + 1))) (sm := cellR (sl ((i 1).val + 1))) (E := Set.univ)) $$ Hc with HB
  clear hD
  set_option sl_exec.stopBefore "k1_cond12" in sl_exec
  ihave Hslot := (slotM_join c fm (sl (i 1).val) (mB ((i 1).val))) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HM1 := (lendM_split c fm (sl (i 1).val) (mB ((i 1).val))).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : k1_cond12 i = 1#1 := by rw [cond12_iff]; omega
  have hC13 : ¬word0 i = 1#1 := by rw [word0_iff]; omega
  have hC15 : k1_cond15 i = 1#1 := by rw [cond15_iff]; omega
  have hC16 : ¬k1_cond16 i = 1#1 := by rw [cond16_iff]; omega
  have hC20 : ¬k1_cond20 i = 1#1 := by rw [cond20_iff]; omega
  have hA1 := access_slot36 i (k1_off36_inb i hC12 hC15)
  have hA2 := access_slot38 i (k1_off38_inb i hC12 hC15)
  sl_exec
  sl_step
  iapply Hk
  isplitl [HB HR2 HS2 HM2]
  · isplitl [HB]
    · iexact HB
    isplitl [HR2]
    · iexact HR2
    isplitl [HS2]
    · iexact HS2
    iexact HM2
  isplitl [HF Hslot HS1 HM1 HL1]
  · isplitl [HF]
    · iexact HF
    isplitl [Hslot]
    · iexists _
      iexact Hslot
    isplitl [HS1]
    · iexact HS1
    isplitl [HM1]
    · iexact HM1
    iexact HL1
  isplitl [HQ]
  · iexact HQ
  isplitl [HE HO HZ]
  · iexists _, _, _
    isplitl [HE]
    · iexact HE
    isplitl [HO]
    · iexact HO
    isplitl [HZ]
    · iexact HZ
    ipureintro
    exact step_of (gI i) E O Z (k1_off37_eq i 0) (k1_off37_eq i 1) _ _ _ _ _ _ _ _ (w0_congr (read_M c fm (sl (i 1).val) (mB ((i 1).val)) 0 (off36_eq i) _)) (w1_congr (read_M c fm (sl (i 1).val) (mB ((i 1).val)) 1 (off38_eq i) _)) (os_congr (read_M c fm (sl (i 1).val) (mB ((i 1).val)) 0 (off36_eq i) _) (read_M c fm (sl (i 1).val) (mB ((i 1).val)) 1 (off38_eq i) _)) (zs_congr (read_M c fm (sl (i 1).val) (mB ((i 1).val)) 0 (off36_eq i) _) (read_M c fm (sl (i 1).val) (mB ((i 1).val)) 1 (off38_eq i) _))
  iexists _
  iexact HW
end
end Cert.Proof.Attn
end
-- ==== Proof.Attn.Run0m.lean ====
/-
  The attention call's body at the points of pass 0 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_0_m (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : 3 ≤ (i 1).val) (hg' : (i 1).val < 18)
   (Q : Buf (Elt F) ((c : Thread nD τ).loc cc1_scratch0)) (E : Buf (Elt F) ((c : Thread nD τ).loc cc1_scratch2)) (O : Buf (Elt F) ((c : Thread nD τ).loc cc1_scratch4)) (Z : Buf (Elt F) ((c : Thread nD τ).loc cc1_scratch5))  :
   ∀ (W0 : Waits sig (HIx 1)) (K : PUnit → sProp 𝕄),
    iprop(flyL c fs fm fl (sl (i 1).val) (lB ((i 1).val)) ∗ free c fs fm fl (sl ((i 1).val + 1)) ∗ W c qM Q ∗ W c eM E ∗ W c oM O ∗ W c zM Z ∗ owes (c : Thread nD τ) 0 W0
      ∗ (iprop(flyL c fs fm fl (sl ((i 1).val + 1)) (lB ((i 1).val + 1)) ∗ free c fs fm fl (sl (i 1).val) ∗ W c qM Q ∗ (∃ E' O' Z', W c eM E' ∗ W c oM O' ∗ W c zM Z' ∗ ⌜Step (gI i) (qA Q) (hL c fl (lB ((i 1).val)) 0) (hL c fl (lB ((i 1).val)) 1) E E' O O' Z Z'⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : k1_cond4 i = 1#1 := by rw [cond4_iff]; omega
  have hC5 : k1_cond5 i = 1#1 := by rw [cond5_iff]; omega
  have hC6 : ¬k1_cond6 i = 1#1 := by rw [cond6_iff]; exact not_false
  have hC7 : ¬k1_cond7 i = 1#1 := by rw [cond7_iff]; omega
  have hC8 : k1_cond8 i = 1#1 := by rw [cond8_iff]; omega
  have hC9 : ¬k1_cond9 i = 1#1 := by rw [cond9_iff]; omega
  have hC10 : ¬k1_cond10 i = 1#1 := by rw [cond10_iff]; omega
  have hC11 : k1_cond11 i = 1#1 := by rw [cond11_iff]; omega
  simp only [cc1__attn_body_eq_skeleton]; unfold cc1__attn_body_skel
  simp only [k1_part1_eq_skeleton, k1_part2_eq_skeleton, k1_part3_eq_skeleton]
  unfold flyL free
  iintro ⟨⟨HF, HR, HS1, HM1⟩, ⟨Hc, ⟨%f0, Hs⟩, HS2, HM2, HL2⟩, HQ, HE, HO, HZ, HW, Hk⟩
  ihave G := (lendL_split c fl (sl ((i 1).val + 1)) (lB ((i 1).val + 1))).1 $$ HL2
  icases G with ⟨⟨Hx0, Hx1, Hx2, Hx3⟩, HR2⟩
  ihave G := (slot_split c (sl ((i 1).val + 1)) f0).1 $$ Hs
  icases G with ⟨Hd0, Hd1, Hd2, Hd3⟩
  have hD := storable_dL (F := F) c fl (sl ((i 1).val + 1)) (lB ((i 1).val + 1))
  imod (Transfers.batch_alloc' (Lvl := ℕ) countersEmb (c : Thread nD τ) default nP (dL c fl (sl ((i 1).val + 1)) (lB ((i 1).val + 1))) (sm := cellR (sl ((i 1).val + 1))) (E := Set.univ)) $$ Hc with HB
  clear hD
  set_option sl_exec.stopBefore "k1_cond12" in sl_exec
  ihave Hslot := (slotL_join c fl (sl (i 1).val) (lB ((i 1).val))) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HL1 := (lendL_split c fl (sl (i 1).val) (lB ((i 1).val))).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : k1_cond12 i = 1#1 := by rw [cond12_iff]; omega
  have hC13 : ¬word0 i = 1#1 := by rw [word0_iff]; omega
  have hC15 : k1_cond15 i = 1#1 := by rw [cond15_iff]; omega
  have hC16 : ¬k1_cond16 i = 1#1 := by rw [cond16_iff]; omega
  have hC20 : ¬k1_cond20 i = 1#1 := by rw [cond20_iff]; omega
  have hA1 := access_slot36 i (k1_off36_inb i hC12 hC15)
  have hA2 := access_slot38 i (k1_off38_inb i hC12 hC15)
  sl_exec
  sl_step
  iapply Hk
  isplitl [HB HR2 HS2 HM2]
  · isplitl [HB]
    · iexact HB
    isplitl [HR2]
    · iexact HR2
    isplitl [HS2]
    · iexact HS2
    iexact HM2
  isplitl [HF Hslot HS1 HM1 HL1]
  · isplitl [HF]
    · iexact HF
    isplitl [Hslot]
    · iexists _
      iexact Hslot
    isplitl [HS1]
    · iexact HS1
    isplitl [HM1]
    · iexact HM1
    iexact HL1
  isplitl [HQ]
  · iexact HQ
  isplitl [HE HO HZ]
  · iexists _, _, _
    isplitl [HE]
    · iexact HE
    isplitl [HO]
    · iexact HO
    isplitl [HZ]
    · iexact HZ
    ipureintro
    exact step_of (gI i) E O Z (k1_off37_eq i 0) (k1_off37_eq i 1) _ _ _ _ _ _ _ _ (w0_congr (read_L c fl (sl (i 1).val) (lB ((i 1).val)) 0 (off36_eq i) _)) (w1_congr (read_L c fl (sl (i 1).val) (lB ((i 1).val)) 1 (off38_eq i) _)) (os_congr (read_L c fl (sl (i 1).val) (lB ((i 1).val)) 0 (off36_eq i) _) (read_L c fl (sl (i 1).val) (lB ((i 1).val)) 1 (off38_eq i) _)) (zs_congr (read_L c fl (sl (i 1).val) (lB ((i 1).val)) 0 (off36_eq i) _) (read_L c fl (sl (i 1).val) (lB ((i 1).val)) 1 (off38_eq i) _))
  iexists _
  iexact HW
end
end Cert.Proof.Attn
end
-- ==== Proof.Attn.Run0L.lean ====
/-
  The attention call's body at the points of pass 0 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_0_L (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : (i 1).val = 18)
   (Q : Buf (Elt F) ((c : Thread nD τ).loc cc1_scratch0)) (E : Buf (Elt F) ((c : Thread nD τ).loc cc1_scratch2)) (O : Buf (Elt F) ((c : Thread nD τ).loc cc1_scratch4)) (Z : Buf (Elt F) ((c : Thread nD τ).loc cc1_scratch5))  :
   ∀ (W0 : Waits sig (HIx 1)) (K : PUnit → sProp 𝕄),
    iprop(flyL c fs fm fl (sl (i 1).val) (lB ((i 1).val)) ∗ free c fs fm fl (sl ((i 1).val + 1)) ∗ W c qM Q ∗ W c eM E ∗ W c oM O ∗ W c zM Z ∗ owes (c : Thread nD τ) 0 W0
      ∗ (iprop(free c fs fm fl (sl ((i 1).val + 1)) ∗ free c fs fm fl (sl (i 1).val) ∗ W c qM Q ∗ (∃ E' O' Z', W c eM E' ∗ W c oM O' ∗ W c zM Z' ∗ ⌜Step (gI i) (qA Q) (hL c fl (lB ((i 1).val)) 0) (hL c fl (lB ((i 1).val)) 1) E E' O O' Z Z'⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : k1_cond4 i = 1#1 := by rw [cond4_iff]; omega
  have hC5 : ¬k1_cond5 i = 1#1 := by rw [cond5_iff]; omega
  have hC9 : ¬k1_cond9 i = 1#1 := by rw [cond9_iff]; omega
  have hC10 : ¬k1_cond10 i = 1#1 := by rw [cond10_iff]; omega
  have hC11 : k1_cond11 i = 1#1 := by rw [cond11_iff]; omega
  simp only [cc1__attn_body_eq_skeleton]; unfold cc1__attn_body_skel
  simp only [k1_part1_eq_skeleton, k1_part2_eq_skeleton, k1_part3_eq_skeleton]
  unfold flyL
  iintro ⟨⟨HF, HR, HS1, HM1⟩, Hfree, HQ, HE, HO, HZ, HW, Hk⟩
  set_option sl_exec.stopBefore "k1_cond12" in sl_exec
  ihave Hslot := (slotL_join c fl (sl (i 1).val) (lB ((i 1).val))) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HL1 := (lendL_split c fl (sl (i 1).val) (lB ((i 1).val))).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : k1_cond12 i = 1#1 := by rw [cond12_iff]; omega
  have hC13 : ¬word0 i = 1#1 := by rw [word0_iff]; omega
  have hC15 : k1_cond15 i = 1#1 := by rw [cond15_iff]; omega
  have hC16 : ¬k1_cond16 i = 1#1 := by rw [cond16_iff]; omega
  have hC20 : ¬k1_cond20 i = 1#1 := by rw [cond20_iff]; omega
  have hA1 := access_slot36 i (k1_off36_inb i hC12 hC15)
  have hA2 := access_slot38 i (k1_off38_inb i hC12 hC15)
  sl_exec
  sl_step
  iapply Hk
  isplitl [Hfree]
  · iexact Hfree
  isplitl [HF Hslot HS1 HM1 HL1]
  · unfold free
    isplitl [HF]
    · iexact HF
    isplitl [Hslot]
    · iexists _
      iexact Hslot
    isplitl [HS1]
    · iexact HS1
    isplitl [HM1]
    · iexact HM1
    iexact HL1
  isplitl [HQ]
  · iexact HQ
  isplitl [HE HO HZ]
  · iexists _, _, _
    isplitl [HE]
    · iexact HE
    isplitl [HO]
    · iexact HO
    isplitl [HZ]
    · iexact HZ
    ipureintro
    exact step_of (gI i) E O Z (k1_off37_eq i 0) (k1_off37_eq i 1) _ _ _ _ _ _ _ _ (w0_congr (read_L c fl (sl (i 1).val) (lB ((i 1).val)) 0 (off36_eq i) _)) (w1_congr (read_L c fl (sl (i 1).val) (lB ((i 1).val)) 1 (off38_eq i) _)) (os_congr (read_L c fl (sl (i 1).val) (lB ((i 1).val)) 0 (off36_eq i) _) (read_L c fl (sl (i 1).val) (lB ((i 1).val)) 1 (off38_eq i) _)) (zs_congr (read_L c fl (sl (i 1).val) (lB ((i 1).val)) 0 (off36_eq i) _) (read_L c fl (sl (i 1).val) (lB ((i 1).val)) 1 (off38_eq i) _))
  iexists _
  iexact HW
end
end Cert.Proof.Attn
end
-- ==== Proof.Attn.Pass0.lean ====
/-
  The points of pass 0: each takes the invariant before it to the invariant after it, and leaves its block of results.
-/
module

public import proofs.«01_k».proof.Proof.Attn.Phi
public import proofs.«01_k».proof.Proof.Attn.Run00
public import proofs.«01_k».proof.Proof.Attn.Run01
public import proofs.«01_k».proof.Proof.Attn.Run02
public import proofs.«01_k».proof.Proof.Attn.Run0m
public import proofs.«01_k».proof.Proof.Attn.Run0L
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (X : Buf (Elt F) ((c : Thread nD τ).loc main_v17)) (fs : Buf (Elt F) ((c : Thread nD τ).loc main_v12)) (fm : Buf (Elt F) ((c : Thread nD τ).loc main_arg2)) (fl : Buf (Elt F) ((c : Thread nD τ).loc main_arg3))

set_option maxHeartbeats 1000000 in
theorem pt_0_0 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : (i 1).val = 0) (n : ℕ) (hn : n = 19 * 0 + (i 1).val)
   :
   ∀ (W0 : Waits sig (HIx 1)) (K : PUnit → sProp 𝕄),
    iprop(Phi c X fs fm fl n ∗ owes (c : Thread nD τ) 0 W0 ∗ (iprop(Phi c X fs fm fl (n + 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_0 c fs fm fl (n := n) (Or.inr (by omega)), ring_M c fs fm fl (n := n + 1) (g := (i 1).val + 1) (by omega) (by omega) (by omega) (by omega)]
  have e1 : sl ((i 1).val + 1) = 1 := by rw [hg]; rfl
  have e2 : sl ((i 1).val + 1 + 1) = 0 := by rw [hg]; rfl
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, HW, Hk⟩
  iapply (run_0_0 c fs fm fl i arg6 harg6 arg7 harg7 arg8 harg8 hp hg Q E O Z X W0 K)
  isplitl [HA]; · iexact HA
  isplitl [HB]; · rw [e1]; iexact HB
  isplitl [HX]; · iexact HX
  isplitl [Hx]; · iexact Hx
  isplitl [HQ]; · iexact HQ
  isplitl [HE]; · iexact HE
  isplitl [HO]; · iexact HO
  isplitl [HZ]; · iexact HZ
  isplitl [HW]; · iexact HW
  iintro ⟨HA, HB, HX, Hx, HQ, ⟨%E', %O', %Z', HE, HO, HZ, %hS⟩, HW⟩
  rw [show qA (cpy c X) = qx c X 0 from rfl] at hS
  iapply Hk
  isplitl [HA HB HX Hx Hr HQ HE HU HO HZ HWn]
  · isplitl [HA HB]
    · rw [e2]
      isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_S c X fm fl (by omega) hE hS
    isplitl [HU]
    · iexists _
      isplitl [HU]
      · iexact HU
      ipureintro
      exact uI_low c X fs fm fl (by omega)
    isplitl [HO HZ]
    · iexists _, _
      isplitl [HO]
      · iexact HO
      isplitl [HZ]
      · iexact HZ
      ipureintro
      exact accI_S c X fs fm fl (p := 0) (by omega) hS
    iexists _
    isplitl [HWn]
    · iexact HWn
    ipureintro
    exact wI_low c X fs fm fl (by omega)
  iexact HW

set_option maxHeartbeats 1000000 in
theorem pt_0_1 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : (i 1).val = 1) (n : ℕ) (hn : n = 19 * 0 + (i 1).val)
   :
   ∀ (W0 : Waits sig (HIx 1)) (K : PUnit → sProp 𝕄),
    iprop(Phi c X fs fm fl n ∗ owes (c : Thread nD τ) 0 W0 ∗ (iprop(Phi c X fs fm fl (n + 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_M c fs fm fl (n := n) (g := (i 1).val) (by omega) (by omega) (by omega) (by omega), ring_M c fs fm fl (n := n + 1) (g := (i 1).val + 1) (by omega) (by omega) (by omega) (by omega)]
  have e2 : sl ((i 1).val + 1 + 1) = sl (i 1).val := sl_add_two _
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, HW, Hk⟩
  obtain rfl := hQ (by omega)
  iapply (run_0_1 c fs fm fl i arg6 harg6 arg7 harg7 arg8 harg8 hp hg (cpy c X) E O Z W0 K)
  isplitl [HA]; · iexact HA
  isplitl [HB]; · iexact HB
  isplitl [HQ]; · iexact HQ
  isplitl [HE]; · iexact HE
  isplitl [HO]; · iexact HO
  isplitl [HZ]; · iexact HZ
  isplitl [HW]; · iexact HW
  iintro ⟨HA, HB, HQ, ⟨%E', %O', %Z', HE, HO, HZ, %hS⟩, HW⟩
  rw [← hf_M c fm fl (show (i 1).val < 3 by omega) 0, ← hf_M c fm fl (show (i 1).val < 3 by omega) 1] at hS
  rw [show qA (cpy c X) = qx c X 0 from rfl] at hS
  iapply Hk
  isplitl [HA HB HX Hx Hr HQ HE HU HO HZ HWn]
  · isplitl [HA HB]
    · rw [e2]
      isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_A c X fm fl (gI i) (show n = (i 1).val by omega) hE hS
    isplitl [HU]
    · iexists _
      isplitl [HU]
      · iexact HU
      ipureintro
      exact uI_low c X fs fm fl (by omega)
    isplitl [HO HZ]
    · iexists _, _
      isplitl [HO]
      · iexact HO
      isplitl [HZ]
      · iexact HZ
      ipureintro
      exact accI_step c X fs fm fl (p := 0) (gI i) (show (i 1).val ≠ 0 by omega) (by omega) (show n = 19 * 0 + (i 1).val by omega) hA hS
    iexists _
    isplitl [HWn]
    · iexact HWn
    ipureintro
    exact wI_low c X fs fm fl (by omega)
  iexact HW

set_option maxHeartbeats 1000000 in
theorem pt_0_2 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : (i 1).val = 2) (n : ℕ) (hn : n = 19 * 0 + (i 1).val)
   :
   ∀ (W0 : Waits sig (HIx 1)) (K : PUnit → sProp 𝕄),
    iprop(Phi c X fs fm fl n ∗ owes (c : Thread nD τ) 0 W0 ∗ (iprop(Phi c X fs fm fl (n + 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_M c fs fm fl (n := n) (g := (i 1).val) (by omega) (by omega) (by omega) (by omega), ring_L c fs fm fl (n := n + 1) (g := (i 1).val + 1) (by omega) (by omega) (by omega)]
  have e2 : sl ((i 1).val + 1 + 1) = sl (i 1).val := sl_add_two _
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, HW, Hk⟩
  obtain rfl := hQ (by omega)
  iapply (run_0_2 c fs fm fl i arg6 harg6 arg7 harg7 arg8 harg8 hp hg (cpy c X) E O Z W0 K)
  isplitl [HA]; · iexact HA
  isplitl [HB]; · iexact HB
  isplitl [HQ]; · iexact HQ
  isplitl [HE]; · iexact HE
  isplitl [HO]; · iexact HO
  isplitl [HZ]; · iexact HZ
  isplitl [HW]; · iexact HW
  iintro ⟨HA, HB, HQ, ⟨%E', %O', %Z', HE, HO, HZ, %hS⟩, HW⟩
  rw [← hf_M c fm fl (show (i 1).val < 3 by omega) 0, ← hf_M c fm fl (show (i 1).val < 3 by omega) 1] at hS
  rw [show qA (cpy c X) = qx c X 0 from rfl] at hS
  iapply Hk
  isplitl [HA HB HX Hx Hr HQ HE HU HO HZ HWn]
  · isplitl [HA HB]
    · rw [e2]
      isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_A c X fm fl (gI i) (show n = (i 1).val by omega) hE hS
    isplitl [HU]
    · iexists _
      isplitl [HU]
      · iexact HU
      ipureintro
      exact uI_low c X fs fm fl (by omega)
    isplitl [HO HZ]
    · iexists _, _
      isplitl [HO]
      · iexact HO
      isplitl [HZ]
      · iexact HZ
      ipureintro
      exact accI_step c X fs fm fl (p := 0) (gI i) (show (i 1).val ≠ 0 by omega) (by omega) (show n = 19 * 0 + (i 1).val by omega) hA hS
    iexists _
    isplitl [HWn]
    · iexact HWn
    ipureintro
    exact wI_low c X fs fm fl (by omega)
  iexact HW

set_option maxHeartbeats 1000000 in
theorem pt_0_m (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : 3 ≤ (i 1).val) (hg' : (i 1).val < 18) (n : ℕ) (hn : n = 19 * 0 + (i 1).val)
   :
   ∀ (W0 : Waits sig (HIx 1)) (K : PUnit → sProp 𝕄),
    iprop(Phi c X fs fm fl n ∗ owes (c : Thread nD τ) 0 W0 ∗ (iprop(Phi c X fs fm fl (n + 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_L c fs fm fl (n := n) (g := (i 1).val) (by omega) (by omega) (by omega), ring_L c fs fm fl (n := n + 1) (g := (i 1).val + 1) (by omega) (by omega) (by omega)]
  have e2 : sl ((i 1).val + 1 + 1) = sl (i 1).val := sl_add_two _
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, HW, Hk⟩
  obtain rfl := hQ (by omega)
  iapply (run_0_m c fs fm fl i arg6 harg6 arg7 harg7 arg8 harg8 hp hg hg' (cpy c X) E O Z W0 K)
  isplitl [HA]; · iexact HA
  isplitl [HB]; · iexact HB
  isplitl [HQ]; · iexact HQ
  isplitl [HE]; · iexact HE
  isplitl [HO]; · iexact HO
  isplitl [HZ]; · iexact HZ
  isplitl [HW]; · iexact HW
  iintro ⟨HA, HB, HQ, ⟨%E', %O', %Z', HE, HO, HZ, %hS⟩, HW⟩
  rw [← hf_L c fm fl (show 3 ≤ (i 1).val by omega) 0, ← hf_L c fm fl (show 3 ≤ (i 1).val by omega) 1] at hS
  rw [show qA (cpy c X) = qx c X 0 from rfl] at hS
  iapply Hk
  isplitl [HA HB HX Hx Hr HQ HE HU HO HZ HWn]
  · isplitl [HA HB]
    · rw [e2]
      isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_A c X fm fl (gI i) (show n = (i 1).val by omega) hE hS
    isplitl [HU]
    · iexists _
      isplitl [HU]
      · iexact HU
      ipureintro
      exact uI_low c X fs fm fl (by omega)
    isplitl [HO HZ]
    · iexists _, _
      isplitl [HO]
      · iexact HO
      isplitl [HZ]
      · iexact HZ
      ipureintro
      exact accI_step c X fs fm fl (p := 0) (gI i) (show (i 1).val ≠ 0 by omega) (by omega) (show n = 19 * 0 + (i 1).val by omega) hA hS
    iexists _
    isplitl [HWn]
    · iexact HWn
    ipureintro
    exact wI_low c X fs fm fl (by omega)
  iexact HW

set_option maxHeartbeats 1000000 in
theorem pt_0_L (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 0) (hg : (i 1).val = 18) (n : ℕ) (hn : n = 19 * 0 + (i 1).val)
   :
   ∀ (W0 : Waits sig (HIx 1)) (K : PUnit → sProp 𝕄),
    iprop(Phi c X fs fm fl n ∗ owes (c : Thread nD τ) 0 W0 ∗ (iprop(Phi c X fs fm fl (n + 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_L c fs fm fl (n := n) (g := (i 1).val) (by omega) (by omega) (by omega), ring_0 c fs fm fl (n := n + 1) (by omega)]
  have e1 : sl ((i 1).val + 1) = 1 := by rw [hg]; rfl
  have e2 : sl (i 1).val = 0 := by rw [hg]; rfl
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, HW, Hk⟩
  obtain rfl := hQ (by omega)
  iapply (run_0_L c fs fm fl i arg6 harg6 arg7 harg7 arg8 harg8 hp hg (cpy c X) E O Z W0 K)
  isplitl [HA]; · iexact HA
  isplitl [HB]; · iexact HB
  isplitl [HQ]; · iexact HQ
  isplitl [HE]; · iexact HE
  isplitl [HO]; · iexact HO
  isplitl [HZ]; · iexact HZ
  isplitl [HW]; · iexact HW
  iintro ⟨HA, HB, HQ, ⟨%E', %O', %Z', HE, HO, HZ, %hS⟩, HW⟩
  rw [← hf_L c fm fl (show 3 ≤ (i 1).val by omega) 0, ← hf_L c fm fl (show 3 ≤ (i 1).val by omega) 1] at hS
  rw [show qA (cpy c X) = qx c X 0 from rfl] at hS
  iapply Hk
  isplitl [HA HB HX Hx Hr HQ HE HU HO HZ HWn]
  · isplitl [HA HB]
    · isplitl [HB]
      · iapply (Entails.of_eq (congrArg (free c fs fm fl) e2))
        iexact HB
      iapply (Entails.of_eq (congrArg (free c fs fm fl) e1))
      iexact HA
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_A c X fm fl (gI i) (show n = (i 1).val by omega) hE hS
    isplitl [HU]
    · iexists _
      isplitl [HU]
      · iexact HU
      ipureintro
      exact uI_low c X fs fm fl (by omega)
    isplitl [HO HZ]
    · iexists _, _
      isplitl [HO]
      · iexact HO
      isplitl [HZ]
      · iexact HZ
      ipureintro
      exact accI_step c X fs fm fl (p := 0) (gI i) (show (i 1).val ≠ 0 by omega) (by omega) (show n = 19 * 0 + (i 1).val by omega) hA hS
    iexists _
    isplitl [HWn]
    · iexact HWn
    ipureintro
    exact wI_low c X fs fm fl (by omega)
  iexact HW

end
end Cert.Proof.Attn
end
-- ==== Proof.Attn.Run10.lean ====
/-
  The attention call's body at the points of pass 1 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_1_0 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : (i 1).val = 0)
   (Q : Buf (Elt F) ((c : Thread nD τ).loc cc1_scratch0)) (E : Buf (Elt F) ((c : Thread nD τ).loc cc1_scratch2)) (U : Buf (Elt F) ((c : Thread nD τ).loc cc1_scratch3)) (O : Buf (Elt F) ((c : Thread nD τ).loc cc1_scratch4)) (Z : Buf (Elt F) ((c : Thread nD τ).loc cc1_scratch5)) (Wn : Buf (Elt F) ((c : Thread nD τ).loc cc1_scratch6))  :
   ∀ (W0 : Waits sig (HIx 1)) (K : PUnit → sProp 𝕄),
    iprop(free c fs fm fl 0 ∗ free c fs fm fl (sl ((i 1).val + 1)) ∗ W c qM Q ∗ W c eM E ∗ W c uM U ∗ W c oM O ∗ W c zM Z ∗ W c wM Wn ∗ (∃ d, owns c arg6 fullShare d) ∗ owes (c : Thread nD τ) 0 W0
      ∗ (iprop(flyM c fs fm fl (sl ((i 1).val + 1)) (mB ((i 1).val + 1)) ∗ free c fs fm fl 0 ∗ owns c arg6 fullShare (k1_pay13 (zV Z) (oV O)) ∗ W c qM Q ∗ (∃ E' O' Z', W c eM E' ∗ W c oM O' ∗ W c zM Z' ∗ ⌜StepS (qB Q) (vS c fs) E E' O' Z'⌝) ∗ (∃ U' W', W c uM U' ∗ W c wM W' ∗ ⌜StepU (gI i) E (k1_pay14 (zV Z)) U U' ∧ wV W' = k1_pay14 (zV Z)⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : k1_cond1 i = 1#1 := by rw [cond1_iff]; omega
  have hC4 : k1_cond4 i = 1#1 := by rw [cond4_iff]; omega
  have hC5 : k1_cond5 i = 1#1 := by rw [cond5_iff]; omega
  have hC6 : ¬k1_cond6 i = 1#1 := by rw [cond6_iff]; exact not_false
  have hC7 : k1_cond7 i = 1#1 := by rw [cond7_iff]; omega
  have hC8 : ¬k1_cond8 i = 1#1 := by rw [cond8_iff]; omega
  have hC9 : k1_cond9 i = 1#1 := by rw [cond9_iff]; omega
  have hC10 : ¬k1_cond10 i = 1#1 := by rw [cond10_iff]; omega
  have hC11 : ¬k1_cond11 i = 1#1 := by rw [cond11_iff]; omega
  simp only [cc1__attn_body_eq_skeleton]; unfold cc1__attn_body_skel
  simp only [k1_part1_eq_skeleton, k1_part2_eq_skeleton, k1_part3_eq_skeleton]
  unfold flyM free
  have hC2 : ¬wordP i = 1#1 := by rw [wordP_iff]; omega
  unfold owns
  iintro ⟨⟨HcS, ⟨%fS, HsS⟩, HSS, HMS, HLS⟩, ⟨Hc, ⟨%f0, Hs⟩, HS2, HM2, HL2⟩, HQ, HE, HU, HO, HZ, HWn, ⟨%d6, %f6, -, H6⟩, HW, Hk⟩
  ihave G := (lendS_split c fs).1 $$ HSS
  icases G with ⟨⟨Hy0, Hy1, Hy2, Hy3⟩, HR⟩
  ihave G := (slot_split c 0 fS).1 $$ HsS
  icases G with ⟨HdS, Hd5, Hd6, Hd7⟩
  ihave G := (part_split c fS).1 $$ HdS
  icases G with ⟨Hq0, Hq1, Hq2, Hq3⟩
  have hD := storable_dS (F := F) c fs
  imod (Transfers.batch_alloc' (Lvl := ℕ) countersEmb (c : Thread nD τ) default nS (dS c fs) (sm := cellR 0) (E := Set.univ)) $$ HcS with HF
  clear hD
  ihave G := (lendM_split c fm (sl ((i 1).val + 1)) (mB ((i 1).val + 1))).1 $$ HM2
  icases G with ⟨⟨Hx0, Hx1, Hx2, Hx3⟩, HR2⟩
  ihave G := (slot_split c (sl ((i 1).val + 1)) f0).1 $$ Hs
  icases G with ⟨Hd0, Hd1, Hd2, Hd3⟩
  have hD := storable_dM (F := F) c fm (sl ((i 1).val + 1)) (mB ((i 1).val + 1))
  imod (Transfers.batch_alloc' (Lvl := ℕ) countersEmb (c : Thread nD τ) default nP (dM c fm (sl ((i 1).val + 1)) (mB ((i 1).val + 1))) (sm := cellR (sl ((i 1).val + 1))) (E := Set.univ)) $$ Hc with HB
  clear hD
  set_option sl_exec.stopBefore "k1_cond12" in sl_exec
  ihave Hslot := (partS_join c fs) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HSS := (lendS_split c fs).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : ¬k1_cond12 i = 1#1 := by rw [cond12_iff]; omega
  have hC16 : k1_cond16 i = 1#1 := by rw [cond16_iff]; omega
  have hC17 : k1_cond17 i = 1#1 := by rw [cond17_iff]; omega
  have hC18 : word0 i = 1#1 := by rw [word0_iff]; omega
  have hC19 : ¬k1_cond19 i = 1#1 := by rw [cond19_iff]; omega
  have hC20 : ¬k1_cond20 i = 1#1 := by rw [cond20_iff]; omega
  have hA1 := access_part inb_S2x4096x128_S1x1024x128_0_0_0
  sl_exec
  ihave Hslot := (slot_glue c (chS c fs) fS) $$ [Hslot Hd5 Hd6 Hd7]
  · isplitl [Hslot]
    · iexact Hslot
    isplitl [Hd5]
    · iexact Hd5
    isplitl [Hd6]
    · iexact Hd6
    iexact Hd7
  sl_step
  iapply Hk
  isplitl [HB HR2 HS2 HL2]
  · isplitl [HB]
    · iexact HB
    isplitl [HR2]
    · iexact HR2
    isplitl [HS2]
    · iexact HS2
    iexact HL2
  isplitl [HF Hslot HSS HMS HLS]
  · isplitl [HF]
    · iexact HF
    isplitl [Hslot]
    · iexact Hslot
    isplitl [HSS]
    · iexact HSS
    isplitl [HMS]
    · iexact HMS
    iexact HLS
  isplitl [H6]
  · iexists _
    isplitr
    swap
    · iexact H6
    · ipureintro
      exact (View.read_writes_full _ _ _ _ _).trans rfl
  isplitl [HQ]
  · iexact HQ
  isplitl [HE HO HZ]
  · iexists _, _, _
    isplitl [HE]
    · iexact HE
    isplitl [HO]
    · iexact HO
    isplitl [HZ]
    · iexact HZ
    ipureintro
    exact stepS_of E O Z _ _ _ _ _ _ (oo_congr' rfl (read_S c fs _) (View.readCov_full _ _ _ _ _)) (zz_congr' rfl (read_S c fs _) (View.readCov_full _ _ _ _ _))
  isplitl [HU HWn]
  · iexists _, _
    isplitl [HU]
    · iexact HU
    isplitl [HWn]
    · iexact HWn
    ipureintro
    exact ⟨stepU_of (gI i) E U (k1_off40_eq i) _ _ (pay17_congr (eBlk_of E (gI i) (k1_off39_eq i) _) (View.readCov_full _ _ _ _ _)), wV_writes _ _ _ _⟩
  iexists _
  iexact HW
end
end Cert.Proof.Attn
end
-- ==== Proof.Attn.Run11.lean ====
/-
  The attention call's body at the points of pass 1 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_1_1 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : (i 1).val = 1)
   (Q : Buf (Elt F) ((c : Thread nD τ).loc cc1_scratch0)) (E : Buf (Elt F) ((c : Thread nD τ).loc cc1_scratch2)) (U : Buf (Elt F) ((c : Thread nD τ).loc cc1_scratch3)) (O : Buf (Elt F) ((c : Thread nD τ).loc cc1_scratch4)) (Z : Buf (Elt F) ((c : Thread nD τ).loc cc1_scratch5)) (Wn : Buf (Elt F) ((c : Thread nD τ).loc cc1_scratch6))  :
   ∀ (W0 : Waits sig (HIx 1)) (K : PUnit → sProp 𝕄),
    iprop(flyM c fs fm fl (sl (i 1).val) (mB ((i 1).val)) ∗ free c fs fm fl (sl ((i 1).val + 1)) ∗ W c qM Q ∗ W c eM E ∗ W c uM U ∗ W c oM O ∗ W c zM Z ∗ W c wM Wn ∗ owes (c : Thread nD τ) 0 W0
      ∗ (iprop(flyM c fs fm fl (sl ((i 1).val + 1)) (mB ((i 1).val + 1)) ∗ free c fs fm fl (sl (i 1).val) ∗ W c qM Q ∗ (∃ E' O' Z', W c eM E' ∗ W c oM O' ∗ W c zM Z' ∗ ⌜Step (gI i) (qB Q) (hM c fm (mB ((i 1).val)) 0) (hM c fm (mB ((i 1).val)) 1) E E' O O' Z Z'⌝) ∗ (∃ U', W c uM U' ∗ W c wM Wn ∗ ⌜StepU (gI i) E (wV Wn) U U'⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : k1_cond4 i = 1#1 := by rw [cond4_iff]; omega
  have hC5 : k1_cond5 i = 1#1 := by rw [cond5_iff]; omega
  have hC6 : ¬k1_cond6 i = 1#1 := by rw [cond6_iff]; exact not_false
  have hC7 : k1_cond7 i = 1#1 := by rw [cond7_iff]; omega
  have hC8 : ¬k1_cond8 i = 1#1 := by rw [cond8_iff]; omega
  have hC9 : ¬k1_cond9 i = 1#1 := by rw [cond9_iff]; omega
  have hC10 : k1_cond10 i = 1#1 := by rw [cond10_iff]; omega
  have hC11 : ¬k1_cond11 i = 1#1 := by rw [cond11_iff]; omega
  simp only [cc1__attn_body_eq_skeleton]; unfold cc1__attn_body_skel
  simp only [k1_part1_eq_skeleton, k1_part2_eq_skeleton, k1_part3_eq_skeleton]
  unfold flyM free
  iintro ⟨⟨HF, HR, HS1, HL1⟩, ⟨Hc, ⟨%f0, Hs⟩, HS2, HM2, HL2⟩, HQ, HE, HU, HO, HZ, HWn, HW, Hk⟩
  ihave G := (lendM_split c fm (sl ((i 1).val + 1)) (mB ((i 1).val + 1))).1 $$ HM2
  icases G with ⟨⟨Hx0, Hx1, Hx2, Hx3⟩, HR2⟩
  ihave G := (slot_split c (sl ((i 1).val + 1)) f0).1 $$ Hs
  icases G with ⟨Hd0, Hd1, Hd2, Hd3⟩
  have hD := storable_dM (F := F) c fm (sl ((i 1).val + 1)) (mB ((i 1).val + 1))
  imod (Transfers.batch_alloc' (Lvl := ℕ) countersEmb (c : Thread nD τ) default nP (dM c fm (sl ((i 1).val + 1)) (mB ((i 1).val + 1))) (sm := cellR (sl ((i 1).val + 1))) (E := Set.univ)) $$ Hc with HB
  clear hD
  set_option sl_exec.stopBefore "k1_cond12" in sl_exec
  ihave Hslot := (slotM_join c fm (sl (i 1).val) (mB ((i 1).val))) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HM1 := (lendM_split c fm (sl (i 1).val) (mB ((i 1).val))).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : ¬k1_cond12 i = 1#1 := by rw [cond12_iff]; omega
  have hC16 : k1_cond16 i = 1#1 := by rw [cond16_iff]; omega
  have hC17 : ¬k1_cond17 i = 1#1 := by rw [cond17_iff]; omega
  have hC18 : ¬word0 i = 1#1 := by rw [word0_iff]; omega
  have hC19 : k1_cond19 i = 1#1 := by rw [cond19_iff]; omega
  have hC20 : ¬k1_cond20 i = 1#1 := by rw [cond20_iff]; omega
  have hA1 := access_slot41 i (k1_off41_inb i hC16 hC19)
  have hA2 := access_slot43 i (k1_off43_inb i hC16 hC19)
  sl_exec
  sl_step
  iapply Hk
  isplitl [HB HR2 HS2 HL2]
  · isplitl [HB]
    · iexact HB
    isplitl [HR2]
    · iexact HR2
    isplitl [HS2]
    · iexact HS2
    iexact HL2
  isplitl [HF Hslot HS1 HM1 HL1]
  · isplitl [HF]
    · iexact HF
    isplitl [Hslot]
    · iexists _
      iexact Hslot
    isplitl [HS1]
    · iexact HS1
    isplitl [HM1]
    · iexact HM1
    iexact HL1
  isplitl [HQ]
  · iexact HQ
  isplitl [HE HO HZ]
  · iexists _, _, _
    isplitl [HE]
    · iexact HE
    isplitl [HO]
    · iexact HO
    isplitl [HZ]
    · iexact HZ
    ipureintro
    exact step_of (gI i) E O Z (k1_off42_eq i 0) (k1_off42_eq i 1) _ _ _ _ _ _ _ _ (w0_congr' (read_M c fm (sl (i 1).val) (mB ((i 1).val)) 0 (off41_eq i) _)) (w1_congr' (read_M c fm (sl (i 1).val) (mB ((i 1).val)) 1 (off43_eq i) _)) (os_congr' (read_M c fm (sl (i 1).val) (mB ((i 1).val)) 0 (off41_eq i) _) (read_M c fm (sl (i 1).val) (mB ((i 1).val)) 1 (off43_eq i) _)) (zs_congr' (read_M c fm (sl (i 1).val) (mB ((i 1).val)) 0 (off41_eq i) _) (read_M c fm (sl (i 1).val) (mB ((i 1).val)) 1 (off43_eq i) _))
  isplitl [HU HWn]
  · iexists _
    isplitl [HU]
    · iexact HU
    isplitl [HWn]
    · iexact HWn
    ipureintro
    exact stepU_of (gI i) E U (k1_off40_eq i) _ _ (pay17_congr (eBlk_of E (gI i) (k1_off39_eq i) _) rfl)
  iexists _
  iexact HW
end
end Cert.Proof.Attn
end
-- ==== Proof.Attn.Run12.lean ====
/-
  The attention call's body at the points of pass 1 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_1_2 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : (i 1).val = 2)
   (Q : Buf (Elt F) ((c : Thread nD τ).loc cc1_scratch0)) (E : Buf (Elt F) ((c : Thread nD τ).loc cc1_scratch2)) (U : Buf (Elt F) ((c : Thread nD τ).loc cc1_scratch3)) (O : Buf (Elt F) ((c : Thread nD τ).loc cc1_scratch4)) (Z : Buf (Elt F) ((c : Thread nD τ).loc cc1_scratch5)) (Wn : Buf (Elt F) ((c : Thread nD τ).loc cc1_scratch6))  :
   ∀ (W0 : Waits sig (HIx 1)) (K : PUnit → sProp 𝕄),
    iprop(flyM c fs fm fl (sl (i 1).val) (mB ((i 1).val)) ∗ free c fs fm fl (sl ((i 1).val + 1)) ∗ W c qM Q ∗ W c eM E ∗ W c uM U ∗ W c oM O ∗ W c zM Z ∗ W c wM Wn ∗ owes (c : Thread nD τ) 0 W0
      ∗ (iprop(flyL c fs fm fl (sl ((i 1).val + 1)) (lB ((i 1).val + 1)) ∗ free c fs fm fl (sl (i 1).val) ∗ W c qM Q ∗ (∃ E' O' Z', W c eM E' ∗ W c oM O' ∗ W c zM Z' ∗ ⌜Step (gI i) (qB Q) (hM c fm (mB ((i 1).val)) 0) (hM c fm (mB ((i 1).val)) 1) E E' O O' Z Z'⌝) ∗ (∃ U', W c uM U' ∗ W c wM Wn ∗ ⌜StepU (gI i) E (wV Wn) U U'⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : k1_cond4 i = 1#1 := by rw [cond4_iff]; omega
  have hC5 : k1_cond5 i = 1#1 := by rw [cond5_iff]; omega
  have hC6 : ¬k1_cond6 i = 1#1 := by rw [cond6_iff]; exact not_false
  have hC7 : ¬k1_cond7 i = 1#1 := by rw [cond7_iff]; omega
  have hC8 : k1_cond8 i = 1#1 := by rw [cond8_iff]; omega
  have hC9 : ¬k1_cond9 i = 1#1 := by rw [cond9_iff]; omega
  have hC10 : k1_cond10 i = 1#1 := by rw [cond10_iff]; omega
  have hC11 : ¬k1_cond11 i = 1#1 := by rw [cond11_iff]; omega
  simp only [cc1__attn_body_eq_skeleton]; unfold cc1__attn_body_skel
  simp only [k1_part1_eq_skeleton, k1_part2_eq_skeleton, k1_part3_eq_skeleton]
  unfold flyM flyL free
  iintro ⟨⟨HF, HR, HS1, HL1⟩, ⟨Hc, ⟨%f0, Hs⟩, HS2, HM2, HL2⟩, HQ, HE, HU, HO, HZ, HWn, HW, Hk⟩
  ihave G := (lendL_split c fl (sl ((i 1).val + 1)) (lB ((i 1).val + 1))).1 $$ HL2
  icases G with ⟨⟨Hx0, Hx1, Hx2, Hx3⟩, HR2⟩
  ihave G := (slot_split c (sl ((i 1).val + 1)) f0).1 $$ Hs
  icases G with ⟨Hd0, Hd1, Hd2, Hd3⟩
  have hD := storable_dL (F := F) c fl (sl ((i 1).val + 1)) (lB ((i 1).val + 1))
  imod (Transfers.batch_alloc' (Lvl := ℕ) countersEmb (c : Thread nD τ) default nP (dL c fl (sl ((i 1).val + 1)) (lB ((i 1).val + 1))) (sm := cellR (sl ((i 1).val + 1))) (E := Set.univ)) $$ Hc with HB
  clear hD
  set_option sl_exec.stopBefore "k1_cond12" in sl_exec
  ihave Hslot := (slotM_join c fm (sl (i 1).val) (mB ((i 1).val))) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HM1 := (lendM_split c fm (sl (i 1).val) (mB ((i 1).val))).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : ¬k1_cond12 i = 1#1 := by rw [cond12_iff]; omega
  have hC16 : k1_cond16 i = 1#1 := by rw [cond16_iff]; omega
  have hC17 : ¬k1_cond17 i = 1#1 := by rw [cond17_iff]; omega
  have hC18 : ¬word0 i = 1#1 := by rw [word0_iff]; omega
  have hC19 : k1_cond19 i = 1#1 := by rw [cond19_iff]; omega
  have hC20 : ¬k1_cond20 i = 1#1 := by rw [cond20_iff]; omega
  have hA1 := access_slot41 i (k1_off41_inb i hC16 hC19)
  have hA2 := access_slot43 i (k1_off43_inb i hC16 hC19)
  sl_exec
  sl_step
  iapply Hk
  isplitl [HB HR2 HS2 HM2]
  · isplitl [HB]
    · iexact HB
    isplitl [HR2]
    · iexact HR2
    isplitl [HS2]
    · iexact HS2
    iexact HM2
  isplitl [HF Hslot HS1 HM1 HL1]
  · isplitl [HF]
    · iexact HF
    isplitl [Hslot]
    · iexists _
      iexact Hslot
    isplitl [HS1]
    · iexact HS1
    isplitl [HM1]
    · iexact HM1
    iexact HL1
  isplitl [HQ]
  · iexact HQ
  isplitl [HE HO HZ]
  · iexists _, _, _
    isplitl [HE]
    · iexact HE
    isplitl [HO]
    · iexact HO
    isplitl [HZ]
    · iexact HZ
    ipureintro
    exact step_of (gI i) E O Z (k1_off42_eq i 0) (k1_off42_eq i 1) _ _ _ _ _ _ _ _ (w0_congr' (read_M c fm (sl (i 1).val) (mB ((i 1).val)) 0 (off41_eq i) _)) (w1_congr' (read_M c fm (sl (i 1).val) (mB ((i 1).val)) 1 (off43_eq i) _)) (os_congr' (read_M c fm (sl (i 1).val) (mB ((i 1).val)) 0 (off41_eq i) _) (read_M c fm (sl (i 1).val) (mB ((i 1).val)) 1 (off43_eq i) _)) (zs_congr' (read_M c fm (sl (i 1).val) (mB ((i 1).val)) 0 (off41_eq i) _) (read_M c fm (sl (i 1).val) (mB ((i 1).val)) 1 (off43_eq i) _))
  isplitl [HU HWn]
  · iexists _
    isplitl [HU]
    · iexact HU
    isplitl [HWn]
    · iexact HWn
    ipureintro
    exact stepU_of (gI i) E U (k1_off40_eq i) _ _ (pay17_congr (eBlk_of E (gI i) (k1_off39_eq i) _) rfl)
  iexists _
  iexact HW
end
end Cert.Proof.Attn
end
-- ==== Proof.Attn.Run1m.lean ====
/-
  The attention call's body at the points of pass 1 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_1_m (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : 3 ≤ (i 1).val) (hg' : (i 1).val < 18)
   (Q : Buf (Elt F) ((c : Thread nD τ).loc cc1_scratch0)) (E : Buf (Elt F) ((c : Thread nD τ).loc cc1_scratch2)) (U : Buf (Elt F) ((c : Thread nD τ).loc cc1_scratch3)) (O : Buf (Elt F) ((c : Thread nD τ).loc cc1_scratch4)) (Z : Buf (Elt F) ((c : Thread nD τ).loc cc1_scratch5)) (Wn : Buf (Elt F) ((c : Thread nD τ).loc cc1_scratch6))  :
   ∀ (W0 : Waits sig (HIx 1)) (K : PUnit → sProp 𝕄),
    iprop(flyL c fs fm fl (sl (i 1).val) (lB ((i 1).val)) ∗ free c fs fm fl (sl ((i 1).val + 1)) ∗ W c qM Q ∗ W c eM E ∗ W c uM U ∗ W c oM O ∗ W c zM Z ∗ W c wM Wn ∗ owes (c : Thread nD τ) 0 W0
      ∗ (iprop(flyL c fs fm fl (sl ((i 1).val + 1)) (lB ((i 1).val + 1)) ∗ free c fs fm fl (sl (i 1).val) ∗ W c qM Q ∗ (∃ E' O' Z', W c eM E' ∗ W c oM O' ∗ W c zM Z' ∗ ⌜Step (gI i) (qB Q) (hL c fl (lB ((i 1).val)) 0) (hL c fl (lB ((i 1).val)) 1) E E' O O' Z Z'⌝) ∗ (∃ U', W c uM U' ∗ W c wM Wn ∗ ⌜StepU (gI i) E (wV Wn) U U'⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : k1_cond4 i = 1#1 := by rw [cond4_iff]; omega
  have hC5 : k1_cond5 i = 1#1 := by rw [cond5_iff]; omega
  have hC6 : ¬k1_cond6 i = 1#1 := by rw [cond6_iff]; exact not_false
  have hC7 : ¬k1_cond7 i = 1#1 := by rw [cond7_iff]; omega
  have hC8 : k1_cond8 i = 1#1 := by rw [cond8_iff]; omega
  have hC9 : ¬k1_cond9 i = 1#1 := by rw [cond9_iff]; omega
  have hC10 : ¬k1_cond10 i = 1#1 := by rw [cond10_iff]; omega
  have hC11 : k1_cond11 i = 1#1 := by rw [cond11_iff]; omega
  simp only [cc1__attn_body_eq_skeleton]; unfold cc1__attn_body_skel
  simp only [k1_part1_eq_skeleton, k1_part2_eq_skeleton, k1_part3_eq_skeleton]
  unfold flyL free
  iintro ⟨⟨HF, HR, HS1, HM1⟩, ⟨Hc, ⟨%f0, Hs⟩, HS2, HM2, HL2⟩, HQ, HE, HU, HO, HZ, HWn, HW, Hk⟩
  ihave G := (lendL_split c fl (sl ((i 1).val + 1)) (lB ((i 1).val + 1))).1 $$ HL2
  icases G with ⟨⟨Hx0, Hx1, Hx2, Hx3⟩, HR2⟩
  ihave G := (slot_split c (sl ((i 1).val + 1)) f0).1 $$ Hs
  icases G with ⟨Hd0, Hd1, Hd2, Hd3⟩
  have hD := storable_dL (F := F) c fl (sl ((i 1).val + 1)) (lB ((i 1).val + 1))
  imod (Transfers.batch_alloc' (Lvl := ℕ) countersEmb (c : Thread nD τ) default nP (dL c fl (sl ((i 1).val + 1)) (lB ((i 1).val + 1))) (sm := cellR (sl ((i 1).val + 1))) (E := Set.univ)) $$ Hc with HB
  clear hD
  set_option sl_exec.stopBefore "k1_cond12" in sl_exec
  ihave Hslot := (slotL_join c fl (sl (i 1).val) (lB ((i 1).val))) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HL1 := (lendL_split c fl (sl (i 1).val) (lB ((i 1).val))).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : ¬k1_cond12 i = 1#1 := by rw [cond12_iff]; omega
  have hC16 : k1_cond16 i = 1#1 := by rw [cond16_iff]; omega
  have hC17 : ¬k1_cond17 i = 1#1 := by rw [cond17_iff]; omega
  have hC18 : ¬word0 i = 1#1 := by rw [word0_iff]; omega
  have hC19 : k1_cond19 i = 1#1 := by rw [cond19_iff]; omega
  have hC20 : ¬k1_cond20 i = 1#1 := by rw [cond20_iff]; omega
  have hA1 := access_slot41 i (k1_off41_inb i hC16 hC19)
  have hA2 := access_slot43 i (k1_off43_inb i hC16 hC19)
  sl_exec
  sl_step
  iapply Hk
  isplitl [HB HR2 HS2 HM2]
  · isplitl [HB]
    · iexact HB
    isplitl [HR2]
    · iexact HR2
    isplitl [HS2]
    · iexact HS2
    iexact HM2
  isplitl [HF Hslot HS1 HM1 HL1]
  · isplitl [HF]
    · iexact HF
    isplitl [Hslot]
    · iexists _
      iexact Hslot
    isplitl [HS1]
    · iexact HS1
    isplitl [HM1]
    · iexact HM1
    iexact HL1
  isplitl [HQ]
  · iexact HQ
  isplitl [HE HO HZ]
  · iexists _, _, _
    isplitl [HE]
    · iexact HE
    isplitl [HO]
    · iexact HO
    isplitl [HZ]
    · iexact HZ
    ipureintro
    exact step_of (gI i) E O Z (k1_off42_eq i 0) (k1_off42_eq i 1) _ _ _ _ _ _ _ _ (w0_congr' (read_L c fl (sl (i 1).val) (lB ((i 1).val)) 0 (off41_eq i) _)) (w1_congr' (read_L c fl (sl (i 1).val) (lB ((i 1).val)) 1 (off43_eq i) _)) (os_congr' (read_L c fl (sl (i 1).val) (lB ((i 1).val)) 0 (off41_eq i) _) (read_L c fl (sl (i 1).val) (lB ((i 1).val)) 1 (off43_eq i) _)) (zs_congr' (read_L c fl (sl (i 1).val) (lB ((i 1).val)) 0 (off41_eq i) _) (read_L c fl (sl (i 1).val) (lB ((i 1).val)) 1 (off43_eq i) _))
  isplitl [HU HWn]
  · iexists _
    isplitl [HU]
    · iexact HU
    isplitl [HWn]
    · iexact HWn
    ipureintro
    exact stepU_of (gI i) E U (k1_off40_eq i) _ _ (pay17_congr (eBlk_of E (gI i) (k1_off39_eq i) _) rfl)
  iexists _
  iexact HW
end
end Cert.Proof.Attn
end
-- ==== Proof.Attn.Run1L.lean ====
/-
  The attention call's body at the points of pass 1 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_1_L (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : (i 1).val = 18)
   (Q : Buf (Elt F) ((c : Thread nD τ).loc cc1_scratch0)) (E : Buf (Elt F) ((c : Thread nD τ).loc cc1_scratch2)) (U : Buf (Elt F) ((c : Thread nD τ).loc cc1_scratch3)) (O : Buf (Elt F) ((c : Thread nD τ).loc cc1_scratch4)) (Z : Buf (Elt F) ((c : Thread nD τ).loc cc1_scratch5)) (Wn : Buf (Elt F) ((c : Thread nD τ).loc cc1_scratch6))  :
   ∀ (W0 : Waits sig (HIx 1)) (K : PUnit → sProp 𝕄),
    iprop(flyL c fs fm fl (sl (i 1).val) (lB ((i 1).val)) ∗ free c fs fm fl (sl ((i 1).val + 1)) ∗ W c qM Q ∗ W c eM E ∗ W c uM U ∗ W c oM O ∗ W c zM Z ∗ W c wM Wn ∗ owes (c : Thread nD τ) 0 W0
      ∗ (iprop(free c fs fm fl (sl ((i 1).val + 1)) ∗ free c fs fm fl (sl (i 1).val) ∗ W c qM Q ∗ (∃ E' O' Z', W c eM E' ∗ W c oM O' ∗ W c zM Z' ∗ ⌜Step (gI i) (qB Q) (hL c fl (lB ((i 1).val)) 0) (hL c fl (lB ((i 1).val)) 1) E E' O O' Z Z'⌝) ∗ (∃ U', W c uM U' ∗ W c wM Wn ∗ ⌜StepU (gI i) E (wV Wn) U U'⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : k1_cond4 i = 1#1 := by rw [cond4_iff]; omega
  have hC5 : ¬k1_cond5 i = 1#1 := by rw [cond5_iff]; omega
  have hC9 : ¬k1_cond9 i = 1#1 := by rw [cond9_iff]; omega
  have hC10 : ¬k1_cond10 i = 1#1 := by rw [cond10_iff]; omega
  have hC11 : k1_cond11 i = 1#1 := by rw [cond11_iff]; omega
  simp only [cc1__attn_body_eq_skeleton]; unfold cc1__attn_body_skel
  simp only [k1_part1_eq_skeleton, k1_part2_eq_skeleton, k1_part3_eq_skeleton]
  unfold flyL
  iintro ⟨⟨HF, HR, HS1, HM1⟩, Hfree, HQ, HE, HU, HO, HZ, HWn, HW, Hk⟩
  set_option sl_exec.stopBefore "k1_cond12" in sl_exec
  ihave Hslot := (slotL_join c fl (sl (i 1).val) (lB ((i 1).val))) $$ [HF_dst0 HF_dst1 HF_dst2 HF_dst3]
  · isplitl [HF_dst0]; · iexact HF_dst0
    isplitl [HF_dst1]; · iexact HF_dst1
    isplitl [HF_dst2]; · iexact HF_dst2
    iexact HF_dst3
  ihave HL1 := (lendL_split c fl (sl (i 1).val) (lB ((i 1).val))).2 $$ [HF_src0 HF_src1 HF_src2 HF_src3 HR]
  · isplitr [HR]
    · isplitl [HF_src0]; · iexact HF_src0
      isplitl [HF_src1]; · iexact HF_src1
      isplitl [HF_src2]; · iexact HF_src2
      iexact HF_src3
    iexact HR
  have hC12 : ¬k1_cond12 i = 1#1 := by rw [cond12_iff]; omega
  have hC16 : k1_cond16 i = 1#1 := by rw [cond16_iff]; omega
  have hC17 : ¬k1_cond17 i = 1#1 := by rw [cond17_iff]; omega
  have hC18 : ¬word0 i = 1#1 := by rw [word0_iff]; omega
  have hC19 : k1_cond19 i = 1#1 := by rw [cond19_iff]; omega
  have hC20 : ¬k1_cond20 i = 1#1 := by rw [cond20_iff]; omega
  have hA1 := access_slot41 i (k1_off41_inb i hC16 hC19)
  have hA2 := access_slot43 i (k1_off43_inb i hC16 hC19)
  sl_exec
  sl_step
  iapply Hk
  isplitl [Hfree]
  · iexact Hfree
  isplitl [HF Hslot HS1 HM1 HL1]
  · unfold free
    isplitl [HF]
    · iexact HF
    isplitl [Hslot]
    · iexists _
      iexact Hslot
    isplitl [HS1]
    · iexact HS1
    isplitl [HM1]
    · iexact HM1
    iexact HL1
  isplitl [HQ]
  · iexact HQ
  isplitl [HE HO HZ]
  · iexists _, _, _
    isplitl [HE]
    · iexact HE
    isplitl [HO]
    · iexact HO
    isplitl [HZ]
    · iexact HZ
    ipureintro
    exact step_of (gI i) E O Z (k1_off42_eq i 0) (k1_off42_eq i 1) _ _ _ _ _ _ _ _ (w0_congr' (read_L c fl (sl (i 1).val) (lB ((i 1).val)) 0 (off41_eq i) _)) (w1_congr' (read_L c fl (sl (i 1).val) (lB ((i 1).val)) 1 (off43_eq i) _)) (os_congr' (read_L c fl (sl (i 1).val) (lB ((i 1).val)) 0 (off41_eq i) _) (read_L c fl (sl (i 1).val) (lB ((i 1).val)) 1 (off43_eq i) _)) (zs_congr' (read_L c fl (sl (i 1).val) (lB ((i 1).val)) 0 (off41_eq i) _) (read_L c fl (sl (i 1).val) (lB ((i 1).val)) 1 (off43_eq i) _))
  isplitl [HU HWn]
  · iexists _
    isplitl [HU]
    · iexact HU
    isplitl [HWn]
    · iexact HWn
    ipureintro
    exact stepU_of (gI i) E U (k1_off40_eq i) _ _ (pay17_congr (eBlk_of E (gI i) (k1_off39_eq i) _) rfl)
  iexists _
  iexact HW
end
end Cert.Proof.Attn
end
-- ==== Proof.Attn.Pass1.lean ====
/-
  The points of pass 1: each takes the invariant before it to the invariant after it, and leaves its block of results.
-/
module

public import proofs.«01_k».proof.Proof.Attn.Phi
public import proofs.«01_k».proof.Proof.Attn.Run10
public import proofs.«01_k».proof.Proof.Attn.Run11
public import proofs.«01_k».proof.Proof.Attn.Run12
public import proofs.«01_k».proof.Proof.Attn.Run1m
public import proofs.«01_k».proof.Proof.Attn.Run1L
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (X : Buf (Elt F) ((c : Thread nD τ).loc main_v17)) (fs : Buf (Elt F) ((c : Thread nD τ).loc main_v12)) (fm : Buf (Elt F) ((c : Thread nD τ).loc main_arg2)) (fl : Buf (Elt F) ((c : Thread nD τ).loc main_arg3))

set_option maxHeartbeats 1000000 in
theorem pt_1_0 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : (i 1).val = 0) (n : ℕ) (hn : n = 19 * 1 + (i 1).val)
   :
   ∀ (W0 : Waits sig (HIx 1)) (K : PUnit → sProp 𝕄),
    iprop(Phi c X fs fm fl n ∗ (∃ d, owns c arg6 fullShare d) ∗ owes (c : Thread nD τ) 0 W0 ∗ (iprop(Phi c X fs fm fl (n + 1) ∗ owns c arg6 fullShare (OT c X fs fm fl 0) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_0 c fs fm fl (n := n) (Or.inr (by omega)), ring_M c fs fm fl (n := n + 1) (g := (i 1).val + 1) (by omega) (by omega) (by omega) (by omega)]
  have e1 : sl ((i 1).val + 1) = 1 := by rw [hg]; rfl
  have e2 : sl ((i 1).val + 1 + 1) = 0 := by rw [hg]; rfl
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, H6, HW, Hk⟩
  obtain rfl := hQ (by omega)
  iapply (run_1_0 c fs fm fl i arg6 harg6 arg7 harg7 arg8 harg8 hp hg (cpy c X) E U O Z w W0 K)
  isplitl [HA]; · iexact HA
  isplitl [HB]; · rw [e1]; iexact HB
  isplitl [HQ]; · iexact HQ
  isplitl [HE]; · iexact HE
  isplitl [HU]; · iexact HU
  isplitl [HO]; · iexact HO
  isplitl [HZ]; · iexact HZ
  isplitl [HWn]; · iexact HWn
  isplitl [H6]; · iexact H6
  isplitl [HW]; · iexact HW
  iintro ⟨HA, HB, H6, HQ, ⟨%E', %O', %Z', HE, HO, HZ, %hS⟩, ⟨%U', %w', HU, HWn, %hT, %hW⟩, HW⟩
  rw [show qB (cpy c X) = qx c X 1 from rfl] at hS
  rw [out_of c X fs fm fl (p := 0) (by omega) (by omega) hA]
  iapply Hk
  isplitl [HA HB HX Hx Hr HQ HE HU HO HZ HWn]
  · isplitl [HA HB]
    · rw [e2]
      isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_S c X fm fl (by omega) hE hS
    isplitl [HU]
    · iexists _
      isplitl [HU]
      · iexact HU
      ipureintro
      exact uI_low c X fs fm fl (by omega)
    isplitl [HO HZ]
    · iexists _, _
      isplitl [HO]
      · iexact HO
      isplitl [HZ]
      · iexact HZ
      ipureintro
      exact accI_S c X fs fm fl (p := 1) (by omega) hS
    iexists _
    isplitl [HWn]
    · iexact HWn
    ipureintro
    exact wI_19 c X fs fm fl (by omega) hA hW
  isplitl [H6]
  · iexact H6
  iexact HW

set_option maxHeartbeats 1000000 in
theorem pt_1_1 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : (i 1).val = 1) (n : ℕ) (hn : n = 19 * 1 + (i 1).val)
   :
   ∀ (W0 : Waits sig (HIx 1)) (K : PUnit → sProp 𝕄),
    iprop(Phi c X fs fm fl n ∗ owes (c : Thread nD τ) 0 W0 ∗ (iprop(Phi c X fs fm fl (n + 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_M c fs fm fl (n := n) (g := (i 1).val) (by omega) (by omega) (by omega) (by omega), ring_M c fs fm fl (n := n + 1) (g := (i 1).val + 1) (by omega) (by omega) (by omega) (by omega)]
  have e2 : sl ((i 1).val + 1 + 1) = sl (i 1).val := sl_add_two _
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, HW, Hk⟩
  obtain rfl := hQ (by omega)
  iapply (run_1_1 c fs fm fl i arg6 harg6 arg7 harg7 arg8 harg8 hp hg (cpy c X) E U O Z w W0 K)
  isplitl [HA]; · iexact HA
  isplitl [HB]; · iexact HB
  isplitl [HQ]; · iexact HQ
  isplitl [HE]; · iexact HE
  isplitl [HU]; · iexact HU
  isplitl [HO]; · iexact HO
  isplitl [HZ]; · iexact HZ
  isplitl [HWn]; · iexact HWn
  isplitl [HW]; · iexact HW
  iintro ⟨HA, HB, HQ, ⟨%E', %O', %Z', HE, HO, HZ, %hS⟩, ⟨%U', HU, HWn, %hT⟩, HW⟩
  rw [← hf_M c fm fl (show (i 1).val < 3 by omega) 0, ← hf_M c fm fl (show (i 1).val < 3 by omega) 1] at hS
  rw [show qB (cpy c X) = qx c X 1 from rfl] at hS
  iapply Hk
  isplitl [HA HB HX Hx Hr HQ HE HU HO HZ HWn]
  · isplitl [HA HB]
    · rw [e2]
      isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_B c X fm fl (gI i) (show (i 1).val ≠ 0 by omega) (show n = 19 + (i 1).val by omega) hE hS
    isplitl [HU]
    · iexists _
      isplitl [HU]
      · iexact HU
      ipureintro
      exact uI_B c X fs fm fl (gI i) (show (i 1).val ≠ 0 by omega) (show n = 19 + (i 1).val by omega) hE hw hU hT
    isplitl [HO HZ]
    · iexists _, _
      isplitl [HO]
      · iexact HO
      isplitl [HZ]
      · iexact HZ
      ipureintro
      exact accI_step c X fs fm fl (p := 1) (gI i) (show (i 1).val ≠ 0 by omega) (by omega) (show n = 19 * 1 + (i 1).val by omega) hA hS
    iexists _
    isplitl [HWn]
    · iexact HWn
    ipureintro
    exact wI_keep c X fs fm fl (by omega) (by omega) hw
  iexact HW

set_option maxHeartbeats 1000000 in
theorem pt_1_2 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : (i 1).val = 2) (n : ℕ) (hn : n = 19 * 1 + (i 1).val)
   :
   ∀ (W0 : Waits sig (HIx 1)) (K : PUnit → sProp 𝕄),
    iprop(Phi c X fs fm fl n ∗ owes (c : Thread nD τ) 0 W0 ∗ (iprop(Phi c X fs fm fl (n + 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_M c fs fm fl (n := n) (g := (i 1).val) (by omega) (by omega) (by omega) (by omega), ring_L c fs fm fl (n := n + 1) (g := (i 1).val + 1) (by omega) (by omega) (by omega)]
  have e2 : sl ((i 1).val + 1 + 1) = sl (i 1).val := sl_add_two _
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, HW, Hk⟩
  obtain rfl := hQ (by omega)
  iapply (run_1_2 c fs fm fl i arg6 harg6 arg7 harg7 arg8 harg8 hp hg (cpy c X) E U O Z w W0 K)
  isplitl [HA]; · iexact HA
  isplitl [HB]; · iexact HB
  isplitl [HQ]; · iexact HQ
  isplitl [HE]; · iexact HE
  isplitl [HU]; · iexact HU
  isplitl [HO]; · iexact HO
  isplitl [HZ]; · iexact HZ
  isplitl [HWn]; · iexact HWn
  isplitl [HW]; · iexact HW
  iintro ⟨HA, HB, HQ, ⟨%E', %O', %Z', HE, HO, HZ, %hS⟩, ⟨%U', HU, HWn, %hT⟩, HW⟩
  rw [← hf_M c fm fl (show (i 1).val < 3 by omega) 0, ← hf_M c fm fl (show (i 1).val < 3 by omega) 1] at hS
  rw [show qB (cpy c X) = qx c X 1 from rfl] at hS
  iapply Hk
  isplitl [HA HB HX Hx Hr HQ HE HU HO HZ HWn]
  · isplitl [HA HB]
    · rw [e2]
      isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_B c X fm fl (gI i) (show (i 1).val ≠ 0 by omega) (show n = 19 + (i 1).val by omega) hE hS
    isplitl [HU]
    · iexists _
      isplitl [HU]
      · iexact HU
      ipureintro
      exact uI_B c X fs fm fl (gI i) (show (i 1).val ≠ 0 by omega) (show n = 19 + (i 1).val by omega) hE hw hU hT
    isplitl [HO HZ]
    · iexists _, _
      isplitl [HO]
      · iexact HO
      isplitl [HZ]
      · iexact HZ
      ipureintro
      exact accI_step c X fs fm fl (p := 1) (gI i) (show (i 1).val ≠ 0 by omega) (by omega) (show n = 19 * 1 + (i 1).val by omega) hA hS
    iexists _
    isplitl [HWn]
    · iexact HWn
    ipureintro
    exact wI_keep c X fs fm fl (by omega) (by omega) hw
  iexact HW

set_option maxHeartbeats 1000000 in
theorem pt_1_m (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : 3 ≤ (i 1).val) (hg' : (i 1).val < 18) (n : ℕ) (hn : n = 19 * 1 + (i 1).val)
   :
   ∀ (W0 : Waits sig (HIx 1)) (K : PUnit → sProp 𝕄),
    iprop(Phi c X fs fm fl n ∗ owes (c : Thread nD τ) 0 W0 ∗ (iprop(Phi c X fs fm fl (n + 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_L c fs fm fl (n := n) (g := (i 1).val) (by omega) (by omega) (by omega), ring_L c fs fm fl (n := n + 1) (g := (i 1).val + 1) (by omega) (by omega) (by omega)]
  have e2 : sl ((i 1).val + 1 + 1) = sl (i 1).val := sl_add_two _
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, HW, Hk⟩
  obtain rfl := hQ (by omega)
  iapply (run_1_m c fs fm fl i arg6 harg6 arg7 harg7 arg8 harg8 hp hg hg' (cpy c X) E U O Z w W0 K)
  isplitl [HA]; · iexact HA
  isplitl [HB]; · iexact HB
  isplitl [HQ]; · iexact HQ
  isplitl [HE]; · iexact HE
  isplitl [HU]; · iexact HU
  isplitl [HO]; · iexact HO
  isplitl [HZ]; · iexact HZ
  isplitl [HWn]; · iexact HWn
  isplitl [HW]; · iexact HW
  iintro ⟨HA, HB, HQ, ⟨%E', %O', %Z', HE, HO, HZ, %hS⟩, ⟨%U', HU, HWn, %hT⟩, HW⟩
  rw [← hf_L c fm fl (show 3 ≤ (i 1).val by omega) 0, ← hf_L c fm fl (show 3 ≤ (i 1).val by omega) 1] at hS
  rw [show qB (cpy c X) = qx c X 1 from rfl] at hS
  iapply Hk
  isplitl [HA HB HX Hx Hr HQ HE HU HO HZ HWn]
  · isplitl [HA HB]
    · rw [e2]
      isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_B c X fm fl (gI i) (show (i 1).val ≠ 0 by omega) (show n = 19 + (i 1).val by omega) hE hS
    isplitl [HU]
    · iexists _
      isplitl [HU]
      · iexact HU
      ipureintro
      exact uI_B c X fs fm fl (gI i) (show (i 1).val ≠ 0 by omega) (show n = 19 + (i 1).val by omega) hE hw hU hT
    isplitl [HO HZ]
    · iexists _, _
      isplitl [HO]
      · iexact HO
      isplitl [HZ]
      · iexact HZ
      ipureintro
      exact accI_step c X fs fm fl (p := 1) (gI i) (show (i 1).val ≠ 0 by omega) (by omega) (show n = 19 * 1 + (i 1).val by omega) hA hS
    iexists _
    isplitl [HWn]
    · iexact HWn
    ipureintro
    exact wI_keep c X fs fm fl (by omega) (by omega) hw
  iexact HW

set_option maxHeartbeats 1000000 in
theorem pt_1_L (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 1) (hg : (i 1).val = 18) (n : ℕ) (hn : n = 19 * 1 + (i 1).val)
   :
   ∀ (W0 : Waits sig (HIx 1)) (K : PUnit → sProp 𝕄),
    iprop(Phi c X fs fm fl n ∗ owes (c : Thread nD τ) 0 W0 ∗ (iprop(Phi c X fs fm fl (n + 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_L c fs fm fl (n := n) (g := (i 1).val) (by omega) (by omega) (by omega), ring_0 c fs fm fl (n := n + 1) (by omega)]
  have e1 : sl ((i 1).val + 1) = 1 := by rw [hg]; rfl
  have e2 : sl (i 1).val = 0 := by rw [hg]; rfl
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, HW, Hk⟩
  obtain rfl := hQ (by omega)
  iapply (run_1_L c fs fm fl i arg6 harg6 arg7 harg7 arg8 harg8 hp hg (cpy c X) E U O Z w W0 K)
  isplitl [HA]; · iexact HA
  isplitl [HB]; · iexact HB
  isplitl [HQ]; · iexact HQ
  isplitl [HE]; · iexact HE
  isplitl [HU]; · iexact HU
  isplitl [HO]; · iexact HO
  isplitl [HZ]; · iexact HZ
  isplitl [HWn]; · iexact HWn
  isplitl [HW]; · iexact HW
  iintro ⟨HA, HB, HQ, ⟨%E', %O', %Z', HE, HO, HZ, %hS⟩, ⟨%U', HU, HWn, %hT⟩, HW⟩
  rw [← hf_L c fm fl (show 3 ≤ (i 1).val by omega) 0, ← hf_L c fm fl (show 3 ≤ (i 1).val by omega) 1] at hS
  rw [show qB (cpy c X) = qx c X 1 from rfl] at hS
  iapply Hk
  isplitl [HA HB HX Hx Hr HQ HE HU HO HZ HWn]
  · isplitl [HA HB]
    · isplitl [HB]
      · iapply (Entails.of_eq (congrArg (free c fs fm fl) e2))
        iexact HB
      iapply (Entails.of_eq (congrArg (free c fs fm fl) e1))
      iexact HA
    isplitl [HX]
    · iexact HX
    isplitl [Hx]
    · iexact Hx
    isplitl [Hr]
    · iexact Hr
    isplitl [HQ]
    · iexists _
      isplitl [HQ]
      · iexact HQ
      ipureintro
      exact fun _ => rfl
    isplitl [HE]
    · iexists _
      isplitl [HE]
      · iexact HE
      ipureintro
      exact eI_B c X fm fl (gI i) (show (i 1).val ≠ 0 by omega) (show n = 19 + (i 1).val by omega) hE hS
    isplitl [HU]
    · iexists _
      isplitl [HU]
      · iexact HU
      ipureintro
      exact uI_B c X fs fm fl (gI i) (show (i 1).val ≠ 0 by omega) (show n = 19 + (i 1).val by omega) hE hw hU hT
    isplitl [HO HZ]
    · iexists _, _
      isplitl [HO]
      · iexact HO
      isplitl [HZ]
      · iexact HZ
      ipureintro
      exact accI_step c X fs fm fl (p := 1) (gI i) (show (i 1).val ≠ 0 by omega) (by omega) (show n = 19 * 1 + (i 1).val by omega) hA hS
    iexists _
    isplitl [HWn]
    · iexact HWn
    ipureintro
    exact wI_keep c X fs fm fl (by omega) (by omega) hw
  iexact HW

end
end Cert.Proof.Attn
end
-- ==== Proof.Attn.Run20.lean ====
/-
  The attention call's body at the points of pass 2 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_2_0 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 2) (hg : (i 1).val = 0)
   (E : Buf (Elt F) ((c : Thread nD τ).loc cc1_scratch2)) (U : Buf (Elt F) ((c : Thread nD τ).loc cc1_scratch3)) (O : Buf (Elt F) ((c : Thread nD τ).loc cc1_scratch4)) (Z : Buf (Elt F) ((c : Thread nD τ).loc cc1_scratch5)) (Wn : Buf (Elt F) ((c : Thread nD τ).loc cc1_scratch6))  :
   ∀ (W0 : Waits sig (HIx 1)) (K : PUnit → sProp 𝕄),
    iprop(W c eM E ∗ W c uM U ∗ W c oM O ∗ W c zM Z ∗ W c wM Wn ∗ (∃ d, owns c arg6 fullShare d) ∗ owes (c : Thread nD τ) 0 W0
      ∗ (iprop(owns c arg6 fullShare (k1_pay13 (zV Z) (oV O)) ∗ W c eM E ∗ W c uM U ∗ W c oM O ∗ W c zM Z ∗ (∃ W', W c wM W' ∗ ⌜wV W' = k1_pay14 (zV Z)⌝) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : ¬k1_cond4 i = 1#1 := by rw [cond4_iff]; omega
  simp only [cc1__attn_body_eq_skeleton]; unfold cc1__attn_body_skel
  simp only [k1_part1_eq_skeleton, k1_part2_eq_skeleton, k1_part3_eq_skeleton]
  unfold owns
  iintro ⟨HE, HU, HO, HZ, HWn, ⟨%d6, %f6, -, H6⟩, HW, Hk⟩
  have hC12 : ¬k1_cond12 i = 1#1 := by rw [cond12_iff]; omega
  have hC16 : ¬k1_cond16 i = 1#1 := by rw [cond16_iff]; omega
  have hC20 : k1_cond20 i = 1#1 := by rw [cond20_iff]; omega
  have hC21 : k1_cond21 i = 1#1 := by rw [cond21_iff]; omega
  have hC22 : ¬k1_cond22 i = 1#1 := by rw [cond22_iff]; omega
  have hC23 : ¬k1_cond23 i = 1#1 := by rw [cond23_iff]; omega
  sl_exec
  sl_step
  iapply Hk
  isplitl [H6]
  · iexists _
    isplitr
    swap
    · iexact H6
    · ipureintro
      exact (View.read_writes_full _ _ _ _ _).trans rfl
  isplitl [HE]
  · iexact HE
  isplitl [HU]
  · iexact HU
  isplitl [HO]
  · iexact HO
  isplitl [HZ]
  · iexact HZ
  isplitl [HWn]
  · iexists _
    isplitl [HWn]
    · iexact HWn
    ipureintro
    exact wV_writes _ _ _ _
  iexists _
  iexact HW
end
end Cert.Proof.Attn
end
-- ==== Proof.Attn.Run212.lean ====
/-
  The attention call's body at the points of pass 2 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_2_12 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 2) (hg : 1 ≤ (i 1).val) (hg' : (i 1).val < 3)
   (E : Buf (Elt F) ((c : Thread nD τ).loc cc1_scratch2)) (U : Buf (Elt F) ((c : Thread nD τ).loc cc1_scratch3)) (Wn : Buf (Elt F) ((c : Thread nD τ).loc cc1_scratch6))  :
   ∀ (W0 : Waits sig (HIx 1)) (K : PUnit → sProp 𝕄),
    iprop(W c eM E ∗ W c uM U ∗ W c wM Wn ∗ (∃ d, owns c arg7 fullShare d) ∗ owes (c : Thread nD τ) 0 W0
      ∗ (iprop(owns c arg7 fullShare (k1_pay31 (eBlk E (gI i)) (wV Wn) (uBlk U (gI i))) ∗ W c eM E ∗ W c uM U ∗ W c wM Wn ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : ¬k1_cond4 i = 1#1 := by rw [cond4_iff]; omega
  simp only [cc1__attn_body_eq_skeleton]; unfold cc1__attn_body_skel
  simp only [k1_part1_eq_skeleton, k1_part2_eq_skeleton, k1_part3_eq_skeleton]
  unfold owns
  iintro ⟨HE, HU, HWn, ⟨%d7, %f7, -, H7⟩, HW, Hk⟩
  have hC12 : ¬k1_cond12 i = 1#1 := by rw [cond12_iff]; omega
  have hC16 : ¬k1_cond16 i = 1#1 := by rw [cond16_iff]; omega
  have hC20 : k1_cond20 i = 1#1 := by rw [cond20_iff]; omega
  have hC21 : ¬k1_cond21 i = 1#1 := by rw [cond21_iff]; omega
  have hC22 : k1_cond22 i = 1#1 := by rw [cond22_iff]; omega
  have hC23 : ¬k1_cond23 i = 1#1 := by rw [cond23_iff]; omega
  sl_exec
  sl_step
  iapply Hk
  isplitl [H7]
  · iexists _
    isplitr
    swap
    · iexact H7
    · ipureintro
      exact (View.read_writes_full _ _ _ _ _).trans (pay31_congr (eBlk_of E (gI i) (k1_off44_eq i) _) (uBlk_of U (gI i) (k1_off45_eq i) _))
  isplitl [HE]
  · iexact HE
  isplitl [HU]
  · iexact HU
  isplitl [HWn]
  · iexact HWn
  iexists _
  iexact HW
end
end Cert.Proof.Attn
end
-- ==== Proof.Attn.Run23.lean ====
/-
  The attention call's body at the points of pass 2 of one class of chunk.
-/
module

public import proofs.«01_k».proof.Proof.Attn.Step
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (fs : Buf (Elt F) ((c : Thread nD τ).loc main_v12)) (fm : Buf (Elt F) ((c : Thread nD τ).loc main_arg2)) (fl : Buf (Elt F) ((c : Thread nD τ).loc main_arg3))

set_option maxHeartbeats 4000000 in
theorem run_2_3 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 2) (hg : 3 ≤ (i 1).val)
   (E : Buf (Elt F) ((c : Thread nD τ).loc cc1_scratch2)) (U : Buf (Elt F) ((c : Thread nD τ).loc cc1_scratch3)) (Wn : Buf (Elt F) ((c : Thread nD τ).loc cc1_scratch6))  :
   ∀ (W0 : Waits sig (HIx 1)) (K : PUnit → sProp 𝕄),
    iprop(W c eM E ∗ W c uM U ∗ W c wM Wn ∗ (∃ d, owns c arg8 fullShare d) ∗ owes (c : Thread nD τ) 0 W0
      ∗ (iprop(owns c arg8 fullShare (k1_pay32 (eBlk E (gI i)) (wV Wn) (uBlk U (gI i))) ∗ W c eM E ∗ W c uM U ∗ W c wM Wn ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  intro W0 K
  have hC1 : ¬k1_cond1 i = 1#1 := by rw [cond1_iff]; omega
  have hC4 : ¬k1_cond4 i = 1#1 := by rw [cond4_iff]; omega
  simp only [cc1__attn_body_eq_skeleton]; unfold cc1__attn_body_skel
  simp only [k1_part1_eq_skeleton, k1_part2_eq_skeleton, k1_part3_eq_skeleton]
  unfold owns
  iintro ⟨HE, HU, HWn, ⟨%d8, %f8, -, H8⟩, HW, Hk⟩
  have hC12 : ¬k1_cond12 i = 1#1 := by rw [cond12_iff]; omega
  have hC16 : ¬k1_cond16 i = 1#1 := by rw [cond16_iff]; omega
  have hC20 : k1_cond20 i = 1#1 := by rw [cond20_iff]; omega
  have hC21 : ¬k1_cond21 i = 1#1 := by rw [cond21_iff]; omega
  have hC22 : ¬k1_cond22 i = 1#1 := by rw [cond22_iff]; omega
  have hC23 : k1_cond23 i = 1#1 := by rw [cond23_iff]; omega
  sl_exec
  sl_step
  iapply Hk
  isplitl [H8]
  · iexists _
    isplitr
    swap
    · iexact H8
    · ipureintro
      exact (View.read_writes_full _ _ _ _ _).trans (pay32_congr (eBlk_of E (gI i) (k1_off44_eq i) _) (uBlk_of U (gI i) (k1_off45_eq i) _))
  isplitl [HE]
  · iexact HE
  isplitl [HU]
  · iexact HU
  isplitl [HWn]
  · iexact HWn
  iexists _
  iexact HW
end
end Cert.Proof.Attn
end
-- ==== Proof.Attn.Pass2.lean ====
/-
  The points of pass 2: each takes the invariant before it to the invariant after it, and leaves its block of results.
-/
module

public import proofs.«01_k».proof.Proof.Attn.Phi
public import proofs.«01_k».proof.Proof.Attn.Run20
public import proofs.«01_k».proof.Proof.Attn.Run212
public import proofs.«01_k».proof.Proof.Attn.Run23
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

section
variable (c : Dev nD) (X : Buf (Elt F) ((c : Thread nD τ).loc main_v17)) (fs : Buf (Elt F) ((c : Thread nD τ).loc main_v12)) (fm : Buf (Elt F) ((c : Thread nD τ).loc main_arg2)) (fl : Buf (Elt F) ((c : Thread nD τ).loc main_arg3))

set_option maxHeartbeats 1000000 in
theorem pt_2_0 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 2) (hg : (i 1).val = 0) (n : ℕ) (hn : n = 19 * 2 + (i 1).val)
   :
   ∀ (W0 : Waits sig (HIx 1)) (K : PUnit → sProp 𝕄),
    iprop(Phi c X fs fm fl n ∗ (∃ d, owns c arg6 fullShare d) ∗ owes (c : Thread nD τ) 0 W0 ∗ (iprop(Phi c X fs fm fl (n + 1) ∗ owns c arg6 fullShare (OT c X fs fm fl 1) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_0 c fs fm fl (n := n) (by omega), ring_0 c fs fm fl (n := n + 1) (by omega)]
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, H6, HW, Hk⟩
  iapply (run_2_0 c i arg6 harg6 arg7 harg7 arg8 harg8 hp hg E U O Z w W0 K)
  isplitl [HE]; · iexact HE
  isplitl [HU]; · iexact HU
  isplitl [HO]; · iexact HO
  isplitl [HZ]; · iexact HZ
  isplitl [HWn]; · iexact HWn
  isplitl [H6]; · iexact H6
  isplitl [HW]; · iexact HW
  iintro ⟨H6, HE, HU, HO, HZ, ⟨%w', HWn, %hW⟩, HW⟩
  rw [out_of c X fs fm fl (p := 1) (by omega) (by omega) hA]
  iapply Hk
  isplitl [HA HB HX Hx Hr HQ HE HU HO HZ HWn]
  · isplitl [HA HB]
    · isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => hQ (by omega)
    isplitl [HE]
    · iexists _
      isplitl [HE]
      · iexact HE
      ipureintro
      exact eI_C c X fm fl (by omega) hE
    isplitl [HU]
    · iexists _
      isplitl [HU]
      · iexact HU
      ipureintro
      exact uI_C c X fs fm fl (by omega) hU
    isplitl [HO HZ]
    · iexists _, _
      isplitl [HO]
      · iexact HO
      isplitl [HZ]
      · iexact HZ
      ipureintro
      exact accI_end c X fs fm fl (by omega)
    iexists _
    isplitl [HWn]
    · iexact HWn
    ipureintro
    exact wI_38 c X fs fm fl (by omega) hA hW
  isplitl [H6]
  · iexact H6
  iexact HW

set_option maxHeartbeats 1000000 in
theorem pt_2_12 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 2) (hg : 1 ≤ (i 1).val) (hg' : (i 1).val < 3) (n : ℕ) (hn : n = 19 * 2 + (i 1).val)
   :
   ∀ (W0 : Waits sig (HIx 1)) (K : PUnit → sProp 𝕄),
    iprop(Phi c X fs fm fl n ∗ (∃ d, owns c arg7 fullShare d) ∗ owes (c : Thread nD τ) 0 W0 ∗ (iprop(Phi c X fs fm fl (n + 1) ∗ owns c arg7 fullShare (MU c X fs fm fl (i 1).val) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_0 c fs fm fl (n := n) (by omega), ring_0 c fs fm fl (n := n + 1) (by omega)]
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, H7, HW, Hk⟩
  iapply (run_2_12 c i arg6 harg6 arg7 harg7 arg8 harg8 hp hg hg' E U w W0 K)
  isplitl [HE]; · iexact HE
  isplitl [HU]; · iexact HU
  isplitl [HWn]; · iexact HWn
  isplitl [H7]; · iexact H7
  isplitl [HW]; · iexact HW
  iintro ⟨H7, HE, HU, HWn, HW⟩
  rw [mu_of c X fs fm fl (gI i) (show (i 1).val ≠ 0 by omega) (show n = 38 + (i 1).val by omega) hE hU hw]
  iapply Hk
  isplitl [HA HB HX Hx Hr HQ HE HU HO HZ HWn]
  · isplitl [HA HB]
    · isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => hQ (by omega)
    isplitl [HE]
    · iexists _
      isplitl [HE]
      · iexact HE
      ipureintro
      exact eI_C c X fm fl (by omega) hE
    isplitl [HU]
    · iexists _
      isplitl [HU]
      · iexact HU
      ipureintro
      exact uI_C c X fs fm fl (by omega) hU
    isplitl [HO HZ]
    · iexists _, _
      isplitl [HO]
      · iexact HO
      isplitl [HZ]
      · iexact HZ
      ipureintro
      exact accI_end c X fs fm fl (by omega)
    iexists _
    isplitl [HWn]
    · iexact HWn
    ipureintro
    exact wI_keep c X fs fm fl (by omega) (by omega) hw
  isplitl [H7]
  · iexact H7
  iexact HW

set_option maxHeartbeats 1000000 in
theorem pt_2_3 (i : grid1.Coords) (arg6 : Memref sig .tc .vmem S256x128 .f32) (harg6 : arg6.IsWhole) (arg7 : Memref sig .tc .vmem S1x1x4096 .f32) (harg7 : arg7.IsWhole) (arg8 : Memref sig .tc .vmem S1x1x4096 .f32) (harg8 : arg8.IsWhole)
   (hp : (i 0).val = 2) (hg : 3 ≤ (i 1).val) (n : ℕ) (hn : n = 19 * 2 + (i 1).val)
   :
   ∀ (W0 : Waits sig (HIx 1)) (K : PUnit → sProp 𝕄),
    iprop(Phi c X fs fm fl n ∗ (∃ d, owns c arg8 fullShare d) ∗ owes (c : Thread nD τ) 0 W0 ∗ (iprop(Phi c X fs fm fl (n + 1) ∗ owns c arg8 fullShare (LU c X fs fm fl (i 1).val) ∗ (∃ W', owes (c : Thread nD τ) 0 W')) -∗ K ⟨⟩))
    ⊢ wp frame (wpE (defs₀ (F := F)) Variants.none c none) Set.univ (cc1__attn_body i xM (Memref.isWhole_whole _) sM (Memref.isWhole_whole _) mM (Memref.isWhole_whole _) lM (Memref.isWhole_whole _) arg6 harg6 arg7 harg7 arg8 harg8 qM (Memref.isWhole_whole _) bM (Memref.isWhole_whole _) eM (Memref.isWhole_whole _) uM (Memref.isWhole_whole _) oM (Memref.isWhole_whole _) zM (Memref.isWhole_whole _) wM (Memref.isWhole_whole _) cc1_scratch7 cc1_scratch8) K := by
  have hlt : (i 1).val < 19 := (i 1).isLt
  intro W0 K
  unfold Phi
  rw [ring_0 c fs fm fl (n := n) (by omega), ring_0 c fs fm fl (n := n + 1) (by omega)]
  iintro ⟨⟨⟨HA, HB⟩, HX, Hx, Hr, ⟨%Q, HQ, %hQ⟩, ⟨%E, HE, %hE⟩, ⟨%U, HU, %hU⟩, ⟨%O, %Z, HO, HZ, %hA⟩, ⟨%w, HWn, %hw⟩⟩, H8, HW, Hk⟩
  iapply (run_2_3 c i arg6 harg6 arg7 harg7 arg8 harg8 hp hg E U w W0 K)
  isplitl [HE]; · iexact HE
  isplitl [HU]; · iexact HU
  isplitl [HWn]; · iexact HWn
  isplitl [H8]; · iexact H8
  isplitl [HW]; · iexact HW
  iintro ⟨H8, HE, HU, HWn, HW⟩
  rw [lu_of c X fs fm fl (gI i) (show (i 1).val ≠ 0 by omega) (show n = 38 + (i 1).val by omega) hE hU hw]
  iapply Hk
  isplitl [HA HB HX Hx Hr HQ HE HU HO HZ HWn]
  · isplitl [HA HB]
    · isplitl [HA]
      · iexact HA
      iexact HB
    isplitl [HX]
    · iexact HX
    isplitl [Hx]
    · iexact Hx
    isplitl [Hr]
    · iexact Hr
    isplitl [HQ]
    · iexists _
      isplitl [HQ]
      · iexact HQ
      ipureintro
      exact fun _ => hQ (by omega)
    isplitl [HE]
    · iexists _
      isplitl [HE]
      · iexact HE
      ipureintro
      exact eI_C c X fm fl (by omega) hE
    isplitl [HU]
    · iexists _
      isplitl [HU]
      · iexact HU
      ipureintro
      exact uI_C c X fs fm fl (by omega) hU
    isplitl [HO HZ]
    · iexists _, _
      isplitl [HO]
      · iexact HO
      isplitl [HZ]
      · iexact HZ
      ipureintro
      exact accI_end c X fs fm fl (by omega)
    iexists _
    isplitl [HWn]
    · iexact HWn
    ipureintro
    exact wI_keep c X fs fm fl (by omega) (by omega) hw
  isplitl [H8]
  · iexact H8
  iexact HW

end
end Cert.Proof.Attn
end
-- ==== Proof.Attn.Body.lean ====
/-
  The proof data of the attention's pipeline: what each block of results is left at, and the obligation of its body at every point.
-/
module

public import proofs.«01_k».proof.Proof.Attn.Pass0
public import proofs.«01_k».proof.Proof.Attn.Pass1
public import proofs.«01_k».proof.Proof.Attn.Pass2
public import proofs.«01_k».proof.Proof.Gen.KernelIdeal.Points
public import Idealize.ShloMosaic.Lib.Pipeline.TableIdle
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

variable (m : (c : Dev nD) → (b : Ref sig .tc) → Buf (Elt F) ((c : Thread nD τ).loc b))

abbrev iX (c : Dev nD) : Buf (Elt F) ((c : Thread nD τ).loc main_v17) := m c main_v17
abbrev iS (c : Dev nD) : Buf (Elt F) ((c : Thread nD τ).loc main_v12) := m c main_v12
abbrev iM (c : Dev nD) : Buf (Elt F) ((c : Thread nD τ).loc main_arg2) := m c main_arg2
abbrev iL (c : Dev nD) : Buf (Elt F) ((c : Thread nD τ).loc main_arg3) := m c main_arg3

/-- What the three windows' buffers hold after point `t`, from the point of their first store on. -/
def aft0 (c : Dev nD) (t : ℕ) : Vec F S256x128 .f32 := OT c (iX m c) (iS m c) (iM m c) (iL m c) (if t ≤ 37 then 0 else 1)
def aft1 (c : Dev nD) (t : ℕ) : Vec F S1x1x4096 .f32 := MU c (iX m c) (iS m c) (iM m c) (iL m c) (if t ≤ 39 then 1 else 2)
def aft2 (c : Dev nD) (t : ℕ) : Vec F S1x1x4096 .f32 := LU c (iX m c) (iS m c) (iM m c) (iL m c) (t - 38)

def dats (_ : Fin 1) (c : Dev nD) : Dat τ (Elt F) (HIx 1) ℕ UU ℕ cfg1 c where
  A w := m c (Pipeline.arrRef spec1 w)
  after w t := match w with
    | ⟨0, _⟩ => aft0 m c t.val
    | ⟨1, _⟩ => aft1 m c t.val
    | ⟨2, _⟩ => aft2 m c t.val
    | ⟨_ + 3, h⟩ => absurd h (Nat.not_lt.2 (Nat.le_add_left _ _))
  Φ t := Phi c (iX m c) (iS m c) (iM m c) (iL m c) t.val
  q _ := fullShare
  owed _ := 0

theorem A_eq (c : Dev nD) (w : Fin cfg1.W) : (dats m 0 c).A w = m c (Pipeline.arrRef spec1 w) := by dsimp only [dats]
theorem Phi_castSucc (c : Dev nD) (t : Fin cfg1.N) : (dats m 0 c).Φ t.castSucc = Phi c (iX m c) (iS m c) (iM m c) (iL m c) t.val := by
  dsimp only [dats]; simp only [Fin.coe_castSucc]
theorem Phi_succ (c : Dev nD) (t : Fin cfg1.N) : (dats m 0 c).Φ t.succ = Phi c (iX m c) (iS m c) (iM m c) (iL m c) (t.val + 1) := by
  dsimp only [dats]; simp only [Fin.val_succ]
theorem after_0 (c : Dev nD) (t : Fin cfg1.N) : (dats m 0 c).after 0 t = aft0 m c t.val := by dsimp only [dats]
theorem after_1 (c : Dev nD) (t : Fin cfg1.N) : (dats m 0 c).after 1 t = aft1 m c t.val := by dsimp only [dats]
theorem after_2 (c : Dev nD) (t : Fin cfg1.N) : (dats m 0 c).after 2 t = aft2 m c t.val := by dsimp only [dats]

/-! ## The points -/

theorem coords0 : ∀ t : Fin cfg1.N, (grid1.coords t 0).val = t.val / 19 := by decide +kernel
theorem coords1 : ∀ t : Fin cfg1.N, (grid1.coords t 1).val = t.val % 19 := by decide +kernel
theorem idle_0 : ∀ t : Fin cfg1.N, cfg1.idle 0 (cfg1.grid.coords t) = !(t.val == 19 || t.val == 38) := by decide +kernel
theorem idle_1 : ∀ t : Fin cfg1.N, cfg1.idle 1 (cfg1.grid.coords t) = !(t.val == 39 || t.val == 40) := by decide +kernel
theorem idle_2 : ∀ t : Fin cfg1.N, cfg1.idle 2 (cfg1.grid.coords t) = !(decide (41 ≤ t.val)) := by decide +kernel
theorem flush_0 : ∀ t : Fin cfg1.N, (cfg1.win 0).flush t = (t.val == 37 || t.val == 56) := by decide +kernel
theorem flush_1 : ∀ t : Fin cfg1.N, (cfg1.win 1).flush t = (t.val == 39 || t.val == 56) := by decide +kernel
theorem flush_2 : ∀ t : Fin cfg1.N, (cfg1.win 2).flush t = decide (41 ≤ t.val) := by decide +kernel
theorem fresh_0 : ∀ t : Fin cfg1.N, cfg1.fresh 0 t.val = (decide (t.val ≤ 19) || t.val == 38) := by decide +kernel
theorem fresh_1 : ∀ t : Fin cfg1.N, cfg1.fresh 1 t.val = (decide (t.val ≤ 39) || t.val == 40) := by decide +kernel
theorem fresh_2 : ∀ t : Fin cfg1.N, cfg1.fresh 2 t.val = true := by decide +kernel

theorem carry_0 (c : Dev nD) : ∀ (t : Fin cfg1.N) (_ : t.val ≠ 0), cfg1.idle 0 (cfg1.grid.coords t) = true → cfg1.fresh 0 t.val = false →
    (dats m 0 c).after 0 t = (dats m 0 c).after 0 ⟨t.val - 1, by omega⟩ := by
  intro t h0 hi hf
  rw [idle_0] at hi; rw [fresh_0] at hf
  simp at hi hf
  rw [after_0, after_0]; unfold aft0
  by_cases h : t.val ≤ 37
  · rw [if_pos h, if_pos (by show t.val - 1 ≤ 37; omega)]
  · rw [if_neg h, if_neg (by show ¬ t.val - 1 ≤ 37; omega)]
theorem carry_1 (c : Dev nD) : ∀ (t : Fin cfg1.N) (_ : t.val ≠ 0), cfg1.idle 1 (cfg1.grid.coords t) = true → cfg1.fresh 1 t.val = false →
    (dats m 0 c).after 1 t = (dats m 0 c).after 1 ⟨t.val - 1, by omega⟩ := by
  intro t h0 hi hf
  rw [idle_1] at hi; rw [fresh_1] at hf
  simp at hi hf
  rw [after_1, after_1]; unfold aft1
  by_cases h : t.val ≤ 39
  · rw [if_pos h, if_pos (by show t.val - 1 ≤ 39; omega)]
  · rw [if_neg h, if_neg (by show ¬ t.val - 1 ≤ 39; omega)]

variable {m}
/-- A window's buffer before and after a point, as the body's obligation has it. -/
def winPre (c : Dev nD) (w : Fin cfg1.W) (t : Fin cfg1.N) : sProp 𝕄 :=
  iprop(∃ d, owns (c : Thread nD τ) ((cfg1.win w).stage (cfg1.slots t w)) fullShare ((dats m 0 c).before w t d))
def winPost (c : Dev nD) (w : Fin cfg1.W) (t : Fin cfg1.N) : sProp 𝕄 :=
  match cfg1.idle w (cfg1.grid.coords t) with
  | true =>
    match (cfg1.win w).flush t with
    | false => iprop(∃ d, owns (c : Thread nD τ) ((cfg1.win w).stage (cfg1.slots t w)) fullShare ((dats m 0 c).before w t d))
    | true => owns (c : Thread nD τ) ((cfg1.win w).stage (cfg1.slots t w)) fullShare ((dats m 0 c).after w t)
  | false => owns (c : Thread nD τ) ((cfg1.win w).stage (cfg1.slots t w)) fullShare ((dats m 0 c).after w t)
variable (m)

theorem win_give (c : Dev nD) (w : Fin cfg1.W) (t : Fin cfg1.N) (hi : cfg1.idle w (cfg1.grid.coords t) = false) :
    owns (c : Thread nD τ) ((cfg1.win w).stage (cfg1.slots t w)) fullShare ((dats m 0 c).after w t) ⊢ (winPost (m := m) c w t : sProp 𝕄) := by
  unfold winPost; rw [hi]
theorem win_keep (c : Dev nD) (w : Fin cfg1.W) (t : Fin cfg1.N) (hi : cfg1.idle w (cfg1.grid.coords t) = true) (hf : (cfg1.win w).flush t = false) :
    (winPre (m := m) c w t : sProp 𝕄) ⊢ winPost (m := m) c w t := by
  unfold winPost winPre; rw [hi, hf]
theorem win_pass (c : Dev nD) (w : Fin cfg1.W) (t : Fin cfg1.N) (hi : cfg1.idle w (cfg1.grid.coords t) = true)
    (h : ∀ d, (dats m 0 c).before w t d = (dats m 0 c).after w t) : (winPre (m := m) c w t : sProp 𝕄) ⊢ winPost (m := m) c w t := by
  unfold winPost winPre
  rw [hi]
  cases hf : (cfg1.win w).flush t
  · exact .rfl
  · iintro ⟨%d, H⟩
    rw [h d]
    iexact H
theorem keep_0 (c : Dev nD) (t : Fin cfg1.N) (h : t.val ≠ 19 ∧ t.val ≠ 38) : (winPre (m := m) c 0 t : sProp 𝕄) ⊢ winPost (m := m) c 0 t := by
  have hi : cfg1.idle 0 (cfg1.grid.coords t) = true := by rw [idle_0]; simp; omega
  by_cases hf : t.val = 37 ∨ t.val = 56
  · refine win_pass m c 0 t hi fun d => ?_
    have hfr : cfg1.fresh 0 t.val = false := by rw [fresh_0]; simp; omega
    rw [Pipeline.Dat.before_out_traj (dats m 0 c) 0 rfl (by intro i a; rfl) (carry_0 m c) t.val t rfl d, hfr]
    exact (carry_0 m c t (by omega) hi hfr).symm
  · exact win_keep m c 0 t hi (by rw [flush_0]; simp; omega)
theorem keep_1 (c : Dev nD) (t : Fin cfg1.N) (h : t.val ≠ 39 ∧ t.val ≠ 40) : (winPre (m := m) c 1 t : sProp 𝕄) ⊢ winPost (m := m) c 1 t := by
  have hi : cfg1.idle 1 (cfg1.grid.coords t) = true := by rw [idle_1]; simp; omega
  by_cases hf : t.val = 56
  · refine win_pass m c 1 t hi fun d => ?_
    have hfr : cfg1.fresh 1 t.val = false := by rw [fresh_1]; simp; omega
    rw [Pipeline.Dat.before_out_traj (dats m 0 c) 1 rfl (by intro i a; rfl) (carry_1 m c) t.val t rfl d, hfr]
    exact (carry_1 m c t (by omega) hi hfr).symm
  · exact win_keep m c 1 t hi (by rw [flush_1]; simp; omega)
theorem keep_2 (c : Dev nD) (t : Fin cfg1.N) (h : t.val < 41) : (winPre (m := m) c 2 t : sProp 𝕄) ⊢ winPost (m := m) c 2 t :=
  win_keep m c 2 t (by rw [idle_2]; simp; omega) (by rw [flush_2]; simp; omega)

/-! ## The obligation -/

def bodyPre (c : Dev nD) (t : Fin cfg1.N) : sProp 𝕄 :=
  iprop((dats m 0 c).Φ t.castSucc ∗ (dats m 0 c).owesAt none t.castSucc ∗ winPre (m := m) c 0 t ∗ winPre (m := m) c 1 t ∗ winPre (m := m) c 2 t)
def bodyPost (c : Dev nD) (t : Fin cfg1.N) : sProp 𝕄 :=
  iprop((dats m 0 c).Φ t.succ ∗ (dats m 0 c).owesAt none t.succ ∗ winPost (m := m) c 0 t ∗ winPost (m := m) c 1 t ∗ winPost (m := m) c 2 t)

theorem body_0_0 (c : Dev nD) (t : Fin cfg1.N) (hp : t.val / 19 = 0) (hg : t.val % 19 = 0) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_0_0 c (iX m c) (iS m c) (iM m c) (iL m c) (grid1.coords t) _ _ _ _ _ _ (by rw [c0]; exact hp) (by rw [c1]; exact hg) t.val (by rw [c1]; omega) W _)
  isplitl [HP]; · iexact HP
  isplitl [HW]; · iexact HW
  iintro ⟨HP, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (keep_2 m c t (by omega)); iexact H2

theorem body_0_1 (c : Dev nD) (t : Fin cfg1.N) (hp : t.val / 19 = 0) (hg : t.val % 19 = 1) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_0_1 c (iX m c) (iS m c) (iM m c) (iL m c) (grid1.coords t) _ _ _ _ _ _ (by rw [c0]; exact hp) (by rw [c1]; exact hg) t.val (by rw [c1]; omega) W _)
  isplitl [HP]; · iexact HP
  isplitl [HW]; · iexact HW
  iintro ⟨HP, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (keep_2 m c t (by omega)); iexact H2

theorem body_0_2 (c : Dev nD) (t : Fin cfg1.N) (hp : t.val / 19 = 0) (hg : t.val % 19 = 2) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_0_2 c (iX m c) (iS m c) (iM m c) (iL m c) (grid1.coords t) _ _ _ _ _ _ (by rw [c0]; exact hp) (by rw [c1]; exact hg) t.val (by rw [c1]; omega) W _)
  isplitl [HP]; · iexact HP
  isplitl [HW]; · iexact HW
  iintro ⟨HP, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (keep_2 m c t (by omega)); iexact H2

theorem body_0_m (c : Dev nD) (t : Fin cfg1.N) (hp : t.val / 19 = 0) (hg : 3 ≤ t.val % 19) (hg' : t.val % 19 < 18) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_0_m c (iX m c) (iS m c) (iM m c) (iL m c) (grid1.coords t) _ _ _ _ _ _ (by rw [c0]; exact hp) (by rw [c1]; exact hg) (by rw [c1]; exact hg') t.val (by rw [c1]; omega) W _)
  isplitl [HP]; · iexact HP
  isplitl [HW]; · iexact HW
  iintro ⟨HP, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (keep_2 m c t (by omega)); iexact H2

theorem body_0_L (c : Dev nD) (t : Fin cfg1.N) (hp : t.val / 19 = 0) (hg : t.val % 19 = 18) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_0_L c (iX m c) (iS m c) (iM m c) (iL m c) (grid1.coords t) _ _ _ _ _ _ (by rw [c0]; exact hp) (by rw [c1]; exact hg) t.val (by rw [c1]; omega) W _)
  isplitl [HP]; · iexact HP
  isplitl [HW]; · iexact HW
  iintro ⟨HP, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (keep_2 m c t (by omega)); iexact H2

theorem body_1_0 (c : Dev nD) (t : Fin cfg1.N) (hp : t.val / 19 = 1) (hg : t.val % 19 = 0) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_1_0 c (iX m c) (iS m c) (iM m c) (iL m c) (grid1.coords t) _ _ _ _ _ _ (by rw [c0]; exact hp) (by rw [c1]; exact hg) t.val (by rw [c1]; omega) W _)
  isplitl [HP]; · iexact HP
  isplitl [H0]
  · unfold winPre; icases H0 with ⟨%d, H0⟩; iexists _; iexact H0
  isplitl [HW]; · iexact HW
  iintro ⟨HP, H0, ⟨%W', HW'⟩⟩
  isplitl [HP]; · iexact HP
  isplitl [HW']
  · iexists W'; isplitr; · ipureintro; exact fun _ _ => Or.inl trivial
    iexact HW'
  isplitl [H0]
  · iapply (win_give m c 0 t (by rw [idle_0]; simp; omega))
    rw [after_0, show aft0 m c t.val = OT c (iX m c) (iS m c) (iM m c) (iL m c) 0 from by unfold aft0; rw [if_pos (by omega)]]
    iexact H0
  isplitl [H1]
  · iapply (keep_1 m c t (by omega)); iexact H1
  iapply (keep_2 m c t (by omega)); iexact H2

theorem body_1_1 (c : Dev nD) (t : Fin cfg1.N) (hp : t.val / 19 = 1) (hg : t.val % 19 = 1) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_1_1 c (iX m c) (iS m c) (iM m c) (iL m c) (grid1.coords t) _ _ _ _ _ _ (by rw [c0]; exact hp) (by rw [c1]; exact hg) t.val (by rw [c1]; omega) W _)
  isplitl [HP]; · iexact HP
  isplitl [HW]; · iexact HW
  iintro ⟨HP, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (keep_2 m c t (by omega)); iexact H2

theorem body_1_2 (c : Dev nD) (t : Fin cfg1.N) (hp : t.val / 19 = 1) (hg : t.val % 19 = 2) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_1_2 c (iX m c) (iS m c) (iM m c) (iL m c) (grid1.coords t) _ _ _ _ _ _ (by rw [c0]; exact hp) (by rw [c1]; exact hg) t.val (by rw [c1]; omega) W _)
  isplitl [HP]; · iexact HP
  isplitl [HW]; · iexact HW
  iintro ⟨HP, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (keep_2 m c t (by omega)); iexact H2

theorem body_1_m (c : Dev nD) (t : Fin cfg1.N) (hp : t.val / 19 = 1) (hg : 3 ≤ t.val % 19) (hg' : t.val % 19 < 18) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_1_m c (iX m c) (iS m c) (iM m c) (iL m c) (grid1.coords t) _ _ _ _ _ _ (by rw [c0]; exact hp) (by rw [c1]; exact hg) (by rw [c1]; exact hg') t.val (by rw [c1]; omega) W _)
  isplitl [HP]; · iexact HP
  isplitl [HW]; · iexact HW
  iintro ⟨HP, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (keep_2 m c t (by omega)); iexact H2

theorem body_1_L (c : Dev nD) (t : Fin cfg1.N) (hp : t.val / 19 = 1) (hg : t.val % 19 = 18) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_1_L c (iX m c) (iS m c) (iM m c) (iL m c) (grid1.coords t) _ _ _ _ _ _ (by rw [c0]; exact hp) (by rw [c1]; exact hg) t.val (by rw [c1]; omega) W _)
  isplitl [HP]; · iexact HP
  isplitl [HW]; · iexact HW
  iintro ⟨HP, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (keep_2 m c t (by omega)); iexact H2

theorem body_2_0 (c : Dev nD) (t : Fin cfg1.N) (hp : t.val / 19 = 2) (hg : t.val % 19 = 0) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_2_0 c (iX m c) (iS m c) (iM m c) (iL m c) (grid1.coords t) _ _ _ _ _ _ (by rw [c0]; exact hp) (by rw [c1]; exact hg) t.val (by rw [c1]; omega) W _)
  isplitl [HP]; · iexact HP
  isplitl [H0]
  · unfold winPre; icases H0 with ⟨%d, H0⟩; iexists _; iexact H0
  isplitl [HW]; · iexact HW
  iintro ⟨HP, H0, ⟨%W', HW'⟩⟩
  isplitl [HP]; · iexact HP
  isplitl [HW']
  · iexists W'; isplitr; · ipureintro; exact fun _ _ => Or.inl trivial
    iexact HW'
  isplitl [H0]
  · iapply (win_give m c 0 t (by rw [idle_0]; simp; omega))
    rw [after_0, show aft0 m c t.val = OT c (iX m c) (iS m c) (iM m c) (iL m c) 1 from by unfold aft0; rw [if_neg (by omega)]]
    iexact H0
  isplitl [H1]
  · iapply (keep_1 m c t (by omega)); iexact H1
  iapply (keep_2 m c t (by omega)); iexact H2

theorem body_2_12 (c : Dev nD) (t : Fin cfg1.N) (hp : t.val / 19 = 2) (hg : 1 ≤ t.val % 19) (hg' : t.val % 19 < 3) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_2_12 c (iX m c) (iS m c) (iM m c) (iL m c) (grid1.coords t) _ _ _ _ _ _ (by rw [c0]; exact hp) (by rw [c1]; exact hg) (by rw [c1]; exact hg') t.val (by rw [c1]; omega) W _)
  isplitl [HP]; · iexact HP
  isplitl [H1]
  · unfold winPre; icases H1 with ⟨%d, H1⟩; iexists _; iexact H1
  isplitl [HW]; · iexact HW
  iintro ⟨HP, H1, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (win_give m c 1 t (by rw [idle_1]; simp; omega))
    rw [after_1, show aft1 m c t.val = MU c (iX m c) (iS m c) (iM m c) (iL m c) (grid1.coords t 1).val from by unfold aft1; rw [c1]; split <;> congr 1 <;> omega]
    iexact H1
  iapply (keep_2 m c t (by omega)); iexact H2

theorem body_2_3 (c : Dev nD) (t : Fin cfg1.N) (hp : t.val / 19 = 2) (hg : 3 ≤ t.val % 19) :
    bodyPre m c t ⊢ wp frame (wpE (defs₀ (F := F)) Variants.none c none) Set.univ (bodyAt1 t) (fun _ => bodyPost m c t) := by
  unfold bodyPre bodyPost bodyAt1
  rw [Phi_castSucc m c t, Phi_succ m c t]
  unfold Dat.owesAt Pipeline.owesWithin
  rw [show (dats m 0 c).owed t.castSucc = 0 from rfl, show (dats m 0 c).owed t.succ = 0 from rfl]
  have hN : t.val < 57 := lt_of_lt_of_eq t.isLt (show cfg1.N = 57 from N_1)
  have c0 := coords0 t
  have c1 := coords1 t
  iintro ⟨HP, ⟨%W, -, HW⟩, H0, H1, H2⟩
  iapply (pt_2_3 c (iX m c) (iS m c) (iM m c) (iL m c) (grid1.coords t) _ _ _ _ _ _ (by rw [c0]; exact hp) (by rw [c1]; exact hg) t.val (by rw [c1]; omega) W _)
  isplitl [HP]; · iexact HP
  isplitl [H2]
  · unfold winPre; icases H2 with ⟨%d, H2⟩; iexists _; iexact H2
  isplitl [HW]; · iexact HW
  iintro ⟨HP, H2, ⟨%W', HW'⟩⟩
  isplitl [HP]; · iexact HP
  isplitl [HW']
  · iexists W'; isplitr; · ipureintro; exact fun _ _ => Or.inl trivial
    iexact HW'
  isplitl [H0]
  · iapply (keep_0 m c t (by omega)); iexact H0
  isplitl [H1]
  · iapply (keep_1 m c t (by omega)); iexact H1
  iapply (win_give m c 2 t (by rw [idle_2]; simp; omega))
  rw [after_2, show aft2 m c t.val = LU c (iX m c) (iS m c) (iM m c) (iL m c) (grid1.coords t 1).val from by unfold aft2; rw [c1]; congr 1; omega]
  iexact H2

theorem sound_body (c : Dev nD) (t : Fin cfg1.N) :
    bodyPre m c t ⊢ wp frame (wpE (defs₀ (F := F)) Variants.none c none) Set.univ (bodyAt1 t) (fun _ => bodyPost m c t) := by
  have hN : t.val < 57 := lt_of_lt_of_eq t.isLt (show cfg1.N = 57 from N_1)
  have hg : t.val % 19 < 19 := Nat.mod_lt _ (by decide)
  rcases (by omega : t.val / 19 = 0 ∨ t.val / 19 = 1 ∨ t.val / 19 = 2) with hp | hp | hp
  · by_cases h0 : t.val % 19 = 0
    · exact body_0_0 m c t hp h0
    by_cases h1 : t.val % 19 = 1
    · exact body_0_1 m c t hp h1
    by_cases h2 : t.val % 19 = 2
    · exact body_0_2 m c t hp h2
    by_cases hL : t.val % 19 = 18
    · exact body_0_L m c t hp hL
    exact body_0_m m c t hp (by omega) (by omega)
  · by_cases h0 : t.val % 19 = 0
    · exact body_1_0 m c t hp h0
    by_cases h1 : t.val % 19 = 1
    · exact body_1_1 m c t hp h1
    by_cases h2 : t.val % 19 = 2
    · exact body_1_2 m c t hp h2
    by_cases hL : t.val % 19 = 18
    · exact body_1_L m c t hp hL
    exact body_1_m m c t hp (by omega) (by omega)
  · by_cases h0 : t.val % 19 = 0
    · exact body_2_0 m c t hp h0
    by_cases h1 : t.val % 19 < 3
    · exact body_2_12 m c t hp (by omega) h1
    exact body_2_3 m c t hp (by omega)

theorem defs₀_row (t : Fin cfg1.N) : defs₀ (F := F) .tc cfg1.body (cfg1.bodyArgs t (cfg1.slots t)) = bodyAt1 t := by
  rfl

theorem body_obligation (c : Dev nD) : BodyObligation (dats (F := F) m 0 c) (defs₀ (F := F)) Variants.none none Set.univ := fun t => by
  rw [bigSep_W1, bigSep_W1, defs₀_row]
  exact triple_restated (sound_body m c t) rfl .rfl fun _ => .rfl

end Cert.Proof.Attn
end
-- ==== Proof.Attn.Launch.lean ====
/-
  The attention as a region of the program: what it is given and what it gives back, at any contents of the arrays.
-/
module

public import proofs.«01_k».proof.Proof.Attn.Body
public import Idealize.ShloMosaic.Lib.Pipeline.RegionsLoop
public import Idealize.ShloMosaic.Lib.Pipeline.Frame
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wsc (UU UR UH)
open Idealize.ShloMosaic.Pipeline (Dat Cfg Window BodyObligation cellOf)

variable {F : FTy → Type} [FloatOps F] [Named F]

local notation "𝕄" => MT nD τ sig (HIx 1) (Elt F) ℕ UU ℕ

variable (m : (c : Dev nD) → (b : Ref sig .tc) → Buf (Elt F) ((c : Thread nD τ).loc b))

abbrev osem1 : Fin 3 → SemLoc sig := fun j => (![SemLoc.dma 12, SemLoc.dma 13, SemLoc.dma 14] : Fin 3 → SemLoc sig) j
theorem ownSemFacts0 : Pipeline.OwnSemFacts spec1 osem1 := by decide
theorem ownSems00_eq (c : Dev nD) :
    (Pipeline.ownSems0 (Ix := HIx 1) (Name := ℕ) (U := UU) (Lvl := ℕ) (Val := Elt F) (τ := τ) osem1 c : sProp 𝕄)
      = iprop(semVal ((c : Thread nD τ), SemLoc.dma 12) 0 ∗ semVal ((c : Thread nD τ), SemLoc.dma 13) 0 ∗ semVal ((c : Thread nD τ), SemLoc.dma 14) 0) := by
  rw [Pipeline.ownSems0_eq_of_list c osem1 [0, 1, 2] (by decide) (by decide)]; rfl
/-- The arrays the body moves itself. -/
def H1 : Finset (Ref sig .tc) := {main_v17, main_v12, main_arg2, main_arg3}
theorem H0_sub : H1 ⊆ Pipeline.restRefs sig spec1 := by decide
theorem hbm0_eq (c : Dev nD) :
    (bigSep H1 (fun b => ((c : Thread nD τ).loc b) ↦{fullShare} m c b) : sProp 𝕄)
      = iprop((((c : Thread nD τ).loc main_v17) ↦{fullShare} iX m c) ∗ (((c : Thread nD τ).loc main_v12) ↦{fullShare} iS m c) ∗ (((c : Thread nD τ).loc main_arg2) ↦{fullShare} iM m c) ∗ (((c : Thread nD τ).loc main_arg3) ↦{fullShare} iL m c)) := by
  rw [BI.bigSep_eq_bigSepL_of_eq [main_v17, main_v12, main_arg2, main_arg3] (by decide) (by decide)]; rfl
/-- What the kernel holds beside its windows: its scratch, the generator register, its own semaphores, the arrays it moves. -/
def PhiD (c : Dev nD) : sProp 𝕄 :=
  iprop(Pipeline.scopedRest (Ix := HIx 1) (Name := ℕ) (U := UU) (Lvl := ℕ) (Val := Elt F) spec1 c ∗ (∃ r, prngReg c r)
    ∗ Pipeline.ownSems0 (Ix := HIx 1) (Name := ℕ) (U := UU) (Lvl := ℕ) (Val := Elt F) (τ := τ) osem1 c
    ∗ bigSep H1 fun b => ((c : Thread nD τ).loc b) ↦{fullShare} m c b)
theorem PhiD0_eq (c : Dev nD) :
    (PhiD m c : sProp 𝕄)
      = iprop(((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f))
          ∗ (∃ r, prngReg c r) ∗ (semVal ((c : Thread nD τ), SemLoc.dma 12) 0 ∗ semVal ((c : Thread nD τ), SemLoc.dma 13) 0 ∗ semVal ((c : Thread nD τ), SemLoc.dma 14) 0)
          ∗ ((((c : Thread nD τ).loc main_v17) ↦{fullShare} iX m c) ∗ (((c : Thread nD τ).loc main_v12) ↦{fullShare} iS m c) ∗ (((c : Thread nD τ).loc main_arg2) ↦{fullShare} iM m c) ∗ (((c : Thread nD τ).loc main_arg3) ↦{fullShare} iL m c))) := by
  rw [PhiD, scopedRest1_eq, ownSems00_eq, hbm0_eq]

/-- A whole buffer's points-to, at its memref's elements. -/
theorem W_of (c : Dev nD) (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f) := by
  rw [show (Memref.whole b).view.set = Finset.univ from View.set_whole _]

theorem cell_0 : cellR 0 = SemLoc.dma 12 := by decide
theorem cell_1 : cellR 1 = SemLoc.dma 13 := by decide

section
variable (c : Dev nD) (fs : Buf (Elt F) ((c : Thread nD τ).loc main_v12)) (fm : Buf (Elt F) ((c : Thread nD τ).loc main_arg2)) (fl : Buf (Elt F) ((c : Thread nD τ).loc main_arg3))
theorem slots_split (f : Buf (Elt F) ((c : Thread nD τ).loc cc1_scratch1)) :
    (((c : Thread nD τ).loc cc1_scratch1) ↦{fullShare} f : sProp 𝕄) ⊣⊢ iprop(slotP c 0 f ∗ slotP c 1 f) := by
  unfold slotP
  rw [slotM_set, slotM_set]
  have h := pointsTo_union (Ix := HIx 1) (Name := ℕ) (U := UU) (Lvl := ℕ) (ℓ := (c : Thread nD τ).loc cc1_scratch1) (q := fullShare) (f := f) slots_disjoint
  rw [← slots_univ] at h
  exact h
theorem slots_glue (f g : Buf (Elt F) ((c : Thread nD τ).loc cc1_scratch1)) :
    (iprop(slotP c 0 f ∗ slotP c 1 g) : sProp 𝕄) ⊢ iprop(∃ h : Buf (Elt F) ((c : Thread nD τ).loc cc1_scratch1), ((c : Thread nD τ).loc cc1_scratch1) ↦{fullShare} h) := by
  unfold slotP
  rw [slotM_set, slotM_set]
  iintro ⟨HA, HB⟩
  iexists (fun x : S2x4096x128.Idx => if x ∈ slotSet 0 then f x else g x)
  iapply (slots_split c _).2
  unfold slotP
  rw [slotM_set, slotM_set]
  isplitl [HA]
  · have e : ((slotM 0).view.loc (c : Thread nD τ) ↦[slotSet 0]{fullShare} f : sProp 𝕄) = ((slotM 0).view.loc (c : Thread nD τ) ↦[slotSet 0]{fullShare} (fun x : S2x4096x128.Idx => if x ∈ slotSet 0 then f x else g x)) :=
      pointsTo_congr fun i hi => (if_pos hi).symm
    iapply (Entails.of_eq e) $$ HA
  · have e : ((slotM 1).view.loc (c : Thread nD τ) ↦[slotSet 1]{fullShare} g : sProp 𝕄) = ((slotM 1).view.loc (c : Thread nD τ) ↦[slotSet 1]{fullShare} (fun x : S2x4096x128.Idx => if x ∈ slotSet 0 then f x else g x)) :=
      pointsTo_congr fun i hi => (if_neg (fun h => Finset.disjoint_left.mp slots_disjoint h hi)).symm
    iapply (Entails.of_eq e) $$ HB
theorem free_in : (iprop((∃ f : Buf (Elt F) ((c : Thread nD τ).loc cc1_scratch1), ((c : Thread nD τ).loc cc1_scratch1) ↦{fullShare} f) ∗ semVal ((c : Thread nD τ), SemLoc.dma 12) 0 ∗ semVal ((c : Thread nD τ), SemLoc.dma 13) 0
      ∗ (((c : Thread nD τ).loc main_v12) ↦{fullShare} fs) ∗ (((c : Thread nD τ).loc main_arg2) ↦{fullShare} fm) ∗ (((c : Thread nD τ).loc main_arg3) ↦{fullShare} fl)) : sProp 𝕄) ⊢ iprop(free c fs fm fl 0 ∗ free c fs fm fl 1) := by
  unfold free cellP
  rw [cell_0, cell_1]
  iintro ⟨⟨%f, Hb⟩, H6, H7, HS, HM, HL⟩
  ihave G := (slots_split c f).1 $$ Hb; icases G with ⟨B0, B1⟩
  ihave G := (lend_all ((c : Thread nD τ).loc main_v12) fs).1 $$ HS; icases G with ⟨S0, S1⟩
  ihave G := (lend_all ((c : Thread nD τ).loc main_arg2) fm).1 $$ HM; icases G with ⟨M0, M1⟩
  ihave G := (lend_all ((c : Thread nD τ).loc main_arg3) fl).1 $$ HL; icases G with ⟨L0, L1⟩
  isplitl [H6 B0 S0 M0 L0]
  · isplitl [H6]; · iexact H6
    isplitl [B0]; · iexists _; iexact B0
    isplitl [S0]; · iexact S0
    isplitl [M0]; · iexact M0
    iexact L0
  isplitl [H7]; · iexact H7
  isplitl [B1]; · iexists _; iexact B1
  isplitl [S1]; · iexact S1
  isplitl [M1]; · iexact M1
  iexact L1
theorem free_out : (iprop(free c fs fm fl 0 ∗ free c fs fm fl 1) : sProp 𝕄) ⊢ iprop((∃ f : Buf (Elt F) ((c : Thread nD τ).loc cc1_scratch1), ((c : Thread nD τ).loc cc1_scratch1) ↦{fullShare} f) ∗ semVal ((c : Thread nD τ), SemLoc.dma 12) 0 ∗ semVal ((c : Thread nD τ), SemLoc.dma 13) 0
      ∗ (((c : Thread nD τ).loc main_v12) ↦{fullShare} fs) ∗ (((c : Thread nD τ).loc main_arg2) ↦{fullShare} fm) ∗ (((c : Thread nD τ).loc main_arg3) ↦{fullShare} fl)) := by
  unfold free cellP
  rw [cell_0, cell_1]
  iintro ⟨⟨H6, ⟨%f, B0⟩, S0, M0, L0⟩, ⟨H7, ⟨%g, B1⟩, S1, M1, L1⟩⟩
  isplitl [B0 B1]
  · iapply (slots_glue c f g); isplitl [B0]; · iexact B0
    iexact B1
  isplitl [H6]; · iexact H6
  isplitl [H7]; · iexact H7
  isplitl [S0 S1]
  · iapply (lend_all ((c : Thread nD τ).loc main_v12) fs).2; isplitl [S0]; · iexact S0
    iexact S1
  isplitl [M0 M1]
  · iapply (lend_all ((c : Thread nD τ).loc main_arg2) fm).2; isplitl [M0]; · iexact M0
    iexact M1
  iapply (lend_all ((c : Thread nD τ).loc main_arg3) fl).2; isplitl [L0]; · iexact L0
  iexact L1
end

theorem hin (c : Dev nD) : PhiD m c ⊢ (dats m 0 c).Φ 0 := by
  rw [PhiD0_eq, show (dats m 0 c).Φ 0 = Phi c (iX m c) (iS m c) (iM m c) (iL m c) 0 from rfl]
  unfold Phi W
  rw [ring_0 (n := 0) c (iS m c) (iM m c) (iL m c) (Or.inr rfl)]
  iintro ⟨⟨⟨%f0, R0⟩, R1, ⟨%f2, R2⟩, ⟨%f3, R3⟩, ⟨%f4, R4⟩, ⟨%f5, R5⟩, ⟨%f6, R6⟩⟩, Hr, ⟨H6, H7, H8⟩, HX, HS, HM, HL⟩
  isplitl [R1 H6 H7 HS HM HL]
  · iapply (free_in c (iS m c) (iM m c) (iL m c))
    isplitl [R1]; · iexact R1
    isplitl [H6]; · iexact H6
    isplitl [H7]; · iexact H7
    isplitl [HS]; · iexact HS
    isplitl [HM]; · iexact HM
    iexact HL
  isplitl [HX]; · iapply (Entails.of_eq (W_of c main_v17 _)) $$ HX
  isplitl [H8]; · iexact H8
  isplitl [Hr]; · iexact Hr
  isplitl [R0]
  · iexists f0; isplitl [R0]; · iapply (Entails.of_eq (W_of c cc1_scratch0 _)) $$ R0
    ipureintro; exact fun h => absurd h (by omega)
  isplitl [R2]
  · iexists f2; isplitl [R2]; · iapply (Entails.of_eq (W_of c cc1_scratch2 _)) $$ R2
    ipureintro; exact fun j hj => ⟨fun h => absurd h (by omega), fun h => absurd h (by omega)⟩
  isplitl [R3]
  · iexists f3; isplitl [R3]; · iapply (Entails.of_eq (W_of c cc1_scratch3 _)) $$ R3
    ipureintro; exact fun j hj h => absurd h (by omega)
  isplitl [R4 R5]
  · iexists f4, f5; isplitl [R4]; · iapply (Entails.of_eq (W_of c cc1_scratch4 _)) $$ R4
    isplitl [R5]; · iapply (Entails.of_eq (W_of c cc1_scratch5 _)) $$ R5
    ipureintro; exact fun p g hp hg h => absurd h (by omega)
  iexists f6; isplitl [R6]; · iapply (Entails.of_eq (W_of c cc1_scratch6 _)) $$ R6
  ipureintro; exact ⟨fun h => absurd h (by omega), fun h => absurd h (by omega)⟩

theorem hout (c : Dev nD) : (dats m 0 c).Φ (Fin.last cfg1.N) ⊢ PhiD m c := by
  rw [PhiD0_eq, show (dats m 0 c).Φ (Fin.last cfg1.N) = Phi c (iX m c) (iS m c) (iM m c) (iL m c) grid1.N from rfl]
  unfold Phi W
  rw [show grid1.N = 57 by rw [N_1], ring_0 (n := 57) c (iS m c) (iM m c) (iL m c) (Or.inr rfl)]
  iintro ⟨HR, HX, H8, Hr, ⟨%Q, R0, -⟩, ⟨%E, R2, -⟩, ⟨%U, R3, -⟩, ⟨%O, %Z, R4, R5, -⟩, ⟨%w, R6, -⟩⟩
  ihave G := (free_out c (iS m c) (iM m c) (iL m c)) $$ HR
  icases G with ⟨R1, H6, H7, HS, HM, HL⟩
  isplitl [R0 R1 R2 R3 R4 R5 R6]
  · isplitl [R0]; · iexists Q; iapply (Entails.of_eq (W_of c cc1_scratch0 _).symm) $$ R0
    isplitl [R1]; · iexact R1
    isplitl [R2]; · iexists E; iapply (Entails.of_eq (W_of c cc1_scratch2 _).symm) $$ R2
    isplitl [R3]; · iexists U; iapply (Entails.of_eq (W_of c cc1_scratch3 _).symm) $$ R3
    isplitl [R4]; · iexists O; iapply (Entails.of_eq (W_of c cc1_scratch4 _).symm) $$ R4
    isplitl [R5]; · iexists Z; iapply (Entails.of_eq (W_of c cc1_scratch5 _).symm) $$ R5
    iexists w; iapply (Entails.of_eq (W_of c cc1_scratch6 _).symm) $$ R6
  isplitl [Hr]; · iexact Hr
  isplitl [H6 H7 H8]
  · isplitl [H6]; · iexact H6
    isplitl [H7]; · iexact H7
    iexact H8
  isplitl [HX]; · iapply (Entails.of_eq (W_of c main_v17 _).symm) $$ HX
  isplitl [HS]; · iexact HS
  isplitl [HM]; · iexact HM
  iexact HL

/-! ## The region -/

abbrev adm : (p : Fin 1) → (pcfgs (F := F) p).Adm := fun p => (cfgs p).toPCfg_adm

variable (L : GSem nD τ sig → Finset (HIx 1)) (lv : GSem nD τ sig → HIx 1 → ℕ)
variable (Vp : (c : Dev nD) → (b : Ref sig .tc) → Buf (Elt F) ((c : Thread nD τ).loc b))

theorem rest_split (c : Dev nD) :
    (Pipeline.unscopedRest (Ix := HIx 1) (Name := ℕ) (U := UU) (Lvl := ℕ) spec1 c (m c) : sProp 𝕄)
      = iprop((bigSep H1 fun b => ((c : Thread nD τ).loc b) ↦{fullShare} m c b)
          ∗ bigSep (Pipeline.restRefs sig spec1 \ H1) fun b => ((c : Thread nD τ).loc b) ↦{fullShare} m c b) := by
  unfold Pipeline.unscopedRest; exact BI.bigSep_sdiff_split H0_sub

/-- A thread's state around the region: its unscoped buffers, the generator register, nothing owed. -/
def stAt (c : Dev nD) : sProp 𝕄 :=
  iprop(unscopedBufs c (m c) ∗ (∃ r, prngReg c r) ∗ ∃ W, owes (c : Thread nD τ) (0 : CellTallies nD τ sig (HIx 1)) W)

theorem hin_pre (c : Dev nD) (E : sProp 𝕄) :
    (iprop(((∃ r, prngReg c r) ∗ Pipeline.ownSems0 (Ix := HIx 1) (Name := ℕ) (U := UU) (Lvl := ℕ) (Val := Elt F) (τ := τ) osem1 c
        ∗ bigSep H1 fun b => ((c : Thread nD τ).loc b) ↦{fullShare} m c b) ∗ E
        ∗ Pipeline.scopedRest (Ix := HIx 1) (Name := ℕ) (U := UU) (Lvl := ℕ) (Val := Elt F) spec1 c) : sProp 𝕄) ⊢ PhiD m c := by
  unfold PhiD
  iintro ⟨⟨Hr, Hs, HH⟩, -, HR⟩
  isplitl [HR]; · iexact HR
  isplitl [Hr]; · iexact Hr
  isplitl [Hs]; · iexact Hs
  iexact HH

theorem hout_post (c : Dev nD) :
    (PhiD m c : sProp 𝕄) ⊢ iprop(((∃ r, prngReg c r) ∗ bigSep H1 fun b => ((c : Thread nD τ).loc b) ↦{fullShare} m c b)
        ∗ Pipeline.ownSems0 (Ix := HIx 1) (Name := ℕ) (U := UU) (Lvl := ℕ) (Val := Elt F) (τ := τ) osem1 c
        ∗ Pipeline.scopedRest (Ix := HIx 1) (Name := ℕ) (U := UU) (Lvl := ℕ) (Val := Elt F) spec1 c) := by
  unfold PhiD
  iintro ⟨HR, Hr, Hs, HH⟩
  isplitl [Hr HH]
  · isplitl [Hr]; · iexact Hr
    iexact HH
  isplitl [Hs]; · iexact Hs
  iexact HR

set_option backward.isDefEq.respectTransparency.types false in
/-- The attention's region, from any contents `m` to contents `Vp` that have the windows' arrays as the run leaves them. -/
def reg (hV : ∀ c w, (dats m 0 c).arrAt w cfg1.N = Vp c (Pipeline.arrRef spec1 w))
    (hV' : ∀ c b, b ∉ Finset.univ.image (Pipeline.arrRef spec1) → Vp c b = m c b) :
    Pipeline.RegionSeg (pcfgs (F := F)) adm (dats m) none defs₀ Variants.none L lv 0 where
  win := (launch1).win.to₀
  block_pos := (launch1).block_pos
  stage_whole := (launch1).stage_whole
  K := Fin 3
  osem := osem1
  ho := ownSemFacts0
  hbody c := (body_obligation m c).loose
  hwaits := Pipeline.hwaits_of_owed_zero _ _ _ _ L lv 0 fun _ _ => rfl
  pre c := stAt m c
  post c := stAt Vp c
  X c := iprop((∃ r, prngReg c r) ∗ Pipeline.ownSems0 (Ix := HIx 1) (Name := ℕ) (U := UU) (Lvl := ℕ) (Val := Elt F) (τ := τ) osem1 c
    ∗ bigSep H1 fun b => ((c : Thread nD τ).loc b) ↦{fullShare} m c b)
  Y c := iprop((∃ r, prngReg c r) ∗ bigSep H1 fun b => ((c : Thread nD τ).loc b) ↦{fullShare} m c b)
  Z c := bigSep (Pipeline.restRefs sig spec1 \ H1) fun b => ((c : Thread nD τ).loc b) ↦{fullShare} m c b
  hentry c := by
    have hsplit := Pipeline.arrays_of_unscopedBufs (p := 0) (pcfgs (F := F)) adm (dats m) launch1.win launch1.arr_whole c
      ((dats m 0 c).share_full fun _ => rfl) (m c) (A_eq m c)
    unfold stAt
    iintro ⟨⟨Hub, Hr, HO⟩, Hs, -⟩
    ihave H := hsplit $$ Hub
    icases H with ⟨Ha, Hrest⟩
    ihave Hrest := (Entails.of_eq (rest_split m c)) $$ Hrest
    icases Hrest with ⟨HH, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [HZ]
    · isplitl [Hr]; · iexact Hr
      isplitl [Hs]; · iexact Hs
      iexact HH
    iexact HZ
  hin c := by
    exact (hin_pre m c _).trans (hin m c)
  hout c := by
    exact (hout m c).trans (hout_post m c)
  hexit c := by
    have hjoin := Pipeline.unscopedBufs_of_arrays (p := 0) (pcfgs (F := F)) adm (Ix := HIx 1) (Name := ℕ) (U := UU) (Lvl := ℕ) launch1.win launch1.arr_whole c
      (dats m) ((dats m 0 c).share_full fun _ => rfl) (m c) (Vp c) ((dats m 0 c).arrAt · cfg1.N) (hV c) (hV' c)
    unfold stAt
    iintro ⟨Ha, HO, ⟨Hr, HH⟩, HZ⟩
    imodintro
    isplitl [Ha HH HZ]
    · iapply hjoin
      isplitl [Ha]; · iexact Ha
      iapply (Entails.of_eq (rest_split m c).symm)
      isplitl [HH]; · iexact HH
      iexact HZ
    isplitl [Hr]; · iexact Hr
    unfold Pipeline.Dat.owesAt Pipeline.owesWithin
    icases HO with ⟨%W, -, HO⟩; iexists W; iexact HO

end Cert.Proof.Attn
end
-- ==== Proof.Wsc.Ghost.lean ====
/-
  The launch element of the ghost state, the pipeline's part in it, and the attention's call as one step of the program.
-/
module

public import proofs.«01_k».proof.Proof.Wsc.Launch
public import proofs.«01_k».proof.Proof.Attn.Launch

@[expose] public section

noncomputable section

namespace Cert.Proof.Wsc

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The pipeline's part of the algebra, embedded. -/
def EP : Emb UR (MT nD τ sig (HIx 1) (Elt F) ℕ UU ℕ) := (Emb.inl : Emb UR (UR × Counters)).trans embR
instance EP_landsIn : (EP (F := F)).LandsIn (upEmb : UEmb _ 𝕄) := by unfold EP embR; infer_instance

abbrev pins : (p : Fin 1) → Pipeline.Cfg sig Λ₀ := Pipeline.pin (pcfgs (F := F)) Attn.adm

/-- What the launch deals device `d` for the pipeline's cells. -/
def G (d : Dev nD) : sProp 𝕄 := iprop(Pipeline.cellsGhost (pins (F := F)) EP 0 d ∗ Pipeline.toksInit (pins (F := F)) EP 0 d)

def uP : UR := initOf (Pipeline.cells (pins (F := F)) cellOf_inj) (Pipeline.launchToks (pins (F := F)) cellOf_inj)

/-- The launch element: the handshakes', the pipeline's, the counters'. -/
def u₁ : UU := (initOf (K (F := F)).hsCells (K (F := F)).hsToks, (uP (F := F), 1))

theorem fund_G : (BI.own (EP (uP (F := F))) : sProp 𝕄) ⊢ |==> bigSep Finset.univ (G (F := F)) := by
  refine (Pipeline.fund_ghost (pins (F := F)) EP cellOf_inj).trans (BI.bupd_mono ?_)
  unfold G
  rw [← bigSep_sep']
  refine bigSep_mono fun c _ => ?_
  rw [bigSep_univ_of_subsingleton (0 : Fin 1), bigSep_univ_of_subsingleton (0 : Fin 1)]
  exact BI.Entails.refl _

variable (A : Ops F)

theorem hu₁ : (ownU (u₁ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P A).x q thr) := by
  unfold u₁
  iintro Hu
  ihave H := (ownU_pair (initOf (K (F := F)).hsCells (K (F := F)).hsToks) ((uP (F := F), 1) : UR × Counters)) $$ Hu
  icases H with ⟨HH, HP⟩
  ihave HP := (own_pair_emb (embR : Emb (UR × Counters) 𝕄) (uP (F := F)) (1 : Counters)) $$ HP
  icases HP with ⟨HP, -⟩
  imod (show (BI.own (((Emb.inl : Emb UR (UR × Counters)).trans (embR : Emb (UR × Counters) 𝕄)) (uP (F := F))) : sProp 𝕄) ⊢ |==> bigSep Finset.univ (G (F := F)) from fund_G) $$ HP with HG
  imodintro
  isplitl [HH]; · iexact HH
  isplitl [HG]; · iexact HG
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

/-! ## The state between the calls -/

/-- What the TensorCore keeps of the handshakes after the call. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_open (d : Dev nD) : ((K (F := F)).tcSt EH d 1 : sProp 𝕄) ⊢ iprop((∃ W, owes (T d : Thread nD τ) (0 : CellTallies nD τ sig (HIx 1)) W) ∗ tcRest d) := by
  unfold SparseCore.Cfg.tcSt tcRest
  rw [(K (F := F)).Otc_end d (le_refl 1)]
  iintro ⟨⟨%W, -, HO⟩, HR⟩
  isplitl [HO]; · iexists W; iexact HO
  iexact HR

theorem tcSt_close (d : Dev nD) : iprop((∃ W, owes (T d : Thread nD τ) (0 : CellTallies nD τ sig (HIx 1)) W) ∗ tcRest d) ⊢ ((K (F := F)).tcSt EH d 1 : sProp 𝕄) := by
  unfold SparseCore.Cfg.tcSt tcRest
  rw [(K (F := F)).Otc_end d (le_refl 1)]
  iintro ⟨⟨%W, HO⟩, HR⟩
  isplitl [HO]
  · iexists W; isplitr
    · ipureintro
      rintro ⟨s, _ | q⟩ _
      · exact Nat.zero_le _
      · refine ((K (F := F)).lev_some_le _ q).trans ?_
        have := q.isLt
        show 8 * q.val + 7 ≤ 8
        omega
    · iexact HO
  iexact HR

/-! ## The attention's call -/

variable (mF Vp : (c : Dev nD) → (b : Ref sig .tc) → Buf (Elt F) ((c : Thread nD τ).loc b))

/-- The attention's call under its own labels. -/
def entryProg : Prog (TpuEff nD τ sig (Elt F) (ΛP (F := F)) .tc) PUnit := .op (.customCall (Pipeline.entry 0) ()) .ret

theorem entry_lift : (Prog.lift (.customCall (SparseCore.inner (Pipeline.entry 0)) ()) : Prog (TpuEff nD τ sig (Elt F) (SparseCore.Sig (ΛP (F := F)) 1) .tc) PUnit)
    = SparseCore.liftProg (Q := 1) entryProg := rfl

theorem region_pre (d : Dev nD) (Φ : PUnit → sProp 𝕄) :
    iprop((boundary (T d : Thread nD τ) ∗ Attn.stAt Vp d -∗ Φ ⟨⟩) ∗ boundary (T d : Thread nD τ) ∗ Attn.stAt mF d
        ∗ levAts (K (F := F)).L (K (F := F)).lev ∗ G d)
      ⊢ iprop((iprop(boundary (T d : Thread nD τ) ∗ Attn.stAt Vp d) -∗ wp frame (wpE (D (F := F)) 𝒱 (T d) none) Set.univ (.ret ⟨⟩) Φ)
          ∗ boundary (T d : Thread nD τ) ∗ Attn.stAt mF d ∗ levAts (K (F := F)).L (K (F := F)).lev
          ∗ Pipeline.cellsGhost (pins (F := F)) EP 0 d ∗ Pipeline.toksInit (pins (F := F)) EP 0 d) := by
  unfold G
  iintro ⟨Hk, Hb, Hst, Hlv, HG, HT⟩
  isplitl [Hk]
  · iintro H
    ihave H := Hk $$ H
    rw [wp_ret]
    imodintro
    iexact H
  isplitl [Hb]; · iexact Hb
  isplitl [Hst]; · iexact Hst
  isplitl [Hlv]; · iexact Hlv
  isplitl [HG]; · iexact HG
  iexact HT

set_option maxRecDepth 16384 in
/-- The attention's call, from contents `mF` to contents `Vp`. -/
theorem region_wp [∀ e, Nonempty (Elt F e)] (hV : ∀ c w, (Attn.dats mF 0 c).arrAt w cfg1.N = Vp c (Pipeline.arrRef spec1 w))
    (hV' : ∀ c b, b ∉ Finset.univ.image (Pipeline.arrRef spec1) → Vp c b = mF c b) (d : Dev nD) (Φ : PUnit → sProp 𝕄) :
    iprop((boundary (T d : Thread nD τ) ∗ Attn.stAt Vp d -∗ Φ ⟨⟩) ∗ boundary (T d : Thread nD τ) ∗ Attn.stAt mF d
        ∗ levAts (K (F := F)).L (K (F := F)).lev ∗ G d)
      ⊢ wp frame (wpE ((K (F := F)).defs (D (F := F))) 𝒱 (T d) none) Set.univ (Prog.lift (.customCall (SparseCore.inner (Pipeline.entry 0)) ())) Φ := by
  rw [entry_lift]
  refine BI.Entails.trans ?_ ((K (F := F)).wp_liftProg (D (F := F)) 𝒱 (T d) Set.univ none entryProg Φ)
  unfold entryProg
  exact (region_pre mF Vp d Φ).trans (Pipeline.RegionSeg.wp (pcfgs (F := F)) Attn.adm (Attn.dats mF) none cellOf_inj (EP (F := F)) defs₀ 𝒱₀ (K (F := F)).L (K (F := F)).lev
    (Attn.reg mF (K (F := F)).L (K (F := F)).lev Vp hV hV') d none (fun u hu => by cases hu) .ret Φ)

end Cert.Proof.Wsc
end
-- ==== Proof.Wsc.Host.lean ====
/-
  The host operations before the SparseCore call, between it and the attention, and after: their lists, and what they leave.
-/
module

public import proofs.«01_k».proof.Proof.Gen.KernelIdeal
public import Idealize.ShloMosaic.Lib.StableHlo.Run

@[expose] public section

noncomputable section

namespace Cert.Proof.Wsc

open Cert.KernelIdeal Cert.KernelIdeal.Gen Idealize.ShloMosaic Idealize.ShloMosaic.TcCoe Idealize.SL.Sem Idealize.ShloMosaic.StableHlo

variable {F : FTy → Type} [FloatOps F] [Named F]

/-- The operations in order, a called function's in the place of its call. -/
abbrev hostOps : List (HloOp τ sig (Elt F)) :=
  [ nullary main_c (constantI S_ 32 1024#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.binary (.of main_arg4) main_call0.call0.v0 main_call0.v3 Host.remsi,
    TRef.nullary main_call0.c_1 (constantI S_ 32 0#32),
    TRef.binary main_call0.v3 main_call0.c_1 main_call0.v4 (cmpi .ne),
    TRef.nullary main_call0.c_2 (constantI S_ 32 0#32),
    TRef.binary main_call0.v3 main_call0.c_2 main_call0.v5 (cmpi .slt),
    TRef.nullary main_call0.c_3 (constantI S_ 32 0#32),
    TRef.binary main_call0.call0.v0 main_call0.c_3 main_call0.v6 (cmpi .slt),
    TRef.binary main_call0.v5 main_call0.v6 main_call0.v7 (cmpi .ne),
    TRef.binary main_call0.v7 main_call0.v4 main_call0.v8 andi,
    TRef.binary main_call0.v3 main_call0.call0.v0 main_call0.v9 addi,
    TRef.ternary main_call0.v8 main_call0.v9 main_call0.v3 main_call0.v10 select,
    nullary main_v1 (iotaInDim S1024 32 0),
    unary main_v0 main_v2 (broadcastInDim S1024 ![] bcast_S_S1024 : (⟨S_, .i32⟩ : BufTy).Contents (Elt F) → (⟨S1024, .i32⟩ : BufTy).Contents (Elt F)),
    binary main_v1 main_v2 main_v3 (subi : (⟨S1024, .i32⟩ : BufTy).Contents (Elt F) → (⟨S1024, .i32⟩ : BufTy).Contents (Elt F) → (⟨S1024, .i32⟩ : BufTy).Contents (Elt F)),
    nullary main_c_0 (constantI S_ 32 1024#32),
    TRef.unary (.of main_c_0) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S1024 ![] bcast_S_S1024),
    TRef.binary (.of main_v3) main_call1.v3 main_call1.v4 Host.remsi,
    TRef.nullary main_call1.c_1 (constantI S_ 32 0#32),
    TRef.unary main_call1.c_1 main_call1.v5 (broadcastInDim S1024 ![] bcast_S_S1024),
    TRef.binary main_call1.v4 main_call1.v5 main_call1.v6 (cmpi .ne),
    TRef.nullary main_call1.c_2 (constantI S_ 32 0#32),
    TRef.unary main_call1.c_2 main_call1.v7 (broadcastInDim S1024 ![] bcast_S_S1024),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S1024 ![] bcast_S_S1024),
    TRef.binary main_call1.v8 main_call1.v10 main_call1.v11 (cmpi .ne),
    TRef.binary main_call1.v11 main_call1.v6 main_call1.v12 andi,
    TRef.unary main_call1.call0.v0 main_call1.v13 (broadcastInDim S1024 ![] bcast_S_S1024),
    TRef.binary main_call1.v4 main_call1.v13 main_call1.v14 addi,
    TRef.ternary main_call1.v12 main_call1.v14 main_call1.v4 main_call1.v15 select,
    nullary main_c_1 (constantI S_ 32 512#32),
    unary main_c_1 main_v5 (broadcastInDim S1024 ![] bcast_S_S1024 : (⟨S_, .i32⟩ : BufTy).Contents (Elt F) → (⟨S1024, .i32⟩ : BufTy).Contents (Elt F)),
    binary main_v4 main_v5 main_v6 (cmpi .slt : (⟨S1024, .i32⟩ : BufTy).Contents (Elt F) → (⟨S1024, .i32⟩ : BufTy).Contents (Elt F) → (⟨S1024, .i1⟩ : BufTy).Contents (Elt F)),
    nullary main_c_2 (constantI S_ 32 512#32),
    unary main_c_2 main_v7 (broadcastInDim S1024 ![] bcast_S_S1024 : (⟨S_, .i32⟩ : BufTy).Contents (Elt F) → (⟨S1024, .i32⟩ : BufTy).Contents (Elt F)),
    binary main_v7 main_v1 main_v8 (addi : (⟨S1024, .i32⟩ : BufTy).Contents (Elt F) → (⟨S1024, .i32⟩ : BufTy).Contents (Elt F) → (⟨S1024, .i32⟩ : BufTy).Contents (Elt F)),
    TRef.ternary (.of main_v6) (.of main_v4) (.of main_v8) main_call2.v0 select,
    reshape main_v9 main_v10 (rfl : (.i32 : EltTy) = .i32) shapeCasts_S1024_S1x1024,
    binary main_arg0 main_arg1 main_v11 ((fun a b => concatenate S1536x128 0 [⟨S512x128, a⟩, ⟨S1024x128, b⟩] concatenates_S512x128_S1024x128_S1536x128_d0) : (⟨S512x128, .f32⟩ : BufTy).Contents (Elt F) → (⟨S1024x128, .f32⟩ : BufTy).Contents (Elt F) → (⟨S1536x128, .f32⟩ : BufTy).Contents (Elt F))]

/-- The operations between the two calls: the queries scaled and cast. -/
abbrev midOps : List (HloOp τ sig (Elt F)) :=
  [ nullary main_cst (constant S_ .f32 0x43000000#32),
    unary main_cst main_v13 (Host.sqrt : (⟨S_, .f32⟩ : BufTy).Contents (Elt F) → (⟨S_, .f32⟩ : BufTy).Contents (Elt F)),
    nullary main_cst_3 (constant S_ .f32 0x3F800000#32),
    binary main_cst_3 main_v13 main_v14 (Host.divf : (⟨S_, .f32⟩ : BufTy).Contents (Elt F) → (⟨S_, .f32⟩ : BufTy).Contents (Elt F) → (⟨S_, .f32⟩ : BufTy).Contents (Elt F)),
    unary main_v14 main_v15 (broadcastInDim S512x128 ![] bcast_S_S512x128 : (⟨S_, .f32⟩ : BufTy).Contents (Elt F) → (⟨S512x128, .f32⟩ : BufTy).Contents (Elt F)),
    binary main_arg0 main_v15 main_v16 (mulf : (⟨S512x128, .f32⟩ : BufTy).Contents (Elt F) → (⟨S512x128, .f32⟩ : BufTy).Contents (Elt F) → (⟨S512x128, .f32⟩ : BufTy).Contents (Elt F)),
    unary main_v16 main_v17 ((truncf .bf16 · bitsLt_bf16_f32) : (⟨S512x128, .f32⟩ : BufTy).Contents (Elt F) → (⟨S512x128, .bf16⟩ : BufTy).Contents (Elt F))]

/-- The operations after the second: the two mean vectors flat. -/
abbrev tailOps : List (HloOp τ sig (Elt F)) :=
  [ reshape main_v18_1 main_v19 (rfl : (.f32 : EltTy) = .f32) shapeCasts_S2x1x4096_S8192,
    reshape main_v18_2 main_v20 (rfl : (.f32 : EltTy) = .f32) shapeCasts_S16x1x4096_S65536]

set_option maxRecDepth 16384 in
theorem main_eq (d : Dev nD) : main (F := F) d = (seq hostOps >>= fun _ => (sc.run d 0 >>= fun _ => (seq midOps >>= fun _ =>
    (Prog.lift (.customCall (SparseCore.inner (Pipeline.entry 0)) ()) >>= fun _ => (seq tailOps >>= fun _ => pure ⟨⟩))))) := rfl

theorem hostOps_sub : (hostOps : List (HloOp τ sig (Elt F))).Forall fun op => op.bufs ⊆ tcRefs τ sig :=
  ⟨nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., reshape_bufs_sub .., binary_bufs_sub ..⟩

theorem hostOps_fresh : ∀ op ∈ (hostOps : List (HloOp τ sig (Elt F))), op.fresh = ∅ := by
  simp only [hostOps, List.forall_mem_cons, List.not_mem_nil, false_imp_iff, implies_true, and_true]
  repeat' constructor

theorem midOps_sub : (midOps : List (HloOp τ sig (Elt F))).Forall fun op => op.bufs ⊆ tcRefs τ sig :=
  ⟨nullary_bufs_sub .., unary_bufs_sub .., nullary_bufs_sub .., binary_bufs_sub .., unary_bufs_sub .., binary_bufs_sub .., unary_bufs_sub ..⟩

theorem midOps_fresh : ∀ op ∈ (midOps : List (HloOp τ sig (Elt F))), op.fresh = ∅ := by
  simp only [midOps, List.forall_mem_cons, List.not_mem_nil, false_imp_iff, implies_true, and_true]
  repeat' constructor

theorem tailOps_sub : (tailOps : List (HloOp τ sig (Elt F))).Forall fun op => op.bufs ⊆ tcRefs τ sig :=
  ⟨reshape_bufs_sub .., reshape_bufs_sub ..⟩

theorem tailOps_fresh : ∀ op ∈ (tailOps : List (HloOp τ sig (Elt F))), op.fresh = ∅ := by
  simp only [tailOps, List.forall_mem_cons, List.not_mem_nil, false_imp_iff, implies_true, and_true]
  repeat' constructor

/-! ## What they leave -/

/-- The divisor of a floored remainder: the given one, or one in place of zero. -/
def divisor (c : IVec S_ 32) : IVec S_ 32 :=
  select (cmpi .eq c (constantI S_ 32 0#32)) (constantI S_ 32 1#32) c

/-- The floored remainder of two words, as the host computes it. -/
def modS (x c : IVec S_ 32) : IVec S_ 32 :=
  select (andi (cmpi .ne (cmpi .slt (Host.remsi x (divisor c)) (constantI S_ 32 0#32)) (cmpi .slt (divisor c) (constantI S_ 32 0#32)))
      (cmpi .ne (Host.remsi x (divisor c)) (constantI S_ 32 0#32)))
    (addi (Host.remsi x (divisor c)) (divisor c)) (Host.remsi x (divisor c))

/-- The floored remainder of 1024 words by one, as the host computes it. -/
def modV (x : IVec S1024 32) (c : IVec S_ 32) : IVec S1024 32 :=
  let v := Host.remsi x (broadcastInDim S1024 ![] bcast_S_S1024 (divisor c))
  select (andi (cmpi .ne (cmpi .slt v (broadcastInDim S1024 ![] bcast_S_S1024 (constantI S_ 32 0#32)))
        (broadcastInDim S1024 ![] bcast_S_S1024 (cmpi .slt (divisor c) (constantI S_ 32 0#32))))
      (cmpi .ne v (broadcastInDim S1024 ![] bcast_S_S1024 (constantI S_ 32 0#32))))
    (addi v (broadcastInDim S1024 ![] bcast_S_S1024 (divisor c))) v

/-- The distance of each slot from the write pointer, around the ring. -/
def slotDist (p : IVec S_ 32) : IVec S1024 32 :=
  modV (subi (iotaInDim S1024 32 0) (broadcastInDim S1024 ![] bcast_S_S1024 (modS p (constantI S_ 32 1024#32)))) (constantI S_ 32 1024#32)

/-- The source row of each slot. -/
def slotRow (p : IVec S_ 32) : IVec S1024 32 :=
  select (cmpi .slt (slotDist p) (broadcastInDim S1024 ![] bcast_S_S1024 (constantI S_ 32 512#32))) (slotDist p)
    (addi (broadcastInDim S1024 ![] bcast_S_S1024 (constantI S_ 32 512#32)) (iotaInDim S1024 32 0))

/-- The list the call reads. -/
def rowList (p : IVec S_ 32) : IVec S1x1024 32 := shapeCast S1x1024 (slotRow p) shapeCasts_S1024_S1x1024

/-- The source the call reads: the batch's rows, then the old ring's. -/
def source (x : (⟨S512x128, .f32⟩ : BufTy).Contents (Elt F)) (s : (⟨S1024x128, .f32⟩ : BufTy).Contents (Elt F)) : (⟨S1536x128, .f32⟩ : BufTy).Contents (Elt F) :=
  concatenate S1536x128 0 [⟨S512x128, x⟩, ⟨S1024x128, s⟩] concatenates_S512x128_S1024x128_S1536x128_d0

variable (V : Valuation τ sig (Elt F))

theorem after_v10 : after hostOps V main_v10 = rowList (V main_arg4) := by
  simp only [hostOps, TRef.binary, TRef.nullary, TRef.ternary, TRef.unary, TRef.toBuf, TRef.ofBuf, cast_eq]
  after_results_simp <;> rfl

theorem after_v11 : after hostOps V main_v11 = source (F := F) (V main_arg0) (V main_arg1) := by
  simp only [hostOps, TRef.binary, TRef.nullary, TRef.ternary, TRef.unary, TRef.toBuf, TRef.ofBuf, cast_eq]
  after_results_simp <;> rfl

theorem after_v12 : after hostOps V main_v12 = V main_v12 := by
  simp only [hostOps, TRef.binary, TRef.nullary, TRef.ternary, TRef.unary, TRef.toBuf, TRef.ofBuf, cast_eq]
  after_results_simp <;> rfl

theorem after_arg0 : after hostOps V main_arg0 = V main_arg0 := by
  simp only [hostOps, TRef.binary, TRef.nullary, TRef.ternary, TRef.unary, TRef.toBuf, TRef.ofBuf, cast_eq]
  after_results_simp <;> rfl

theorem after_arg1 : after hostOps V main_arg1 = V main_arg1 := by
  simp only [hostOps, TRef.binary, TRef.nullary, TRef.ternary, TRef.unary, TRef.toBuf, TRef.ofBuf, cast_eq]
  after_results_simp <;> rfl

theorem after_arg2 : after hostOps V main_arg2 = V main_arg2 := by
  simp only [hostOps, TRef.binary, TRef.nullary, TRef.ternary, TRef.unary, TRef.toBuf, TRef.ofBuf, cast_eq]
  after_results_simp <;> rfl

theorem after_arg3 : after hostOps V main_arg3 = V main_arg3 := by
  simp only [hostOps, TRef.binary, TRef.nullary, TRef.ternary, TRef.unary, TRef.toBuf, TRef.ofBuf, cast_eq]
  after_results_simp <;> rfl

theorem after_arg4 : after hostOps V main_arg4 = V main_arg4 := by
  simp only [hostOps, TRef.binary, TRef.nullary, TRef.ternary, TRef.unary, TRef.toBuf, TRef.ofBuf, cast_eq]
  after_results_simp <;> rfl

theorem mid_arg0 : after midOps V main_arg0 = V main_arg0 := by
  simp only [midOps]
  after_results_simp <;> rfl

theorem mid_arg1 : after midOps V main_arg1 = V main_arg1 := by
  simp only [midOps]
  after_results_simp <;> rfl

theorem mid_arg2 : after midOps V main_arg2 = V main_arg2 := by
  simp only [midOps]
  after_results_simp <;> rfl

theorem mid_arg3 : after midOps V main_arg3 = V main_arg3 := by
  simp only [midOps]
  after_results_simp <;> rfl

theorem mid_arg4 : after midOps V main_arg4 = V main_arg4 := by
  simp only [midOps]
  after_results_simp <;> rfl

theorem mid_v12 : after midOps V main_v12 = V main_v12 := by
  simp only [midOps]
  after_results_simp <;> rfl

/-- The queries as the second call reads them. -/
def scaled (x : (⟨S512x128, .f32⟩ : BufTy).Contents (Elt F)) : (⟨S512x128, .bf16⟩ : BufTy).Contents (Elt F) :=
  truncf .bf16 (mulf x (broadcastInDim S512x128 ![] bcast_S_S512x128 (Host.divf (constant S_ .f32 0x3F800000#32) (Host.sqrt (constant S_ .f32 0x43000000#32))))) bitsLt_bf16_f32

theorem mid_v17 : after midOps V main_v17 = scaled (F := F) (V main_arg0) := by
  simp only [midOps]
  after_results_simp <;> rfl

theorem tail_arg0 : after tailOps V main_arg0 = V main_arg0 := by
  simp only [tailOps]
  after_results_simp <;> rfl

theorem tail_arg1 : after tailOps V main_arg1 = V main_arg1 := by
  simp only [tailOps]
  after_results_simp <;> rfl

theorem tail_arg2 : after tailOps V main_arg2 = V main_arg2 := by
  simp only [tailOps]
  after_results_simp <;> rfl

theorem tail_arg3 : after tailOps V main_arg3 = V main_arg3 := by
  simp only [tailOps]
  after_results_simp <;> rfl

theorem tail_arg4 : after tailOps V main_arg4 = V main_arg4 := by
  simp only [tailOps]
  after_results_simp <;> rfl

theorem tail_v12 : after tailOps V main_v12 = V main_v12 := by
  simp only [tailOps]
  after_results_simp <;> rfl

theorem tail_v18_0 : after tailOps V main_v18_0 = V main_v18_0 := by
  simp only [tailOps]
  after_results_simp <;> rfl

theorem tail_v19 : after tailOps V main_v19 = (shapeCast S8192 (V main_v18_1 : (⟨S2x1x4096, .f32⟩ : BufTy).Contents (Elt F)) shapeCasts_S2x1x4096_S8192 : (⟨S8192, .f32⟩ : BufTy).Contents (Elt F)) := by
  simp only [tailOps]
  after_results_simp <;> rfl

theorem tail_v20 : after tailOps V main_v20 = (shapeCast S65536 (V main_v18_2 : (⟨S16x1x4096, .f32⟩ : BufTy).Contents (Elt F)) shapeCasts_S16x1x4096_S65536 : (⟨S65536, .f32⟩ : BufTy).Contents (Elt F)) := by
  simp only [tailOps]
  after_results_simp <;> rfl

end Cert.Proof.Wsc
end
-- ==== Proof.Wsc.Main.lean ====
/-
  The program's run: the host operations, the SparseCore call from what they leave in its operands, the attention from what
  that leaves, and what every array holds at the end.
-/
module

public import proofs.«01_k».proof.Proof.Wsc.Ghost
public import proofs.«01_k».proof.Proof.Wsc.Host
public import Idealize.ShloMosaic.Lib.Pipeline.FrameSuffix

@[expose] public section

noncomputable section

namespace Cert.Proof.Wsc

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev aLoc0 (d : Dev nD) : Loc nD τ sig := (SparseCore.T d).loc main_arg0
abbrev aLoc1 (d : Dev nD) : Loc nD τ sig := (SparseCore.T d).loc main_arg1
abbrev aLoc4 (d : Dev nD) : Loc nD τ sig := (SparseCore.T d).loc main_arg4

/-- The contents of the SparseCore call's arrays when it starts, from the launch memory. -/
def callOps : Ops F where
  fI d := rowList (m (aLoc4 d))
  fX d := source (m (aLoc0 d)) (m (aLoc1 d))
  fO d := m (oLoc d)

/-! ## The arrays after each stretch of the program -/

abbrev V1 (d : Dev nD) : Valuation τ sig (Elt F) := StableHlo.after hostOps (StableHlo.launchContents m d)
def V2 (d : Dev nD) : Valuation τ sig (Elt F) := Function.update (V1 m d) (Proc.devRef .tc main_v12) ((callOps m).out d)
abbrev V3 (d : Dev nD) : Valuation τ sig (Elt F) := StableHlo.after midOps (V2 m d)
/-- The attention's arrays as its call finds them. -/
abbrev mF (d : Dev nD) (b : Ref sig .tc) : Buf (Elt F) ((d : Thread nD τ).loc b) := V3 m d (Proc.devRef .tc b)
def V4 (d : Dev nD) : Valuation τ sig (Elt F) := Pipeline.withArrays spec1 d (V3 m d) fun w => (Attn.dats (mF m) 0 d).arrAt w cfg1.N
abbrev Vp (d : Dev nD) (b : Ref sig .tc) : Buf (Elt F) ((d : Thread nD τ).loc b) := V4 m d (Proc.devRef .tc b)
abbrev V5 (d : Dev nD) : Valuation τ sig (Elt F) := StableHlo.after tailOps (V4 m d)

theorem V4_arr (d : Dev nD) (w : Fin cfg1.W) : (Attn.dats (mF m) 0 d).arrAt w cfg1.N = Vp m d (Pipeline.arrRef spec1 w) := by
  show _ = V4 m d _
  unfold V4
  exact (Pipeline.withArrays_arr spec1 winFacts1.arr_inj d (V3 m d) (fun w => (Attn.dats (mF m) 0 d).arrAt w cfg1.N) w).symm

theorem V4_rest (d : Dev nD) (b : Ref sig .tc) (hb : b ∉ Finset.univ.image (Pipeline.arrRef spec1)) : Vp m d b = mF m d b :=
  Pipeline.withArrays_of_ne spec1 d (V3 m d) _ b fun w e => hb (Finset.mem_image.mpr ⟨w, Finset.mem_univ _, e⟩)

/-! ## The SparseCore call's arrays among all -/

/-- The call's arrays. -/
def callRefs : Finset (DevRef τ sig) := {Proc.devRef .tc main_v10, Proc.devRef .tc main_v11, Proc.devRef .tc main_v12}

theorem callRefs_sub : callRefs ⊆ Pipeline.ucRefs τ sig := by
  intro b hb
  simp only [callRefs, Finset.mem_insert, Finset.mem_singleton] at hb
  rcases hb with rfl | rfl | rfl <;>
    exact Finset.mem_filter.mpr ⟨StableHlo.devRef_mem_tcRefs _, by decide⟩

theorem held_call (d : Dev nD) (W : Valuation τ sig (Elt F)) :
    (StableHlo.held (d.tc : Thread nD τ) callRefs W : sProp 𝕄)
      = iprop((iLoc d ↦{fullShare} W (Proc.devRef .tc main_v10)) ∗ (xLoc d ↦{fullShare} W (Proc.devRef .tc main_v11))
          ∗ oLoc d ↦{fullShare} W (Proc.devRef .tc main_v12)) := by
  unfold StableHlo.held callRefs
  rw [SparseCore.bigSep_insert' (by decide), SparseCore.bigSep_insert' (by decide), bigSep_singleton]

theorem call_before (d : Dev nD) :
    (StableHlo.held (d.tc : Thread nD τ) callRefs (V1 m d) : sProp 𝕄) = allPts (callOps m) d ((callOps m).fO d) := by
  unfold V1
  rw [held_call, after_v10, after_v11, after_v12]
  rfl

theorem V2_v12 (d : Dev nD) : V2 m d (Proc.devRef .tc main_v12) = (callOps m).out d := by
  unfold V2; exact Function.update_self ..
theorem V2_ne (d : Dev nD) (b : DevRef τ sig) (hb : b ≠ Proc.devRef .tc main_v12) : V2 m d b = V1 m d b := by
  unfold V2; exact Function.update_of_ne hb ..

theorem call_after (d : Dev nD) :
    (StableHlo.held (d.tc : Thread nD τ) callRefs (V2 m d) : sProp 𝕄) = allPts (callOps m) d ((callOps m).out d) := by
  rw [held_call, V2_v12, V2_ne m d (Proc.devRef .tc main_v10) (StableHlo.devRef_ne_of_ne (by decide)),
    V2_ne m d (Proc.devRef .tc main_v11) (StableHlo.devRef_ne_of_ne (by decide))]
  unfold V1
  rw [after_v10, after_v11]
  rfl

theorem call_rest (d : Dev nD) :
    (StableHlo.held (d.tc : Thread nD τ) (Pipeline.ucRefs τ sig \ callRefs) (V1 m d) : sProp 𝕄)
      = StableHlo.held (d.tc : Thread nD τ) (Pipeline.ucRefs τ sig \ callRefs) (V2 m d) :=
  StableHlo.held_congr _ fun b hb => (V2_ne m d b fun e => (Finset.mem_sdiff.mp hb).2 (e ▸ by simp [callRefs])).symm

/-- What the program ends with: every array, as the last operations leave it. -/
abbrev FIN (d : Dev nD) : sProp 𝕄 := StableHlo.held (d.tc : Thread nD τ) (Pipeline.ucRefs τ sig) (V5 m d)

variable [∀ e, Nonempty (Elt F e)]

set_option maxRecDepth 16384 in
/-- @main on device `d`: the host operations, the call, the scaling, the attention, the last operations. -/
theorem hmain (κ : GSem nD τ sig → ℕ) (d : Dev nD) :
    iprop((K (F := F)).ctx EH (P (callOps m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hbufs, Hts, Hr⟩, HG⟩
  ihave #Hlv := ((K (F := F)).ctx_levAts κ) $$ Hctx
  ihave Hbufs := (Entails.of_eq (Pipeline.unscopedBufs_held (Ix := HIx 1) (Name := ℕ) (U := UU) (Lvl := ℕ) d (StableHlo.launchContents m d))) $$ Hbufs
  iapply (StableHlo.wp_seq 𝒱 none Set.univ d (Pipeline.ucRefs τ sig) _ hostOps
    (fun op h => Pipeline.sub_ucRefs op (List.forall_iff_forall_mem.mp hostOps_sub op h)) hostOps_fresh (StableHlo.launchContents m d)) $$ [Hb Hbufs]
  · isplitl [Hb]; · iexact Hb
    iexact Hbufs
  iintro ⟨Hb, Hh⟩
  ihave Hh := (Entails.of_eq (StableHlo.held_sub_split (d.tc : Thread nD τ) callRefs_sub (V1 m d))) $$ Hh
  icases Hh with ⟨Hk, Hrest⟩
  ihave Hall := (Entails.of_eq (call_before m d)) $$ Hk
  ihave Hrest := (Entails.of_eq (call_rest m d)) $$ Hrest
  rw [wp_bind]
  iapply ((K (F := F)).wp_run (D (F := F)) 𝒱 (EH := EH) (P := P (callOps m)) κ d 0) $$ [Hst Hall Hb Hts Hrest Hr HG]
  isplitr; · iexact Hctx
  isplitl [Hst]; · iexact Hst
  isplitl [Hall]
  · iapply (Entails.of_eq (cores_eq (callOps m) d ((callOps m).fO d)).symm); iexact Hall
  iintro ⟨Hst, Hdn⟩
  ihave Hdn := (Entails.of_eq (show (bigSep Finset.univ fun c => (P (callOps m)).dn 0 d c) = allPts (callOps m) d ((callOps m).out d)
    from cores_eq (callOps m) d ((callOps m).out d))) $$ Hdn
  ihave Hdn := (Entails.of_eq (call_after m d).symm) $$ Hdn
  iapply (StableHlo.wp_seq 𝒱 none Set.univ d (Pipeline.ucRefs τ sig) _ midOps
    (fun op h => Pipeline.sub_ucRefs op (List.forall_iff_forall_mem.mp midOps_sub op h)) midOps_fresh (V2 m d)) $$ [Hb Hdn Hrest]
  · isplitl [Hb]; · iexact Hb
    iapply (Entails.of_eq (StableHlo.held_sub_split (d.tc : Thread nD τ) callRefs_sub (V2 m d)).symm)
    isplitl [Hdn]; · iexact Hdn
    iexact Hrest
  iintro ⟨Hb, Hh⟩
  ihave Hub := (Entails.of_eq (Pipeline.unscopedBufs_held (Ix := HIx 1) (Name := ℕ) (U := UU) (Lvl := ℕ) d (V3 m d)).symm) $$ Hh
  ihave Hst := (show ((K (F := F)).tcSt EH d ((0 : Fin 1).val + 1) : sProp 𝕄) ⊢ _ from tcSt_open d) $$ Hst
  icases Hst with ⟨HO, Htc⟩
  rw [wp_bind]
  iapply (region_wp (mF m) (Vp m) (V4_arr m) (V4_rest m) d _)
  isplitr [Hb Hub HO Hr HG]
  · iintro ⟨Hb, Hst⟩
    unfold Attn.stAt
    icases Hst with ⟨Hub, -, HO⟩
    ihave Hh := (Entails.of_eq (Pipeline.unscopedBufs_held (Ix := HIx 1) (Name := ℕ) (U := UU) (Lvl := ℕ) d (V4 m d))) $$ Hub
    iapply (StableHlo.wp_seq 𝒱 none Set.univ d (Pipeline.ucRefs τ sig) _ tailOps
      (fun op h => Pipeline.sub_ucRefs op (List.forall_iff_forall_mem.mp tailOps_sub op h)) tailOps_fresh (V4 m d)) $$ [Hb Hh]
    · isplitl [Hb]; · iexact Hb
      iexact Hh
    iintro ⟨Hb, Hh⟩
    rw [wp_pure]
    imodintro
    isplitl [HO Htc]
    · iapply (tcSt_close d)
      isplitl [HO]; · iexact HO
      iexact Htc
    isplitl [Hh]; · iexact Hh
    isplitl [Hb] <;> iassumption
  isplitl [Hb]; · iexact Hb
  isplitl [Hub HO Hr]
  · unfold Attn.stAt
    isplitl [Hub]; · iexact Hub
    isplitl [Hr]; · iexists (ρ d); iexact Hr
    iexact HO
  isplitr; · iexact Hlv
  iexact HG

/-- A whole array held at some contents holds them. -/
theorem agree_keep (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro H
  ihave H := (persistent_entails_right (SI_pointsTo_agree (st := s') (ℓ := ℓ) (I := Finset.univ) (q := fullShare) (f := f))) $$ H
  icases H with ⟨%h, HSI, -⟩
  ipureintro; exact funext fun i => h i (Finset.mem_univ i)

/-- What the final memory holds: every unscoped array as the last operations leave it. -/
def fq (d : Dev nD) (s' : Phys nD τ sig (Elt F)) : Prop :=
  ∀ b : Ref sig .tc, Proc.devRef .tc b ∈ Pipeline.ucRefs τ sig → s'.mem.mem ((d.tc : Thread nD τ).loc b) = V5 m d (Proc.devRef .tc b)

theorem hfin (d : Dev nD) (s' : Phys nD τ sig (Elt F)) : iprop(FIN m d ∗ SI s') ⊢ (⌜fq m d s'⌝ : sProp 𝕄) := by
  unfold fq
  refine (forall_intro fun b => pure_imp_intro fun hb => ?_).trans pure_forall.2
  iintro ⟨Hh, HSI⟩
  ihave Hb := (show (FIN m d : sProp 𝕄) ⊢ ((d.tc : Thread nD τ).loc b ↦{fullShare} V5 m d (Proc.devRef .tc b)) from
    bigSep_elim (Φ := fun b : DevRef τ sig => ((⟨d, b⟩ : Loc nD τ sig) ↦{fullShare} V5 m d b)) hb) $$ Hh
  iapply (agree_keep s' ((d.tc : Thread nD τ).loc b) (V5 m d (Proc.devRef .tc b)))
  isplitl [HSI] <;> iassumption

/-- The final memory on every device, every counter at zero. -/
def QC : PUnit × MemSt nD τ sig (Elt F) → Prop := fun r =>
  (∀ (d : Dev nD) (b : Ref sig .tc), Proc.devRef .tc b ∈ Pipeline.ucRefs τ sig → r.2.mem ((d.tc : Thread nD τ).loc b) = V5 m d (Proc.devRef .tc b))
    ∧ r.2.sem = fun _ => 0

/-- Every execution from any memory ends with every array as the last operations leave it. -/
theorem run_main (hA : (callOps m).InRange) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (callOps m)) (A := ∅) facts v₀
    (fun q hq => match q with | 0 => nomatch hq)
    (fun q _ => match q with | 0 => tileObl (callOps m) facts hA)
    (fun q _ => match q with | 0 => SparseCore.Cfg.VecSplit.of_plain (vecSplit (callOps m)))
    m ρ main G (FIN m) (u₁ (F := F)) (sep_elim_left.trans (hu₁ (callOps m))) (hmain m ρ) (fq m) (hfin m) (QC m) (fun _ h hz => ⟨h, hz⟩)

end Cert.Proof.Wsc
end
-- ==== Proof.Wsc.Ring.lean ====
/-
  The ring as arithmetic: the words the host computes, read as numbers, and the rows the call gathers against the
  rows a scatter at the same positions writes.
-/
module

public import proofs.«01_k».proof.Proof.Wsc.Tile
public import proofs.«01_k».proof.Proof.Wsc.Host
public import proofs.«01_k».proof.Proof.Gen.ReferenceIdeal.Run
public import Idealize.ShloMosaic.Lib.Routing.OpsSet
public import Idealize.ShloMosaic.Lib.Pipeline.Value

@[expose] public section

noncomputable section

namespace Cert.Proof.Wsc

open Cert.KernelIdeal Cert.KernelIdeal.Gen
open Idealize.ShloMosaic Idealize.SL.Sem

/-! ## Words -/

/-- The floored remainder by 1024, on one word. -/
def modWord (x : BitVec 32) : BitVec 32 :=
  Scalar.select (IntOp.andi (IntOp.cmpi .ne (IntOp.cmpi .slt (IntOp.remsi .host x 1024#32) 0#32) (IntOp.cmpi .slt 1024#32 0#32))
      (IntOp.cmpi .ne (IntOp.remsi .host x 1024#32) 0#32))
    (IntOp.addi (IntOp.remsi .host x 1024#32) 1024#32) (IntOp.remsi .host x 1024#32)

theorem modWord_toNat (x : BitVec 32) : (modWord x).toNat = x.toNat % 1024 := by
  have hc : ¬ IntOp.SDivCorner x 1024#32 := by
    unfold IntOp.SDivCorner
    simp
  have hr : IntOp.remsi .host x 1024#32 = x.srem 1024#32 := if_neg hc
  have hti : (x.srem 1024#32).toInt = x.toInt.tmod 1024 := by
    rw [BitVec.toInt_srem]; rfl
  unfold modWord
  rw [hr]
  generalize x.srem 1024#32 = r at hti
  have hx := x.isLt
  have hrl := r.isLt
  have hsel : Scalar.select (IntOp.andi (IntOp.cmpi .ne (IntOp.cmpi .slt r 0#32) (IntOp.cmpi .slt 1024#32 0#32)) (IntOp.cmpi .ne r 0#32))
      (IntOp.addi r 1024#32) r = if r.toInt < 0 then r + 1024#32 else r := by
    have h1024 : IntOp.cmpi .slt 1024#32 0#32 = 0#1 := by decide
    rw [h1024]
    by_cases h : r.toInt < 0
    · have e1 : IntOp.cmpi .slt r 0#32 = 1#1 := by
        simp only [IntOp.cmpi, BitVec.slt_eq_decide, BitVec.toInt_zero, h, decide_true]; rfl
      have e2 : IntOp.cmpi .ne r 0#32 = 1#1 := by
        have : r ≠ 0#32 := by rintro rfl; simp at h
        show BitVec.ofBool (r != 0#32) = 1#1
        rw [bne_iff_ne.mpr this]; rfl
      rw [e1, e2, if_pos h]; rfl
    · have e1 : IntOp.cmpi .slt r 0#32 = 0#1 := by
        simp only [IntOp.cmpi, BitVec.slt_eq_decide, BitVec.toInt_zero, h, decide_false]; rfl
      rw [e1, if_neg h]
      have e3 : IntOp.andi (IntOp.cmpi .ne (0#1) (0#1)) (IntOp.cmpi .ne r 0#32) = 0#1 := by
        have : IntOp.cmpi .ne (0#1) (0#1) = 0#1 := by decide
        rw [this]; exact BitVec.zero_and
      rw [e3]; rfl
  rw [hsel]
  have h1 : x.toInt = if 2 * x.toNat < 2 ^ 32 then (x.toNat : Int) else (x.toNat : Int) - 2 ^ 32 := BitVec.toInt_eq_toNat_cond x
  have h2 : r.toInt = if 2 * r.toNat < 2 ^ 32 then (r.toNat : Int) else (r.toNat : Int) - 2 ^ 32 := BitVec.toInt_eq_toNat_cond r
  by_cases hneg : 2 * x.toNat < 2 ^ 32
  · rw [if_pos hneg] at h1
    rw [h1, Int.tmod_eq_emod_of_nonneg (by omega)] at hti
    split
    · omega
    · split at h2 <;> omega
  · rw [if_neg hneg] at h1
    have hm : x.toInt.tmod 1024 = -((-x.toInt) % 1024) := by
      rw [← Int.tmod_eq_emod_of_nonneg (by omega), Int.neg_tmod, neg_neg]
    rw [hm, h1] at hti
    split
    · rw [BitVec.toNat_add, BitVec.toNat_ofNat]
      split at h2 <;> omega
    · split at h2 <;> omega

/-! ## The two index lists -/

/-- The source row of slot `r`, as a word. -/
def rowWord (s r : BitVec 32) : BitVec 32 :=
  Scalar.select (IntOp.cmpi .slt (modWord (IntOp.subi r (modWord s))) 512#32) (modWord (IntOp.subi r (modWord s))) (IntOp.addi 512#32 r)

theorem slotRow_apply (p : IVec S_ 32) (i : S1024.Idx) :
    slotRow p i = rowWord (p fun k => k.elim0) (BitVec.ofNat 32 (i 0).val) := by
  have hp : ∀ h : S_.Idx, p h = p fun k => k.elim0 := fun h => congrArg p (funext fun k => k.elim0)
  show rowWord (p _) _ = _
  rw [hp]; rfl

theorem slt_toNat {x y : BitVec 32} (hx : x.toNat < 2 ^ 31) (hy : y.toNat < 2 ^ 31) : IntOp.cmpi .slt x y = BitVec.ofBool (decide (x.toNat < y.toNat)) := by
  have h1 : x.toInt = if 2 * x.toNat < 2 ^ 32 then (x.toNat : Int) else (x.toNat : Int) - 2 ^ 32 := BitVec.toInt_eq_toNat_cond x
  have h2 : y.toInt = if 2 * y.toNat < 2 ^ 32 then (y.toNat : Int) else (y.toNat : Int) - 2 ^ 32 := BitVec.toInt_eq_toNat_cond y
  rw [if_pos (by omega)] at h1 h2
  show BitVec.ofBool (x.slt y) = _
  rw [BitVec.slt_eq_decide, h1, h2]
  congr 1
  exact decide_eq_decide.mpr (by omega)

/-- The source row of slot `r` as a number: the batch's row at that distance from the write pointer, or the old row. -/
theorem rowWord_toNat (s r : BitVec 32) (hr : r.toNat < 1024) :
    (rowWord s r).toNat = if (r.toNat + 1024 - s.toNat % 1024) % 1024 < 512 then (r.toNat + 1024 - s.toNat % 1024) % 1024 else 512 + r.toNat := by
  have hm := modWord_toNat s
  have hd : (modWord (IntOp.subi r (modWord s))).toNat = (r.toNat + 1024 - s.toNat % 1024) % 1024 := by
    rw [modWord_toNat]
    show (r - modWord s).toNat % 1024 = _
    rw [BitVec.toNat_sub, hm]
    omega
  unfold rowWord
  generalize modWord (IntOp.subi r (modWord s)) = u at hd
  rw [slt_toNat (by omega) (by decide)]
  by_cases h : u.toNat < 512
  · have : decide (u.toNat < (512#32).toNat) = true := decide_eq_true h
    rw [this, if_pos (by omega), ← hd]; rfl
  · have : decide (u.toNat < (512#32).toNat) = false := decide_eq_false h
    rw [this, if_neg (by omega)]
    show (512#32 + r).toNat = _
    rw [BitVec.toNat_add, BitVec.toNat_ofNat]
    omega

theorem rowWord_lt (s r : BitVec 32) (hr : r.toNat < 1024) : (rowWord s r).toNat < 1536 := by
  rw [rowWord_toNat s r hr]
  split <;> omega

/-- The slot of batch row `i`, as the reference computes it. -/
def ringWord (s i : BitVec 32) : BitVec 32 :=
  Scalar.select (IntOp.cmpi .slt (modWord (IntOp.addi s i)) 0#32) (IntOp.addi (modWord (IntOp.addi s i)) 1024#32) (modWord (IntOp.addi s i))

theorem ringWord_toInt (s i : BitVec 32) : (ringWord s i).toInt = (((s.toNat + i.toNat) % 1024 : ℕ) : Int) := by
  have hm : (modWord (IntOp.addi s i)).toNat = (s.toNat + i.toNat) % 1024 := by
    rw [modWord_toNat]
    show (s + i).toNat % 1024 = _
    rw [BitVec.toNat_add]
    omega
  unfold ringWord
  generalize modWord (IntOp.addi s i) = u at hm
  rw [slt_toNat (by omega) (by decide)]
  have : decide (u.toNat < (0#32).toNat) = false := decide_eq_false (Nat.not_lt_zero _)
  rw [this]
  show u.toInt = _
  have h2 : u.toInt = if 2 * u.toNat < 2 ^ 32 then (u.toNat : Int) else (u.toNat : Int) - 2 ^ 32 := BitVec.toInt_eq_toNat_cond u
  rw [if_pos (by omega)] at h2
  rw [h2, hm]

/-! ## The list the call reads -/

/-- The index of word `r` of a list of 1024. -/
def vecIx (r : Fin 1024) : S1024.Idx := fun | 0 => r

theorem listIx_flat (r : Fin 1024) : Shape.reshapeEquiv shapeCasts_S1024_S1x1024 (listIx r) = vecIx r := by
  have h' : S1024.numel = S1x1024.numel := shapeCasts_S1024_S1x1024.symm
  have h : Shape.reshapeEquiv h' (vecIx r) = listIx r :=
    (Shape.reshapeEquiv_cons_one h' (vecIx r)).trans (funext fun b => match b with | 0 => rfl | 1 => rfl)
  rw [← h, Shape.reshapeEquiv_reshapeEquiv, Shape.reshapeEquiv_self]

theorem rowList_apply (p : IVec S_ 32) (r : Fin 1024) : rowList p (listIx r) = rowWord (p fun k => k.elim0) (BitVec.ofNat 32 r.val) := by
  show slotRow p (Shape.reshapeEquiv shapeCasts_S1024_S1x1024 (listIx r)) = _
  rw [listIx_flat, slotRow_apply]
  rfl

theorem ofNat_row (r : Fin 1024) : (BitVec.ofNat 32 r.val).toNat = r.val := by
  rw [BitVec.toNat_ofNat]; omega

theorem rowList_lt (p : IVec S_ 32) (j : S1x1024.Idx) : (rowList p j).toNat < 1536 := by
  show (slotRow p _).toNat < 1536
  rw [slotRow_apply]
  exact rowWord_lt _ _ (by rw [ofNat_row ((Shape.reshapeEquiv shapeCasts_S1024_S1x1024 j) 0)]; exact Fin.isLt _)

/-! ## The rows gathered -/

variable {F : FTy → Type} [FloatOps F] [Named F]

/-- The index of entry `(i, c)` of the batch. -/
def batchIx (i : Fin 512) (c : Fin 128) : S512x128.Idx := fun | 0 => i | 1 => c
/-- The index of entry `(r, c)` of the ring. -/
def ringIx (r : Fin 1024) (c : Fin 128) : S1024x128.Idx := fun | 0 => r | 1 => c

theorem source_batch (x : (⟨S512x128, .f32⟩ : BufTy).Contents (Elt F)) (s : (⟨S1024x128, .f32⟩ : BufTy).Contents (Elt F)) (u : Fin 1536) (c : Fin 128) (i : Fin 512)
    (h : u.val = i.val) : source (F := F) x s (srcIx u c) = x (batchIx i c) :=
  concatenate_pair_apply_left 0 x s _ (srcIx u c) rfl (batchIx i c) fun b => match b with | 0 => h.symm | 1 => rfl

theorem source_ring (x : (⟨S512x128, .f32⟩ : BufTy).Contents (Elt F)) (s : (⟨S1024x128, .f32⟩ : BufTy).Contents (Elt F)) (u : Fin 1536) (c : Fin 128) (r : Fin 1024)
    (h : u.val = 512 + r.val) : source (F := F) x s (srcIx u c) = s (ringIx r c) :=
  concatenate_pair_apply_right 0 x s _ (srcIx u c) rfl rfl (ringIx r c) (fun b => match b with | 0 => fun h => absurd rfl h | 1 => fun _ => rfl)
    (show r.val + 512 = u.val by omega)

/-! ## The rows scattered -/

abbrev sd := Cert.ReferenceIdeal.scatter_S1024x128_S512x1_S512x128_1_0_0_1

/-- The index of word `i` of the scatter's list. -/
def posIx (i : Fin 512) : Cert.ReferenceIdeal.S512x1.Idx := fun | 0 => i | 1 => (0 : Fin 1)

theorem start_zero (idx : IVec Cert.ReferenceIdeal.S512x1 32) (i : Fin 512) (c : Fin 128) : sd.start (batchIx i c) idx 0 = (idx (posIx i)).toInt := by
  unfold ScatterDims.start
  rw [dif_pos (show (0 : Fin 2) ∈ sd.scatterDimsToOperandDims from List.mem_singleton.2 rfl)]
  congr 2
  funext b
  match b with
  | 0 => rfl
  | 1 => exact Subsingleton.elim (α := Fin 1) _ _

theorem start_one (idx : IVec Cert.ReferenceIdeal.S512x1 32) (i : Fin 512) (c : Fin 128) : sd.start (batchIx i c) idx 1 = 0 := by
  unfold ScatterDims.start
  rw [dif_neg (by decide)]

theorem window_zero (i : Fin 512) (c : Fin 128) : sd.window (batchIx i c) 0 = 0 := by
  unfold ScatterDims.window
  rw [dif_neg (by decide)]

theorem window_one (i : Fin 512) (c : Fin 128) : sd.window (batchIx i c) 1 = c.val := by
  unfold ScatterDims.window
  rw [dif_pos (by decide)]
  rfl

/-- Batch entry `(i, c)` lands at ring entry `(r, e)` exactly when the list's word `i` is `r` and `c` is `e`. -/
theorem lands (idx : IVec Cert.ReferenceIdeal.S512x1 32) (i : Fin 512) (c : Fin 128) (r : Fin 1024) (e : Fin 128) :
    sd.resultIdx? (batchIx i c) idx = some (ringIx r e) ↔ (idx (posIx i)).toInt = (r.val : Int) ∧ c = e := by
  have h0 := start_zero idx i c
  have h1 := start_one idx i c
  have w0 := window_zero i c
  have w1 := window_one i c
  have hr := r.isLt
  have hc := c.isLt
  unfold ScatterDims.resultIdx?
  constructor
  · intro h
    split at h
    · rename_i hh
      have h := Option.some.inj h
      have e0 := congrArg Fin.val (congrFun h 0)
      have e1 := congrArg Fin.val (congrFun h 1)
      have g0 := hh 0
      have g1 := hh 1
      change (sd.start (batchIx i c) idx 0 + sd.window (batchIx i c) 0).toNat = r.val at e0
      change (sd.start (batchIx i c) idx 1 + sd.window (batchIx i c) 1).toNat = e.val at e1
      rw [h0, w0] at e0 g0
      rw [h1, w1] at e1
      exact ⟨by omega, Fin.ext (by omega)⟩
    · cases h
  · rintro ⟨ha, rfl⟩
    rw [dif_pos]
    · congr 1
      funext b
      match b with
      | 0 => exact Fin.ext (show (sd.start (batchIx i c) idx 0 + sd.window (batchIx i c) 0).toNat = r.val by rw [h0, w0]; omega)
      | 1 => exact Fin.ext (show (sd.start (batchIx i c) idx 1 + sd.window (batchIx i c) 1).toNat = c.val by rw [h1, w1]; omega)
    · intro b
      match b with
      | 0 =>
        show 0 ≤ sd.start (batchIx i c) idx 0 + sd.window (batchIx i c) 0 ∧ sd.start (batchIx i c) idx 0 + sd.window (batchIx i c) 0 < ((1024 : ℕ) : Int)
        rw [h0, w0]; omega
      | 1 =>
        show 0 ≤ sd.start (batchIx i c) idx 1 + sd.window (batchIx i c) 1 ∧ sd.start (batchIx i c) idx 1 + sd.window (batchIx i c) 1 < ((128 : ℕ) : Int)
        rw [h1, w1]; omega

theorem exists_batchIx (k : S512x128.Idx) : ∃ (i : Fin 512) (c : Fin 128), k = batchIx i c := ⟨k 0, k 1, funext fun b => match b with | 0 => rfl | 1 => rfl⟩
theorem eq_ringIx (k : S1024x128.Idx) : k = ringIx (k 0) (k 1) := funext fun b => match b with | 0 => rfl | 1 => rfl

/-- One entry of the rows gathered is that entry of the rows the scatter writes, for any list of positions that holds `(p + i) mod 1024` at `i`. -/
theorem gathered_entry (x : (⟨S512x128, .f32⟩ : BufTy).Contents (Elt F)) (s : (⟨S1024x128, .f32⟩ : BufTy).Contents (Elt F)) (p : IVec S_ 32)
    (idx : IVec Cert.ReferenceIdeal.S512x1 32) (hidx : ∀ i : Fin 512, idx (posIx i) = ringWord (p fun k => k.elim0) (BitVec.ofNat 32 i.val)) (r : Fin 1024) (c : Fin 128) :
    gathered (source (F := F) x s) (rowList p) (ringIx r c) = Host.scatter sd (fun _ b => b) s idx x (ringIx r c) := by
  have hr := r.isLt
  show source (F := F) x s (srcIx ⟨(rowList p (listIx r)).toNat % 1536, _⟩ c) = _
  have hrow := rowWord_toNat (p fun k => k.elim0) (BitVec.ofNat 32 r.val) (by rw [ofNat_row]; exact hr)
  rw [← rowList_apply, ofNat_row] at hrow
  have hlt := rowList_lt p (listIx r)
  have hpos : ∀ i : Fin 512, (idx (posIx i)).toInt = ((((p fun k => k.elim0).toNat + i.val) % 1024 : ℕ) : Int) := fun i => by
    rw [hidx, ringWord_toInt, BitVec.toNat_ofNat, Nat.mod_eq_of_lt (a := i.val) (by have := i.isLt; omega)]
  generalize (p fun k => k.elim0).toNat = s₀ at hrow hpos
  by_cases h : (r.val + 1024 - s₀ % 1024) % 1024 < 512
  · rw [if_pos h] at hrow
    rw [source_batch x s _ c ⟨(r.val + 1024 - s₀ % 1024) % 1024, h⟩ (by show _ % 1536 = _; rw [Nat.mod_eq_of_lt hlt, hrow])]
    refine (Idealize.ShloMosaic.Routing.scatter_set_hit sd s idx x (ringIx r c) _ (fun k hk => ?_) (batchIx ⟨_, h⟩ c) ((lands idx _ c r c).2 ⟨?_, rfl⟩)).symm
    · obtain ⟨k₀, k₁, rfl⟩ := exists_batchIx k
      obtain ⟨ha, rfl⟩ := (lands idx _ _ r c).1 hk
      rw [hpos] at ha
      have hk0 := k₀.isLt
      obtain rfl : k₀ = ⟨(r.val + 1024 - s₀ % 1024) % 1024, h⟩ := Fin.ext (show k₀.val = (r.val + 1024 - s₀ % 1024) % 1024 by omega)
      rfl
    · rw [hpos]
      show (((s₀ + (r.val + 1024 - s₀ % 1024) % 1024) % 1024 : ℕ) : Int) = _
      omega
  · rw [if_neg h] at hrow
    rw [source_ring x s _ c r (by show _ % 1536 = _; rw [Nat.mod_eq_of_lt hlt, hrow])]
    refine (Idealize.ShloMosaic.Routing.scatter_set_miss sd s idx x (ringIx r c) fun k hk => h ?_).symm
    obtain ⟨k₀, k₁, rfl⟩ := exists_batchIx k
    obtain ⟨ha, -⟩ := (lands idx _ _ r c).1 hk
    rw [hpos] at ha
    have hk0 := k₀.isLt
    omega

/-- **The rows the call gathers are the rows the reference's scatter writes.** -/
theorem gathered_eq_scatter (m' : (ℓ : Loc Cert.ReferenceIdeal.nD Cert.ReferenceIdeal.τ Cert.ReferenceIdeal.sig) → Buf (Elt F) ℓ) (c : Dev Cert.ReferenceIdeal.nD) :
    gathered (source (F := F) (m' ((c.tc : Thread _ _).loc Cert.ReferenceIdeal.main_arg0)) (m' ((c.tc : Thread _ _).loc Cert.ReferenceIdeal.main_arg1)))
      (rowList (m' ((c.tc : Thread _ _).loc Cert.ReferenceIdeal.main_arg4))) = Cert.ReferenceIdeal.Value.res_main_v10 m' c := by
  funext k
  rw [eq_ringIx k]
  exact gathered_entry _ _ _ _ (fun i => by
    have hp : ∀ h : S_.Idx, m' ((c.tc : Thread _ _).loc Cert.ReferenceIdeal.main_arg4) h = m' ((c.tc : Thread _ _).loc Cert.ReferenceIdeal.main_arg4) fun k => k.elim0 :=
      fun h => congrArg (m' ((c.tc : Thread _ _).loc Cert.ReferenceIdeal.main_arg4)) (funext fun k => k.elim0)
    show ringWord (m' ((c.tc : Thread _ _).loc Cert.ReferenceIdeal.main_arg4) _) _ = _
    rw [hp]
    rfl) _ _

end Cert.Proof.Wsc
end
-- ==== Proof.Attn.Pay.lean ====
/-
  What a chunk's payloads are at the ideal values, where `x` and the rows are finite: the exponentials of the scores,
  their sums and the weighted rows, each the coercion of a real number.
-/
module

public import proofs.«01_k».proof.Proof.Attn.Phi
public import Idealize.ShloMosaic.Lib.Pointwise

@[expose] public section

set_option maxRecDepth 16384

noncomputable section

namespace Cert.Proof.Attn

open Cert.KernelIdeal Cert.KernelIdeal.Gen
open Idealize.ShloMosaic

/-- A finite sum of reals is a sum of extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The exponential of a score. -/
def ex (q v : Fin 128 → ℝ) : ℝ := Real.exp (∑ k, q k * v k)
theorem ex_pos (q v : Fin 128 → ℝ) : 0 < ex q v := Real.exp_pos _

theorem exp2_score (q v : Fin 128 → EReal) (Q V : Fin 128 → ℝ) (hq : ∀ k, q k = (Q k : EReal)) (hv : ∀ k, v k = (V k : EReal)) :
    (FloatOps.exp2 ((∑ k, q k * v k) * (Named.named κ "log2e" 0x3FB8AA3B#32 : Ideal .f32) : Ideal .f32) : Ideal .f32) = ((ex Q V : ℝ) : EReal) := by
  have h1 : (Named.named κ "log2e" 0x3FB8AA3B#32 : Ideal .f32) = (((Real.log 2)⁻¹ : ℝ) : EReal) := rfl
  have h2 : (∑ k, q k * v k) = ((∑ k, Q k * V k : ℝ) : EReal) := by
    rw [coe_sum]; exact Finset.sum_congr rfl fun k _ => by rw [hq, hv, EReal.coe_mul]
  rw [h1, h2, ← EReal.coe_mul]
  show Ideal.exp2 _ = _
  rw [Ideal.exp2_coe]
  congr 1
  show (2 : ℝ) ^ ((∑ k, Q k * V k) * (Real.log 2)⁻¹ : ℝ) = _
  rw [Real.rpow_def_of_pos two_pos, ex]
  congr 1
  have : Real.log 2 ≠ 0 := (Real.log_pos one_lt_two).ne'
  field_simp

section Pays
variable (q : Vec Ideal S256x128 .bf16) (Q : Fin 256 → Fin 128 → ℝ) (hq : ∀ a k, q (ix2 a k) = (Q a k : EReal))
include hq

section First
variable (v : Vec Ideal S1x1024x128 .f32) (V : Fin 1024 → Fin 128 → ℝ) (hv : ∀ n k, v (ix3 0 n k) = (V n k : EReal))
include hv
theorem pay4_val (a : Fin 256) (n : Fin 1024) : k1_pay4 q v (ix2 a n) = ((ex (Q a) (V n) : ℝ) : EReal) := by
  pointwise [k1_pay4, k1_pay3]
  exact exp2_score _ _ _ _ (hq a) (hv n)
theorem zS_val (a : Fin 256) : zS q v (ix2 a 0) = ((∑ n, ex (Q a) (V n) : ℝ) : EReal) := by
  pointwise [zS, k1_pay5, k1_pay2]
  rw [coe_sum]; exact Finset.sum_congr rfl fun n _ => pay4_val q Q hq v V hv a n
theorem oS_val (a : Fin 256) (d : Fin 128) : oS q v (ix2 a d) = ((∑ n, ex (Q a) (V n) * V n d : ℝ) : EReal) := by
  pointwise [oS, k1_pay8, k1_pay1, k1_pay3, k1_pay6]
  rw [coe_sum]; exact Finset.sum_congr rfl fun n _ => by rw [pay4_val q Q hq v V hv a n, hv, EReal.coe_mul]
end First

section Half
variable (v : Vec Ideal S1x2048x128 .f32) (V : Fin 2048 → Fin 128 → ℝ) (hv : ∀ n k, v (ix3 0 n k) = (V n k : EReal))
include hv
theorem pay37_val (a : Fin 256) (n : Fin 2048) : k1_pay37 q v (ix2 a n) = ((ex (Q a) (V n) : ℝ) : EReal) := by
  pointwise [k1_pay37, k1_pay36, k1_pay34, k1_pay33]
  exact exp2_score _ _ _ _ (hq a) (hv n)
theorem pay42_val (a : Fin 256) (n : Fin 2048) : k1_pay42 q v (ix2 a n) = ((ex (Q a) (V n) : ℝ) : EReal) := by
  pointwise [k1_pay42, k1_pay40, k1_pay39]
  exact exp2_score _ _ _ _ (hq a) (hv n)
theorem pay9_val (a : Fin 256) (n : Fin 2048) : k1_pay9 (k1_pay42 q v) (ix2 a n) = ((ex (Q a) (V n) : ℝ) : EReal) := by
  refine Eq.trans ?_ (pay42_val q Q hq v V hv a n)
  pointwise [k1_pay9]
theorem pay35_val (a : Fin 256) : k1_pay35 q v (ix2 a 0) = ((∑ n, ex (Q a) (V n) : ℝ) : EReal) := by
  pointwise [k1_pay35, k1_pay34, k1_pay33]
  rw [coe_sum]; exact Finset.sum_congr rfl fun n _ => exp2_score _ _ _ _ (hq a) (hv n)
theorem pay41_val (a : Fin 256) : k1_pay41 q v (ix2 a 0) = ((∑ n, ex (Q a) (V n) : ℝ) : EReal) := by
  pointwise [k1_pay41, k1_pay40, k1_pay39]
  rw [coe_sum]; exact Finset.sum_congr rfl fun n _ => exp2_score _ _ _ _ (hq a) (hv n)
theorem pay38_val (a : Fin 256) (d : Fin 128) : k1_pay38 q v (ix2 a d) = ((∑ n, ex (Q a) (V n) * V n d : ℝ) : EReal) := by
  pointwise [k1_pay38, k1_pay36, k1_pay34, k1_pay33]
  rw [coe_sum]; exact Finset.sum_congr rfl fun n _ => by rw [exp2_score _ _ _ _ (hq a) (hv n), hv, EReal.coe_mul]
theorem pay11_val (a : Fin 256) (d : Fin 128) (u o : Vec Ideal S256x128 .f32) :
    k1_pay11 u (k1_pay39 v) (k1_pay42 q v) o (ix2 a d) = o (ix2 a d) + (u (ix2 a d) + ((∑ n, ex (Q a) (V n) * V n d : ℝ) : EReal)) := by
  pointwise [k1_pay11, k1_pay39]
  congr 2
  rw [coe_sum]; exact Finset.sum_congr rfl fun n _ => by rw [pay42_val q Q hq v V hv, hv, EReal.coe_mul]
end Half

section Both
variable (v0 v1 : Vec Ideal S1x2048x128 .f32) (V0 V1 : Fin 2048 → Fin 128 → ℝ)
  (h0 : ∀ n k, v0 (ix3 0 n k) = (V0 n k : EReal)) (h1 : ∀ n k, v1 (ix3 0 n k) = (V1 n k : EReal))
include h0 h1
theorem zStep_val (z : Vec Ideal S256x1 .f32) (a : Fin 256) (Z : ℝ) (hz : z (ix2 a 0) = (Z : EReal)) :
    zStep q v0 v1 z (ix2 a 0) = ((Z + (∑ n, ex (Q a) (V0 n) + ∑ n, ex (Q a) (V1 n)) : ℝ) : EReal) := by
  pointwise [zStep, k1_pay10]
  rw [hz, pay35_val q Q hq v0 V0 h0, pay41_val q Q hq v1 V1 h1, EReal.coe_add, EReal.coe_add]
theorem oStep_val (o : Vec Ideal S256x128 .f32) (a : Fin 256) (d : Fin 128) (O : ℝ) (ho : o (ix2 a d) = (O : EReal)) :
    oStep q v0 v1 o (ix2 a d) = ((O + (∑ n, ex (Q a) (V0 n) * V0 n d + ∑ n, ex (Q a) (V1 n) * V1 n d) : ℝ) : EReal) := by
  unfold oStep
  rw [pay11_val q Q hq v1 V1 h1, pay38_val q Q hq v0 V0 h0, ho, ← EReal.coe_add, ← EReal.coe_add]
end Both
end Pays

theorem inv_val (z : Vec Ideal S256x1 .f32) (a : Fin 256) (Z : ℝ) (hz : z (ix2 a 0) = (Z : EReal)) (h0 : Z ≠ 0) :
    Ideal.div 1 (z (ix2 a 0)) = ((1 / Z : ℝ) : EReal) := by
  rw [hz, Ideal.div_coe h0, one_mul]
theorem pay13_val (z : Vec Ideal S256x1 .f32) (o : Vec Ideal S256x128 .f32) (a : Fin 256) (d : Fin 128) (Z O : ℝ) (hz : z (ix2 a 0) = (Z : EReal)) (h0 : Z ≠ 0)
    (ho : o (ix2 a d) = (O : EReal)) : k1_pay13 z o (ix2 a d) = ((O * (1 / Z) : ℝ) : EReal) := by
  pointwise [k1_pay13, k1_pay12]
  rw [inv_val z a Z hz h0, ho, EReal.coe_mul]
theorem pay14_val (z : Vec Ideal S256x1 .f32) (i : Fin 8) (a : Fin 256) (Z : ℝ) (hz : z (ix2 a 0) = (Z : EReal)) (h0 : Z ≠ 0) :
    k1_pay14 z (ix2 i a) = ((1 / Z : ℝ) : EReal) := by
  pointwise [k1_pay14, k1_pay12]
  exact inv_val z a Z hz h0
section Util
variable (E : Vec Ideal S256x4096 .bf16) (w : Vec Ideal S8x256 .f32) (U : Vec Ideal S8x4096 .f32) (n : Fin 4096) (e v : Fin 256 → ℝ)
  (he : ∀ a, E (ix2 a n) = (e a : EReal)) (hw : ∀ a, w (ix2 0 a) = (v a : EReal))
include he hw
theorem sum_we : (∑ a, w (ix2 0 a) * E (ix2 a n)) = ((∑ a, v a * e a : ℝ) : EReal) := by
  rw [coe_sum]; exact Finset.sum_congr rfl fun a _ => by rw [he, hw, EReal.coe_mul]
theorem pay17_val : k1_pay17 E w (ix2 0 n) = ((∑ a, v a * e a : ℝ) : EReal) := by
  pointwise [k1_pay17]
  exact sum_we E w n e v he hw
theorem pay31_val (u : ℝ) (hu : U (ix2 0 n) = (u : EReal)) : k1_pay31 E w U (ix3 0 0 n) = ((u + ∑ a, v a * e a : ℝ) : EReal) := by
  pointwise [k1_pay31, k1_pay30]
  rw [sum_we E w n e v he hw, hu, EReal.coe_add]
theorem pay32_val (u : ℝ) (hu : U (ix2 0 n) = (u : EReal)) : k1_pay32 E w U (ix3 0 0 n) = ((u + ∑ a, v a * e a : ℝ) : EReal) := by
  pointwise [k1_pay32, k1_pay30]
  rw [sum_we E w n e v he hw, hu, EReal.coe_add]
end Util

end Cert.Proof.Attn
end
-- ==== Proof.Attn.Acc.lean ====
/-
  The attention call's results as real numbers, where `x` and the rows are finite: the sums and the weighted rows after
  each chunk, the rows of the result, the utilities.
-/
module

public import proofs.«01_k».proof.Proof.Attn.Pay

@[expose] public section

set_option maxRecDepth 16384

noncomputable section

namespace Cert.Proof.Attn

open Cert.KernelIdeal Cert.KernelIdeal.Gen
open Idealize.ShloMosaic Idealize.ShloMosaic.TcCoe

theorem rowS_eq (r : Fin 1024) (d : Fin 128) : rowS r d = ix2 r d := funext fun b => match b with | 0 => rfl | 1 => rfl
theorem rowM_eq (r : Fin 8192) (d : Fin 128) : rowM r d = ix2 r d := funext fun b => match b with | 0 => rfl | 1 => rfl
theorem rowL_eq (r : Fin 65536) (d : Fin 128) : rowL r d = ix2 r d := funext fun b => match b with | 0 => rfl | 1 => rfl

/-- A sum over a chunk's rows as the difference of two sums over the rows so far. -/
theorem sum_chunk (f : ℕ → ℝ) (b : ℕ) :
    ∑ n ∈ Finset.range (b + 4096), f n = ∑ n ∈ Finset.range b, f n + (∑ n : Fin 2048, f (b + (2048 * (0 : Fin 2).val + n.val)) + ∑ n : Fin 2048, f (b + (2048 * (1 : Fin 2).val + n.val))) := by
  rw [show b + 4096 = b + 2048 + 2048 by omega, Finset.sum_range_add, Finset.sum_range_add, add_assoc, Finset.sum_range (n := 2048), Finset.sum_range (n := 2048)]
  have e0 : (∑ n : Fin 2048, f (b + n.val)) = ∑ n : Fin 2048, f (b + (2048 * (0 : Fin 2).val + n.val)) :=
    Finset.sum_congr rfl fun n _ => congrArg f (show b + n.val = b + (2048 * 0 + n.val) by omega)
  have e1 : (∑ n : Fin 2048, f (b + 2048 + n.val)) = ∑ n : Fin 2048, f (b + (2048 * (1 : Fin 2).val + n.val)) :=
    Finset.sum_congr rfl fun n _ => congrArg f (show b + 2048 + n.val = b + (2048 * 1 + n.val) by omega)
  rw [e0, e1]

section Spec
variable (c : Dev nD) (X : Buf (Elt Ideal) ((c : Thread nD τ).loc main_v17)) (fs : Buf (Elt Ideal) ((c : Thread nD τ).loc main_v12))
  (fm : Buf (Elt Ideal) ((c : Thread nD τ).loc main_arg2)) (fl : Buf (Elt Ideal) ((c : Thread nD τ).loc main_arg3))
  (XR RR : ℕ → Fin 128 → ℝ)

/-- `x` and the rows are these reals. -/
structure Reals : Prop where
  x : ∀ (r : Fin 512) (k : Fin 128), (X : S512x128.Idx → EReal) (ix2 r k) = (XR r.val k : EReal)
  s : ∀ (r : Fin 1024) (k : Fin 128), (fs : S1024x128.Idx → EReal) (ix2 r k) = (RR r.val k : EReal)
  m : ∀ (r : Fin 8192) (k : Fin 128), (fm : S8192x128.Idx → EReal) (ix2 r k) = (RR (1024 + r.val) k : EReal)
  l : ∀ (r : Fin 65536) (k : Fin 128), (fl : S65536x128.Idx → EReal) (ix2 r k) = (RR (9216 + r.val) k : EReal)

/-- Row `r`'s sum over the first `n` rows of the memories, and its weighted rows. -/
def zR (r n : ℕ) : ℝ := ∑ i ∈ Finset.range n, ex (XR r) (RR i)
def oR (r n : ℕ) (d : Fin 128) : ℝ := ∑ i ∈ Finset.range n, ex (XR r) (RR i) * RR i d
theorem zR_pos (r : ℕ) {n : ℕ} (h : 0 < n) : 0 < zR XR RR r n :=
  Finset.sum_pos (fun _ _ => ex_pos _ _) ⟨0, Finset.mem_range.2 h⟩

variable {X fs fm fl XR RR} (H : Reals c X fs fm fl XR RR)
include H

theorem qx_val {p : ℕ} (hp : p < 2) (a : Fin 256) (k : Fin 128) : qx c X p (ix2 a k) = (XR (256 * p + a.val) k : EReal) := by
  have key : ∀ (r : Fin 512), r.val = 256 * p + a.val → (X : S512x128.Idx → EReal) (ix2 r k) = (XR (256 * p + a.val) k : EReal) := fun r h => by rw [← h]; exact H.x r k
  unfold qx
  split
  · next h =>
    refine Eq.trans ?_ (key ⟨a.val, by omega⟩ (by simp only; omega))
    refine congrArg (X : S512x128.Idx → EReal) (funext fun b => Fin.ext ?_)
    match b with
    | 0 => show 0 + 1 * a.val = a.val; omega
    | 1 => show 0 + 1 * k.val = k.val; omega
  · next h =>
    refine Eq.trans ?_ (key ⟨256 + a.val, by omega⟩ (by simp only; omega))
    refine congrArg (X : S512x128.Idx → EReal) (funext fun b => Fin.ext ?_)
    match b with
    | 0 => show 256 + 1 * a.val = 256 + a.val; omega
    | 1 => show 0 + 1 * k.val = k.val; omega
theorem vS_val (n : Fin 1024) (k : Fin 128) : vS c fs (ix3 0 n k) = (RR n.val k : EReal) := by
  refine Eq.trans ?_ (H.s n k)
  exact congrArg (fs : S1024x128.Idx → EReal) (rowS_eq n k)
theorem hf_val {g : ℕ} (h1 : 1 ≤ g) (h2 : g ≤ 18) (r : Fin 2) (n : Fin 2048) (k : Fin 128) :
    hf c fm fl g r (ix3 0 n k) = (RR (1024 + 4096 * (g - 1) + (2048 * r.val + n.val)) k : EReal) := by
  have hr := r.isLt
  unfold hf
  split
  · next h =>
    have hb : (mB g).val = g - 1 := by show min 1 (g - 1) = g - 1; omega
    refine (congrArg (fm : S8192x128.Idx → EReal) (rowM_eq _ k)).trans ((H.m _ k).trans ?_)
    congr 2
    show 1024 + (4096 * (mB g).val + (2048 * r.val + n.val)) = _
    omega
  · next h =>
    have hb : (lB g).val = g - 3 := by show min 15 (g - 3) = g - 3; omega
    refine (congrArg (fl : S65536x128.Idx → EReal) (rowL_eq _ k)).trans ((H.l _ k).trans ?_)
    congr 2
    show 9216 + (4096 * (lB g).val + (2048 * r.val + n.val)) = _
    omega

theorem ZS_val {p : ℕ} (hp : p < 2) (a : Fin 256) : ∀ g, g ≤ 18 → ZS c X fs fm fl p g (ix2 a 0) = (zR XR RR (256 * p + a.val) (1024 + 4096 * g) : EReal)
  | 0, _ => by
    refine (zS_val _ (fun a => XR (256 * p + a.val)) (qx_val c H hp) _ (fun n => RR n.val) (vS_val c H) a).trans ?_
    rw [zR, Finset.sum_range]
  | g + 1, hg => by
    refine (zStep_val _ (fun a => XR (256 * p + a.val)) (qx_val c H hp) _ _ _ _ (hf_val c H (by omega) hg 0) (hf_val c H (by omega) hg 1) _ a _ (ZS_val hp a g (by omega))).trans ?_
    rw [zR, zR, show 1024 + 4096 * (g + 1) = 1024 + 4096 * g + 4096 by omega, sum_chunk, Nat.add_sub_cancel]
theorem OS_val {p : ℕ} (hp : p < 2) (a : Fin 256) (d : Fin 128) : ∀ g, g ≤ 18 → OS c X fs fm fl p g (ix2 a d) = (oR XR RR (256 * p + a.val) (1024 + 4096 * g) d : EReal)
  | 0, _ => by
    refine (oS_val _ (fun a => XR (256 * p + a.val)) (qx_val c H hp) _ (fun n => RR n.val) (vS_val c H) a d).trans ?_
    rw [oR, Finset.sum_range]
  | g + 1, hg => by
    refine (oStep_val _ (fun a => XR (256 * p + a.val)) (qx_val c H hp) _ _ _ _ (hf_val c H (by omega) hg 0) (hf_val c H (by omega) hg 1) _ a d _ (OS_val hp a d g (by omega))).trans ?_
    rw [oR, oR, show 1024 + 4096 * (g + 1) = 1024 + 4096 * g + 4096 by omega, sum_chunk, Nat.add_sub_cancel]

/-- All rows of the memories. -/
theorem z_ne (r : ℕ) : zR XR RR r 74752 ≠ 0 := (zR_pos XR RR r (by omega)).ne'
theorem OT_val {p : ℕ} (hp : p < 2) (a : Fin 256) (d : Fin 128) :
    OT c X fs fm fl p (ix2 a d) = ((oR XR RR (256 * p + a.val) 74752 d * (1 / zR XR RR (256 * p + a.val) 74752) : ℝ) : EReal) :=
  pay13_val _ _ a d _ _ (ZS_val c H hp a 18 le_rfl) (z_ne c H _) (OS_val c H hp a d 18 le_rfl)
theorem WV_val {p : ℕ} (hp : p < 2) (i : Fin 8) (a : Fin 256) :
    WV c X fs fm fl p (ix2 i a) = ((1 / zR XR RR (256 * p + a.val) 74752 : ℝ) : EReal) :=
  pay14_val _ i a _ (ZS_val c H hp a 18 le_rfl) (z_ne c H _)
theorem EB_val {p : ℕ} (hp : p < 2) {g : ℕ} (h1 : 1 ≤ g) (h2 : g ≤ 18) (a : Fin 256) (n : Fin 4096) :
    EB c X fm fl p g (ix2 a n) = (ex (XR (256 * p + a.val)) (RR (1024 + 4096 * (g - 1) + n.val)) : EReal) := by
  have ix : ∀ b : Fin 2048, ixH a b = ix2 a b := fun b => funext fun y => match y with | 0 => rfl | 1 => rfl
  show (if h : n.val < 2048 then k1_pay37 (qx c X p) (hf c fm fl g 0) (ixH a ⟨n.val, h⟩) else k1_pay9 (k1_pay42 (qx c X p) (hf c fm fl g 1)) (ixH a ⟨n.val - 2048, _⟩)) = _
  split
  · next h =>
    rw [ix, pay37_val _ (fun a => XR (256 * p + a.val)) (qx_val c H hp) _ _ (hf_val c H h1 h2 0)]
    congr 3
    show 1024 + 4096 * (g - 1) + (2048 * 0 + n.val) = _
    omega
  · next h =>
    rw [ix, pay9_val _ (fun a => XR (256 * p + a.val)) (qx_val c H hp) _ _ (hf_val c H h1 h2 1)]
    congr 3
    show 1024 + 4096 * (g - 1) + (2048 * 1 + (n.val - 2048)) = _
    omega

/-- What pass `p`'s rows put on row `i` of the memories. -/
def uR (XR RR : ℕ → Fin 128 → ℝ) (p i : ℕ) : ℝ := ∑ a : Fin 256, 1 / zR XR RR (256 * p + a.val) 74752 * ex (XR (256 * p + a.val)) (RR i)
theorem UB_val {g : ℕ} (h1 : 1 ≤ g) (h2 : g ≤ 18) (n : Fin 4096) :
    UB c X fs fm fl g (ix2 0 n) = (uR XR RR 0 (1024 + 4096 * (g - 1) + n.val) : EReal) :=
  pay17_val _ _ n _ _ (fun a => EB_val c H (by omega) h1 h2 a n) fun a => WV_val c H (by omega) 0 a
theorem MU_val {g : ℕ} (h1 : 1 ≤ g) (h2 : g ≤ 18) (n : Fin 4096) :
    MU c X fs fm fl g (ix3 0 0 n) = ((uR XR RR 0 (1024 + 4096 * (g - 1) + n.val) + uR XR RR 1 (1024 + 4096 * (g - 1) + n.val) : ℝ) : EReal) :=
  pay31_val _ _ _ n _ _ (fun a => EB_val c H (by omega) h1 h2 a n) (fun a => WV_val c H (by omega) 0 a) _ (UB_val c H h1 h2 n)
theorem LU_val {g : ℕ} (h1 : 1 ≤ g) (h2 : g ≤ 18) (n : Fin 4096) :
    LU c X fs fm fl g (ix3 0 0 n) = ((uR XR RR 0 (1024 + 4096 * (g - 1) + n.val) + uR XR RR 1 (1024 + 4096 * (g - 1) + n.val) : ℝ) : EReal) :=
  pay32_val _ _ _ n _ _ (fun a => EB_val c H (by omega) h1 h2 a n) (fun a => WV_val c H (by omega) 0 a) _ (UB_val c H h1 h2 n)
end Spec

end Cert.Proof.Attn
end
-- ==== Proof.Attn.Arr.lean ====
/-
  The attention's three results at the ideal values, where its rows are reals: the arrays from the blocks flushed, and
  the two that the host reshapes.
-/
module

public import proofs.«01_k».proof.Proof.Attn.Launch
public import proofs.«01_k».proof.Proof.Attn.Acc
public import Idealize.ShloMosaic.Lib.Pipeline.ValueKit.Geometry
public import Idealize.ShloMosaic.Lib.Pipeline.Value

@[expose] public section

set_option maxRecDepth 16384

noncomputable section

namespace Cert.Proof.Attn

open Cert.KernelIdeal Cert.KernelIdeal.Gen
open Idealize.ShloMosaic Idealize.ShloMosaic.TcCoe
open Idealize.ShloMosaic.Pipeline (Dat Cfg Window)

variable (m : (c : Dev nD) → (b : Ref sig .tc) → Buf (Elt Ideal) ((c : Thread nD τ).loc b)) (c : Dev nD) {XR RR : ℕ → Fin 128 → ℝ}

def G0 (XR RR : ℕ → Fin 128 → ℝ) : FVec Ideal S512x128 .f32 := fun i => ((oR XR RR (i 0).val 74752 (i 1) * (1 / zR XR RR (i 0).val 74752) : ℝ) : EReal)
def G1 (XR RR : ℕ → Fin 128 → ℝ) : FVec Ideal S2x1x4096 .f32 := fun i =>
  ((uR XR RR 0 (1024 + (4096 * (i 0).val + (i 2).val)) + uR XR RR 1 (1024 + (4096 * (i 0).val + (i 2).val)) : ℝ) : EReal)
def G2 (XR RR : ℕ → Fin 128 → ℝ) : FVec Ideal S16x1x4096 .f32 := fun i =>
  ((uR XR RR 0 (9216 + (4096 * (i 0).val + (i 2).val)) + uR XR RR 1 (9216 + (4096 * (i 0).val + (i 2).val)) : ℝ) : EReal)

theorem index_0 : ∀ t : Fin cfg1.N, (cfg1.win 0).flush t = true → (cfg1.win 0).index t = ![if t.val ≤ 37 then 0 else 1, 0] := by decide +kernel
theorem index_1 : ∀ t : Fin cfg1.N, (cfg1.win 1).flush t = true → (cfg1.win 1).index t = ![if t.val ≤ 39 then 0 else 1, 0, 0] := by decide +kernel
theorem index_2 : ∀ t : Fin cfg1.N, (cfg1.win 2).flush t = true → (cfg1.win 2).index t = ![t.val - 41, 0, 0] := by decide +kernel

variable (H : Reals c (iX m c) (iS m c) (iM m c) (iL m c) XR RR)
include H

theorem arr_0 : (dats m 0 c).arrAt 0 cfg1.N = G0 XR RR := by
  refine (dats m 0 c).arrAt_eq_of_covers 0 _ (by decide +kernel) fun t hf y => ?_
  have hi : win1_0.index t = _ := index_0 t hf
  blk_simp
  rw [after_0]
  unfold aft0
  have hp : (if t.val ≤ 37 then 0 else 1) < 2 := by split <;> omega
  have e0 : ((win1_0.blk t).view.emb y 0 : ℕ) = 256 * (if t.val ≤ 37 then 0 else 1) + (y 0).val := by
    blk_simp [hi]
    split <;> simp
  have e1 : ((win1_0.blk t).view.emb y 1 : ℕ) = (y 1).val := by
    blk_simp [hi]
  generalize (if t.val ≤ 37 then 0 else 1) = p at hp e0 ⊢
  have hy : y = ix2 (n0 := 256) (n1 := 128) (y 0) (y 1) := funext fun b => match b with | 0 => rfl | 1 => rfl
  refine (congrArg (OT c (iX m c) (iS m c) (iM m c) (iL m c) p) hy).trans ((OT_val c H hp (y 0) (y 1)).trans ?_)
  unfold G0
  rw [e0, show (win1_0.blk t).view.emb y 1 = y 1 from Fin.ext e1]

theorem arr_1 : (dats m 0 c).arrAt 1 cfg1.N = G1 XR RR := by
  refine (dats m 0 c).arrAt_eq_of_covers 1 _ (by decide +kernel) fun t hf y => ?_
  have hi : win1_1.index t = _ := index_1 t hf
  have h12 : 1 ≤ (if t.val ≤ 39 then 1 else 2) ∧ (if t.val ≤ 39 then 1 else 2) ≤ 2 := by split <;> omega
  blk_simp
  rw [after_1]
  unfold aft1
  have y0 : (y 0).val < 1 := (y 0).isLt
  have y1 : (y 1).val < 1 := (y 1).isLt
  have e0 : ((win1_1.blk t).view.emb y 0 : ℕ) = (if t.val ≤ 39 then 1 else 2) - 1 := by
    blk_simp [hi]
    split <;> rfl
  have e1 : ((win1_1.blk t).view.emb y 2 : ℕ) = (y 2).val := by
    blk_simp [hi]
  generalize (if t.val ≤ 39 then 1 else 2) = g at h12 e0 ⊢
  have hy : y = ix3 (n0 := 1) (n1 := 1) (n2 := 4096) 0 0 (y 2) :=
    funext fun b => match b with | 0 => Fin.ext (by show (y 0).val = 0; omega) | 1 => Fin.ext (by show (y 1).val = 0; omega) | 2 => rfl
  refine (congrArg (MU c (iX m c) (iS m c) (iM m c) (iL m c) g) hy).trans ((MU_val c H (by omega) (by omega) (y 2)).trans ?_)
  unfold G1
  rw [e0, e1, show 1024 + 4096 * (g - 1) + (y 2).val = 1024 + (4096 * (g - 1) + (y 2).val) by omega]

theorem arr_2 : (dats m 0 c).arrAt 2 cfg1.N = G2 XR RR := by
  refine (dats m 0 c).arrAt_eq_of_covers 2 _ (by decide +kernel) fun t hf y => ?_
  have hi : win1_2.index t = _ := index_2 t hf
  have h41 : 41 ≤ t.val := by
    rw [flush_2] at hf; exact of_decide_eq_true hf
  have h56 : t.val < 57 := t.isLt
  blk_simp
  rw [after_2]
  unfold aft2
  have y0 : (y 0).val < 1 := (y 0).isLt
  have y1 : (y 1).val < 1 := (y 1).isLt
  have e0 : ((win1_2.blk t).view.emb y 0 : ℕ) = t.val - 41 := by
    blk_simp [hi]
  have e1 : ((win1_2.blk t).view.emb y 2 : ℕ) = (y 2).val := by
    blk_simp [hi]
  have hy : y = ix3 (n0 := 1) (n1 := 1) (n2 := 4096) 0 0 (y 2) :=
    funext fun b => match b with | 0 => Fin.ext (by show (y 0).val = 0; omega) | 1 => Fin.ext (by show (y 1).val = 0; omega) | 2 => rfl
  refine (congrArg (LU c (iX m c) (iS m c) (iM m c) (iL m c) (t.val - 38)) hy).trans ((LU_val c H (by omega) (by omega) (y 2)).trans ?_)
  unfold G2
  rw [e0, e1, show 1024 + 4096 * (t.val - 38 - 1) + (y 2).val = 9216 + (4096 * (t.val - 41) + (y 2).val) by omega]

omit H in
theorem cast_1 (x : FVec Ideal S2x1x4096 .f32) (n : Fin 8192) :
    shapeCast S8192 x shapeCasts_S2x1x4096_S8192 (ix1 n) = x (ix3 ⟨n.val / 4096, by omega⟩ 0 ⟨n.val % 4096, by omega⟩) := by
  pointwise
theorem res1_val (n : Fin 8192) : shapeCast S8192 ((dats m 0 c).arrAt 1 cfg1.N : FVec Ideal S2x1x4096 .f32) shapeCasts_S2x1x4096_S8192 (ix1 n)
    = ((uR XR RR 0 (1024 + n.val) + uR XR RR 1 (1024 + n.val) : ℝ) : EReal) := by
  refine (cast_1 _ n).trans ?_
  rw [arr_1 m c H]
  show ((uR XR RR 0 (1024 + (4096 * (n.val / 4096) + n.val % 4096)) + uR XR RR 1 (1024 + (4096 * (n.val / 4096) + n.val % 4096)) : ℝ) : EReal) = _
  rw [Nat.div_add_mod]
omit H in
theorem cast_2 (x : FVec Ideal S16x1x4096 .f32) (n : Fin 65536) :
    shapeCast S65536 x shapeCasts_S16x1x4096_S65536 (ix1 n) = x (ix3 ⟨n.val / 4096, by omega⟩ 0 ⟨n.val % 4096, by omega⟩) := by
  pointwise
theorem res2_val (n : Fin 65536) : shapeCast S65536 ((dats m 0 c).arrAt 2 cfg1.N : FVec Ideal S16x1x4096 .f32) shapeCasts_S16x1x4096_S65536 (ix1 n)
    = ((uR XR RR 0 (9216 + n.val) + uR XR RR 1 (9216 + n.val) : ℝ) : EReal) := by
  refine (cast_2 _ n).trans ?_
  rw [arr_2 m c H]
  show ((uR XR RR 0 (9216 + (4096 * (n.val / 4096) + n.val % 4096)) + uR XR RR 1 (9216 + (4096 * (n.val / 4096) + n.val % 4096)) : ℝ) : EReal) = _
  rw [Nat.div_add_mod]
theorem res0_val (r : Fin 512) (d : Fin 128) : ((dats m 0 c).arrAt 0 cfg1.N : FVec Ideal S512x128 .f32) (ix2 r d)
    = ((oR XR RR r.val 74752 d * (1 / zR XR RR r.val 74752) : ℝ) : EReal) :=
  congrFun (arr_0 m c H) (ix2 r d)

end Cert.Proof.Attn
end
-- ==== Proof.Attn.Ref.lean ====
/-
  The reference at the ideal values, where its arguments are finite: a row's softmax as the exponentials over
  their sum, the maximum gone.
-/
module

public import proofs.«01_k».proof.Proof.Gen.ReferenceIdeal.Run
public import proofs.«01_k».proof.Proof.Attn.Acc

@[expose] public section

set_option maxRecDepth 16384

noncomputable section

namespace Cert.Proof.AttnRef

open Cert.ReferenceIdeal Cert.ReferenceIdeal.Facts₀ Cert.ReferenceIdeal.Facts
open Idealize.ShloMosaic Idealize.ShloMosaic.TcCoe
open Cert.Proof.Attn (ex ex_pos coe_sum zR zR_pos)

/-- The rows, the scores, a row's maximum, the exponentials, the softmax. -/
def rMem (s : FVec Ideal S1024x128 .f32) (m : FVec Ideal S8192x128 .f32) (l : FVec Ideal S65536x128 .f32) : FVec Ideal S74752x128 .f32 :=
  concatenate S74752x128 0 [⟨S1024x128, s⟩, ⟨S8192x128, m⟩, ⟨S65536x128, l⟩] concatenates_S1024x128_S8192x128_S65536x128_S74752x128_d0
def rSc (x : FVec Ideal S512x128 .f32) (v : FVec Ideal S74752x128 .f32) : FVec Ideal S512x74752 .f32 :=
  mulf (Host.dotGeneral dot_S512x128_S128x74752_S512x74752_1_0_0_1_n_n none x (transpose S128x74752 [1, 0] v transposes_S74752x128_S128x74752_1_0))
    (broadcastInDim S512x74752 ![] bcast_S_S512x74752 (Host.divf (constant S_ .f32 0x3F800000#32) (Host.sqrt (constant S_ .f32 0x43000000#32))))
def rMax (t : FVec Ideal S512x74752 .f32) : FVec Ideal S512 .f32 :=
  maximumf (broadcastInDim S512 ![] bcast_S_S512 (constant S_ .f32 0xFF800000#32)) (Host.reduce (FloatOps.maximumf (F := Ideal) (φ := .f32)) t (constant S_ .f32 0xFF800000#32) reducesTo_S512x74752_S512_d1 h_S_)
def rExp (t : FVec Ideal S512x74752 .f32) : FVec Ideal S512x74752 .f32 :=
  Host.exp (subf t (broadcastInDim S512x74752 ![0, 1] bcast_S512x1_S512x74752_0_1 (broadcastInDim S512x1 ![0] bcast_S512_S512x1_0 (rMax t))))
def rSm (e : FVec Ideal S512x74752 .f32) : FVec Ideal S512x74752 .f32 :=
  Host.divf e (broadcastInDim S512x74752 ![0, 1] bcast_S512x1_S512x74752_0_1 (broadcastInDim S512x1 ![0] bcast_S512_S512x1_0
    (Host.reduceAdd e (constant S_ .f32 0x00000000#32) reducesTo_S512x74752_S512_d1 h_S_)))

/-- The scale is a real number. -/
theorem scale_val : Ideal.div 1 (Ideal.sqrt (Ideal.ofBits .f32 0x43000000#32)) = ((1 / Real.sqrt 128 : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num), Ideal.div_coe (by positivity), one_mul]

theorem negInf_val : Ideal.ofBits .f32 0xFF800000#32 = ⊥ := by simp [Ideal.ofBits, Ideal.ieee]

/-- The maximum of a list of reals, from `⊥`, is a real as soon as the list has a member. -/
theorem foldl_max_real {ι : Type} (f : ι → EReal) (hf : ∀ i, ∃ r : ℝ, f i = r) : ∀ (L : List ι) (b : EReal), (b = ⊥ ∨ ∃ r : ℝ, b = r) →
    (L ≠ [] ∨ b ≠ ⊥) → ∃ M : ℝ, L.foldl (fun r n => max r (f n)) b = M
  | [], b, hb, h => by
    rcases hb with hb | hb
    · exact absurd hb (h.resolve_left fun h => h rfl)
    · exact hb
  | a :: L, b, hb, h => by
    obtain ⟨r, hr⟩ := hf a
    have hmax : ∃ M : ℝ, max b (f a) = M := by
      rcases hb with rfl | ⟨b, rfl⟩
      · exact ⟨r, by rw [hr]; exact max_eq_right bot_le⟩
      · exact ⟨max b r, by rw [hr]; exact (EReal.coe_strictMono.monotone.map_max).symm⟩
    obtain ⟨M, hM⟩ := hmax
    exact foldl_max_real f hf L _ (Or.inr ⟨M, hM⟩) (Or.inr (hM ▸ EReal.coe_ne_bot M : max b (f a) ≠ ⊥))

theorem reduce_max_real {s t u : Shape} {axes : List (Fin s.rank)} (x : FVec Ideal s .f32) (init : u.Idx → Ideal .f32) (h : s.ReducesTo axes t) (hu : 0 < u.numel)
    (j : t.Idx) (hi : init (Shape.Idx.first hu) = (⊥ : EReal)) (hx : ∀ i, ∃ r : ℝ, (x i : EReal) = r) (i0 : s.Idx) (h0 : h.drop i0 = j) :
    ∃ M : ℝ, Eq (α := EReal) (Host.reduce (FloatOps.maximumf (F := Ideal) (φ := .f32)) x init h hu j) M := by
  rw [Host.reduce_eq_foldl]
  refine foldl_max_real x hx _ _ (Or.inl hi) (Or.inl fun e => ?_)
  have : i0 ∈ ([] : List s.Idx) := e ▸ List.mem_filter.2 ⟨List.mem_map.2 ⟨s.rowMajor i0, List.mem_finRange _, Equiv.symm_apply_apply _ _⟩, by simp [h0]⟩
  exact absurd this (List.not_mem_nil)

theorem maximumf_real {s : Shape} (b y : FVec Ideal s .f32) (i : s.Idx) (M : ℝ) (hb : b i = (⊥ : EReal)) (hy : y i = (M : EReal)) :
    maximumf b y i = (M : EReal) := by
  show max (b i : EReal) (y i) = M
  rw [hb, hy]
  exact max_eq_right bot_le

theorem const_negInf (i : S_.Idx) : constant (F := Ideal) S_ .f32 0xFF800000#32 i = (⊥ : EReal) := negInf_val
theorem bcast_negInf (i : S512.Idx) : broadcastInDim S512 ![] bcast_S_S512 (constant (F := Ideal) S_ .f32 0xFF800000#32) i = (⊥ : EReal) := negInf_val
theorem drop_row (r : Fin 512) (n : Fin 74752) : (reducesTo_S512x74752_S512_d1).drop (ix2 r n) = ix1 r :=
  funext fun b => match b with | 0 => rfl

section Vals
variable (s : FVec Ideal S1024x128 .f32) (m : FVec Ideal S8192x128 .f32) (l : FVec Ideal S65536x128 .f32) (x : FVec Ideal S512x128 .f32) (X RR : ℕ → Fin 128 → ℝ)
  (hs : ∀ (r : Fin 1024) (k : Fin 128), s (ix2 r k) = (RR r.val k : EReal))
  (hm : ∀ (r : Fin 8192) (k : Fin 128), m (ix2 r k) = (RR (1024 + r.val) k : EReal))
  (hl : ∀ (r : Fin 65536) (k : Fin 128), l (ix2 r k) = (RR (9216 + r.val) k : EReal))
  (hx : ∀ (r : Fin 512) (k : Fin 128), x (ix2 r k) = (X r.val k : EReal))
include hs hm hl
theorem rMem_val (n : Fin 74752) (k : Fin 128) : rMem s m l (ix2 n k) = (RR n.val k : EReal) := by
  have hn := n.isLt
  pointwise [rMem]
  split
  · exact hs _ k
  · next h =>
    split
    · refine (hm _ k).trans (congrArg (fun i => (RR i k : EReal)) (?_ : 1024 + (n.val - 1024) = n.val))
      omega
    · refine (hl _ k).trans (congrArg (fun i => (RR i k : EReal)) (?_ : 9216 + (n.val - 1024 - 8192) = n.val))
      omega
omit hs hm hl
include hx in
theorem rSc_val (v : FVec Ideal S74752x128 .f32) (hv : ∀ (n : Fin 74752) (k : Fin 128), v (ix2 n k) = (RR n.val k : EReal)) (r : Fin 512) (n : Fin 74752) :
    rSc x v (ix2 r n) = ((∑ k, X r.val k * (1 / Real.sqrt 128) * RR n.val k : ℝ) : EReal) := by
  pointwise [rSc]
  rw [scale_val]
  have e : (∑ k, x (ix2 r k) * v (ix2 n k)) = ((∑ k, X r.val k * RR n.val k : ℝ) : EReal) := by
    rw [coe_sum]; exact Finset.sum_congr rfl fun k _ => by rw [hx, hv, EReal.coe_mul]
  rw [e, ← EReal.coe_mul, Finset.sum_mul]
  refine congrArg Real.toEReal ?_
  exact Finset.sum_congr rfl fun k _ => by ring
theorem rMax_val (t : FVec Ideal S512x74752 .f32) (T : ℕ → ℕ → ℝ) (ht : ∀ (r : Fin 512) (n : Fin 74752), t (ix2 r n) = (T r.val n.val : EReal)) (r : Fin 512) :
    ∃ M : ℝ, rMax t (ix1 r) = (M : EReal) := by
  have hx : ∀ i : S512x74752.Idx, ∃ r : ℝ, (t i : EReal) = r := fun i => ⟨T (i 0).val (i 1).val, by
    rw [show i = ix2 (i 0) (i 1) from funext fun b => match b with | 0 => rfl | 1 => rfl]; exact ht _ _⟩
  obtain ⟨M, hM⟩ := reduce_max_real t (constant S_ .f32 0xFF800000#32) reducesTo_S512x74752_S512_d1 h_S_ (ix1 r) (const_negInf _) hx (ix2 r 0) (drop_row r 0)
  exact ⟨M, maximumf_real _ _ (ix1 r) M (bcast_negInf _) hM⟩
theorem rSm_val (t : FVec Ideal S512x74752 .f32) (T : ℕ → ℕ → ℝ) (ht : ∀ (r : Fin 512) (n : Fin 74752), t (ix2 r n) = (T r.val n.val : EReal)) (r : Fin 512) (n : Fin 74752) :
    rSm (rExp t) (ix2 r n) = ((Real.exp (T r.val n.val) * (1 / ∑ i ∈ Finset.range 74752, Real.exp (T r.val i)) : ℝ) : EReal) := by
  obtain ⟨M, hM⟩ := rMax_val t T ht r
  have he : ∀ n : Fin 74752, rExp t (ix2 r n) = ((Real.exp (T r.val n.val - M) : ℝ) : EReal) := fun n => by
    pointwise [rExp]
    rw [hM, ht, ← EReal.coe_sub, Ideal.exp_coe]
  have hz : (∑ x : Fin 74752, rExp t (ix2 r x)) = ((∑ i ∈ Finset.range 74752, Real.exp (T r.val i - M) : ℝ) : EReal) := by
    rw [Finset.sum_range, coe_sum]; exact Finset.sum_congr rfl fun n _ => he n
  have hpos : (∑ i ∈ Finset.range 74752, Real.exp (T r.val i - M)) ≠ 0 :=
    (Finset.sum_pos (fun _ _ => Real.exp_pos _) ⟨0, Finset.mem_range.2 (by omega)⟩).ne'
  pointwise [rSm]
  rw [hz, he, Ideal.div_coe hpos, ← EReal.coe_mul]
  refine congrArg Real.toEReal ?_
  have e1 : ∀ i, Real.exp (T r.val i - M) = Real.exp (T r.val i) * Real.exp (-M) := fun i => by rw [sub_eq_add_neg, Real.exp_add]
  simp only [e1]
  rw [← Finset.sum_mul]
  have hM0 : Real.exp (-M) ≠ 0 := (Real.exp_pos _).ne'
  have hs0 : (∑ i ∈ Finset.range 74752, Real.exp (T r.val i)) ≠ 0 :=
    (Finset.sum_pos (fun _ _ => Real.exp_pos _) ⟨0, Finset.mem_range.2 (by omega)⟩).ne'
  field_simp

theorem dot_val (e : FVec Ideal S512x74752 .f32) (v : FVec Ideal S74752x128 .f32) (r : Fin 512) (d : Fin 128) :
    Host.dotGeneral dot_S512x74752_S74752x128_S512x128_1_0_0_1_n_n none e v (ix2 r d) = ∑ n : Fin 74752, e (ix2 r n) * v (ix2 n d) := by
  pointwise
theorem sum31_val (e : FVec Ideal S512x74752 .f32) (n : Fin 8192) :
    Host.reduceAdd (extractStridedSlice S512x8192 ![0, 1024] e slices_S512x74752_S512x8192_0_1024) (constant S_ .f32 0x00000000#32) reducesTo_S512x8192_S8192_d0 h_S_ (ix1 n)
      = ∑ r : Fin 512, e (ix2 r ⟨1024 + n.val, by omega⟩) := by
  pointwise
theorem sum33_val (e : FVec Ideal S512x74752 .f32) (n : Fin 65536) :
    Host.reduceAdd (extractStridedSlice S512x65536 ![0, 9216] e slices_S512x74752_S512x65536_0_9216) (constant S_ .f32 0x00000000#32) reducesTo_S512x65536_S65536_d0 h_S_ (ix1 n)
      = ∑ r : Fin 512, e (ix2 r ⟨9216 + n.val, by omega⟩) := by
  pointwise

end Vals

section Fin
variable (mm : (ℓ : Loc nD τ sig) → Buf (Elt Ideal) ℓ) (c : Dev nD)
abbrev aX : FVec Ideal S512x128 .f32 := mm ((c.tc : Thread nD τ).loc main_arg0)
/-- The new ring, as the reference writes it. -/
abbrev aS : FVec Ideal S1024x128 .f32 := Value.res_main_v10 mm c
abbrev aM : FVec Ideal S8192x128 .f32 := mm ((c.tc : Thread nD τ).loc main_arg2)
abbrev aL : FVec Ideal S65536x128 .f32 := mm ((c.tc : Thread nD τ).loc main_arg3)
abbrev aMem := rMem (aS mm c) (aM mm c) (aL mm c)
abbrev aSm := rSm (rExp (rSc (aX mm c) (aMem mm c)))

theorem res29 : Value.res_main_v29 mm c = Host.dotGeneral dot_S512x74752_S74752x128_S512x128_1_0_0_1_n_n none (aSm mm c) (aMem mm c) := rfl
theorem res31 : Value.res_main_v31 mm c = Host.reduceAdd (extractStridedSlice S512x8192 ![0, 1024] (aSm mm c) slices_S512x74752_S512x8192_0_1024)
    (constant S_ .f32 0x00000000#32) reducesTo_S512x8192_S8192_d0 h_S_ := rfl
theorem res33 : Value.res_main_v33 mm c = Host.reduceAdd (extractStridedSlice S512x65536 ![0, 9216] (aSm mm c) slices_S512x74752_S512x65536_0_9216)
    (constant S_ .f32 0x00000000#32) reducesTo_S512x65536_S65536_d0 h_S_ := rfl

variable (X RR : ℕ → Fin 128 → ℝ)
  (hs : ∀ (r : Fin 1024) (k : Fin 128), aS mm c (ix2 r k) = (RR r.val k : EReal))
  (hm : ∀ (r : Fin 8192) (k : Fin 128), aM mm c (ix2 r k) = (RR (1024 + r.val) k : EReal))
  (hl : ∀ (r : Fin 65536) (k : Fin 128), aL mm c (ix2 r k) = (RR (9216 + r.val) k : EReal))
  (hx : ∀ (r : Fin 512) (k : Fin 128), aX mm c (ix2 r k) = (X r.val k : EReal))
/-- The scaled row. -/
abbrev sc (X : ℕ → Fin 128 → ℝ) (r : ℕ) (k : Fin 128) : ℝ := X r k * (1 / Real.sqrt 128)
include hs hm hl hx
theorem aSm_val (r : Fin 512) (n : Fin 74752) :
    aSm mm c (ix2 r n) = ((ex (sc X r.val) (RR n.val) * (1 / zR (sc X) RR r.val 74752) : ℝ) : EReal) :=
  rSm_val (rSc (aX mm c) (aMem mm c)) (fun r n => ∑ k, X r k * (1 / Real.sqrt 128) * RR n k)
    (fun r n => rSc_val _ X RR hx _ (rMem_val _ _ _ RR hs hm hl) r n) r n
theorem v29_val (r : Fin 512) (d : Fin 128) :
    Value.res_main_v29 mm c (ix2 r d) = ((Attn.oR (sc X) RR r.val 74752 d * (1 / zR (sc X) RR r.val 74752) : ℝ) : EReal) := by
  refine (congrFun (res29 mm c) _).trans ((dot_val _ _ r d).trans ?_)
  rw [Attn.oR, Finset.sum_mul, Finset.sum_range, coe_sum]
  refine Finset.sum_congr rfl fun n _ => ?_
  rw [aSm_val mm c X RR hs hm hl hx, show aMem mm c (ix2 n d) = _ from rMem_val _ _ _ RR hs hm hl n d, ← EReal.coe_mul]
  refine congrArg Real.toEReal ?_
  ring
omit hs hm hl hx in
theorem sum_half (f : ℕ → ℝ) : ∑ r : Fin 512, f r.val = (∑ a : Fin 256, f (256 * 0 + a.val)) + ∑ a : Fin 256, f (256 * 1 + a.val) := by
  rw [← Finset.sum_range f, show (512 : ℕ) = 256 + 256 from rfl, Finset.sum_range_add, Finset.sum_range f, Finset.sum_range fun x => f (256 + x)]
  simp only [Nat.mul_zero, Nat.zero_add, Nat.mul_one]
theorem col_val (n : Fin 74752) : (∑ r : Fin 512, aSm mm c (ix2 r n)) = ((Attn.uR (sc X) RR 0 n.val + Attn.uR (sc X) RR 1 n.val : ℝ) : EReal) := by
  rw [Attn.uR, Attn.uR, ← sum_half fun r => 1 / zR (sc X) RR r 74752 * ex (sc X r) (RR n.val), coe_sum]
  refine Finset.sum_congr rfl fun r _ => ?_
  rw [aSm_val mm c X RR hs hm hl hx, mul_comm]
theorem v31_val (n : Fin 8192) :
    Value.res_main_v31 mm c (ix1 n) = ((Attn.uR (sc X) RR 0 (1024 + n.val) + Attn.uR (sc X) RR 1 (1024 + n.val) : ℝ) : EReal) := by
  exact (congrFun (res31 mm c) _).trans <| (sum31_val _ n).trans <|
    col_val mm c X RR hs hm hl hx ⟨1024 + n.val, by omega⟩
theorem v33_val (n : Fin 65536) :
    Value.res_main_v33 mm c (ix1 n) = ((Attn.uR (sc X) RR 0 (9216 + n.val) + Attn.uR (sc X) RR 1 (9216 + n.val) : ℝ) : EReal) := by
  exact (congrFun (res33 mm c) _).trans <| (sum33_val _ n).trans <|
    col_val mm c X RR hs hm hl hx ⟨9216 + n.val, by omega⟩
end Fin

end Cert.Proof.AttnRef
end
-- ==== Proof.Attn.Value.lean ====
/-
  Finite arguments as reals: the queries and the three memories' rows.
-/
module

public import proofs.«01_k».proof.Defs
public import Idealize.ShloMosaic.Lib.Pointwise
public import Idealize.ShloMosaic.Lib.ReduceAll

@[expose] public section

set_option maxRecDepth 16384

noncomputable section

namespace Cert.Proof.Attn

open Idealize.ShloMosaic Idealize.ShloMosaic.TcCoe

theorem pre_facts : Cert.Pre_finite.Facts where
  bcast_S_S512x128 := by decide
  reducesTo_S512x128_S_d0_1 := by decide
  h_S_ := by decide
  bcast_S_S1024x128 := by decide
  reducesTo_S1024x128_S_d0_1 := by decide
  bcast_S_S8192x128 := by decide
  reducesTo_S8192x128_S_d0_1 := by decide
  bcast_S_S65536x128 := by decide
  reducesTo_S65536x128_S_d0_1 := by decide

attribute [local instance] pre_facts

open Cert.Pre_finite Cert.Pre_finite.Facts

/-- A value whose magnitude is below infinity is a real. -/
theorem real_of_lt {s : Shape} (x : FVec Ideal s .f32) (h : S_.BroadcastsInDim s (![] : Fin 0 → Fin s.rank)) (i : s.Idx)
    (hx : cmpf .olt (Host.absf x) (broadcastInDim s ![] h (constant (F := Ideal) S_ .f32 0x7F800000#32)) i = 1#1) :
    (x i : EReal) = (((x i : EReal).toReal : ℝ) : EReal) := by
  have htop : Ideal.ofBits .f32 0x7F800000#32 = ⊤ := by simp [Ideal.ofBits, Ideal.ieee]
  have h' : Ideal.cmp .olt (max (x i : EReal) (-(x i : EReal))) (Ideal.ofBits .f32 0x7F800000#32) = 1#1 := hx
  rw [htop] at h'
  have hlt : max (x i : EReal) (-(x i : EReal)) < ⊤ := by
    by_contra hc
    simp [Ideal.cmp, hc] at h'
  refine (EReal.coe_toReal ?_ ?_).symm
  · exact ne_of_lt (lt_of_le_of_lt (le_max_left _ _) hlt)
  · intro hb
    rw [hb] at hlt
    simp at hlt

theorem reals_of_pre (x : FVec Ideal S512x128 .f32) (s : FVec Ideal S1024x128 .f32) (m : FVec Ideal S8192x128 .f32) (l : FVec Ideal S65536x128 .f32)
    (p : IVec S_ 32) (h : Cert.Pre_finite.fn (F := Ideal) x s m l p = fun _ => 1#1) :
    (∀ i, (x i : EReal) = (((x i : EReal).toReal : ℝ) : EReal)) ∧ (∀ i, (s i : EReal) = (((s i : EReal).toReal : ℝ) : EReal))
      ∧ (∀ i, (m i : EReal) = (((m i : EReal).toReal : ℝ) : EReal)) ∧ (∀ i, (l i : EReal) = (((l i : EReal).toReal : ℝ) : EReal)) := by
  have hsub : Subsingleton S_.Idx := ⟨fun a b => funext fun k => k.elim0⟩
  have h0 := congrFun h (fun k => k.elim0)
  obtain ⟨h1, hl⟩ := IntOp.andi_eq_one.1 h0
  obtain ⟨h2, hm⟩ := IntOp.andi_eq_one.1 h1
  obtain ⟨hx, hs⟩ := IntOp.andi_eq_one.1 h2
  exact ⟨fun i => real_of_lt x bcast_S_S512x128 i (Host.reduce_andi_all _ _ _ _ _ hx i),
    fun i => real_of_lt s bcast_S_S1024x128 i (Host.reduce_andi_all _ _ _ _ _ hs i),
    fun i => real_of_lt m bcast_S_S8192x128 i (Host.reduce_andi_all _ _ _ _ _ hm i),
    fun i => real_of_lt l bcast_S_S65536x128 i (Host.reduce_andi_all _ _ _ _ _ hl i)⟩

/-- The queries and the memories' rows, as reals. -/
def qR (x : FVec Ideal S512x128 .f32) (r : ℕ) (k : Fin 128) : ℝ := if h : r < 512 then (x (ix2 ⟨r, h⟩ k) : EReal).toReal else 0
def mR (s : FVec Ideal S1024x128 .f32) (m : FVec Ideal S8192x128 .f32) (l : FVec Ideal S65536x128 .f32) (n : ℕ) (k : Fin 128) : ℝ :=
  if h : n < 1024 then (s (ix2 ⟨n, h⟩ k) : EReal).toReal else
  if h : n - 1024 < 8192 then (m (ix2 ⟨n - 1024, h⟩ k) : EReal).toReal else
  if h : n - 9216 < 65536 then (l (ix2 ⟨n - 9216, h⟩ k) : EReal).toReal else 0
theorem qR_eq (x : FVec Ideal S512x128 .f32) (r : Fin 512) (k : Fin 128) : qR x r.val k = (x (ix2 r k) : EReal).toReal := dif_pos r.isLt
theorem mR_s (s : FVec Ideal S1024x128 .f32) (m : FVec Ideal S8192x128 .f32) (l : FVec Ideal S65536x128 .f32) (r : Fin 1024) (k : Fin 128) :
    mR s m l r.val k = (s (ix2 r k) : EReal).toReal := dif_pos r.isLt
theorem mR_m (s : FVec Ideal S1024x128 .f32) (m : FVec Ideal S8192x128 .f32) (l : FVec Ideal S65536x128 .f32) (r : Fin 8192) (k : Fin 128) :
    mR s m l (1024 + r.val) k = (m (ix2 r k) : EReal).toReal := by
  have e : (⟨1024 + r.val - 1024, by omega⟩ : Fin 8192) = r := Fin.ext (by show 1024 + r.val - 1024 = r.val; omega)
  unfold mR
  rw [dif_neg (by omega), dif_pos (by omega : 1024 + r.val - 1024 < 8192), e]
theorem mR_l (s : FVec Ideal S1024x128 .f32) (m : FVec Ideal S8192x128 .f32) (l : FVec Ideal S65536x128 .f32) (r : Fin 65536) (k : Fin 128) :
    mR s m l (9216 + r.val) k = (l (ix2 r k) : EReal).toReal := by
  have e : (⟨9216 + r.val - 9216, by omega⟩ : Fin 65536) = r := Fin.ext (by show 9216 + r.val - 9216 = r.val; omega)
  unfold mR
  rw [dif_neg (by omega), dif_neg (by omega), dif_pos (by omega : 9216 + r.val - 9216 < 65536), e]

end Cert.Proof.Attn
end
-- ==== Proof.Wsc.Value.lean ====
/-
  The program against its reference, on finite arguments: the new ring's entries as reals, what the attention reads, and the
  two programs' four results the same.
-/
module

public import proofs.«01_k».proof.Defs
public import proofs.«01_k».proof.Proof.Wsc.Main
public import proofs.«01_k».proof.Proof.Wsc.Ring
public import proofs.«01_k».proof.Proof.Attn.Arr
public import proofs.«01_k».proof.Proof.Attn.Ref
public import proofs.«01_k».proof.Proof.Attn.Value
public import Idealize.ShloMosaic.Lib.Pointwise

@[expose] public section

set_option maxRecDepth 16384

noncomputable section

namespace Cert.Proof.Wsc

open Cert.KernelIdeal Cert.KernelIdeal.Gen
open Idealize.ShloMosaic Idealize.ShloMosaic.TcCoe

/-- Every row the list names is a row of the source. -/
theorem inRange {F : FTy → Type} [FloatOps F] [Named F] (m : (ℓ : Loc nD τ sig) → Buf (Elt F) ℓ) :
    (callOps m).InRange := fun d j => rowList_lt _ j

section Gen
variable {F : FTy → Type} [FloatOps F] [Named F] (m : (ℓ : Loc nD τ sig) → Buf (Elt F) ℓ) (c : Dev nD)

/-! ## The arrays the operations and the calls leave alone -/

theorem mF_arg0 : mF m c main_arg0 = m ((c.tc : Thread nD τ).loc main_arg0) :=
  (mid_arg0 _).trans ((V2_ne m c _ (StableHlo.devRef_ne_of_ne (by decide))).trans (after_arg0 _))
theorem mF_arg1 : mF m c main_arg1 = m ((c.tc : Thread nD τ).loc main_arg1) :=
  (mid_arg1 _).trans ((V2_ne m c _ (StableHlo.devRef_ne_of_ne (by decide))).trans (after_arg1 _))
theorem mF_arg2 : mF m c main_arg2 = m ((c.tc : Thread nD τ).loc main_arg2) :=
  (mid_arg2 _).trans ((V2_ne m c _ (StableHlo.devRef_ne_of_ne (by decide))).trans (after_arg2 _))
theorem mF_arg3 : mF m c main_arg3 = m ((c.tc : Thread nD τ).loc main_arg3) :=
  (mid_arg3 _).trans ((V2_ne m c _ (StableHlo.devRef_ne_of_ne (by decide))).trans (after_arg3 _))
theorem mF_arg4 : mF m c main_arg4 = m ((c.tc : Thread nD τ).loc main_arg4) :=
  (mid_arg4 _).trans ((V2_ne m c _ (StableHlo.devRef_ne_of_ne (by decide))).trans (after_arg4 _))
theorem mF_v12 : mF m c main_v12 = (callOps m).out c := (mid_v12 _).trans (V2_v12 m c)
theorem mF_v17 : mF m c main_v17 = scaled (F := F) (m ((c.tc : Thread nD τ).loc main_arg0)) :=
  (mid_v17 _).trans (congrArg (scaled (F := F)) ((V2_ne m c _ (StableHlo.devRef_ne_of_ne (by decide))).trans (after_arg0 _)))

theorem fin_arg0 : V5 m c (Proc.devRef .tc main_arg0) = m ((c.tc : Thread nD τ).loc main_arg0) :=
  (tail_arg0 _).trans ((V4_rest m c main_arg0 (by decide)).trans (mF_arg0 m c))
theorem fin_arg1 : V5 m c (Proc.devRef .tc main_arg1) = m ((c.tc : Thread nD τ).loc main_arg1) :=
  (tail_arg1 _).trans ((V4_rest m c main_arg1 (by decide)).trans (mF_arg1 m c))
theorem fin_arg2 : V5 m c (Proc.devRef .tc main_arg2) = m ((c.tc : Thread nD τ).loc main_arg2) :=
  (tail_arg2 _).trans ((V4_rest m c main_arg2 (by decide)).trans (mF_arg2 m c))
theorem fin_arg3 : V5 m c (Proc.devRef .tc main_arg3) = m ((c.tc : Thread nD τ).loc main_arg3) :=
  (tail_arg3 _).trans ((V4_rest m c main_arg3 (by decide)).trans (mF_arg3 m c))
theorem fin_arg4 : V5 m c (Proc.devRef .tc main_arg4) = m ((c.tc : Thread nD τ).loc main_arg4) :=
  (tail_arg4 _).trans ((V4_rest m c main_arg4 (by decide)).trans (mF_arg4 m c))

/-! ## The four results -/

theorem fin_v12 : V5 m c (Proc.devRef .tc main_v12) = (callOps m).out c :=
  (tail_v12 _).trans ((V4_rest m c main_v12 (by decide)).trans (mF_v12 m c))
theorem fin_v18_0 : V5 m c (Proc.devRef .tc main_v18_0) = (Attn.dats (mF m) 0 c).arrAt 0 cfg1.N :=
  (tail_v18_0 _).trans (V4_arr m c 0).symm
theorem fin_v19 : V5 m c (Proc.devRef .tc main_v19)
    = (shapeCast S8192 ((Attn.dats (mF m) 0 c).arrAt 1 cfg1.N : FVec F S2x1x4096 .f32) shapeCasts_S2x1x4096_S8192 : FVec F S8192 .f32) :=
  (tail_v19 _).trans (congrArg (fun v : FVec F S2x1x4096 .f32 => shapeCast S8192 v shapeCasts_S2x1x4096_S8192) (V4_arr m c 1).symm)
theorem fin_v20 : V5 m c (Proc.devRef .tc main_v20)
    = (shapeCast S65536 ((Attn.dats (mF m) 0 c).arrAt 2 cfg1.N : FVec F S16x1x4096 .f32) shapeCasts_S16x1x4096_S65536 : FVec F S65536 .f32) :=
  (tail_v20 _).trans (congrArg (fun v : FVec F S16x1x4096 .f32 => shapeCast S65536 v shapeCasts_S16x1x4096_S65536) (V4_arr m c 2).symm)

/-- One array of the final memory. -/
theorem fin_mem {r : PUnit × MemSt nD τ sig (Elt F)} (h : QC m r) (b : Ref sig .tc) (hb : Proc.devRef .tc b ∈ Pipeline.ucRefs τ sig) :
    r.2.mem ((c.tc : Thread nD τ).loc b) = V5 m c (Proc.devRef .tc b) := h.1 c b hb

theorem fin_args {r : PUnit × MemSt nD τ sig (Elt F)} (h : QC m r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.1 c main_arg0 (by decide)).trans (fin_arg0 m c), (h.1 c main_arg1 (by decide)).trans (fin_arg1 m c),
    (h.1 c main_arg2 (by decide)).trans (fin_arg2 m c), (h.1 c main_arg3 (by decide)).trans (fin_arg3 m c),
    (h.1 c main_arg4 (by decide)).trans (fin_arg4 m c)⟩

end Gen

/-! ## At the ideal values -/

section Ideal
variable (m : (ℓ : Loc nD τ sig) → Buf (Elt Ideal) ℓ) (c : Dev nD)

abbrev a0 : FVec Ideal S512x128 .f32 := m ((c.tc : Thread nD τ).loc main_arg0)
abbrev a1 : FVec Ideal S1024x128 .f32 := m ((c.tc : Thread nD τ).loc main_arg1)
abbrev a2 : FVec Ideal S8192x128 .f32 := m ((c.tc : Thread nD τ).loc main_arg2)
abbrev a3 : FVec Ideal S65536x128 .f32 := m ((c.tc : Thread nD τ).loc main_arg3)
abbrev a4 : IVec S_ 32 := m ((c.tc : Thread nD τ).loc main_arg4)
/-- The new ring. -/
abbrev aR : FVec Ideal S1024x128 .f32 := (callOps m).out c

abbrev PreF : Prop := letI := Attn.pre_facts; Cert.Pre_finite.fn (F := Ideal) (a0 m c) (a1 m c) (a2 m c) (a3 m c) (a4 m c) = fun _ => 1#1

/-- The queries as the attention reads them. -/
theorem scaled_val (x : FVec Ideal S512x128 .f32) (r : Fin 512) (k : Fin 128) :
    (scaled (F := Ideal) x : FVec Ideal S512x128 .bf16) (ix2 r k) = (x (ix2 r k) : EReal) * Ideal.div 1 (Ideal.sqrt (Ideal.ofBits .f32 0x43000000#32)) := by
  pointwise [scaled]

/-- Every entry of the source is one of its two parts'. -/
theorem source_real (x : FVec Ideal S512x128 .f32) (s : FVec Ideal S1024x128 .f32) (hx : ∀ i, (x i : EReal) = (((x i : EReal).toReal : ℝ) : EReal))
    (hs : ∀ i, (s i : EReal) = (((s i : EReal).toReal : ℝ) : EReal)) (u : Fin 1536) (k : Fin 128) :
    ((source (F := Ideal) x s (srcIx u k) : EReal)) = (((source (F := Ideal) x s (srcIx u k) : EReal).toReal : ℝ) : EReal) := by
  have hu := u.isLt
  by_cases h : u.val < 512
  · rw [source_batch (F := Ideal) x s u k ⟨u.val, h⟩ rfl]; exact hx _
  · rw [source_ring (F := Ideal) x s u k ⟨u.val - 512, by omega⟩ (show u.val = 512 + (u.val - 512) by omega)]; exact hs _

variable (h : PreF m c)
include h

theorem ring_real (i : S1024x128.Idx) : (aR m c i : EReal) = (((aR m c i : EReal).toReal : ℝ) : EReal) :=
  source_real (a0 m c) (a1 m c) (Attn.reals_of_pre _ _ _ _ _ h).1 (Attn.reals_of_pre _ _ _ _ _ h).2.1 _ _

theorem reals : Attn.Reals c (Attn.iX (mF m) c) (Attn.iS (mF m) c) (Attn.iM (mF m) c) (Attn.iL (mF m) c)
    (AttnRef.sc (Attn.qR (a0 m c))) (Attn.mR (aR m c) (a2 m c) (a3 m c)) where
  x r k := by
    refine (congrFun (mF_v17 m c) (ix2 r k)).trans ((scaled_val (a0 m c) r k).trans ?_)
    rw [AttnRef.scale_val, (Attn.reals_of_pre _ _ _ _ _ h).1, ← EReal.coe_mul, ← Attn.qR_eq]
  s r k := (congrFun (mF_v12 m c) (ix2 r k)).trans ((ring_real m c h _).trans (congrArg Real.toEReal (Attn.mR_s _ _ _ r k).symm))
  m r k := (congrFun (mF_arg2 m c) (ix2 r k)).trans (((Attn.reals_of_pre _ _ _ _ _ h).2.2.1 _).trans (congrArg Real.toEReal (Attn.mR_m _ _ _ r k).symm))
  l r k := (congrFun (mF_arg3 m c) (ix2 r k)).trans (((Attn.reals_of_pre _ _ _ _ _ h).2.2.2 _).trans (congrArg Real.toEReal (Attn.mR_l _ _ _ r k).symm))

end Ideal

section Agree
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- Where the arguments agree, the rows the SparseCore call leaves are the reference's ring. -/
theorem out_eq (e0 : m' ((c.tc : Thread Cert.ReferenceIdeal.nD Cert.ReferenceIdeal.τ).loc Cert.ReferenceIdeal.main_arg0) = a0 m c)
    (e1 : m' ((c.tc : Thread Cert.ReferenceIdeal.nD Cert.ReferenceIdeal.τ).loc Cert.ReferenceIdeal.main_arg1) = a1 m c)
    (e4 : m' ((c.tc : Thread Cert.ReferenceIdeal.nD Cert.ReferenceIdeal.τ).loc Cert.ReferenceIdeal.main_arg4) = a4 m c) :
    AttnRef.aS m' c = aR m c := by
  show Cert.ReferenceIdeal.Value.res_main_v10 m' c = aR m c
  rw [← gathered_eq_scatter m' c, e0, e1, e4]
  rfl

variable (h : PreF m c)
  (e0 : AttnRef.aX m' c = a0 m c) (e1 : AttnRef.aS m' c = aR m c) (e2 : AttnRef.aM m' c = a2 m c) (e3 : AttnRef.aL m' c = a3 m c)
include h e0
theorem ref_x (r : Fin 512) (k : Fin 128) : AttnRef.aX m' c (ix2 r k) = (Attn.qR (a0 m c) r.val k : EReal) := by
  rw [e0, Attn.qR_eq]; exact (Attn.reals_of_pre _ _ _ _ _ h).1 _
omit e0
include e1
theorem ref_s (r : Fin 1024) (k : Fin 128) : AttnRef.aS m' c (ix2 r k) = (Attn.mR (aR m c) (a2 m c) (a3 m c) r.val k : EReal) := by
  rw [e1, Attn.mR_s]; exact ring_real m c h _
omit e1
include e2
theorem ref_m (r : Fin 8192) (k : Fin 128) : AttnRef.aM m' c (ix2 r k) = (Attn.mR (aR m c) (a2 m c) (a3 m c) (1024 + r.val) k : EReal) := by
  rw [e2, Attn.mR_m]; exact (Attn.reals_of_pre _ _ _ _ _ h).2.2.1 _
omit e2
include e3
theorem ref_l (r : Fin 65536) (k : Fin 128) : AttnRef.aL m' c (ix2 r k) = (Attn.mR (aR m c) (a2 m c) (a3 m c) (9216 + r.val) k : EReal) := by
  rw [e3, Attn.mR_l]; exact (Attn.reals_of_pre _ _ _ _ _ h).2.2.2 _
include e0 e1 e2
theorem agree_0 : (Cert.ReferenceIdeal.Value.res_main_v29 m' c : FVec Ideal S512x128 .f32) = (V5 m c (Proc.devRef .tc main_v18_0) : FVec Ideal S512x128 .f32) := by
  funext i
  have hi : i = ix2 (n0 := 512) (n1 := 128) (i 0) (i 1) := funext fun b => match b with | 0 => rfl | 1 => rfl
  rw [hi]
  exact (AttnRef.v29_val m' c (Attn.qR (a0 m c)) (Attn.mR (aR m c) (a2 m c) (a3 m c)) (ref_s m m' c h e1) (ref_m m m' c h e2) (ref_l m m' c h e3) (ref_x m m' c h e0) (i 0) (i 1)).trans
    ((congrFun (fin_v18_0 m c) _).trans (Attn.res0_val (mF m) c (reals m c h) (i 0) (i 1))).symm
theorem agree_1 : (Cert.ReferenceIdeal.Value.res_main_v31 m' c : FVec Ideal S8192 .f32) = (V5 m c (Proc.devRef .tc main_v19) : FVec Ideal S8192 .f32) := by
  funext i
  have hi : i = ix1 (n0 := 8192) (i 0) := funext fun b => match b with | 0 => rfl
  rw [hi]
  exact (AttnRef.v31_val m' c (Attn.qR (a0 m c)) (Attn.mR (aR m c) (a2 m c) (a3 m c)) (ref_s m m' c h e1) (ref_m m m' c h e2) (ref_l m m' c h e3) (ref_x m m' c h e0) (i 0)).trans
    ((congrFun (fin_v19 m c) _).trans (Attn.res1_val (mF m) c (reals m c h) (i 0))).symm
theorem agree_2 : (Cert.ReferenceIdeal.Value.res_main_v33 m' c : FVec Ideal S65536 .f32) = (V5 m c (Proc.devRef .tc main_v20) : FVec Ideal S65536 .f32) := by
  funext i
  have hi : i = ix1 (n0 := 65536) (i 0) := funext fun b => match b with | 0 => rfl
  rw [hi]
  exact (AttnRef.v33_val m' c (Attn.qR (a0 m c)) (Attn.mR (aR m c) (a2 m c) (a3 m c)) (ref_s m m' c h e1) (ref_m m m' c h e2) (ref_l m m' c h e3) (ref_x m m' c h e0) (i 0)).trans
    ((congrFun (fin_v20 m c) _).trans (Attn.res2_val (mF m) c (reals m c h) (i 0))).symm
end Agree

attribute [local instance] Attn.pre_facts

open Idealize.SL.Sem in
set_option maxHeartbeats 1000000 in
theorem algebraic : Cert.algebraic_KernelIdeal_ReferenceIdeal_pre_finite := fun m ρ m' ρ' hpre hagree => by
  have eS : ∀ c, AttnRef.aS m' c = aR m c := fun c => out_eq m m' c (hagree c).1 (hagree c).2.1 (hagree c).2.2.2.2
  refine ⟨fun c => V5 m c (Proc.devRef .tc main_v18_0), fun c => V5 m c (Proc.devRef .tc main_v12), fun c => V5 m c (Proc.devRef .tc main_v19),
    fun c => V5 m c (Proc.devRef .tc main_v20), ?_, ?_⟩
  · exact (θ_run (Cert.KernelIdeal.defs (F := Ideal)) _ _).mono (fun r h c =>
      ⟨h.1 c main_v18_0 (by decide), h.1 c main_v12 (by decide), h.1 c main_v19 (by decide), h.1 c main_v20 (by decide), fin_args m c h⟩)
      (run_main (F := Ideal) m ρ (inRange m))
  · exact (θ_run Cert.ReferenceIdeal.defs _ _).mono (fun _ h c =>
      ⟨(h c).1.trans (agree_0 m m' c (hpre c) (hagree c).1 (eS c) (hagree c).2.2.1 (hagree c).2.2.2.1),
        (h c).2.1.trans ((eS c).trans (fin_v12 m c).symm),
        (h c).2.2.1.trans (agree_1 m m' c (hpre c) (hagree c).1 (eS c) (hagree c).2.2.1 (hagree c).2.2.2.1),
        (h c).2.2.2.1.trans (agree_2 m m' c (hpre c) (hagree c).1 (eS c) (hagree c).2.2.1 (hagree c).2.2.2.1), (h c).2.2.2.2⟩)
      (Cert.ReferenceIdeal.Value.run (F := Ideal) m' ρ')

end Cert.Proof.Wsc
end
-- ==== Proof.lean ====
/-
  The proof of `Cert.Claim`: the frames of the kernel's two programs from one run, generic in the float values; the named
  constant; the four results of the idealised kernel against the idealised reference.  Then the ring write alone: the frames
  from one run, its result against the reference, at the ideal values and bit for bit.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.KernelIdeal.Launch
public import proofs.«01_k».proof.Proof.Gen.KernelIdeal.Points
public import proofs.«01_k».proof.Proof.Gen.Ring
public import proofs.«01_k».proof.Proof.Gen.Ring.Skeleton
public import proofs.«01_k».proof.Proof.Gen.RingIdeal
public import proofs.«01_k».proof.Proof.Gen.RingIdeal.Skeleton
public import proofs.«01_k».proof.Proof.Gen.RingReferenceIdeal
public import proofs.«01_k».proof.Proof.Gen.RingReferenceIdeal.Run
public import proofs.«01_k».proof.Proof.Gen.RingReference
public import proofs.«01_k».proof.Proof.Gen.RingReference.Run
public import proofs.«01_k».proof.Proof.Sc.Ring
public import proofs.«01_k».proof.Proof.Wsc.Value
public import Idealize.ShloMosaic.Adequacy
public import Idealize.ShloMosaic.Init

@[expose] public section

noncomputable section

namespace Cert.Proof

open Idealize.ShloMosaic Idealize.SL.Sem

/-- At the machine's values a named constant is its bits. -/
abbrev namedBits : Named Bits := ⟨fun _ _ {φ} b => FloatOps.ofBits φ b⟩

section Named
attribute [local instance] namedBits

set_option maxHeartbeats 8000000 in
theorem defs₀_eq : (Cert.Kernel.defs₀ (F := Bits)) = (Cert.KernelIdeal.defs₀ (F := Bits)) := by
  funext pr l a
  rcases l with ⟨_ | _ | n, hl⟩
  · cases pr <;> rfl
  · cases pr
    · rcases a with ⟨t, s⟩
      rfl
    all_goals rfl
  · exact absurd hl (Nat.not_lt.2 (Nat.le_add_left _ _))

theorem defs_eq : (Cert.Kernel.defs (F := Bits)) = (Cert.KernelIdeal.defs (F := Bits)) :=
  congrArg (fun D => (Cert.KernelIdeal.sc (F := Bits)).defs (Pipeline.defs (Cert.KernelIdeal.pcfgs (F := Bits)) D)) defs₀_eq

set_option maxHeartbeats 8000000 in
theorem threads_eq : (Cert.Kernel.threads (F := Bits)) = (Cert.KernelIdeal.threads (F := Bits)) := rfl

set_option maxHeartbeats 8000000 in
theorem frame_kernel : Cert.quiescent_Kernel := fun m ρ _ => by
  rw [defs_eq, threads_eq]
  exact (θ_run (Cert.KernelIdeal.defs (F := Bits)) _ _).mono (fun _ h => ⟨fun c => Wsc.fin_args m c h, h.2⟩)
    (Wsc.run_main (F := Bits) m ρ (Wsc.inRange m))

end Named

theorem frame_kernelIdeal : Cert.quiescent_KernelIdeal := fun m ρ _ =>
  (θ_run Cert.KernelIdeal.defs _ _).mono (fun _ h => ⟨fun c => Wsc.fin_args m c h, h.2⟩) (Wsc.run_main (F := Ideal) m ρ (Wsc.inRange m))

theorem frame_referenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "log2e" .f32 0x3FB8AA3B#32 (((Real.log 2)⁻¹ : ℝ) : EReal) rfl

/-! ## The ring write alone -/

/-- Every row the list names is a row of the source. -/
theorem ring_inRange {F : FTy → Type} [FloatOps F] (m : (ℓ : Loc Cert.RingIdeal.nD Cert.RingIdeal.τ Cert.RingIdeal.sig) → Buf (Elt F) ℓ) :
    (Sc.callOps m).InRange := fun d j => Sc.rowList_lt _ j

set_option maxHeartbeats 8000000 in
theorem frame_ring : Cert.quiescent_Ring := fun m ρ _ =>
  (θ_run Cert.RingIdeal.defs _ _).mono (fun _ h => ⟨fun c => (h.1 c).2, h.2⟩) (Sc.run_main (F := Bits) m ρ (ring_inRange m))

theorem frame_ringIdeal : Cert.quiescent_RingIdeal := fun m ρ _ =>
  (θ_run Cert.RingIdeal.defs _ _).mono (fun _ h => ⟨fun c => (h.1 c).2, h.2⟩) (Sc.run_main (F := Ideal) m ρ (ring_inRange m))

theorem frame_ringReferenceIdeal : Cert.quiescent_RingReferenceIdeal := fun m ρ _ =>
  (θ_run Cert.RingReferenceIdeal.defs _ _).mono (fun r h => ⟨fun c => (h c).2, sem_eq_zero_of_no_sems (by decide) r.2⟩)
    (Cert.RingReferenceIdeal.Value.run (F := Ideal) m ρ)

theorem frame_ringReference : Cert.quiescent_RingReference := fun m ρ _ =>
  (θ_run Cert.RingReference.defs _ _).mono (fun r h => ⟨fun c => (h c).2, sem_eq_zero_of_no_sems (by decide) r.2⟩)
    (Cert.RingReference.Value.run (F := Bits) m ρ)

/-- Where the arguments agree, the rows the kernel's call leaves are the reference's result. -/
theorem ring_eq {F : FTy → Type} [FloatOps F] (m : (ℓ : Loc Cert.RingIdeal.nD Cert.RingIdeal.τ Cert.RingIdeal.sig) → Buf (Elt F) ℓ)
    (m' : (ℓ : Loc Cert.RingReferenceIdeal.nD Cert.RingReferenceIdeal.τ Cert.RingReferenceIdeal.sig) → Buf (Elt F) ℓ) (c : Dev Cert.RingIdeal.nD)
    (h0 : m' ((c.tc : Thread Cert.RingReferenceIdeal.nD Cert.RingReferenceIdeal.τ).loc Cert.RingReferenceIdeal.main_arg0) = m (Sc.aLoc0 c))
    (h1 : m' ((c.tc : Thread Cert.RingReferenceIdeal.nD Cert.RingReferenceIdeal.τ).loc Cert.RingReferenceIdeal.main_arg1) = m (Sc.aLoc1 c))
    (h2 : m' ((c.tc : Thread Cert.RingReferenceIdeal.nD Cert.RingReferenceIdeal.τ).loc Cert.RingReferenceIdeal.main_arg2) = m (Sc.aLoc2 c)) :
    Cert.RingReferenceIdeal.Value.res_main_v10 m' c = (Sc.callOps m).out c := by
  rw [← Sc.gathered_eq_scatter m' c, h0, h1, h2]
  rfl

theorem ring_algebraic : Cert.algebraic_RingIdeal_RingReferenceIdeal := fun m ρ m' ρ' _ hagree =>
  ⟨fun c => (Sc.callOps m).out c,
    (θ_run Cert.RingIdeal.defs _ _).mono (fun _ h c => h.1 c) (Sc.run_main (F := Ideal) m ρ (ring_inRange m)),
    (θ_run Cert.RingReferenceIdeal.defs _ _).mono (fun _ h c => ⟨(h c).1.trans (ring_eq m m' c (hagree c).1 (hagree c).2.1 (hagree c).2.2), (h c).2⟩)
      (Cert.RingReferenceIdeal.Value.run (F := Ideal) m' ρ')⟩

set_option maxHeartbeats 8000000 in
theorem ring_bitexact : Cert.bitexact_Ring_RingReference := fun m ρ m' ρ' _ hagree =>
  ⟨fun c => (Sc.callOps (F := Bits) m).out c,
    (θ_run Cert.RingIdeal.defs _ _).mono (fun _ h c => h.1 c) (Sc.run_main (F := Bits) m ρ (ring_inRange m)),
    (θ_run Cert.RingReference.defs _ _).mono (fun _ h c => ⟨(h c).1.trans (ring_eq (F := Bits) m m' c (hagree c).1 (hagree c).2.1 (hagree c).2.2), (h c).2⟩)
      (Cert.RingReference.Value.run (F := Bits) m' ρ')⟩

theorem claim : Cert.Claim :=
  ⟨Cert.Kernel.Gen.facts, Cert.KernelIdeal.Gen.facts, Cert.ReferenceIdeal.Gen.facts,
    Cert.Ring.Gen.facts, Cert.RingIdeal.Gen.facts, Cert.RingReferenceIdeal.Gen.facts, Cert.RingReference.Gen.facts, Attn.pre_facts,
    frame_kernel, frame_kernelIdeal, fun m g _ => frame_kernelIdeal m g trivial,
    frame_referenceIdeal, fun m g _ => frame_referenceIdeal m g trivial,
    frame_ring, frame_ringIdeal, frame_ringReferenceIdeal, frame_ringReference,
    preserves, Wsc.algebraic, trivial, ring_algebraic, ring_bitexact⟩

end Cert.Proof

end
